-- ==== Defs.lean ====
def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_KernelInprojIdeal_finite_inproj [hPre_finite_inproj : Cert.Pre_finite_inproj.Facts] (m : (ℓ : Loc Cert.KernelInprojIdeal.nD Cert.KernelInprojIdeal.τ Cert.KernelInprojIdeal.sig) → Buf (Elt Ideal) ℓ) : Prop :=
  ∀ c : Dev Cert.KernelInprojIdeal.nD,
    (Cert.Pre_finite_inproj.fn (F := Ideal) (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)) (m ((c.tc : Thread Cert.KernelInprojIdeal.nD Cert.KernelInprojIdeal.τ).loc Cert.KernelInprojIdeal.main_arg4))) = (fun _ => 1#1)

def Pre_ReferenceInprojIdeal (m : (ℓ : Loc Cert.ReferenceInprojIdeal.nD Cert.ReferenceInprojIdeal.τ Cert.ReferenceInprojIdeal.sig) → Buf (Elt Ideal) ℓ) : Prop :=
  True

def Pre_ReferenceInprojIdeal_finite_inproj [hPre_finite_inproj : Cert.Pre_finite_inproj.Facts] (m : (ℓ : Loc Cert.ReferenceInprojIdeal.nD Cert.ReferenceInprojIdeal.τ Cert.ReferenceInprojIdeal.sig) → Buf (Elt Ideal) ℓ) : Prop :=
  ∀ c : Dev Cert.ReferenceInprojIdeal.nD,
    (Cert.Pre_finite_inproj.fn (F := Ideal) (m ((c.tc : Thread Cert.ReferenceInprojIdeal.nD Cert.ReferenceInprojIdeal.τ).loc Cert.ReferenceInprojIdeal.main_arg0)) (m ((c.tc : Thread Cert.ReferenceInprojIdeal.nD Cert.ReferenceInprojIdeal.τ).loc Cert.ReferenceInprojIdeal.main_arg1)) (m ((c.tc : Thread Cert.ReferenceInprojIdeal.nD Cert.ReferenceInprojIdeal.τ).loc Cert.ReferenceInprojIdeal.main_arg2)) (m ((c.tc : Thread Cert.ReferenceInprojIdeal.nD Cert.ReferenceInprojIdeal.τ).loc Cert.ReferenceInprojIdeal.main_arg3)) (m ((c.tc : Thread Cert.ReferenceInprojIdeal.nD Cert.ReferenceInprojIdeal.τ).loc Cert.ReferenceInprojIdeal.main_arg4))) = (fun _ => 1#1)

def Pre_KernelRet (m : (ℓ : Loc Cert.KernelRet.nD Cert.KernelRet.τ Cert.KernelRet.sig) → Buf (Elt Bits) ℓ) : Prop :=
  True

def Pre_KernelRetIdeal (m : (ℓ : Loc Cert.KernelRetIdeal.nD Cert.KernelRetIdeal.τ Cert.KernelRetIdeal.sig) → Buf (Elt Ideal) ℓ) : Prop :=
  True

def Pre_KernelRetIdeal_finite_ret [hPre_finite_ret : Cert.Pre_finite_ret.Facts] (m : (ℓ : Loc Cert.KernelRetIdeal.nD Cert.KernelRetIdeal.τ Cert.KernelRetIdeal.sig) → Buf (Elt Ideal) ℓ) : Prop :=
  ∀ c : Dev Cert.KernelRetIdeal.nD,
    (Cert.Pre_finite_ret.fn (F := Ideal) (m ((c.tc : Thread Cert.KernelRetIdeal.nD Cert.KernelRetIdeal.τ).loc Cert.KernelRetIdeal.main_arg0)) (m ((c.tc : Thread Cert.KernelRetIdeal.nD Cert.KernelRetIdeal.τ).loc Cert.KernelRetIdeal.main_arg1)) (m ((c.tc : Thread Cert.KernelRetIdeal.nD Cert.KernelRetIdeal.τ).loc Cert.KernelRetIdeal.main_arg2)) (m ((c.tc : Thread Cert.KernelRetIdeal.nD Cert.KernelRetIdeal.τ).loc Cert.KernelRetIdeal.main_arg3)) (m ((c.tc : Thread Cert.KernelRetIdeal.nD Cert.KernelRetIdeal.τ).loc Cert.KernelRetIdeal.main_arg4)) (m ((c.tc : Thread Cert.KernelRetIdeal.nD Cert.KernelRetIdeal.τ).loc Cert.KernelRetIdeal.main_arg5))) = (fun _ => 1#1)

def Pre_ReferenceRetIdeal (m : (ℓ : Loc Cert.ReferenceRetIdeal.nD Cert.ReferenceRetIdeal.τ Cert.ReferenceRetIdeal.sig) → Buf (Elt Ideal) ℓ) : Prop :=
  True

def Pre_ReferenceRetIdeal_finite_ret [hPre_finite_ret : Cert.Pre_finite_ret.Facts] (m : (ℓ : Loc Cert.ReferenceRetIdeal.nD Cert.ReferenceRetIdeal.τ Cert.ReferenceRetIdeal.sig) → Buf (Elt Ideal) ℓ) : Prop :=
  ∀ c : Dev Cert.ReferenceRetIdeal.nD,
    (Cert.Pre_finite_ret.fn (F := Ideal) (m ((c.tc : Thread Cert.ReferenceRetIdeal.nD Cert.ReferenceRetIdeal.τ).loc Cert.ReferenceRetIdeal.main_arg0)) (m ((c.tc : Thread Cert.ReferenceRetIdeal.nD Cert.ReferenceRetIdeal.τ).loc Cert.ReferenceRetIdeal.main_arg1)) (m ((c.tc : Thread Cert.ReferenceRetIdeal.nD Cert.ReferenceRetIdeal.τ).loc Cert.ReferenceRetIdeal.main_arg2)) (m ((c.tc : Thread Cert.ReferenceRetIdeal.nD Cert.ReferenceRetIdeal.τ).loc Cert.ReferenceRetIdeal.main_arg3)) (m ((c.tc : Thread Cert.ReferenceRetIdeal.nD Cert.ReferenceRetIdeal.τ).loc Cert.ReferenceRetIdeal.main_arg4)) (m ((c.tc : Thread Cert.ReferenceRetIdeal.nD Cert.ReferenceRetIdeal.τ).loc Cert.ReferenceRetIdeal.main_arg5))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6))) = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6))) = (fun _ => 1#1)

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2)
      ∧ r.2.mem ((c.tc : Thread Cert.KernelInproj.nD Cert.KernelInproj.τ).loc Cert.KernelInproj.main_arg3) = m ((c.tc : Thread Cert.KernelInproj.nD Cert.KernelInproj.τ).loc Cert.KernelInproj.main_arg3)
      ∧ r.2.mem ((c.tc : Thread Cert.KernelInproj.nD Cert.KernelInproj.τ).loc Cert.KernelInproj.main_arg4) = m ((c.tc : Thread Cert.KernelInproj.nD Cert.KernelInproj.τ).loc Cert.KernelInproj.main_arg4))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4))
      ∧ r.2.sem = fun _ => 0)

def quiescent_KernelInprojIdeal_pre_finite_inproj [hKernelInprojIdeal : Cert.KernelInprojIdeal.Facts] [hPre_finite_inproj : Cert.Pre_finite_inproj.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal_finite_inproj m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4))
      ∧ r.2.sem = fun _ => 0)

def quiescent_ReferenceInprojIdeal_pre_finite_inproj [hReferenceInprojIdeal : Cert.ReferenceInprojIdeal.Facts] [hPre_finite_inproj : Cert.Pre_finite_inproj.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal_finite_inproj m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4))
      ∧ r.2.sem = fun _ => 0)

def quiescent_KernelRet [hKernelRet : Cert.KernelRet.Facts] : Prop :=
  ∀ (m : (ℓ : Loc Cert.KernelRet.nD Cert.KernelRet.τ Cert.KernelRet.sig) → Buf (Elt Bits) ℓ) (g : Dev Cert.KernelRet.nD → PrngReg), Pre_KernelRet m →
    θ_run (Cert.KernelRet.defs (F := Bits)) (onTc (τ := Cert.KernelRet.τ) (Cert.KernelRet.main (F := Bits))) ⟨m, fun _ => 0, g⟩ (fun r => (∀ c : Dev Cert.KernelRet.nD,
      r.2.mem ((c.tc : Thread Cert.KernelRet.nD Cert.KernelRet.τ).loc Cert.KernelRet.main_arg0) = m ((c.tc : Thread Cert.KernelRet.nD Cert.KernelRet.τ).loc Cert.KernelRet.main_arg0)
      ∧ r.2.mem ((c.tc : Thread Cert.KernelRet.nD Cert.KernelRet.τ).loc Cert.KernelRet.main_arg1) = m ((c.tc : Thread Cert.KernelRet.nD Cert.KernelRet.τ).loc Cert.KernelRet.main_arg1)
      ∧ r.2.mem ((c.tc : Thread Cert.KernelRet.nD Cert.KernelRet.τ).loc Cert.KernelRet.main_arg2) = m ((c.tc : Thread Cert.KernelRet.nD Cert.KernelRet.τ).loc Cert.KernelRet.main_arg2)
      ∧ r.2.mem ((c.tc : Thread Cert.KernelRet.nD Cert.KernelRet.τ).loc Cert.KernelRet.main_arg3) = m ((c.tc : Thread Cert.KernelRet.nD Cert.KernelRet.τ).loc Cert.KernelRet.main_arg3)
      ∧ r.2.mem ((c.tc : Thread Cert.KernelRet.nD Cert.KernelRet.τ).loc Cert.KernelRet.main_arg4) = m ((c.tc : Thread Cert.KernelRet.nD Cert.KernelRet.τ).loc Cert.KernelRet.main_arg4)
      ∧ r.2.mem ((c.tc : Thread Cert.KernelRet.nD Cert.KernelRet.τ).loc Cert.KernelRet.main_arg5) = m ((c.tc : Thread Cert.KernelRet.nD Cert.KernelRet.τ).loc Cert.KernelRet.main_arg5))
      ∧ r.2.sem = fun _ => 0)

def quiescent_KernelRetIdeal [hKernelRetIdeal : Cert.KernelRetIdeal.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
      ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2)
      ∧ r.2.mem ((c.tc : Thread Cert.KernelRetIdeal.nD Cert.KernelRetIdeal.τ).loc Cert.KernelRetIdeal.main_arg3) = m ((c.tc : Thread Cert.KernelRetIdeal.nD Cert.KernelRetIdeal.τ).loc Cert.KernelRetIdeal.main_arg3)
      ∧ r.2.mem ((c.tc : Thread Cert.KernelRetIdeal.nD Cert.KernelRetIdeal.τ).loc Cert.KernelRetIdeal.main_arg4) = m ((c.tc : Thread Cert.KernelRetIdeal.nD Cert.KernelRetIdeal.τ).loc Cert.KernelRetIdeal.main_arg4)
      ∧ r.2.mem ((c.tc : Thread Cert.KernelRetIdeal.nD Cert.KernelRetIdeal.τ).loc Cert.KernelRetIdeal.main_arg5) = m ((c.tc : Thread Cert.KernelRetIdeal.nD Cert.KernelRetIdeal.τ).loc Cert.KernelRetIdeal.main_arg5))
      ∧ r.2.sem = fun _ => 0)

def quiescent_KernelRetIdeal_pre_finite_ret [hKernelRetIdeal : Cert.KernelRetIdeal.Facts] [hPre_finite_ret : Cert.Pre_finite_ret.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal_finite_ret m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
      ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2)
      ∧ r.2.mem ((c.tc : Thread Cert.KernelRetIdeal.nD Cert.KernelRetIdeal.τ).loc Cert.KernelRetIdeal.main_arg3) = m ((c.tc : Thread Cert.KernelRetIdeal.nD Cert.KernelRetIdeal.τ).loc Cert.KernelRetIdeal.main_arg3)
      ∧ r.2.mem ((c.tc : Thread Cert.KernelRetIdeal.nD Cert.KernelRetIdeal.τ).loc Cert.KernelRetIdeal.main_arg4) = m ((c.tc : Thread Cert.KernelRetIdeal.nD Cert.KernelRetIdeal.τ).loc Cert.KernelRetIdeal.main_arg4)
      ∧ r.2.mem ((c.tc : Thread Cert.KernelRetIdeal.nD Cert.KernelRetIdeal.τ).loc Cert.KernelRetIdeal.main_arg5) = m ((c.tc : Thread Cert.KernelRetIdeal.nD Cert.KernelRetIdeal.τ).loc Cert.KernelRetIdeal.main_arg5))
      ∧ r.2.sem = fun _ => 0)

def quiescent_ReferenceRetIdeal [hReferenceRetIdeal : Cert.ReferenceRetIdeal.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1)
      ∧ r.2.mem ((c.tc : Thread Cert.ReferenceRetIdeal.nD Cert.ReferenceRetIdeal.τ).loc Cert.ReferenceRetIdeal.main_arg2) = m ((c.tc : Thread Cert.ReferenceRetIdeal.nD Cert.ReferenceRetIdeal.τ).loc Cert.ReferenceRetIdeal.main_arg2)
      ∧ r.2.mem ((c.tc : Thread Cert.ReferenceRetIdeal.nD Cert.ReferenceRetIdeal.τ).loc Cert.ReferenceRetIdeal.main_arg3) = m ((c.tc : Thread Cert.ReferenceRetIdeal.nD Cert.ReferenceRetIdeal.τ).loc Cert.ReferenceRetIdeal.main_arg3)
      ∧ r.2.mem ((c.tc : Thread Cert.ReferenceRetIdeal.nD Cert.ReferenceRetIdeal.τ).loc Cert.ReferenceRetIdeal.main_arg4) = m ((c.tc : Thread Cert.ReferenceRetIdeal.nD Cert.ReferenceRetIdeal.τ).loc Cert.ReferenceRetIdeal.main_arg4)
      ∧ r.2.mem ((c.tc : Thread Cert.ReferenceRetIdeal.nD Cert.ReferenceRetIdeal.τ).loc Cert.ReferenceRetIdeal.main_arg5) = m ((c.tc : Thread Cert.ReferenceRetIdeal.nD Cert.ReferenceRetIdeal.τ).loc Cert.ReferenceRetIdeal.main_arg5))
      ∧ r.2.sem = fun _ => 0)

def quiescent_ReferenceRetIdeal_pre_finite_ret [hReferenceRetIdeal : Cert.ReferenceRetIdeal.Facts] [hPre_finite_ret : Cert.Pre_finite_ret.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal_finite_ret m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1)
      ∧ r.2.mem ((c.tc : Thread Cert.ReferenceRetIdeal.nD Cert.ReferenceRetIdeal.τ).loc Cert.ReferenceRetIdeal.main_arg2) = m ((c.tc : Thread Cert.ReferenceRetIdeal.nD Cert.ReferenceRetIdeal.τ).loc Cert.ReferenceRetIdeal.main_arg2)
      ∧ r.2.mem ((c.tc : Thread Cert.ReferenceRetIdeal.nD Cert.ReferenceRetIdeal.τ).loc Cert.ReferenceRetIdeal.main_arg3) = m ((c.tc : Thread Cert.ReferenceRetIdeal.nD Cert.ReferenceRetIdeal.τ).loc Cert.ReferenceRetIdeal.main_arg3)
      ∧ r.2.mem ((c.tc : Thread Cert.ReferenceRetIdeal.nD Cert.ReferenceRetIdeal.τ).loc Cert.ReferenceRetIdeal.main_arg4) = m ((c.tc : Thread Cert.ReferenceRetIdeal.nD Cert.ReferenceRetIdeal.τ).loc Cert.ReferenceRetIdeal.main_arg4)
      ∧ r.2.mem ((c.tc : Thread Cert.ReferenceRetIdeal.nD Cert.ReferenceRetIdeal.τ).loc Cert.ReferenceRetIdeal.main_arg5) = m ((c.tc : Thread Cert.ReferenceRetIdeal.nD Cert.ReferenceRetIdeal.τ).loc Cert.ReferenceRetIdeal.main_arg5))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5)
      ∧ r.2.mem ((c.tc : Thread Cert.KernelLoss.nD Cert.KernelLoss.τ).loc Cert.KernelLoss.main_arg6) = m ((c.tc : Thread Cert.KernelLoss.nD Cert.KernelLoss.τ).loc Cert.KernelLoss.main_arg6))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2)
      ∧ r.2.mem ((c.tc : Thread Cert.KernelGates.nD Cert.KernelGates.τ).loc Cert.KernelGates.main_arg3) = m ((c.tc : Thread Cert.KernelGates.nD Cert.KernelGates.τ).loc Cert.KernelGates.main_arg3)
      ∧ r.2.mem ((c.tc : Thread Cert.KernelGates.nD Cert.KernelGates.τ).loc Cert.KernelGates.main_arg4) = m ((c.tc : Thread Cert.KernelGates.nD Cert.KernelGates.τ).loc Cert.KernelGates.main_arg4)
      ∧ r.2.mem ((c.tc : Thread Cert.KernelGates.nD Cert.KernelGates.τ).loc Cert.KernelGates.main_arg5) = m ((c.tc : Thread Cert.KernelGates.nD Cert.KernelGates.τ).loc Cert.KernelGates.main_arg5)
      ∧ r.2.mem ((c.tc : Thread Cert.KernelGates.nD Cert.KernelGates.τ).loc Cert.KernelGates.main_arg6) = m ((c.tc : Thread Cert.KernelGates.nD Cert.KernelGates.τ).loc Cert.KernelGates.main_arg6)
      ∧ r.2.mem ((c.tc : Thread Cert.KernelGates.nD Cert.KernelGates.τ).loc Cert.KernelGates.main_arg7) = m ((c.tc : Thread Cert.KernelGates.nD Cert.KernelGates.τ).loc Cert.KernelGates.main_arg7))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
      ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5)
      ∧ r.2.mem ((c.tc : Thread Cert.KernelGatesIdeal.nD Cert.KernelGatesIdeal.τ).loc Cert.KernelGatesIdeal.main_arg6) = m ((c.tc : Thread Cert.KernelGatesIdeal.nD Cert.KernelGatesIdeal.τ).loc Cert.KernelGatesIdeal.main_arg6)
      ∧ r.2.mem ((c.tc : Thread Cert.KernelGatesIdeal.nD Cert.KernelGatesIdeal.τ).loc Cert.KernelGatesIdeal.main_arg7) = m ((c.tc : Thread Cert.KernelGatesIdeal.nD Cert.KernelGatesIdeal.τ).loc Cert.KernelGatesIdeal.main_arg7))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4)
      ∧ r.2.mem ((c.tc : Thread Cert.ReferenceGatesIdeal.nD Cert.ReferenceGatesIdeal.τ).loc Cert.ReferenceGatesIdeal.main_arg5) = m ((c.tc : Thread Cert.ReferenceGatesIdeal.nD Cert.ReferenceGatesIdeal.τ).loc Cert.ReferenceGatesIdeal.main_arg5)
      ∧ r.2.mem ((c.tc : Thread Cert.ReferenceGatesIdeal.nD Cert.ReferenceGatesIdeal.τ).loc Cert.ReferenceGatesIdeal.main_arg6) = m ((c.tc : Thread Cert.ReferenceGatesIdeal.nD Cert.ReferenceGatesIdeal.τ).loc Cert.ReferenceGatesIdeal.main_arg6)
      ∧ r.2.mem ((c.tc : Thread Cert.ReferenceGatesIdeal.nD Cert.ReferenceGatesIdeal.τ).loc Cert.ReferenceGatesIdeal.main_arg7) = m ((c.tc : Thread Cert.ReferenceGatesIdeal.nD Cert.ReferenceGatesIdeal.τ).loc Cert.ReferenceGatesIdeal.main_arg7))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def preserves_KernelInproj_KernelInprojIdeal : Prop :=
  True

def algebraic_KernelInprojIdeal_ReferenceInprojIdeal_pre_finite_inproj [hKernelInprojIdeal : Cert.KernelInprojIdeal.Facts] [hReferenceInprojIdeal : Cert.ReferenceInprojIdeal.Facts] [hPre_finite_inproj : Cert.Pre_finite_inproj.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal_finite_inproj m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)
      ∧ m' ((c.tc : Thread Cert.ReferenceInprojIdeal.nD Cert.ReferenceInprojIdeal.τ).loc Cert.ReferenceInprojIdeal.main_arg2) = m ((c.tc : Thread Cert.KernelInprojIdeal.nD Cert.KernelInprojIdeal.τ).loc Cert.KernelInprojIdeal.main_arg2)
      ∧ m' ((c.tc : Thread Cert.ReferenceInprojIdeal.nD Cert.ReferenceInprojIdeal.τ).loc Cert.ReferenceInprojIdeal.main_arg3) = m ((c.tc : Thread Cert.KernelInprojIdeal.nD Cert.KernelInprojIdeal.τ).loc Cert.KernelInprojIdeal.main_arg3)
      ∧ m' ((c.tc : Thread Cert.ReferenceInprojIdeal.nD Cert.ReferenceInprojIdeal.τ).loc Cert.ReferenceInprojIdeal.main_arg4) = m ((c.tc : Thread Cert.KernelInprojIdeal.nD Cert.KernelInprojIdeal.τ).loc Cert.KernelInprojIdeal.main_arg4)) →
    ∃ (v0 : (c : Dev Cert.KernelInprojIdeal.nD) → Buf (Elt Ideal) ((c.tc : Thread Cert.KernelInprojIdeal.nD Cert.KernelInprojIdeal.τ).loc Cert.KernelInprojIdeal.main_v19_0)) (v1 : (c : Dev Cert.KernelInprojIdeal.nD) → Buf (Elt Ideal) ((c.tc : Thread Cert.KernelInprojIdeal.nD Cert.KernelInprojIdeal.τ).loc Cert.KernelInprojIdeal.main_v19_1)) (v2 : (c : Dev Cert.KernelInprojIdeal.nD) → Buf (Elt Ideal) ((c.tc : Thread Cert.KernelInprojIdeal.nD Cert.KernelInprojIdeal.τ).loc Cert.KernelInprojIdeal.main_v19_2)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v19_0) = v0 c
          ∧ r.2.mem ((c.tc : Thread Cert.KernelInprojIdeal.nD Cert.KernelInprojIdeal.τ).loc Cert.KernelInprojIdeal.main_v19_1) = v1 c
          ∧ r.2.mem ((c.tc : Thread Cert.KernelInprojIdeal.nD Cert.KernelInprojIdeal.τ).loc Cert.KernelInprojIdeal.main_v19_2) = v2 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
          ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
          ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
          ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v44) = v0 c
          ∧ r.2.mem ((c.tc : Thread Cert.ReferenceInprojIdeal.nD Cert.ReferenceInprojIdeal.τ).loc Cert.ReferenceInprojIdeal.main_v45) = v1 c
          ∧ r.2.mem ((c.tc : Thread Cert.ReferenceInprojIdeal.nD Cert.ReferenceInprojIdeal.τ).loc Cert.ReferenceInprojIdeal.main_v27) = v2 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2)
          ∧ r.2.mem ((c.tc : Thread Cert.ReferenceInprojIdeal.nD Cert.ReferenceInprojIdeal.τ).loc Cert.ReferenceInprojIdeal.main_arg3) = m' ((c.tc : Thread Cert.ReferenceInprojIdeal.nD Cert.ReferenceInprojIdeal.τ).loc Cert.ReferenceInprojIdeal.main_arg3)
          ∧ r.2.mem ((c.tc : Thread Cert.ReferenceInprojIdeal.nD Cert.ReferenceInprojIdeal.τ).loc Cert.ReferenceInprojIdeal.main_arg4) = m' ((c.tc : Thread Cert.ReferenceInprojIdeal.nD Cert.ReferenceInprojIdeal.τ).loc Cert.ReferenceInprojIdeal.main_arg4))

def preserves_KernelRet_KernelRetIdeal : Prop :=
  True

def algebraic_KernelRetIdeal_ReferenceRetIdeal_pre_finite_ret [hKernelRetIdeal : Cert.KernelRetIdeal.Facts] [hReferenceRetIdeal : Cert.ReferenceRetIdeal.Facts] [hPre_finite_ret : Cert.Pre_finite_ret.Facts] : Prop :=
  ∀ (m : (ℓ : Loc Cert.KernelRetIdeal.nD Cert.KernelRetIdeal.τ Cert.KernelRetIdeal.sig) → Buf (Elt Ideal) ℓ) (g : Dev Cert.KernelRetIdeal.nD → PrngReg)
    (m' : (ℓ : Loc Cert.ReferenceRetIdeal.nD Cert.ReferenceRetIdeal.τ Cert.ReferenceRetIdeal.sig) → Buf (Elt Ideal) ℓ) (g' : Dev Cert.ReferenceRetIdeal.nD → PrngReg), Pre_KernelRetIdeal_finite_ret m →
    (∀ c : Dev Cert.KernelRetIdeal.nD,
      m' ((c.tc : Thread Cert.ReferenceRetIdeal.nD Cert.ReferenceRetIdeal.τ).loc Cert.ReferenceRetIdeal.main_arg0) = m ((c.tc : Thread Cert.KernelRetIdeal.nD Cert.KernelRetIdeal.τ).loc Cert.KernelRetIdeal.main_arg0)
      ∧ m' ((c.tc : Thread Cert.ReferenceRetIdeal.nD Cert.ReferenceRetIdeal.τ).loc Cert.ReferenceRetIdeal.main_arg1) = m ((c.tc : Thread Cert.KernelRetIdeal.nD Cert.KernelRetIdeal.τ).loc Cert.KernelRetIdeal.main_arg1)
      ∧ m' ((c.tc : Thread Cert.ReferenceRetIdeal.nD Cert.ReferenceRetIdeal.τ).loc Cert.ReferenceRetIdeal.main_arg2) = m ((c.tc : Thread Cert.KernelRetIdeal.nD Cert.KernelRetIdeal.τ).loc Cert.KernelRetIdeal.main_arg2)
      ∧ m' ((c.tc : Thread Cert.ReferenceRetIdeal.nD Cert.ReferenceRetIdeal.τ).loc Cert.ReferenceRetIdeal.main_arg3) = m ((c.tc : Thread Cert.KernelRetIdeal.nD Cert.KernelRetIdeal.τ).loc Cert.KernelRetIdeal.main_arg3)
      ∧ m' ((c.tc : Thread Cert.ReferenceRetIdeal.nD Cert.ReferenceRetIdeal.τ).loc Cert.ReferenceRetIdeal.main_arg4) = m ((c.tc : Thread Cert.KernelRetIdeal.nD Cert.KernelRetIdeal.τ).loc Cert.KernelRetIdeal.main_arg4)
      ∧ m' ((c.tc : Thread Cert.ReferenceRetIdeal.nD Cert.ReferenceRetIdeal.τ).loc Cert.ReferenceRetIdeal.main_arg5) = m ((c.tc : Thread Cert.KernelRetIdeal.nD Cert.KernelRetIdeal.τ).loc Cert.KernelRetIdeal.main_arg5)) →
    ∃ (v0 : (c : Dev Cert.KernelRetIdeal.nD) → Buf (Elt Ideal) ((c.tc : Thread Cert.KernelRetIdeal.nD Cert.KernelRetIdeal.τ).loc Cert.KernelRetIdeal.main_v246_0)) (v1 : (c : Dev Cert.KernelRetIdeal.nD) → Buf (Elt Ideal) ((c.tc : Thread Cert.KernelRetIdeal.nD Cert.KernelRetIdeal.τ).loc Cert.KernelRetIdeal.main_v246_1)) (v2 : (c : Dev Cert.KernelRetIdeal.nD) → Buf (Elt Ideal) ((c.tc : Thread Cert.KernelRetIdeal.nD Cert.KernelRetIdeal.τ).loc Cert.KernelRetIdeal.main_v246_2)) (v3 : (c : Dev Cert.KernelRetIdeal.nD) → Buf (Elt Ideal) ((c.tc : Thread Cert.KernelRetIdeal.nD Cert.KernelRetIdeal.τ).loc Cert.KernelRetIdeal.main_v246_3)) (v4 : (c : Dev Cert.KernelRetIdeal.nD) → Buf (Elt Ideal) ((c.tc : Thread Cert.KernelRetIdeal.nD Cert.KernelRetIdeal.τ).loc Cert.KernelRetIdeal.main_v246_4)),
      θ_run (Cert.KernelRetIdeal.defs (F := Ideal)) (onTc (τ := Cert.KernelRetIdeal.τ) (Cert.KernelRetIdeal.main (F := Ideal))) ⟨m, fun _ => 0, g⟩ (fun r => ∀ c : Dev Cert.KernelRetIdeal.nD,
          r.2.mem ((c.tc : Thread Cert.KernelRetIdeal.nD Cert.KernelRetIdeal.τ).loc Cert.KernelRetIdeal.main_v246_0) = v0 c
          ∧ r.2.mem ((c.tc : Thread Cert.KernelRetIdeal.nD Cert.KernelRetIdeal.τ).loc Cert.KernelRetIdeal.main_v246_1) = v1 c
          ∧ r.2.mem ((c.tc : Thread Cert.KernelRetIdeal.nD Cert.KernelRetIdeal.τ).loc Cert.KernelRetIdeal.main_v246_2) = v2 c
          ∧ r.2.mem ((c.tc : Thread Cert.KernelRetIdeal.nD Cert.KernelRetIdeal.τ).loc Cert.KernelRetIdeal.main_v246_3) = v3 c
          ∧ r.2.mem ((c.tc : Thread Cert.KernelRetIdeal.nD Cert.KernelRetIdeal.τ).loc Cert.KernelRetIdeal.main_v246_4) = v4 c
          ∧ r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
          ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
          ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2)
          ∧ r.2.mem ((c.tc : Thread Cert.KernelRetIdeal.nD Cert.KernelRetIdeal.τ).loc Cert.KernelRetIdeal.main_arg3) = m ((c.tc : Thread Cert.KernelRetIdeal.nD Cert.KernelRetIdeal.τ).loc Cert.KernelRetIdeal.main_arg3)
          ∧ r.2.mem ((c.tc : Thread Cert.KernelRetIdeal.nD Cert.KernelRetIdeal.τ).loc Cert.KernelRetIdeal.main_arg4) = m ((c.tc : Thread Cert.KernelRetIdeal.nD Cert.KernelRetIdeal.τ).loc Cert.KernelRetIdeal.main_arg4)
          ∧ r.2.mem ((c.tc : Thread Cert.KernelRetIdeal.nD Cert.KernelRetIdeal.τ).loc Cert.KernelRetIdeal.main_arg5) = m ((c.tc : Thread Cert.KernelRetIdeal.nD Cert.KernelRetIdeal.τ).loc Cert.KernelRetIdeal.main_arg5))
      ∧ θ_run (Cert.ReferenceRetIdeal.defs (F := Ideal)) (onTc (τ := Cert.ReferenceRetIdeal.τ) (Cert.ReferenceRetIdeal.main (F := Ideal))) ⟨m', fun _ => 0, g'⟩ (fun r => ∀ c : Dev Cert.ReferenceRetIdeal.nD,
          r.2.mem ((c.tc : Thread Cert.ReferenceRetIdeal.nD Cert.ReferenceRetIdeal.τ).loc Cert.ReferenceRetIdeal.main_v210) = v0 c
          ∧ r.2.mem ((c.tc : Thread Cert.ReferenceRetIdeal.nD Cert.ReferenceRetIdeal.τ).loc Cert.ReferenceRetIdeal.main_v211) = v1 c
          ∧ r.2.mem ((c.tc : Thread Cert.ReferenceRetIdeal.nD Cert.ReferenceRetIdeal.τ).loc Cert.ReferenceRetIdeal.main_v212) = v2 c
          ∧ r.2.mem ((c.tc : Thread Cert.ReferenceRetIdeal.nD Cert.ReferenceRetIdeal.τ).loc Cert.ReferenceRetIdeal.main_v213) = v3 c
          ∧ r.2.mem ((c.tc : Thread Cert.ReferenceRetIdeal.nD Cert.ReferenceRetIdeal.τ).loc Cert.ReferenceRetIdeal.main_v209) = v4 c
          ∧ r.2.mem ((c.tc : Thread Cert.ReferenceRetIdeal.nD Cert.ReferenceRetIdeal.τ).loc Cert.ReferenceRetIdeal.main_arg0) = m' ((c.tc : Thread Cert.ReferenceRetIdeal.nD Cert.ReferenceRetIdeal.τ).loc Cert.ReferenceRetIdeal.main_arg0)
          ∧ r.2.mem ((c.tc : Thread Cert.ReferenceRetIdeal.nD Cert.ReferenceRetIdeal.τ).loc Cert.ReferenceRetIdeal.main_arg1) = m' ((c.tc : Thread Cert.ReferenceRetIdeal.nD Cert.ReferenceRetIdeal.τ).loc Cert.ReferenceRetIdeal.main_arg1)
          ∧ r.2.mem ((c.tc : Thread Cert.ReferenceRetIdeal.nD Cert.ReferenceRetIdeal.τ).loc Cert.ReferenceRetIdeal.main_arg2) = m' ((c.tc : Thread Cert.ReferenceRetIdeal.nD Cert.ReferenceRetIdeal.τ).loc Cert.ReferenceRetIdeal.main_arg2)
          ∧ r.2.mem ((c.tc : Thread Cert.ReferenceRetIdeal.nD Cert.ReferenceRetIdeal.τ).loc Cert.ReferenceRetIdeal.main_arg3) = m' ((c.tc : Thread Cert.ReferenceRetIdeal.nD Cert.ReferenceRetIdeal.τ).loc Cert.ReferenceRetIdeal.main_arg3)
          ∧ r.2.mem ((c.tc : Thread Cert.ReferenceRetIdeal.nD Cert.ReferenceRetIdeal.τ).loc Cert.ReferenceRetIdeal.main_arg4) = m' ((c.tc : Thread Cert.ReferenceRetIdeal.nD Cert.ReferenceRetIdeal.τ).loc Cert.ReferenceRetIdeal.main_arg4)
          ∧ r.2.mem ((c.tc : Thread Cert.ReferenceRetIdeal.nD Cert.ReferenceRetIdeal.τ).loc Cert.ReferenceRetIdeal.main_arg5) = m' ((c.tc : Thread Cert.ReferenceRetIdeal.nD Cert.ReferenceRetIdeal.τ).loc Cert.ReferenceRetIdeal.main_arg5))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v29_0)) (v1 : (c : Dev Cert.KernelFfnIdeal.nD) → Buf (Elt Ideal) ((c.tc : Thread Cert.KernelFfnIdeal.nD Cert.KernelFfnIdeal.τ).loc Cert.KernelFfnIdeal.main_v29_1)) (v2 : (c : Dev Cert.KernelFfnIdeal.nD) → Buf (Elt Ideal) ((c.tc : Thread Cert.KernelFfnIdeal.nD Cert.KernelFfnIdeal.τ).loc Cert.KernelFfnIdeal.main_v29_2)) (v3 : (c : Dev Cert.KernelFfnIdeal.nD) → Buf (Elt Ideal) ((c.tc : Thread Cert.KernelFfnIdeal.nD Cert.KernelFfnIdeal.τ).loc Cert.KernelFfnIdeal.main_v29_3)) (v4 : (c : Dev Cert.KernelFfnIdeal.nD) → Buf (Elt Ideal) ((c.tc : Thread Cert.KernelFfnIdeal.nD Cert.KernelFfnIdeal.τ).loc Cert.KernelFfnIdeal.main_v29_4)) (v5 : (c : Dev Cert.KernelFfnIdeal.nD) → Buf (Elt Ideal) ((c.tc : Thread Cert.KernelFfnIdeal.nD Cert.KernelFfnIdeal.τ).loc Cert.KernelFfnIdeal.main_v29_5)) (v6 : (c : Dev Cert.KernelFfnIdeal.nD) → Buf (Elt Ideal) ((c.tc : Thread Cert.KernelFfnIdeal.nD Cert.KernelFfnIdeal.τ).loc Cert.KernelFfnIdeal.main_v29_6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v29_0) = v0 c
          ∧ r.2.mem ((c.tc : Thread Cert.KernelFfnIdeal.nD Cert.KernelFfnIdeal.τ).loc Cert.KernelFfnIdeal.main_v29_1) = v1 c
          ∧ r.2.mem ((c.tc : Thread Cert.KernelFfnIdeal.nD Cert.KernelFfnIdeal.τ).loc Cert.KernelFfnIdeal.main_v29_2) = v2 c
          ∧ r.2.mem ((c.tc : Thread Cert.KernelFfnIdeal.nD Cert.KernelFfnIdeal.τ).loc Cert.KernelFfnIdeal.main_v29_3) = v3 c
          ∧ r.2.mem ((c.tc : Thread Cert.KernelFfnIdeal.nD Cert.KernelFfnIdeal.τ).loc Cert.KernelFfnIdeal.main_v29_4) = v4 c
          ∧ r.2.mem ((c.tc : Thread Cert.KernelFfnIdeal.nD Cert.KernelFfnIdeal.τ).loc Cert.KernelFfnIdeal.main_v29_5) = v5 c
          ∧ r.2.mem ((c.tc : Thread Cert.KernelFfnIdeal.nD Cert.KernelFfnIdeal.τ).loc Cert.KernelFfnIdeal.main_v29_6) = v6 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v55) = v0 c
          ∧ r.2.mem ((c.tc : Thread Cert.ReferenceFfnIdeal.nD Cert.ReferenceFfnIdeal.τ).loc Cert.ReferenceFfnIdeal.main_v58) = v1 c
          ∧ r.2.mem ((c.tc : Thread Cert.ReferenceFfnIdeal.nD Cert.ReferenceFfnIdeal.τ).loc Cert.ReferenceFfnIdeal.main_v61) = v2 c
          ∧ r.2.mem ((c.tc : Thread Cert.ReferenceFfnIdeal.nD Cert.ReferenceFfnIdeal.τ).loc Cert.ReferenceFfnIdeal.main_v64) = v3 c
          ∧ r.2.mem ((c.tc : Thread Cert.ReferenceFfnIdeal.nD Cert.ReferenceFfnIdeal.τ).loc Cert.ReferenceFfnIdeal.main_v65) = v4 c
          ∧ r.2.mem ((c.tc : Thread Cert.ReferenceFfnIdeal.nD Cert.ReferenceFfnIdeal.τ).loc Cert.ReferenceFfnIdeal.main_v68) = v5 c
          ∧ r.2.mem ((c.tc : Thread Cert.ReferenceFfnIdeal.nD Cert.ReferenceFfnIdeal.τ).loc Cert.ReferenceFfnIdeal.main_v38) = v6 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)
      ∧ m' ((c.tc : Thread Cert.ReferenceLossIdeal.nD Cert.ReferenceLossIdeal.τ).loc Cert.ReferenceLossIdeal.main_arg6) = m ((c.tc : Thread Cert.KernelLossIdeal.nD Cert.KernelLossIdeal.τ).loc Cert.KernelLossIdeal.main_arg6)) →
    ∃ (v0 : (c : Dev Cert.KernelLossIdeal.nD) → Buf (Elt Ideal) ((c.tc : Thread Cert.KernelLossIdeal.nD Cert.KernelLossIdeal.τ).loc Cert.KernelLossIdeal.main_v9_0)) (v1 : (c : Dev Cert.KernelLossIdeal.nD) → Buf (Elt Ideal) ((c.tc : Thread Cert.KernelLossIdeal.nD Cert.KernelLossIdeal.τ).loc Cert.KernelLossIdeal.main_v9_1)) (v2 : (c : Dev Cert.KernelLossIdeal.nD) → Buf (Elt Ideal) ((c.tc : Thread Cert.KernelLossIdeal.nD Cert.KernelLossIdeal.τ).loc Cert.KernelLossIdeal.main_v9_2)) (v3 : (c : Dev Cert.KernelLossIdeal.nD) → Buf (Elt Ideal) ((c.tc : Thread Cert.KernelLossIdeal.nD Cert.KernelLossIdeal.τ).loc Cert.KernelLossIdeal.main_v9_3)) (v4 : (c : Dev Cert.KernelLossIdeal.nD) → Buf (Elt Ideal) ((c.tc : Thread Cert.KernelLossIdeal.nD Cert.KernelLossIdeal.τ).loc Cert.KernelLossIdeal.main_v9_4)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v9_0) = v0 c
          ∧ r.2.mem ((c.tc : Thread Cert.KernelLossIdeal.nD Cert.KernelLossIdeal.τ).loc Cert.KernelLossIdeal.main_v9_1) = v1 c
          ∧ r.2.mem ((c.tc : Thread Cert.KernelLossIdeal.nD Cert.KernelLossIdeal.τ).loc Cert.KernelLossIdeal.main_v9_2) = v2 c
          ∧ r.2.mem ((c.tc : Thread Cert.KernelLossIdeal.nD Cert.KernelLossIdeal.τ).loc Cert.KernelLossIdeal.main_v9_3) = v3 c
          ∧ r.2.mem ((c.tc : Thread Cert.KernelLossIdeal.nD Cert.KernelLossIdeal.τ).loc Cert.KernelLossIdeal.main_v9_4) = v4 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
          ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v71) = v0 c
          ∧ r.2.mem ((c.tc : Thread Cert.ReferenceLossIdeal.nD Cert.ReferenceLossIdeal.τ).loc Cert.ReferenceLossIdeal.main_v70) = v1 c
          ∧ r.2.mem ((c.tc : Thread Cert.ReferenceLossIdeal.nD Cert.ReferenceLossIdeal.τ).loc Cert.ReferenceLossIdeal.main_v72) = v2 c
          ∧ r.2.mem ((c.tc : Thread Cert.ReferenceLossIdeal.nD Cert.ReferenceLossIdeal.τ).loc Cert.ReferenceLossIdeal.main_v75) = v3 c
          ∧ r.2.mem ((c.tc : Thread Cert.ReferenceLossIdeal.nD Cert.ReferenceLossIdeal.τ).loc Cert.ReferenceLossIdeal.main_v78) = v4 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5)
          ∧ r.2.mem ((c.tc : Thread Cert.ReferenceLossIdeal.nD Cert.ReferenceLossIdeal.τ).loc Cert.ReferenceLossIdeal.main_arg6) = m' ((c.tc : Thread Cert.ReferenceLossIdeal.nD Cert.ReferenceLossIdeal.τ).loc Cert.ReferenceLossIdeal.main_arg6))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)
      ∧ m' ((c.tc : Thread Cert.ReferenceGatesIdeal.nD Cert.ReferenceGatesIdeal.τ).loc Cert.ReferenceGatesIdeal.main_arg3) = m ((c.tc : Thread Cert.KernelGatesIdeal.nD Cert.KernelGatesIdeal.τ).loc Cert.KernelGatesIdeal.main_arg3)
      ∧ m' ((c.tc : Thread Cert.ReferenceGatesIdeal.nD Cert.ReferenceGatesIdeal.τ).loc Cert.ReferenceGatesIdeal.main_arg4) = m ((c.tc : Thread Cert.KernelGatesIdeal.nD Cert.KernelGatesIdeal.τ).loc Cert.KernelGatesIdeal.main_arg4)
      ∧ m' ((c.tc : Thread Cert.ReferenceGatesIdeal.nD Cert.ReferenceGatesIdeal.τ).loc Cert.ReferenceGatesIdeal.main_arg5) = m ((c.tc : Thread Cert.KernelGatesIdeal.nD Cert.KernelGatesIdeal.τ).loc Cert.KernelGatesIdeal.main_arg5)
      ∧ m' ((c.tc : Thread Cert.ReferenceGatesIdeal.nD Cert.ReferenceGatesIdeal.τ).loc Cert.ReferenceGatesIdeal.main_arg6) = m ((c.tc : Thread Cert.KernelGatesIdeal.nD Cert.KernelGatesIdeal.τ).loc Cert.KernelGatesIdeal.main_arg6)
      ∧ m' ((c.tc : Thread Cert.ReferenceGatesIdeal.nD Cert.ReferenceGatesIdeal.τ).loc Cert.ReferenceGatesIdeal.main_arg7) = m ((c.tc : Thread Cert.KernelGatesIdeal.nD Cert.KernelGatesIdeal.τ).loc Cert.KernelGatesIdeal.main_arg7)) →
    ∃ (v0 : (c : Dev Cert.KernelGatesIdeal.nD) → Buf (Elt Ideal) ((c.tc : Thread Cert.KernelGatesIdeal.nD Cert.KernelGatesIdeal.τ).loc Cert.KernelGatesIdeal.main_v13_0)) (v1 : (c : Dev Cert.KernelGatesIdeal.nD) → Buf (Elt Ideal) ((c.tc : Thread Cert.KernelGatesIdeal.nD Cert.KernelGatesIdeal.τ).loc Cert.KernelGatesIdeal.main_v13_1)) (v2 : (c : Dev Cert.KernelGatesIdeal.nD) → Buf (Elt Ideal) ((c.tc : Thread Cert.KernelGatesIdeal.nD Cert.KernelGatesIdeal.τ).loc Cert.KernelGatesIdeal.main_v13_2)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v13_0) = v0 c
          ∧ r.2.mem ((c.tc : Thread Cert.KernelGatesIdeal.nD Cert.KernelGatesIdeal.τ).loc Cert.KernelGatesIdeal.main_v13_1) = v1 c
          ∧ r.2.mem ((c.tc : Thread Cert.KernelGatesIdeal.nD Cert.KernelGatesIdeal.τ).loc Cert.KernelGatesIdeal.main_v13_2) = v2 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
          ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
          ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
          ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5)
          ∧ r.2.mem ((c.tc : Thread Cert.KernelGatesIdeal.nD Cert.KernelGatesIdeal.τ).loc Cert.KernelGatesIdeal.main_arg6) = m ((c.tc : Thread Cert.KernelGatesIdeal.nD Cert.KernelGatesIdeal.τ).loc Cert.KernelGatesIdeal.main_arg6)
          ∧ r.2.mem ((c.tc : Thread Cert.KernelGatesIdeal.nD Cert.KernelGatesIdeal.τ).loc Cert.KernelGatesIdeal.main_arg7) = m ((c.tc : Thread Cert.KernelGatesIdeal.nD Cert.KernelGatesIdeal.τ).loc Cert.KernelGatesIdeal.main_arg7))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v18) = v0 c
          ∧ r.2.mem ((c.tc : Thread Cert.ReferenceGatesIdeal.nD Cert.ReferenceGatesIdeal.τ).loc Cert.ReferenceGatesIdeal.main_v19) = v1 c
          ∧ r.2.mem ((c.tc : Thread Cert.ReferenceGatesIdeal.nD Cert.ReferenceGatesIdeal.τ).loc Cert.ReferenceGatesIdeal.main_v20) = v2 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2)
          ∧ r.2.mem ((c.tc : Thread Cert.ReferenceGatesIdeal.nD Cert.ReferenceGatesIdeal.τ).loc Cert.ReferenceGatesIdeal.main_arg3) = m' ((c.tc : Thread Cert.ReferenceGatesIdeal.nD Cert.ReferenceGatesIdeal.τ).loc Cert.ReferenceGatesIdeal.main_arg3)
          ∧ r.2.mem ((c.tc : Thread Cert.ReferenceGatesIdeal.nD Cert.ReferenceGatesIdeal.τ).loc Cert.ReferenceGatesIdeal.main_arg4) = m' ((c.tc : Thread Cert.ReferenceGatesIdeal.nD Cert.ReferenceGatesIdeal.τ).loc Cert.ReferenceGatesIdeal.main_arg4)
          ∧ r.2.mem ((c.tc : Thread Cert.ReferenceGatesIdeal.nD Cert.ReferenceGatesIdeal.τ).loc Cert.ReferenceGatesIdeal.main_arg5) = m' ((c.tc : Thread Cert.ReferenceGatesIdeal.nD Cert.ReferenceGatesIdeal.τ).loc Cert.ReferenceGatesIdeal.main_arg5)
          ∧ r.2.mem ((c.tc : Thread Cert.ReferenceGatesIdeal.nD Cert.ReferenceGatesIdeal.τ).loc Cert.ReferenceGatesIdeal.main_arg6) = m' ((c.tc : Thread Cert.ReferenceGatesIdeal.nD Cert.ReferenceGatesIdeal.τ).loc Cert.ReferenceGatesIdeal.main_arg6)
          ∧ r.2.mem ((c.tc : Thread Cert.ReferenceGatesIdeal.nD Cert.ReferenceGatesIdeal.τ).loc Cert.ReferenceGatesIdeal.main_arg7) = m' ((c.tc : Thread Cert.ReferenceGatesIdeal.nD Cert.ReferenceGatesIdeal.τ).loc Cert.ReferenceGatesIdeal.main_arg7))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) →
    ∃ (v0 : (c : Dev Cert.KernelFwdIdeal.nD) → Buf (Elt Ideal) ((c.tc : Thread Cert.KernelFwdIdeal.nD Cert.KernelFwdIdeal.τ).loc Cert.KernelFwdIdeal.main_v8_0)) (v1 : (c : Dev Cert.KernelFwdIdeal.nD) → Buf (Elt Ideal) ((c.tc : Thread Cert.KernelFwdIdeal.nD Cert.KernelFwdIdeal.τ).loc Cert.KernelFwdIdeal.main_v8_1)) (v2 : (c : Dev Cert.KernelFwdIdeal.nD) → Buf (Elt Ideal) ((c.tc : Thread Cert.KernelFwdIdeal.nD Cert.KernelFwdIdeal.τ).loc Cert.KernelFwdIdeal.main_v8_2)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v8_0) = v0 c
          ∧ r.2.mem ((c.tc : Thread Cert.KernelFwdIdeal.nD Cert.KernelFwdIdeal.τ).loc Cert.KernelFwdIdeal.main_v8_1) = v1 c
          ∧ r.2.mem ((c.tc : Thread Cert.KernelFwdIdeal.nD Cert.KernelFwdIdeal.τ).loc Cert.KernelFwdIdeal.main_v8_2) = v2 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v19) = v0 c
          ∧ r.2.mem ((c.tc : Thread Cert.ReferenceFwdIdeal.nD Cert.ReferenceFwdIdeal.τ).loc Cert.ReferenceFwdIdeal.main_v22) = v1 c
          ∧ r.2.mem ((c.tc : Thread Cert.ReferenceFwdIdeal.nD Cert.ReferenceFwdIdeal.τ).loc Cert.ReferenceFwdIdeal.main_v25) = v2 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4))

def Claim : Prop :=
  ∃ (hKernelInproj : Cert.KernelInproj.Facts) (hKernelInprojIdeal : Cert.KernelInprojIdeal.Facts) (hReferenceInprojIdeal : Cert.ReferenceInprojIdeal.Facts) (hKernelRet : Cert.KernelRet.Facts) (hKernelRetIdeal : Cert.KernelRetIdeal.Facts) (hReferenceRetIdeal : Cert.ReferenceRetIdeal.Facts) (hKernelFfn : Cert.KernelFfn.Facts) (hKernelFfnIdeal : Cert.KernelFfnIdeal.Facts) (hReferenceFfnIdeal : Cert.ReferenceFfnIdeal.Facts) (hKernelLoss : Cert.KernelLoss.Facts) (hKernelLossIdeal : Cert.KernelLossIdeal.Facts) (hReferenceLossIdeal : Cert.ReferenceLossIdeal.Facts) (hKernelGates : Cert.KernelGates.Facts) (hKernelGatesIdeal : Cert.KernelGatesIdeal.Facts) (hReferenceGatesIdeal : Cert.ReferenceGatesIdeal.Facts) (hKernelFwd : Cert.KernelFwd.Facts) (hKernelFwdIdeal : Cert.KernelFwdIdeal.Facts) (hReferenceFwdIdeal : Cert.ReferenceFwdIdeal.Facts) (hPre_finite_inproj : Cert.Pre_finite_inproj.Facts) (hPre_finite_ret : Cert.Pre_finite_ret.Facts) (hPre_finite_ffn : Cert.Pre_finite_ffn.Facts) (hPre_finite_loss : Cert.Pre_finite_loss.Facts),
    quiescent_KernelInproj (hKernelInproj := hKernelInproj)
    ∧ quiescent_KernelInprojIdeal (hKernelInprojIdeal := hKernelInprojIdeal)
    ∧ quiescent_KernelInprojIdeal_pre_finite_inproj (hKernelInprojIdeal := hKernelInprojIdeal) (hPre_finite_inproj := hPre_finite_inproj)
    ∧ quiescent_ReferenceInprojIdeal (hReferenceInprojIdeal := hReferenceInprojIdeal)
    ∧ quiescent_ReferenceInprojIdeal_pre_finite_inproj (hReferenceInprojIdeal := hReferenceInprojIdeal) (hPre_finite_inproj := hPre_finite_inproj)
    ∧ quiescent_KernelRet (hKernelRet := hKernelRet)
    ∧ quiescent_KernelRetIdeal (hKernelRetIdeal := hKernelRetIdeal)
    ∧ quiescent_KernelRetIdeal_pre_finite_ret (hKernelRetIdeal := hKernelRetIdeal) (hPre_finite_ret := hPre_finite_ret)
    ∧ quiescent_ReferenceRetIdeal (hReferenceRetIdeal := hReferenceRetIdeal)
    ∧ quiescent_ReferenceRetIdeal_pre_finite_ret (hReferenceRetIdeal := hReferenceRetIdeal) (hPre_finite_ret := hPre_finite_ret)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ preserves_KernelInproj_KernelInprojIdeal
    ∧ algebraic_KernelInprojIdeal_ReferenceInprojIdeal_pre_finite_inproj (hKernelInprojIdeal := hKernelInprojIdeal) (hReferenceInprojIdeal := hReferenceInprojIdeal) (hPre_finite_inproj := hPre_finite_inproj)
    ∧ preserves_KernelRet_KernelRetIdeal
    ∧ algebraic_KernelRetIdeal_ReferenceRetIdeal_pre_finite_ret (hKernelRetIdeal := hKernelRetIdeal) (hReferenceRetIdeal := hReferenceRetIdeal) (hPre_finite_ret := hPre_finite_ret)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelFwd_KernelFwdIdeal
    ∧ algebraic_KernelFwdIdeal_ReferenceFwdIdeal (hKernelFwdIdeal := hKernelFwdIdeal) (hReferenceFwdIdeal := hReferenceFwdIdeal)
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_inproj.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x8192 : S_.BroadcastsInDim S1024x8192 (![] : Fin 0 → Fin S1024x8192.rank)
  reducesTo_S1024x8192_S_d0_1 : S1024x8192.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x8192 .f32) (main_arg3 : FVec F S4096x8192 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_v13 main_v16
-- ==== Pre_finite_loss.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2816x1024 .f32) (main_arg5 : FVec F S1024 .f32) (main_arg6 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite_ret.lean ====
abbrev S4096x1024 : Shape := ⟨2, ![4096, 1024]⟩
abbrev S2x4 : Shape := ⟨2, ![2, 4]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_

variable [Facts]

def fn_part1 {F : FTy → Type} [FloatOps F] (main_arg4 : FVec F S2x4 .f32) (main_arg5 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S2x4 .f32 := Host.absf main_arg4
  let main_cst_6 : FVec F S_ .f32 := constant S_ .f32 0x7F800000#32
  let main_v20 : FVec F S2x4 .f32 := broadcastInDim S2x4 ![] bcast_S_S2x4 main_cst_6
  let main_v21 : IVec S2x4 1 := cmpf .olt main_v19 main_v20
  let main_c_7 : IVec S_ 1 := constantI S_ 1 1#1
  let main_v22 : IVec S_ 1 := (fun x v => Host.reduce IntOp.andi x v reducesTo_S2x4_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S2x4 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== KernelInproj.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S1024x4x2048 : Shape := ⟨3, ![1024, 4, 2048]⟩
abbrev S4x1024x2048 : Shape := ⟨3, ![4, 1024, 2048]⟩
abbrev S8x1x1024 : Shape := ⟨3, ![8, 1, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S512 : Shape := ⟨1, ![512]⟩
abbrev S512x1 : Shape := ⟨2, ![512, 1]⟩

abbrev nBuf : Space → Nat
  | .hbm => 27
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S1024x4x2048, .f32⟩
  | .hbm, ⟨6, _⟩ => ⟨S4x1024x2048, .f32⟩
  | .hbm, ⟨7, _⟩ => ⟨S4x1024x2048, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S4096x1024, .bf16⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S8x1x1024, .f32⟩
  | .hbm, ⟨26, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S4x1024x2048, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S8x1x1024, .f32⟩
  | .local _ .vmem, ⟨25, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceInprojIdeal.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S_ : Shape := ⟨0, ![]⟩
abbrev S8192 : Shape := ⟨1, ![8192]⟩
abbrev S4096 : Shape := ⟨1, ![4096]⟩
abbrev S4096x1 : Shape := ⟨2, ![4096, 1]⟩
abbrev S1x8192 : Shape := ⟨2, ![1, 8192]⟩
abbrev S1024 : Shape := ⟨1, ![1024]⟩
abbrev S8x1x1024 : Shape := ⟨3, ![8, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S4096x8192, .f32⟩
  | .hbm, ⟨4, _⟩ => ⟨S4096x1024, .f32⟩
  | .hbm, ⟨5, _⟩ => ⟨S_, .f32⟩
  | .hbm, ⟨6, _⟩ => ⟨S8192, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x8192, .f32⟩
  | .hbm, ⟨27, _⟩ => ⟨S1x8192, .f32⟩
  | .hbm, ⟨28, _⟩ => ⟨S4096x8192, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S8192, .f32⟩
  | .hbm, ⟨33, _⟩ => ⟨S1x8192, .f32⟩
  | .hbm, ⟨34, _⟩ => ⟨S_, .f32⟩
  | .hbm, ⟨35, _⟩ => ⟨S8192, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S8x1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== KernelRet.lean ====
abbrev S4096x1024 : Shape := ⟨2, ![4096, 1024]⟩
abbrev S2x4 : Shape := ⟨2, ![2, 4]⟩
abbrev S_ : Shape := ⟨0, ![]⟩
abbrev S1x4 : Shape := ⟨2, ![1, 4]⟩
abbrev S4 : Shape := ⟨1, ![4]⟩
abbrev S4x1 : Shape := ⟨2, ![4, 1]⟩
abbrev S256 : Shape := ⟨1, ![256]⟩
abbrev S1x256 : Shape := ⟨2, ![1, 256]⟩
abbrev S4x256 : Shape := ⟨2, ![4, 256]⟩
abbrev S4x1x256 : Shape := ⟨3, ![4, 1, 256]⟩
abbrev S4x8x256 : Shape := ⟨3, ![4, 8, 256]⟩
abbrev S4x8x256x1 : Shape := ⟨4, ![4, 8, 256, 1]⟩
abbrev S256x1 : Shape := ⟨2, ![256, 1]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1x256x256 : Shape := ⟨4, ![4, 1, 256, 256]⟩
abbrev S4x3x256x256 : Shape := ⟨4, ![4, 3, 256, 256]⟩
abbrev S4x2x256 : Shape := ⟨3, ![4, 2, 256]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x4x256 : Shape := ⟨3, ![4096, 4, 256]⟩
abbrev S4096x1x128 : Shape := ⟨3, ![4096, 1, 128]⟩
abbrev S4096x4x128 : Shape := ⟨3, ![4096, 4, 128]⟩
abbrev S4096x4096 : Shape := ⟨2, ![4096, 4096]⟩
abbrev S1x4096x4096 : Shape := ⟨3, ![1, 4096, 4096]⟩
abbrev S4x4096x4096 : Shape := ⟨3, ![4, 4096, 4096]⟩
abbrev S4x256x4096 : Shape := ⟨3, ![4, 256, 4096]⟩
abbrev S4096x2048 : Shape := ⟨2, ![4096, 2048]⟩
abbrev S1x4096x2048 : Shape := ⟨3, ![1, 4096, 2048]⟩
abbrev S4x4096x2048 : Shape := ⟨3, ![4, 4096, 2048]⟩
abbrev S4x8x128 : Shape := ⟨3, ![4, 8, 128]⟩
abbrev S2048x256 : Shape := ⟨2, ![2048, 256]⟩
abbrev S1x2048x256 : Shape := ⟨3, ![1, 2048, 256]⟩
abbrev S2048x128 : Shape := ⟨2, ![2048, 128]⟩
abbrev S1x8x256x1 : Shape := ⟨4, ![1, 8, 256, 1]⟩
abbrev S1x3x256x256 : Shape := ⟨4, ![1, 3, 256, 256]⟩
abbrev S1x2x256 : Shape := ⟨3, ![1, 2, 256]⟩
abbrev S1x8x128 : Shape := ⟨3, ![1, 8, 128]⟩
abbrev S16x256x256 : Shape := ⟨3, ![16, 256, 256]⟩
abbrev S4096x256 : Shape := ⟨2, ![4096, 256]⟩
abbrev S1x1x256x1 : Shape := ⟨4, ![1, 1, 256, 1]⟩
abbrev S1x1x256 : Shape := ⟨3, ![1, 1, 256]⟩
abbrev S256x128 : Shape := ⟨2, ![256, 128]⟩
abbrev S1x1x256x256 : Shape := ⟨4, ![1, 1, 256, 256]⟩
abbrev S1 : Shape := ⟨1, ![1]⟩
abbrev S1x1x1 : Shape := ⟨3, ![1, 1, 1]⟩
abbrev S8x128 : Shape := ⟨2, ![8, 128]⟩

abbrev nBuf : Space → Nat
  | .hbm => 326
  | .vmem => 44
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S2x4, .f32⟩
  | 5 => ⟨S4096x1024, .f32⟩
  | 6 => ⟨S_, .f32⟩
  | 7 => ⟨S2x4, .f32⟩
  | 8 => ⟨S2x4, .f32⟩
  | 9 => ⟨S2x4, .f32⟩
  | 10 => ⟨S_, .f32⟩
  | 11 => ⟨S2x4, .f32⟩
  | 12 => ⟨S2x4, .f32⟩
  | 13 => ⟨S2x4, .f32⟩
  | 14 => ⟨S2x4, .f32⟩
  | 15 => ⟨S2x4, .i1⟩
  | 16 => ⟨S2x4, .f32⟩
  | 17 => ⟨S2x4, .f32⟩
  | 18 => ⟨S2x4, .f32⟩
  | 19 => ⟨S2x4, .f32⟩
  | 20 => ⟨S2x4, .f32⟩
  | 21 => ⟨S2x4, .f32⟩
  | 22 => ⟨S2x4, .f32⟩
  | 23 => ⟨S2x4, .f32⟩
  | 24 => ⟨S2x4, .f32⟩
  | 25 => ⟨S1x4, .f32⟩
  | 26 => ⟨S4, .f32⟩
  | 27 => ⟨S4x1, .f32⟩
  | 28 => ⟨S1x4, .f32⟩
  | 29 => ⟨S4, .f32⟩
  | 30 => ⟨S4x1, .f32⟩
  | 31 => ⟨S256, .f32⟩
  | 32 => ⟨S1x256, .f32⟩
  | 33 => ⟨S_, .f32⟩
  | 34 => ⟨S1x256, .f32⟩
  | 35 => ⟨S1x256, .f32⟩
  | 36 => ⟨S4x256, .f32⟩
  | 37 => ⟨S4x256, .f32⟩
  | 38 => ⟨S4x256, .f32⟩
  | 39 => ⟨S4x256, .f32⟩
  | 40 => ⟨S_, .f32⟩
  | 41 => ⟨S1x256, .f32⟩
  | 42 => ⟨S1x256, .f32⟩
  | 43 => ⟨S4x256, .f32⟩
  | 44 => ⟨S4x256, .f32⟩
  | 45 => ⟨S4x256, .f32⟩
  | 46 => ⟨S4x256, .f32⟩
  | 47 => ⟨S_, .f32⟩
  | 48 => ⟨S1x256, .f32⟩
  | 49 => ⟨S1x256, .f32⟩
  | 50 => ⟨S4x256, .f32⟩
  | 51 => ⟨S4x256, .f32⟩
  | 52 => ⟨S4x256, .f32⟩
  | 53 => ⟨S4x256, .f32⟩
  | 54 => ⟨S4x256, .f32⟩
  | 55 => ⟨S4x256, .f32⟩
  | 56 => ⟨S4x256, .f32⟩
  | 57 => ⟨S4x256, .f32⟩
  | 58 => ⟨S_, .f32⟩
  | 59 => ⟨S1x256, .f32⟩
  | 60 => ⟨S1x256, .f32⟩
  | 61 => ⟨S4x256, .f32⟩
  | 62 => ⟨S4x256, .f32⟩
  | 63 => ⟨S_, .f32⟩
  | 64 => ⟨S1x256, .f32⟩
  | 65 => ⟨S1x256, .f32⟩
  | 66 => ⟨S4x256, .f32⟩
  | 67 => ⟨S4x256, .f32⟩
  | 68 => ⟨S_, .f32⟩
  | 69 => ⟨S1x256, .f32⟩
  | 70 => ⟨S1x256, .f32⟩
  | 71 => ⟨S4x256, .f32⟩
  | 72 => ⟨S4x256, .f32⟩
  | 73 => ⟨S4x256, .f32⟩
  | 74 => ⟨S4x256, .f32⟩
  | 75 => ⟨S4x1x256, .f32⟩
  | 76 => ⟨S4x1x256, .f32⟩
  | 77 => ⟨S4x1x256, .f32⟩
  | 78 => ⟨S4x1x256, .f32⟩
  | 79 => ⟨S4x1x256, .f32⟩
  | 80 => ⟨S4x1x256, .f32⟩
  | 81 => ⟨S4x1x256, .f32⟩
  | 82 => ⟨S4x1x256, .f32⟩
  | 83 => ⟨S4x8x256, .f32⟩
  | 84 => ⟨S4x8x256x1, .f32⟩
  | 85 => ⟨S256, .f32⟩
  | 86 => ⟨S256x1, .f32⟩
  | 87 => ⟨S256, .f32⟩
  | 88 => ⟨S1x256, .f32⟩
  | 89 => ⟨S256x256, .f32⟩
  | 90 => ⟨S256x256, .f32⟩
  | 91 => ⟨S256x256, .f32⟩
  | 92 => ⟨S_, .f32⟩
  | 93 => ⟨S256x256, .f32⟩
  | 94 => ⟨S256x256, .i1⟩
  | 95 => ⟨S_, .f32⟩
  | 96 => ⟨S256x256, .f32⟩
  | 97 => ⟨S256x256, .f32⟩
  | 98 => ⟨S1x256x256, .f32⟩
  | 99 => ⟨S4x1x1, .f32⟩
  | 100 => ⟨S4x256x256, .f32⟩
  | 101 => ⟨S4x256x256, .f32⟩
  | 102 => ⟨S4x256x256, .f32⟩
  | 103 => ⟨S4x256x256, .f32⟩
  | 104 => ⟨S_, .f32⟩
  | 105 => ⟨S_, .f32⟩
  | 106 => ⟨S4x256x256, .i1⟩
  | 107 => ⟨S4x256x256, .f32⟩
  | 108 => ⟨S4x256x256, .f32⟩
  | 109 => ⟨S_, .f32⟩
  | 110 => ⟨S256x256, .f32⟩
  | 111 => ⟨S256x256, .i1⟩
  | 112 => ⟨S256x256, .f32⟩
  | 113 => ⟨S_, .f32⟩
  | 114 => ⟨S256x256, .f32⟩
  | 115 => ⟨S256x256, .f32⟩
  | 116 => ⟨S1x256x256, .f32⟩
  | 117 => ⟨S4x1x1, .f32⟩
  | 118 => ⟨S4x256x256, .f32⟩
  | 119 => ⟨S4x256x256, .f32⟩
  | 120 => ⟨S4x256x256, .f32⟩
  | 121 => ⟨S4x256x256, .f32⟩
  | 122 => ⟨S_, .f32⟩
  | 123 => ⟨S_, .f32⟩
  | 124 => ⟨S4x256x256, .i1⟩
  | 125 => ⟨S4x256x256, .f32⟩
  | 126 => ⟨S4x256x256, .f32⟩
  | 127 => ⟨S4x256x256, .f32⟩
  | _ => ⟨S4096x1024, .f32⟩

abbrev hbmTy0_1 (i : Nat) : BufTy := match i % 128 with
  | 0 => ⟨S1x256x256, .f32⟩
  | 1 => ⟨S4x256x256, .f32⟩
  | 2 => ⟨S4x256x256, .f32⟩
  | 3 => ⟨S256x256, .f32⟩
  | 4 => ⟨S1x256x256, .f32⟩
  | 5 => ⟨S4x256x256, .f32⟩
  | 6 => ⟨S4x256x256, .f32⟩
  | 7 => ⟨S4x1x256x256, .f32⟩
  | 8 => ⟨S4x1x256x256, .f32⟩
  | 9 => ⟨S4x1x256x256, .f32⟩
  | 10 => ⟨S4x3x256x256, .f32⟩
  | 11 => ⟨S_, .f32⟩
  | 12 => ⟨S4x1, .f32⟩
  | 13 => ⟨S4x1, .f32⟩
  | 14 => ⟨S4x1, .f32⟩
  | 15 => ⟨S4x256, .f32⟩
  | 16 => ⟨S_, .f32⟩
  | 17 => ⟨S4x1, .f32⟩
  | 18 => ⟨S4x1, .f32⟩
  | 19 => ⟨S4x1, .f32⟩
  | 20 => ⟨S4x256, .f32⟩
  | 21 => ⟨S4x1x256, .f32⟩
  | 22 => ⟨S4x1x256, .f32⟩
  | 23 => ⟨S4x2x256, .f32⟩
  | 24 => ⟨S128, .f32⟩
  | 25 => ⟨S_, .f32⟩
  | 26 => ⟨S128, .f32⟩
  | 27 => ⟨S128, .f32⟩
  | 28 => ⟨S_, .f32⟩
  | 29 => ⟨S128, .f32⟩
  | 30 => ⟨S128, .f32⟩
  | 31 => ⟨S128, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S4096, .f32⟩
  | 39 => ⟨S_, .f32⟩
  | 40 => ⟨S4096, .f32⟩
  | 41 => ⟨S4096, .f32⟩
  | 42 => ⟨S4096x1, .f32⟩
  | 43 => ⟨S1x128, .f32⟩
  | 44 => ⟨S4096x128, .f32⟩
  | 45 => ⟨S4096x128, .f32⟩
  | 46 => ⟨S4096x128, .f32⟩
  | 47 => ⟨S4096x128, .f32⟩
  | 48 => ⟨S4096x128, .f32⟩
  | 49 => ⟨S4096x4x256, .f32⟩
  | 50 => ⟨S128, .f32⟩
  | 51 => ⟨S_, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S_, .f32⟩
  | 62 => ⟨S128, .f32⟩
  | 63 => ⟨S128, .f32⟩
  | 64 => ⟨S4096, .f32⟩
  | 65 => ⟨S4096x1, .f32⟩
  | 66 => ⟨S1x128, .f32⟩
  | 67 => ⟨S4096x128, .f32⟩
  | 68 => ⟨S4096x128, .f32⟩
  | 69 => ⟨S4096x128, .f32⟩
  | 70 => ⟨S4096x128, .f32⟩
  | 71 => ⟨S4096x1x128, .f32⟩
  | 72 => ⟨S4096x128, .f32⟩
  | 73 => ⟨S4096x1x128, .f32⟩
  | 74 => ⟨S4096x4x128, .f32⟩
  | 75 => ⟨S4096x4x128, .f32⟩
  | 76 => ⟨S4096x4x128, .f32⟩
  | 77 => ⟨S4096x4x128, .f32⟩
  | 78 => ⟨S4096x4x128, .f32⟩
  | 79 => ⟨S4096x4x128, .f32⟩
  | 80 => ⟨S4096x4x128, .f32⟩
  | 81 => ⟨S4096x4x128, .f32⟩
  | 82 => ⟨S4096x4x128, .f32⟩
  | 83 => ⟨S4096x4x128, .f32⟩
  | 84 => ⟨S4096x4x128, .f32⟩
  | 85 => ⟨S4096x4x128, .f32⟩
  | 86 => ⟨S4096x4x256, .f32⟩
  | 87 => ⟨S4096x4x256, .f32⟩
  | 88 => ⟨S128, .f32⟩
  | 89 => ⟨S_, .f32⟩
  | 90 => ⟨S128, .f32⟩
  | 91 => ⟨S128, .f32⟩
  | 92 => ⟨S_, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S_, .f32⟩
  | 100 => ⟨S128, .f32⟩
  | 101 => ⟨S128, .f32⟩
  | 102 => ⟨S4096, .f32⟩
  | 103 => ⟨S4096x1, .f32⟩
  | 104 => ⟨S1x128, .f32⟩
  | 105 => ⟨S4096x128, .f32⟩
  | 106 => ⟨S4096x128, .f32⟩
  | 107 => ⟨S4096x128, .f32⟩
  | 108 => ⟨S4096x128, .f32⟩
  | 109 => ⟨S4096x1x128, .f32⟩
  | 110 => ⟨S4096x128, .f32⟩
  | 111 => ⟨S4096x1x128, .f32⟩
  | 112 => ⟨S4096x4x128, .f32⟩
  | 113 => ⟨S4096x4x128, .f32⟩
  | 114 => ⟨S4096x4x128, .f32⟩
  | 115 => ⟨S4096x4x128, .f32⟩
  | 116 => ⟨S4096x4x128, .f32⟩
  | 117 => ⟨S4096x4x128, .f32⟩
  | 118 => ⟨S4096x4x128, .f32⟩
  | 119 => ⟨S4096x4x128, .f32⟩
  | 120 => ⟨S4096x4x128, .f32⟩
  | 121 => ⟨S4096x4x128, .f32⟩
  | 122 => ⟨S4096x4x128, .f32⟩
  | 123 => ⟨S4096x4x128, .f32⟩
  | 124 => ⟨S4096x4x256, .f32⟩
  | 125 => ⟨S_, .f32⟩
  | 126 => ⟨S4096x4x256, .f32⟩
  | 127 => ⟨S4096x4x256, .f32⟩
  | _ => ⟨S4096x1024, .f32⟩

abbrev hbmTy0_2 (i : Nat) : BufTy := match i % 128 with
  | 0 => ⟨S2x4, .f32⟩
  | 1 => ⟨S_, .f32⟩
  | 2 => ⟨S2x4, .f32⟩
  | 3 => ⟨S2x4, .f32⟩
  | 4 => ⟨S2x4, .f32⟩
  | 5 => ⟨S2x4, .f32⟩
  | 6 => ⟨S2x4, .i1⟩
  | 7 => ⟨S2x4, .f32⟩
  | 8 => ⟨S2x4, .f32⟩
  | 9 => ⟨S2x4, .f32⟩
  | 10 => ⟨S2x4, .f32⟩
  | 11 => ⟨S2x4, .f32⟩
  | 12 => ⟨S2x4, .f32⟩
  | 13 => ⟨S2x4, .f32⟩
  | 14 => ⟨S2x4, .f32⟩
  | 15 => ⟨S2x4, .f32⟩
  | 16 => ⟨S4096x4x256, .f32⟩
  | 17 => ⟨S4096x4096, .f32⟩
  | 18 => ⟨S4096x4096, .f32⟩
  | 19 => ⟨S1x4, .f32⟩
  | 20 => ⟨S4, .f32⟩
  | 21 => ⟨S4x1x1, .f32⟩
  | 22 => ⟨S1x4, .f32⟩
  | 23 => ⟨S4, .f32⟩
  | 24 => ⟨S4x1x1, .f32⟩
  | 25 => ⟨S4096x4096, .i1⟩
  | 26 => ⟨S4096x4096, .f32⟩
  | 27 => ⟨S_, .f32⟩
  | 28 => ⟨S4096x4096, .f32⟩
  | 29 => ⟨S4096x4096, .f32⟩
  | 30 => ⟨S1x4096x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S4096x4096, .f32⟩
  | 36 => ⟨S_, .f32⟩
  | 37 => ⟨S4096x4096, .f32⟩
  | 38 => ⟨S4096x4096, .f32⟩
  | 39 => ⟨S1x4096x4096, .f32⟩
  | 40 => ⟨S4x4096x4096, .f32⟩
  | 41 => ⟨S4x4096x4096, .f32⟩
  | 42 => ⟨S4x4096x4096, .f32⟩
  | 43 => ⟨S4x4096x4096, .f32⟩
  | 44 => ⟨S4x4096x4096, .i1⟩
  | 45 => ⟨S4x4096x4096, .f32⟩
  | 46 => ⟨S4x4096x4096, .f32⟩
  | 47 => ⟨S4x4096x4096, .f32⟩
  | 48 => ⟨S4x256x4096, .f32⟩
  | 49 => ⟨S4096x4x256, .f32⟩
  | 50 => ⟨S4096x1024, .f32⟩
  | 51 => ⟨S4096x1024, .bf16⟩
  | 52 => ⟨S_, .f32⟩
  | 53 => ⟨S4096x2048, .f32⟩
  | 54 => ⟨S4096x1024, .f32⟩
  | 55 => ⟨S4096x1024, .f32⟩
  | 56 => ⟨S4096x2048, .f32⟩
  | 57 => ⟨S4096x2048, .f32⟩
  | 58 => ⟨S1x4096x2048, .f32⟩
  | 59 => ⟨S1x4096x2048, .f32⟩
  | 60 => ⟨S1x4096x2048, .f32⟩
  | 61 => ⟨S1x4096x2048, .f32⟩
  | 62 => ⟨S4x4096x2048, .f32⟩
  | 63 => ⟨S4x4096x2048, .bf16⟩
  | 64 => ⟨S4096x1024, .bf16⟩
  | 65 => ⟨S4096x1024, .bf16⟩
  | 66 => ⟨S4096x1024, .bf16⟩
  | 67 => ⟨S4096x1024, .bf16⟩
  | 68 => ⟨S4096x1024, .bf16⟩
  | 69 => ⟨S4x8x128, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x8x256x1, .f32⟩
  | .local _ .vmem, ⟨17, _⟩ => ⟨S1x8x256x1, .f32⟩
  | .local _ .vmem, ⟨18, _⟩ => ⟨S1x3x256x256, .f32⟩
  | .local _ .vmem, ⟨19, _⟩ => ⟨S1x3x256x256, .f32⟩
  | .local _ .vmem, ⟨20, _⟩ => ⟨S1x2x256, .f32⟩
  | .local _ .vmem, ⟨21, _⟩ => ⟨S1x2x256, .f32⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S1x8x128, .f32⟩
  | .local _ .vmem, ⟨31, _⟩ => ⟨S1x8x128, .f32⟩
  | .local _ .vmem, ⟨32, _⟩ => ⟨S16x256x256, .bf16⟩
  | .local _ .vmem, ⟨33, _⟩ => ⟨S16x256x256, .bf16⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S4096x256, .bf16⟩
  | .local _ .vmem, ⟨43, _⟩ => ⟨S4096x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_6 : Ref sig .tc := ⟨.hbm, 92, rfl⟩
abbrev main_v64 : Ref sig .tc := ⟨.hbm, 93, rfl⟩
abbrev main_v65 : Ref sig .tc := ⟨.hbm, 94, rfl⟩
abbrev main_cst_7 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_8 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v74 : Ref sig .tc := ⟨.hbm, 108, rfl⟩
abbrev main_cst_9 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_10 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_11 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_12 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_13 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_14 : Ref sig .tc := ⟨.hbm, 153, rfl⟩
abbrev main_v111 : Ref sig .tc := ⟨.hbm, 154, rfl⟩
abbrev main_v112 : Ref sig .tc := ⟨.hbm, 155, rfl⟩
abbrev main_cst_15 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_16 : Ref sig .tc := ⟨.hbm, 160, rfl⟩
abbrev main_v116 : Ref sig .tc := ⟨.hbm, 161, rfl⟩
abbrev main_v117 : Ref sig .tc := ⟨.hbm, 162, rfl⟩
abbrev main_cst_17 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_18 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_19 : Ref sig .tc := ⟨.hbm, 179, rfl⟩
abbrev main_v132 : Ref sig .tc := ⟨.hbm, 180, rfl⟩
abbrev main_v133 : Ref sig .tc := ⟨.hbm, 181, rfl⟩
abbrev main_cst_20 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_21 : Ref sig .tc := ⟨.hbm, 186, rfl⟩
abbrev main_v137 : Ref sig .tc := ⟨.hbm, 187, rfl⟩
abbrev main_v138 : Ref sig .tc := ⟨.hbm, 188, rfl⟩
abbrev main_cst_22 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_23 : Ref sig .tc := ⟨.hbm, 217, rfl⟩
abbrev main_v166 : Ref sig .tc := ⟨.hbm, 218, rfl⟩
abbrev main_v167 : Ref sig .tc := ⟨.hbm, 219, rfl⟩
abbrev main_cst_24 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_25 : Ref sig .tc := ⟨.hbm, 224, rfl⟩
abbrev main_v171 : Ref sig .tc := ⟨.hbm, 225, rfl⟩
abbrev main_v172 : Ref sig .tc := ⟨.hbm, 226, rfl⟩
abbrev main_cst_26 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_27 : Ref sig .tc := ⟨.hbm, 253, rfl⟩
abbrev main_v198 : Ref sig .tc := ⟨.hbm, 254, rfl⟩
abbrev main_v199 : Ref sig .tc := ⟨.hbm, 255, rfl⟩
abbrev main_call3_v0 : Ref sig .tc := ⟨.hbm, 256, rfl⟩
abbrev main_call3_call0_cst : Ref sig .tc := ⟨.hbm, 257, rfl⟩
abbrev main_call3_call0_v0 : Ref sig .tc := ⟨.hbm, 258, rfl⟩
abbrev main_call3_call0_v1 : Ref sig .tc := ⟨.hbm, 259, rfl⟩
abbrev main_call3_call0_v2 : Ref sig .tc := ⟨.hbm, 260, rfl⟩
abbrev main_call3_call0_v3 : Ref sig .tc := ⟨.hbm, 261, rfl⟩
abbrev main_call3_call0_v4 : Ref sig .tc := ⟨.hbm, 262, rfl⟩
abbrev main_call3_call0_v5 : Ref sig .tc := ⟨.hbm, 263, rfl⟩
abbrev main_call3_call0_v6 : Ref sig .tc := ⟨.hbm, 264, rfl⟩
abbrev main_call3_call0_v7 : Ref sig .tc := ⟨.hbm, 265, rfl⟩
abbrev main_call3_call0_v8 : Ref sig .tc := ⟨.hbm, 266, rfl⟩
abbrev main_call3_call0_v9 : Ref sig .tc := ⟨.hbm, 267, rfl⟩
abbrev main_call3_call0_v10 : Ref sig .tc := ⟨.hbm, 268, rfl⟩
abbrev main_call3_call0_v11 : Ref sig .tc := ⟨.hbm, 269, rfl⟩
abbrev main_call3_v1 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_cst_28 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_cst_29 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_call4_v0 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_cst_30 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246_0 : Ref sig .tc := ⟨.hbm, 321, rfl⟩
abbrev main_v246_1 : Ref sig .tc := ⟨.hbm, 322, rfl⟩
abbrev main_v246_2 : Ref sig .tc := ⟨.hbm, 323, rfl⟩
abbrev main_v246_3 : Ref sig .tc := ⟨.hbm, 324, rfl⟩
abbrev main_v246_4 : Ref sig .tc := ⟨.hbm, 325, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_scratch8 : Ref sig .tc := ⟨.vmem, 40, rfl⟩
abbrev cc0_scratch9 : Ref sig .tc := ⟨.vmem, 41, rfl⟩
abbrev cc0_scratch10 : Ref sig .tc := ⟨.vmem, 42, rfl⟩
abbrev cc0_scratch11 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg1 : BitVec 32 := BitVec.ofNat 32 (i 1).val
  let c0_i32_33 : BitVec 32 := 0#32
  let v28 : BitVec 1 := Scalar.cmpi .eq arg1 c0_i32_33
  let v29 : BitVec 32 := Scalar.extui v28
  let c0_i32_34 : BitVec 32 := 0#32
  let v30 : BitVec 1 := Scalar.cmpi .ne v29 c0_i32_34
  v30

def k0_mult1 (i : grid0.Coords) : BitVec 32 :=
  let c1_i32_40 : BitVec 32 := 1#32
  let arg1 : BitVec 32 := BitVec.ofNat 32 (i 1).val
  let v39 : BitVec 32 := Scalar.subi c1_i32_40 arg1
  let c1_i32_41 : BitVec 32 := 1#32
  let arg2 : BitVec 32 := BitVec.ofNat 32 (i 2).val
  let v40 : BitVec 32 := Scalar.subi c1_i32_41 arg2
  let v41 : BitVec 32 := Scalar.muli v39 v40
  let v42 : BitVec 32 := Scalar.muli arg1 arg2
  let v43 : BitVec 32 := Scalar.addi v41 v42
  let c8_i32 : BitVec 32 := 8#32
  let v44 : BitVec 32 := Scalar.muli v43 c8_i32
  let c7_i32 : BitVec 32 := 7#32
  let v45 : BitVec 32 := Scalar.addi v44 c7_i32
  let c256_i32 : BitVec 32 := 256#32
  let v93 : BitVec 32 := Scalar.muli v45 c256_i32
  v93
def k0_off1 (i : grid0.Coords) (c7_i32 : BitVec 32) : Fin 2 → Nat :=
  let c1_i32_40 : BitVec 32 := 1#32
  let arg1 : BitVec 32 := BitVec.ofNat 32 (i 1).val
  let v39 : BitVec 32 := Scalar.subi c1_i32_40 arg1
  let c1_i32_41 : BitVec 32 := 1#32
  let arg2 : BitVec 32 := BitVec.ofNat 32 (i 2).val
  let v40 : BitVec 32 := Scalar.subi c1_i32_41 arg2
  let v41 : BitVec 32 := Scalar.muli v39 v40
  let v42 : BitVec 32 := Scalar.muli arg1 arg2
  let v43 : BitVec 32 := Scalar.addi v41 v42
  let c8_i32 : BitVec 32 := 8#32
  let v44 : BitVec 32 := Scalar.muli v43 c8_i32
  let v45 : BitVec 32 := Scalar.addi v44 c7_i32
  let c256_i32 : BitVec 32 := 256#32
  let v93 : BitVec 32 := Scalar.muli v45 c256_i32
  let v94 : BitVec 32 := v93
  let v95 : Index := Scalar.indexCast v94
  let c0_60 : Index := 0#32
  ![v95.toNat, 0]
def k0_off2 (i : grid0.Coords) (c7_i32 : BitVec 32) : Fin 3 → Nat :=
  let c1_i32_40 : BitVec 32 := 1#32
  let arg1 : BitVec 32 := BitVec.ofNat 32 (i 1).val
  let v39 : BitVec 32 := Scalar.subi c1_i32_40 arg1
  let c1_i32_41 : BitVec 32 := 1#32
  let arg2 : BitVec 32 := BitVec.ofNat 32 (i 2).val
  let v40 : BitVec 32 := Scalar.subi c1_i32_41 arg2
  let v41 : BitVec 32 := Scalar.muli v39 v40
  let v42 : BitVec 32 := Scalar.muli arg1 arg2
  let v43 : BitVec 32 := Scalar.addi v41 v42
  let c8_i32 : BitVec 32 := 8#32
  let v44 : BitVec 32 := Scalar.muli v43 c8_i32
  let v45 : BitVec 32 := Scalar.addi v44 c7_i32
  let v106 : Index := Scalar.indexCast v45
  let c0_64 : Index := 0#32
  let c0_65 : Index := 0#32
  ![v106.toNat, 0, 0]
def k0_mult2 (i : grid0.Coords) : BitVec 32 :=
  let c1_i32_83 : BitVec 32 := 1#32
  let arg1 : BitVec 32 := BitVec.ofNat 32 (i 1).val
  let v140 : BitVec 32 := Scalar.subi c1_i32_83 arg1
  let c1_i32_84 : BitVec 32 := 1#32
  let arg2 : BitVec 32 := BitVec.ofNat 32 (i 2).val
  let v141 : BitVec 32 := Scalar.subi c1_i32_84 arg2
  let v142 : BitVec 32 := Scalar.muli v140 v141
  let v143 : BitVec 32 := Scalar.muli arg1 arg2
  let v144 : BitVec 32 := Scalar.addi v142 v143
  let c8_i32_85 : BitVec 32 := 8#32
  let v145 : BitVec 32 := Scalar.muli v144 c8_i32_85
  let c6_i32 : BitVec 32 := 6#32
  let v146 : BitVec 32 := Scalar.addi v145 c6_i32
  let c256_i32_105 : BitVec 32 := 256#32
  let v194 : BitVec 32 := Scalar.muli v146 c256_i32_105
  v194
def k0_mult3 (i : grid0.Coords) : BitVec 32 :=
  let c1_i32_129 : BitVec 32 := 1#32
  let arg1 : BitVec 32 := BitVec.ofNat 32 (i 1).val
  let v241 : BitVec 32 := Scalar.subi c1_i32_129 arg1
  let c1_i32_130 : BitVec 32 := 1#32
  let arg2 : BitVec 32 := BitVec.ofNat 32 (i 2).val
  let v242 : BitVec 32 := Scalar.subi c1_i32_130 arg2
  let v243 : BitVec 32 := Scalar.muli v241 v242
  let v244 : BitVec 32 := Scalar.muli arg1 arg2
  let v245 : BitVec 32 := Scalar.addi v243 v244
  let c8_i32_131 : BitVec 32 := 8#32
  let v246 : BitVec 32 := Scalar.muli v245 c8_i32_131
  let c5_i32 : BitVec 32 := 5#32
  let v247 : BitVec 32 := Scalar.addi v246 c5_i32
  let c256_i32_151 : BitVec 32 := 256#32
  let v295 : BitVec 32 := Scalar.muli v247 c256_i32_151
  v295
def k0_mult4 (i : grid0.Coords) : BitVec 32 :=
  let c1_i32_175 : BitVec 32 := 1#32
  let arg1 : BitVec 32 := BitVec.ofNat 32 (i 1).val
  let v342 : BitVec 32 := Scalar.subi c1_i32_175 arg1
  let c1_i32_176 : BitVec 32 := 1#32
  let arg2 : BitVec 32 := BitVec.ofNat 32 (i 2).val
  let v343 : BitVec 32 := Scalar.subi c1_i32_176 arg2
  let v344 : BitVec 32 := Scalar.muli v342 v343
  let v345 : BitVec 32 := Scalar.muli arg1 arg2
  let v346 : BitVec 32 := Scalar.addi v344 v345
  let c8_i32_177 : BitVec 32 := 8#32
  let v347 : BitVec 32 := Scalar.muli v346 c8_i32_177
  let c4_i32 : BitVec 32 := 4#32
  let v348 : BitVec 32 := Scalar.addi v347 c4_i32
  let c256_i32_197 : BitVec 32 := 256#32
  let v396 : BitVec 32 := Scalar.muli v348 c256_i32_197
  v396
def k0_mult5 (i : grid0.Coords) : BitVec 32 :=
  let c1_i32_221 : BitVec 32 := 1#32
  let arg1 : BitVec 32 := BitVec.ofNat 32 (i 1).val
  let v443 : BitVec 32 := Scalar.subi c1_i32_221 arg1
  let c1_i32_222 : BitVec 32 := 1#32
  let arg2 : BitVec 32 := BitVec.ofNat 32 (i 2).val
  let v444 : BitVec 32 := Scalar.subi c1_i32_222 arg2
  let v445 : BitVec 32 := Scalar.muli v443 v444
  let v446 : BitVec 32 := Scalar.muli arg1 arg2
  let v447 : BitVec 32 := Scalar.addi v445 v446
  let c8_i32_223 : BitVec 32 := 8#32
  let v448 : BitVec 32 := Scalar.muli v447 c8_i32_223
  let c3_i32 : BitVec 32 := 3#32
  let v449 : BitVec 32 := Scalar.addi v448 c3_i32
  let c256_i32_243 : BitVec 32 := 256#32
  let v497 : BitVec 32 := Scalar.muli v449 c256_i32_243
  v497
def k0_mult6 (i : grid0.Coords) : BitVec 32 :=
  let c1_i32_267 : BitVec 32 := 1#32
  let arg1 : BitVec 32 := BitVec.ofNat 32 (i 1).val
  let v544 : BitVec 32 := Scalar.subi c1_i32_267 arg1
  let c1_i32_268 : BitVec 32 := 1#32
  let arg2 : BitVec 32 := BitVec.ofNat 32 (i 2).val
  let v545 : BitVec 32 := Scalar.subi c1_i32_268 arg2
  let v546 : BitVec 32 := Scalar.muli v544 v545
  let v547 : BitVec 32 := Scalar.muli arg1 arg2
  let v548 : BitVec 32 := Scalar.addi v546 v547
  let c8_i32_269 : BitVec 32 := 8#32
  let v549 : BitVec 32 := Scalar.muli v548 c8_i32_269
  let c2_i32 : BitVec 32 := 2#32
  let v550 : BitVec 32 := Scalar.addi v549 c2_i32
  let c256_i32_289 : BitVec 32 := 256#32
  let v598 : BitVec 32 := Scalar.muli v550 c256_i32_289
  v598
def k0_mult7 (i : grid0.Coords) : BitVec 32 :=
  let c1_i32_313 : BitVec 32 := 1#32
  let arg1 : BitVec 32 := BitVec.ofNat 32 (i 1).val
  let v645 : BitVec 32 := Scalar.subi c1_i32_313 arg1
  let c1_i32_314 : BitVec 32 := 1#32
  let arg2 : BitVec 32 := BitVec.ofNat 32 (i 2).val
  let v646 : BitVec 32 := Scalar.subi c1_i32_314 arg2
  let v647 : BitVec 32 := Scalar.muli v645 v646
  let v648 : BitVec 32 := Scalar.muli arg1 arg2
  let v649 : BitVec 32 := Scalar.addi v647 v648
  let c8_i32_315 : BitVec 32 := 8#32
  let v650 : BitVec 32 := Scalar.muli v649 c8_i32_315
  let c1_i32_316 : BitVec 32 := 1#32
  let v651 : BitVec 32 := Scalar.addi v650 c1_i32_316
  let c256_i32_336 : BitVec 32 := 256#32
  let v699 : BitVec 32 := Scalar.muli v651 c256_i32_336
  v699
def k0_mult8 (i : grid0.Coords) : BitVec 32 :=
  let c1_i32_360 : BitVec 32 := 1#32
  let arg1 : BitVec 32 := BitVec.ofNat 32 (i 1).val
  let v746 : BitVec 32 := Scalar.subi c1_i32_360 arg1
  let c1_i32_361 : BitVec 32 := 1#32
  let arg2 : BitVec 32 := BitVec.ofNat 32 (i 2).val
  let v747 : BitVec 32 := Scalar.subi c1_i32_361 arg2
  let v748 : BitVec 32 := Scalar.muli v746 v747
  let v749 : BitVec 32 := Scalar.muli arg1 arg2
  let v750 : BitVec 32 := Scalar.addi v748 v749
  let c8_i32_362 : BitVec 32 := 8#32
  let v751 : BitVec 32 := Scalar.muli v750 c8_i32_362
  let c0_i32_363 : BitVec 32 := 0#32
  let v752 : BitVec 32 := Scalar.addi v751 c0_i32_363
  let c256_i32_384 : BitVec 32 := 256#32
  let v800 : BitVec 32 := Scalar.muli v752 c256_i32_384
  v800
def k0_cond4 (i : grid0.Coords) : BitVec 1 :=
  let arg1 : BitVec 32 := BitVec.ofNat 32 (i 1).val
  let c1_i32_35 : BitVec 32 := 1#32
  let v31 : BitVec 1 := Scalar.cmpi .eq arg1 c1_i32_35
  let v32 : BitVec 32 := Scalar.extui v31
  let c0_i32_36 : BitVec 32 := 0#32
  let v33 : BitVec 1 := Scalar.cmpi .ne v32 c0_i32_36
  v33

def k0_mult9 (i : grid0.Coords) : BitVec 32 :=
  let c1_i32_40 : BitVec 32 := 1#32
  let arg1 : BitVec 32 := BitVec.ofNat 32 (i 1).val
  let v39 : BitVec 32 := Scalar.subi c1_i32_40 arg1
  let c1_i32_41 : BitVec 32 := 1#32
  let arg2 : BitVec 32 := BitVec.ofNat 32 (i 2).val
  let v40 : BitVec 32 := Scalar.subi c1_i32_41 arg2
  let v41 : BitVec 32 := Scalar.muli v39 v40
  let v42 : BitVec 32 := Scalar.muli arg1 arg2
  let v43 : BitVec 32 := Scalar.addi v41 v42
  let c8_i32 : BitVec 32 := 8#32
  let v44 : BitVec 32 := Scalar.muli v43 c8_i32
  let c0_i32_42 : BitVec 32 := 0#32
  let v45 : BitVec 32 := Scalar.addi v44 c0_i32_42
  let c256_i32 : BitVec 32 := 256#32
  let v46 : BitVec 32 := Scalar.muli v45 c256_i32
  v46
def k0_off3 (i : grid0.Coords) (c0_i32_42 : BitVec 32) : Fin 2 → Nat :=
  let c1_i32_40 : BitVec 32 := 1#32
  let arg1 : BitVec 32 := BitVec.ofNat 32 (i 1).val
  let v39 : BitVec 32 := Scalar.subi c1_i32_40 arg1
  let c1_i32_41 : BitVec 32 := 1#32
  let arg2 : BitVec 32 := BitVec.ofNat 32 (i 2).val
  let v40 : BitVec 32 := Scalar.subi c1_i32_41 arg2
  let v41 : BitVec 32 := Scalar.muli v39 v40
  let v42 : BitVec 32 := Scalar.muli arg1 arg2
  let v43 : BitVec 32 := Scalar.addi v41 v42
  let c8_i32 : BitVec 32 := 8#32
  let v44 : BitVec 32 := Scalar.muli v43 c8_i32
  let v45 : BitVec 32 := Scalar.addi v44 c0_i32_42
  let c256_i32 : BitVec 32 := 256#32
  let v46 : BitVec 32 := Scalar.muli v45 c256_i32
  let v47 : BitVec 32 := v46
  let v48 : Index := Scalar.indexCast v47
  let c0_43 : Index := 0#32
  ![v48.toNat, 0]
def k0_off4 (i : grid0.Coords) (c0_i32_42 : BitVec 32) : Fin 3 → Nat :=
  let c1_i32_40 : BitVec 32 := 1#32
  let arg1 : BitVec 32 := BitVec.ofNat 32 (i 1).val
  let v39 : BitVec 32 := Scalar.subi c1_i32_40 arg1
  let c1_i32_41 : BitVec 32 := 1#32
  let arg2 : BitVec 32 := BitVec.ofNat 32 (i 2).val
  let v40 : BitVec 32 := Scalar.subi c1_i32_41 arg2
  let v41 : BitVec 32 := Scalar.muli v39 v40
  let v42 : BitVec 32 := Scalar.muli arg1 arg2
  let v43 : BitVec 32 := Scalar.addi v41 v42
  let c8_i32 : BitVec 32 := 8#32
  let v44 : BitVec 32 := Scalar.muli v43 c8_i32
  let v45 : BitVec 32 := Scalar.addi v44 c0_i32_42
  let v66 : Index := Scalar.indexCast v45
  let c0_61 : Index := 0#32
  let c0_62 : Index := 0#32
  ![v66.toNat, 0, 0]
def k0_mult10 (i : grid0.Coords) : BitVec 32 :=
  let c1_i32_127 : BitVec 32 := 1#32
  let arg1 : BitVec 32 := BitVec.ofNat 32 (i 1).val
  let v210 : BitVec 32 := Scalar.subi c1_i32_127 arg1
  let c1_i32_128 : BitVec 32 := 1#32
  let arg2 : BitVec 32 := BitVec.ofNat 32 (i 2).val
  let v211 : BitVec 32 := Scalar.subi c1_i32_128 arg2
  let v212 : BitVec 32 := Scalar.muli v210 v211
  let v213 : BitVec 32 := Scalar.muli arg1 arg2
  let v214 : BitVec 32 := Scalar.addi v212 v213
  let c8_i32_129 : BitVec 32 := 8#32
  let v215 : BitVec 32 := Scalar.muli v214 c8_i32_129
  let c1_i32_130 : BitVec 32 := 1#32
  let v216 : BitVec 32 := Scalar.addi v215 c1_i32_130
  let c256_i32_131 : BitVec 32 := 256#32
  let v217 : BitVec 32 := Scalar.muli v216 c256_i32_131
  v217
def k0_mult11 (i : grid0.Coords) : BitVec 32 :=
  let c1_i32_216 : BitVec 32 := 1#32
  let arg1 : BitVec 32 := BitVec.ofNat 32 (i 1).val
  let v381 : BitVec 32 := Scalar.subi c1_i32_216 arg1
  let c1_i32_217 : BitVec 32 := 1#32
  let arg2 : BitVec 32 := BitVec.ofNat 32 (i 2).val
  let v382 : BitVec 32 := Scalar.subi c1_i32_217 arg2
  let v383 : BitVec 32 := Scalar.muli v381 v382
  let v384 : BitVec 32 := Scalar.muli arg1 arg2
  let v385 : BitVec 32 := Scalar.addi v383 v384
  let c8_i32_218 : BitVec 32 := 8#32
  let v386 : BitVec 32 := Scalar.muli v385 c8_i32_218
  let c2_i32 : BitVec 32 := 2#32
  let v387 : BitVec 32 := Scalar.addi v386 c2_i32
  let c256_i32_219 : BitVec 32 := 256#32
  let v388 : BitVec 32 := Scalar.muli v387 c256_i32_219
  v388
def k0_mult12 (i : grid0.Coords) : BitVec 32 :=
  let c1_i32_304 : BitVec 32 := 1#32
  let arg1 : BitVec 32 := BitVec.ofNat 32 (i 1).val
  let v552 : BitVec 32 := Scalar.subi c1_i32_304 arg1
  let c1_i32_305 : BitVec 32 := 1#32
  let arg2 : BitVec 32 := BitVec.ofNat 32 (i 2).val
  let v553 : BitVec 32 := Scalar.subi c1_i32_305 arg2
  let v554 : BitVec 32 := Scalar.muli v552 v553
  let v555 : BitVec 32 := Scalar.muli arg1 arg2
  let v556 : BitVec 32 := Scalar.addi v554 v555
  let c8_i32_306 : BitVec 32 := 8#32
  let v557 : BitVec 32 := Scalar.muli v556 c8_i32_306
  let c3_i32 : BitVec 32 := 3#32
  let v558 : BitVec 32 := Scalar.addi v557 c3_i32
  let c256_i32_307 : BitVec 32 := 256#32
  let v559 : BitVec 32 := Scalar.muli v558 c256_i32_307
  v559
def k0_mult13 (i : grid0.Coords) : BitVec 32 :=
  let c1_i32_392 : BitVec 32 := 1#32
  let arg1 : BitVec 32 := BitVec.ofNat 32 (i 1).val
  let v723 : BitVec 32 := Scalar.subi c1_i32_392 arg1
  let c1_i32_393 : BitVec 32 := 1#32
  let arg2 : BitVec 32 := BitVec.ofNat 32 (i 2).val
  let v724 : BitVec 32 := Scalar.subi c1_i32_393 arg2
  let v725 : BitVec 32 := Scalar.muli v723 v724
  let v726 : BitVec 32 := Scalar.muli arg1 arg2
  let v727 : BitVec 32 := Scalar.addi v725 v726
  let c8_i32_394 : BitVec 32 := 8#32
  let v728 : BitVec 32 := Scalar.muli v727 c8_i32_394
  let c4_i32 : BitVec 32 := 4#32
  let v729 : BitVec 32 := Scalar.addi v728 c4_i32
  let c256_i32_395 : BitVec 32 := 256#32
  let v730 : BitVec 32 := Scalar.muli v729 c256_i32_395
  v730
def k0_mult14 (i : grid0.Coords) : BitVec 32 :=
  let c1_i32_480 : BitVec 32 := 1#32
  let arg1 : BitVec 32 := BitVec.ofNat 32 (i 1).val
  let v894 : BitVec 32 := Scalar.subi c1_i32_480 arg1
  let c1_i32_481 : BitVec 32 := 1#32
  let arg2 : BitVec 32 := BitVec.ofNat 32 (i 2).val
  let v895 : BitVec 32 := Scalar.subi c1_i32_481 arg2
  let v896 : BitVec 32 := Scalar.muli v894 v895
  let v897 : BitVec 32 := Scalar.muli arg1 arg2
  let v898 : BitVec 32 := Scalar.addi v896 v897
  let c8_i32_482 : BitVec 32 := 8#32
  let v899 : BitVec 32 := Scalar.muli v898 c8_i32_482
  let c5_i32 : BitVec 32 := 5#32
  let v900 : BitVec 32 := Scalar.addi v899 c5_i32
  let c256_i32_483 : BitVec 32 := 256#32
  let v901 : BitVec 32 := Scalar.muli v900 c256_i32_483
  v901
def k0_mult15 (i : grid0.Coords) : BitVec 32 :=
  let c1_i32_568 : BitVec 32 := 1#32
  let arg1 : BitVec 32 := BitVec.ofNat 32 (i 1).val
  let v1065 : BitVec 32 := Scalar.subi c1_i32_568 arg1
  let c1_i32_569 : BitVec 32 := 1#32
  let arg2 : BitVec 32 := BitVec.ofNat 32 (i 2).val
  let v1066 : BitVec 32 := Scalar.subi c1_i32_569 arg2
  let v1067 : BitVec 32 := Scalar.muli v1065 v1066
  let v1068 : BitVec 32 := Scalar.muli arg1 arg2
  let v1069 : BitVec 32 := Scalar.addi v1067 v1068
  let c8_i32_570 : BitVec 32 := 8#32
  let v1070 : BitVec 32 := Scalar.muli v1069 c8_i32_570
  let c6_i32 : BitVec 32 := 6#32
  let v1071 : BitVec 32 := Scalar.addi v1070 c6_i32
  let c256_i32_571 : BitVec 32 := 256#32
  let v1072 : BitVec 32 := Scalar.muli v1071 c256_i32_571
  v1072
def k0_mult16 (i : grid0.Coords) : BitVec 32 :=
  let c1_i32_656 : BitVec 32 := 1#32
  let arg1 : BitVec 32 := BitVec.ofNat 32 (i 1).val
  let v1236 : BitVec 32 := Scalar.subi c1_i32_656 arg1
  let c1_i32_657 : BitVec 32 := 1#32
  let arg2 : BitVec 32 := BitVec.ofNat 32 (i 2).val
  let v1237 : BitVec 32 := Scalar.subi c1_i32_657 arg2
  let v1238 : BitVec 32 := Scalar.muli v1236 v1237
  let v1239 : BitVec 32 := Scalar.muli arg1 arg2
  let v1240 : BitVec 32 := Scalar.addi v1238 v1239
  let c8_i32_658 : BitVec 32 := 8#32
  let v1241 : BitVec 32 := Scalar.muli v1240 c8_i32_658
  let c7_i32 : BitVec 32 := 7#32
  let v1242 : BitVec 32 := Scalar.addi v1241 c7_i32
  let c256_i32_659 : BitVec 32 := 256#32
  let v1243 : BitVec 32 := Scalar.muli v1242 c256_i32_659
  v1243
def k0_cond5 (i : grid0.Coords) : BitVec 1 :=
  let arg1 : BitVec 32 := BitVec.ofNat 32 (i 1).val
  let c1_i32_37 : BitVec 32 := 1#32
  let v34 : BitVec 1 := Scalar.cmpi .eq arg1 c1_i32_37
  let arg2 : BitVec 32 := BitVec.ofNat 32 (i 2).val
  let c1_i32_38 : BitVec 32 := 1#32
  let v35 : BitVec 1 := Scalar.cmpi .eq arg2 c1_i32_38
  let v36 : BitVec 1 := Scalar.andi v34 v35
  let v37 : BitVec 32 := Scalar.extui v36
  let c0_i32_39 : BitVec 32 := 0#32
  let v38 : BitVec 1 := Scalar.cmpi .ne v37 c0_i32_39
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c1_i32_0 : BitVec 32 := 1#32
  let v1 : BitVec 32 := Scalar.subi c1_i32_0 arg2
  let v2 : BitVec 32 := Scalar.muli v0 v1
  let v3 : BitVec 32 := Scalar.muli arg1 arg2
  let v4 : BitVec 32 := Scalar.addi v2 v3
  let c0_i32 : BitVec 32 := 0#32
  ![v4.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c1_i32_0 : BitVec 32 := 1#32
  let v1 : BitVec 32 := Scalar.subi c1_i32_0 arg2
  let v2 : BitVec 32 := Scalar.muli v0 v1
  let v3 : BitVec 32 := Scalar.muli arg1 arg2
  let v4 : BitVec 32 := Scalar.addi v2 v3
  let c0_i32 : BitVec 32 := 0#32
  ![v4.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c1_i32_0 : BitVec 32 := 1#32
  let v1 : BitVec 32 := Scalar.subi c1_i32_0 arg2
  let v2 : BitVec 32 := Scalar.muli v0 v1
  let v3 : BitVec 32 := Scalar.muli arg1 arg2
  let v4 : BitVec 32 := Scalar.addi v2 v3
  let c1_i32_1 : BitVec 32 := 1#32
  let c0_i32 : BitVec 32 := 0#32
  ![c1_i32_1.toNat, v4.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c1_i32_0 : BitVec 32 := 1#32
  let v1 : BitVec 32 := Scalar.subi c1_i32_0 arg2
  let v2 : BitVec 32 := Scalar.muli v0 v1
  let v3 : BitVec 32 := Scalar.muli arg1 arg2
  let v4 : BitVec 32 := Scalar.addi v2 v3
  let c4_i32 : BitVec 32 := 4#32
  let v5 : BitVec 32 := Scalar.addi c4_i32 arg0
  let c1_i32_1 : BitVec 32 := 1#32
  let c0_i32 : BitVec 32 := 0#32
  ![c1_i32_1.toNat, v4.toNat, v5.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c1_i32_0 : BitVec 32 := 1#32
  let v1 : BitVec 32 := Scalar.subi c1_i32_0 arg2
  let v2 : BitVec 32 := Scalar.muli v0 v1
  let v3 : BitVec 32 := Scalar.muli arg1 arg2
  let v4 : BitVec 32 := Scalar.addi v2 v3
  let c2_i32 : BitVec 32 := 2#32
  let c0_i32 : BitVec 32 := 0#32
  ![c2_i32.toNat, v4.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c1_i32_0 : BitVec 32 := 1#32
  let v1 : BitVec 32 := Scalar.subi c1_i32_0 arg2
  let v2 : BitVec 32 := Scalar.muli v0 v1
  let v3 : BitVec 32 := Scalar.muli arg1 arg2
  let v4 : BitVec 32 := Scalar.addi v2 v3
  let c4_i32 : BitVec 32 := 4#32
  let v5 : BitVec 32 := Scalar.addi c4_i32 arg0
  let c2_i32 : BitVec 32 := 2#32
  let c0_i32 : BitVec 32 := 0#32
  ![c2_i32.toNat, v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c1_i32_0 : BitVec 32 := 1#32
  let v1 : BitVec 32 := Scalar.subi c1_i32_0 arg2
  let v2 : BitVec 32 := Scalar.muli v0 v1
  let v3 : BitVec 32 := Scalar.muli arg1 arg2
  let v4 : BitVec 32 := Scalar.addi v2 v3
  let c0_i32 : BitVec 32 := 0#32
  let c0_i32_1 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c1_i32_0 : BitVec 32 := 1#32
  let v1 : BitVec 32 := Scalar.subi c1_i32_0 arg2
  let v2 : BitVec 32 := Scalar.muli v0 v1
  let v3 : BitVec 32 := Scalar.muli arg1 arg2
  let v4 : BitVec 32 := Scalar.addi v2 v3
  let c0_i32 : BitVec 32 := 0#32
  let c0_i32_1 : BitVec 32 := 0#32
  ![v4.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg2
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg2
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg2
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg2
  let c0_i32 : BitVec 32 := 0#32
  ![v0.toNat, arg0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x8x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x3x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]
-- ==== ReferenceRetIdeal.lean ====
abbrev S4096x1024 : Shape := ⟨2, ![4096, 1024]⟩
abbrev S2x4 : Shape := ⟨2, ![2, 4]⟩
abbrev S_ : Shape := ⟨0, ![]⟩
abbrev S4096x4x256 : Shape := ⟨3, ![4096, 4, 256]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S4096x4x128 : Shape := ⟨3, ![4096, 4, 128]⟩
abbrev S4096x4096 : Shape := ⟨2, ![4096, 4096]⟩
abbrev S1x4 : Shape := ⟨2, ![1, 4]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4x256x4096 : Shape := ⟨3, ![4, 256, 4096]⟩
abbrev S4096x4 : Shape := ⟨2, ![4096, 4]⟩
abbrev S4096x4x1 : Shape := ⟨3, ![4096, 4, 1]⟩
abbrev S4x4096x256 : Shape := ⟨3, ![4, 4096, 256]⟩
abbrev S4x8x128 : Shape := ⟨3, ![4, 8, 128]⟩

abbrev nBuf : Space → Nat
  | .hbm => 286
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S2x4, .f32⟩
  | 5 => ⟨S4096x1024, .f32⟩
  | 6 => ⟨S2x4, .f32⟩
  | 7 => ⟨S_, .f32⟩
  | 8 => ⟨S2x4, .f32⟩
  | 9 => ⟨S2x4, .f32⟩
  | 10 => ⟨S2x4, .f32⟩
  | 11 => ⟨S2x4, .f32⟩
  | 12 => ⟨S2x4, .i1⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S2x4, .f32⟩
  | 21 => ⟨S2x4, .f32⟩
  | 22 => ⟨S4096x4x256, .f32⟩
  | 23 => ⟨S128, .f32⟩
  | 24 => ⟨S_, .f32⟩
  | 25 => ⟨S128, .f32⟩
  | 26 => ⟨S128, .f32⟩
  | 27 => ⟨S_, .f32⟩
  | 28 => ⟨S128, .f32⟩
  | 29 => ⟨S128, .f32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S4096, .f32⟩
  | 38 => ⟨S4096x1, .f32⟩
  | 39 => ⟨S1x128, .f32⟩
  | 40 => ⟨S4096x128, .f32⟩
  | 41 => ⟨S4096x128, .f32⟩
  | 42 => ⟨S4096x128, .f32⟩
  | 43 => ⟨S4096x128, .f32⟩
  | 44 => ⟨S4096x1x128, .f32⟩
  | 45 => ⟨S4096x128, .f32⟩
  | 46 => ⟨S4096x1x128, .f32⟩
  | 47 => ⟨S4096x4x128, .f32⟩
  | 48 => ⟨S4096x4x128, .f32⟩
  | 49 => ⟨S4096x4x128, .f32⟩
  | 50 => ⟨S4096x4x128, .f32⟩
  | 51 => ⟨S4096x4x128, .f32⟩
  | 52 => ⟨S4096x4x128, .f32⟩
  | 53 => ⟨S4096x4x128, .f32⟩
  | 54 => ⟨S4096x4x128, .f32⟩
  | 55 => ⟨S4096x4x128, .f32⟩
  | 56 => ⟨S4096x4x128, .f32⟩
  | 57 => ⟨S4096x4x128, .f32⟩
  | 58 => ⟨S4096x4x128, .f32⟩
  | 59 => ⟨S4096x4x256, .f32⟩
  | 60 => ⟨S4096x4x256, .f32⟩
  | 61 => ⟨S128, .f32⟩
  | 62 => ⟨S_, .f32⟩
  | 63 => ⟨S128, .f32⟩
  | 64 => ⟨S128, .f32⟩
  | 65 => ⟨S_, .f32⟩
  | 66 => ⟨S128, .f32⟩
  | 67 => ⟨S128, .f32⟩
  | 68 => ⟨S128, .f32⟩
  | 69 => ⟨S_, .f32⟩
  | 70 => ⟨S128, .f32⟩
  | 71 => ⟨S128, .f32⟩
  | 72 => ⟨S_, .f32⟩
  | 73 => ⟨S128, .f32⟩
  | 74 => ⟨S128, .f32⟩
  | 75 => ⟨S4096, .f32⟩
  | 76 => ⟨S4096x1, .f32⟩
  | 77 => ⟨S1x128, .f32⟩
  | 78 => ⟨S4096x128, .f32⟩
  | 79 => ⟨S4096x128, .f32⟩
  | 80 => ⟨S4096x128, .f32⟩
  | 81 => ⟨S4096x128, .f32⟩
  | 82 => ⟨S4096x1x128, .f32⟩
  | 83 => ⟨S4096x128, .f32⟩
  | 84 => ⟨S4096x1x128, .f32⟩
  | 85 => ⟨S4096x4x128, .f32⟩
  | 86 => ⟨S4096x4x128, .f32⟩
  | 87 => ⟨S4096x4x128, .f32⟩
  | 88 => ⟨S4096x4x128, .f32⟩
  | 89 => ⟨S4096x4x128, .f32⟩
  | 90 => ⟨S4096x4x128, .f32⟩
  | 91 => ⟨S4096x4x128, .f32⟩
  | 92 => ⟨S4096x4x128, .f32⟩
  | 93 => ⟨S4096x4x128, .f32⟩
  | 94 => ⟨S4096x4x128, .f32⟩
  | 95 => ⟨S4096x4x128, .f32⟩
  | 96 => ⟨S4096x4x128, .f32⟩
  | 97 => ⟨S4096x4x256, .f32⟩
  | 98 => ⟨S_, .f32⟩
  | 99 => ⟨S4096x4x256, .f32⟩
  | 100 => ⟨S4096x4x256, .f32⟩
  | 101 => ⟨S4096x4x256, .f32⟩
  | 102 => ⟨S4096x4096, .f32⟩
  | 103 => ⟨S4096x4096, .f32⟩
  | 104 => ⟨S1x4, .f32⟩
  | 105 => ⟨S4, .f32⟩
  | 106 => ⟨S4x1x1, .f32⟩
  | 107 => ⟨S1x4, .f32⟩
  | 108 => ⟨S4, .f32⟩
  | 109 => ⟨S4x1x1, .f32⟩
  | 110 => ⟨S4096x4096, .i1⟩
  | 111 => ⟨S4096x4096, .f32⟩
  | 112 => ⟨S_, .f32⟩
  | 113 => ⟨S4096x4096, .f32⟩
  | 114 => ⟨S4096x4096, .f32⟩
  | 115 => ⟨S1x4096x4096, .f32⟩
  | 116 => ⟨S4x4096x4096, .f32⟩
  | 117 => ⟨S4x4096x4096, .f32⟩
  | 118 => ⟨S4x4096x4096, .f32⟩
  | 119 => ⟨S4x4096x4096, .f32⟩
  | 120 => ⟨S4096x4096, .f32⟩
  | 121 => ⟨S_, .f32⟩
  | 122 => ⟨S4096x4096, .f32⟩
  | 123 => ⟨S4096x4096, .f32⟩
  | 124 => ⟨S1x4096x4096, .f32⟩
  | 125 => ⟨S4x4096x4096, .f32⟩
  | 126 => ⟨S4x4096x4096, .f32⟩
  | 127 => ⟨S4x4096x4096, .f32⟩
  | _ => ⟨S4096x1024, .f32⟩

abbrev hbmTy0_1 (i : Nat) : BufTy := match i % 128 with
  | 0 => ⟨S4x4096x4096, .f32⟩
  | 1 => ⟨S4x4096x4096, .i1⟩
  | 2 => ⟨S4x4096x4096, .f32⟩
  | 3 => ⟨S4x4096x4096, .f32⟩
  | 4 => ⟨S4x4096x4096, .f32⟩
  | 5 => ⟨S4x256x4096, .f32⟩
  | 6 => ⟨S4096x4x256, .f32⟩
  | 7 => ⟨S4096x4x256, .f32⟩
  | 8 => ⟨S_, .f32⟩
  | 9 => ⟨S4096x4, .f32⟩
  | 10 => ⟨S4096x4x1, .f32⟩
  | 11 => ⟨S_, .f32⟩
  | 12 => ⟨S4096x4x1, .f32⟩
  | 13 => ⟨S4096x4x1, .f32⟩
  | 14 => ⟨S_, .f32⟩
  | 15 => ⟨S4096x4x1, .f32⟩
  | 16 => ⟨S4096x4x1, .f32⟩
  | 17 => ⟨S4096x4x1, .f32⟩
  | 18 => ⟨S4096x4x1, .f32⟩
  | 19 => ⟨S_, .f32⟩
  | 20 => ⟨S4096x4x1, .f32⟩
  | 21 => ⟨S4096x4x1, .f32⟩
  | 22 => ⟨S4096x4x256, .f32⟩
  | 23 => ⟨S4096x4x256, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x4x256, .f32⟩
  | 46 => ⟨S4096x4x256, .f32⟩
  | 47 => ⟨S_, .f32⟩
  | 48 => ⟨S4096x4, .f32⟩
  | 49 => ⟨S4096x4x1, .f32⟩
  | 50 => ⟨S4096x4x256, .f32⟩
  | 51 => ⟨S4096x4x256, .f32⟩
  | 52 => ⟨S4096x4x1, .f32⟩
  | 53 => ⟨S_, .f32⟩
  | 54 => ⟨S4096x4x1, .f32⟩
  | 55 => ⟨S4096x4x1, .f32⟩
  | 56 => ⟨S_, .f32⟩
  | 57 => ⟨S4096x4, .f32⟩
  | 58 => ⟨S4096x4x256, .f32⟩
  | 59 => ⟨S4096x4x256, .f32⟩
  | 60 => ⟨S4096x4x256, .f32⟩
  | 61 => ⟨S4096x4x256, .f32⟩
  | 62 => ⟨S4096x4x256, .f32⟩
  | 63 => ⟨S4x256x4096, .f32⟩
  | 64 => ⟨S4x4096x4096, .f32⟩
  | 65 => ⟨S4x256x4096, .f32⟩
  | 66 => ⟨S4096x4x256, .f32⟩
  | 67 => ⟨S4x4096x4096, .f32⟩
  | 68 => ⟨S4x4096x4096, .f32⟩
  | 69 => ⟨S4x4096x256, .f32⟩
  | 70 => ⟨S4096x4x256, .f32⟩
  | 71 => ⟨S4x4096x256, .f32⟩
  | 72 => ⟨S4096x4x256, .f32⟩
  | 73 => ⟨S_, .f32⟩
  | 74 => ⟨S4x4096x4096, .f32⟩
  | 75 => ⟨S4x4096x4096, .f32⟩
  | 76 => ⟨S4x4096x4096, .f32⟩
  | 77 => ⟨S4x4096x4096, .f32⟩
  | 78 => ⟨S4x4096x4096, .f32⟩
  | 79 => ⟨S4x4096x4096, .f32⟩
  | 80 => ⟨S_, .f32⟩
  | 81 => ⟨S4, .f32⟩
  | 82 => ⟨S4x1x1, .f32⟩
  | 83 => ⟨S4x4096x4096, .f32⟩
  | 84 => ⟨S4x4096x4096, .f32⟩
  | 85 => ⟨S4x4096x4096, .f32⟩
  | 86 => ⟨S_, .f32⟩
  | 87 => ⟨S4, .f32⟩
  | 88 => ⟨S4x1x1, .f32⟩
  | 89 => ⟨S_, .f32⟩
  | 90 => ⟨S4, .f32⟩
  | 91 => ⟨S1x4, .f32⟩
  | 92 => ⟨S_, .f32⟩
  | 93 => ⟨S2x4, .f32⟩
  | 94 => ⟨S_, .f32⟩
  | 95 => ⟨S4, .f32⟩
  | 96 => ⟨S1x4, .f32⟩
  | 97 => ⟨S_, .f32⟩
  | 98 => ⟨S2x4, .f32⟩
  | 99 => ⟨S2x4, .f32⟩
  | 100 => ⟨S4096x1024, .f32⟩
  | 101 => ⟨S_, .f32⟩
  | 102 => ⟨S4096x4x256, .f32⟩
  | 103 => ⟨S4096x4x256, .f32⟩
  | 104 => ⟨S4096x4x128, .f32⟩
  | 105 => ⟨S4096x4x128, .f32⟩
  | 106 => ⟨S4096x4x128, .f32⟩
  | 107 => ⟨S4096x4x128, .f32⟩
  | 108 => ⟨S4096x4x128, .f32⟩
  | 109 => ⟨S4096x4x128, .f32⟩
  | 110 => ⟨S4096x4x128, .f32⟩
  | 111 => ⟨S4096x4x128, .f32⟩
  | 112 => ⟨S4096x4x128, .f32⟩
  | 113 => ⟨S4096x4x128, .f32⟩
  | 114 => ⟨S4096x4x128, .f32⟩
  | 115 => ⟨S4096x4x128, .f32⟩
  | 116 => ⟨S4096x4x128, .f32⟩
  | 117 => ⟨S4096x4x256, .f32⟩
  | 118 => ⟨S4096x1024, .f32⟩
  | 119 => ⟨S4096x4x128, .f32⟩
  | 120 => ⟨S4096x4x128, .f32⟩
  | 121 => ⟨S4096x4x128, .f32⟩
  | 122 => ⟨S4096x4x128, .f32⟩
  | 123 => ⟨S4096x4x128, .f32⟩
  | 124 => ⟨S4096x4x128, .f32⟩
  | 125 => ⟨S4096x4x128, .f32⟩
  | 126 => ⟨S4096x4x128, .f32⟩
  | 127 => ⟨S4096x4x128, .f32⟩
  | _ => ⟨S4096x1024, .f32⟩

abbrev hbmTy0_2 (i : Nat) : BufTy := match i % 128 with
  | 0 => ⟨S4096x4x128, .f32⟩
  | 1 => ⟨S4096x4x128, .f32⟩
  | 2 => ⟨S4096x4x128, .f32⟩
  | 3 => ⟨S4096x4x128, .f32⟩
  | 4 => ⟨S4096x4x256, .f32⟩
  | 5 => ⟨S4096x1024, .f32⟩
  | 6 => ⟨S4x8x128, .i32⟩
  | 7 => ⟨S_, .i32⟩
  | 8 => ⟨S4x8x128, .i32⟩
  | 9 => ⟨S4x8x128, .i1⟩
  | 10 => ⟨S1x4, .f32⟩
  | 11 => ⟨S4, .f32⟩
  | 12 => ⟨S4x1x1, .f32⟩
  | 13 => ⟨S_, .i32⟩
  | 14 => ⟨S4x8x128, .i32⟩
  | 15 => ⟨S4x8x128, .i1⟩
  | 16 => ⟨S1x4, .f32⟩
  | 17 => ⟨S4, .f32⟩
  | 18 => ⟨S4x1x1, .f32⟩
  | 19 => ⟨S_, .f32⟩
  | 20 => ⟨S_, .f32⟩
  | 21 => ⟨S4x8x128, .f32⟩
  | 22 => ⟨S4x8x128, .f32⟩
  | 23 => ⟨S4x8x128, .f32⟩
  | 24 => ⟨S4x8x128, .f32⟩
  | 25 => ⟨S4x8x128, .f32⟩
  | 26 => ⟨S4096x1024, .bf16⟩
  | 27 => ⟨S4096x1024, .bf16⟩
  | 28 => ⟨S4096x1024, .bf16⟩
  | 29 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_7 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_8 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_9 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97_1 : Ref sig .tc := ⟨.hbm, 129, rfl⟩
abbrev main_v97_0 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_10 : Ref sig .tc := ⟨.hbm, 136, rfl⟩
abbrev main_v103 : Ref sig .tc := ⟨.hbm, 137, rfl⟩
abbrev main_v104 : Ref sig .tc := ⟨.hbm, 138, rfl⟩
abbrev main_cst_11 : Ref sig .tc := ⟨.hbm, 139, rfl⟩
abbrev main_v105 : Ref sig .tc := ⟨.hbm, 140, rfl⟩
abbrev main_v106 : Ref sig .tc := ⟨.hbm, 141, rfl⟩
abbrev main_cst_12 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_13 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_call2_v0 : Ref sig .tc := ⟨.hbm, 153, rfl⟩
abbrev main_call2_v1 : Ref sig .tc := ⟨.hbm, 154, rfl⟩
abbrev main_call2_cst : Ref sig .tc := ⟨.hbm, 155, rfl⟩
abbrev main_call2_v2 : Ref sig .tc := ⟨.hbm, 156, rfl⟩
abbrev main_call2_v3 : Ref sig .tc := ⟨.hbm, 157, rfl⟩
abbrev main_call2_cst_0 : Ref sig .tc := ⟨.hbm, 158, rfl⟩
abbrev main_call2_v4 : Ref sig .tc := ⟨.hbm, 159, rfl⟩
abbrev main_v116_2 : Ref sig .tc := ⟨.hbm, 160, rfl⟩
abbrev main_call2_cst_1 : Ref sig .tc := ⟨.hbm, 161, rfl⟩
abbrev main_call2_v6 : Ref sig .tc := ⟨.hbm, 162, rfl⟩
abbrev main_call2_v7 : Ref sig .tc := ⟨.hbm, 163, rfl⟩
abbrev main_v116_1 : Ref sig .tc := ⟨.hbm, 164, rfl⟩
abbrev main_v116_0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_14 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_15 : Ref sig .tc := ⟨.hbm, 181, rfl⟩
abbrev main_v128 : Ref sig .tc := ⟨.hbm, 182, rfl⟩
abbrev main_v129 : Ref sig .tc := ⟨.hbm, 183, rfl⟩
abbrev main_cst_16 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_call4_cst : Ref sig .tc := ⟨.hbm, 201, rfl⟩
abbrev main_call4_v0 : Ref sig .tc := ⟨.hbm, 202, rfl⟩
abbrev main_v146_1 : Ref sig .tc := ⟨.hbm, 203, rfl⟩
abbrev main_v146_0 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_17 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_18 : Ref sig .tc := ⟨.hbm, 214, rfl⟩
abbrev main_v155 : Ref sig .tc := ⟨.hbm, 215, rfl⟩
abbrev main_v156 : Ref sig .tc := ⟨.hbm, 216, rfl⟩
abbrev main_cst_19 : Ref sig .tc := ⟨.hbm, 217, rfl⟩
abbrev main_v157 : Ref sig .tc := ⟨.hbm, 218, rfl⟩
abbrev main_v158 : Ref sig .tc := ⟨.hbm, 219, rfl⟩
abbrev main_cst_20 : Ref sig .tc := ⟨.hbm, 220, rfl⟩
abbrev main_v159 : Ref sig .tc := ⟨.hbm, 221, rfl⟩
abbrev main_cst_21 : Ref sig .tc := ⟨.hbm, 222, rfl⟩
abbrev main_v160 : Ref sig .tc := ⟨.hbm, 223, rfl⟩
abbrev main_v161 : Ref sig .tc := ⟨.hbm, 224, rfl⟩
abbrev main_cst_22 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_23 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_c : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_c_24 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_cst_25 : Ref sig .tc := ⟨.hbm, 275, rfl⟩
abbrev main_call5_v0 : Ref sig .tc := ⟨.hbm, 276, rfl⟩
abbrev main_call5_v1 : Ref sig .tc := ⟨.hbm, 277, rfl⟩
abbrev main_call5_v2 : Ref sig .tc := ⟨.hbm, 278, rfl⟩
abbrev main_v208 : Ref sig .tc := ⟨.hbm, 279, rfl⟩
abbrev main_call6_v0 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩

abbrev nD : Nat := 1
abbrev τ : Topo := Topo.v7x

variable {F : FTy → Type} [FloatOps F]
-- ==== KernelFfn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x2x1408 : Shape := ⟨3, ![4096, 2, 1408]⟩
abbrev S2x4096x1408 : Shape := ⟨3, ![2, 4096, 1408]⟩
abbrev S2x1408x1024 : Shape := ⟨3, ![2, 1408, 1024]⟩
abbrev S8x128 : Shape := ⟨2, ![8, 128]⟩
abbrev S256x1024 : Shape := ⟨2, ![256, 1024]⟩
abbrev S2x256x1408 : Shape := ⟨3, ![2, 256, 1408]⟩
abbrev S1x1408x1024 : Shape := ⟨3, ![1, 1408, 1024]⟩
abbrev S1408x1024 : Shape := ⟨2, ![1408, 1024]⟩
abbrev S256x1408 : Shape := ⟨2, ![256, 1408]⟩
abbrev S1x256x1408 : Shape := ⟨3, ![1, 256, 1408]⟩
abbrev S256 : Shape := ⟨1, ![256]⟩
abbrev S256x1 : Shape := ⟨2, ![256, 1]⟩
abbrev S1024 : Shape := ⟨1, ![1024]⟩

abbrev nBuf : Space → Nat
  | .hbm => 46
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .bf16⟩
  | .hbm, ⟨23, _⟩ => ⟨S4096x2816, .f32⟩
  | .hbm, ⟨24, _⟩ => ⟨S4096x2816, .bf16⟩
  | .hbm, ⟨25, _⟩ => ⟨S4096x2x1408, .bf16⟩
  | .hbm, ⟨26, _⟩ => ⟨S2x4096x1408, .bf16⟩
  | .hbm, ⟨27, _⟩ => ⟨S4096x2x1408, .bf16⟩
  | .hbm, ⟨28, _⟩ => ⟨S2x4096x1408, .bf16⟩
  | .hbm, ⟨29, _⟩ => ⟨S2816x1024, .f32⟩
  | .hbm, ⟨30, _⟩ => ⟨S2x1408x1024, .f32⟩
  | .hbm, ⟨31, _⟩ => ⟨S2x1408x1024, .bf16⟩
  | .hbm, ⟨32, _⟩ => ⟨S2816x1024, .f32⟩
  | .hbm, ⟨33, _⟩ => ⟨S2x1408x1024, .f32⟩
  | .hbm, ⟨34, _⟩ => ⟨S2x1408x1024, .bf16⟩
  | .hbm, ⟨35, _⟩ => ⟨S2x1408x1024, .f32⟩
  | .hbm, ⟨36, _⟩ => ⟨S2x1408x1024, .bf16⟩
  | .hbm, ⟨37, _⟩ => ⟨S_, .f32⟩
  | .hbm, ⟨38, _⟩ => ⟨S8x128, .f32⟩
  | .hbm, ⟨39, _⟩ => ⟨S4096x1024, .f32⟩
  | .hbm, ⟨40, _⟩ => ⟨S2x4096x1408, .bf16⟩
  | .hbm, ⟨41, _⟩ => ⟨S2x4096x1408, .bf16⟩
  | .hbm, ⟨42, _⟩ => ⟨S2x4096x1408, .bf16⟩
  | .hbm, ⟨43, _⟩ => ⟨S4096x1024, .bf16⟩
  | .hbm, ⟨44, _⟩ => ⟨S4096x1024, .bf16⟩
  | .hbm, ⟨45, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x256x1408, .bf16⟩
  | .local _ .vmem, ⟨6, _⟩ => ⟨S2x256x1408, .bf16⟩
  | .local _ .vmem, ⟨7, _⟩ => ⟨S2x256x1408, .bf16⟩
  | .local _ .vmem, ⟨8, _⟩ => ⟨S2x256x1408, .bf16⟩
  | .local _ .vmem, ⟨9, _⟩ => ⟨S2x1408x1024, .bf16⟩
  | .local _ .vmem, ⟨10, _⟩ => ⟨S2x1408x1024, .bf16⟩
  | .local _ .vmem, ⟨11, _⟩ => ⟨S2x1408x1024, .bf16⟩
  | .local _ .vmem, ⟨12, _⟩ => ⟨S256x1024, .f32⟩
  | .local _ .vmem, ⟨13, _⟩ => ⟨S256x1024, .f32⟩
  | .local _ .vmem, ⟨14, _⟩ => ⟨S2x256x1408, .bf16⟩
  | .local _ .vmem, ⟨15, _⟩ => ⟨S2x256x1408, .bf16⟩
  | .local _ .vmem, ⟨16, _⟩ => ⟨S2x256x1408, .bf16⟩
  | .local _ .vmem, ⟨17, _⟩ => ⟨S2x256x1408, .bf16⟩
  | .local _ .vmem, ⟨18, _⟩ => ⟨S2x256x1408, .bf16⟩
  | .local _ .vmem, ⟨19, _⟩ => ⟨S2x256x1408, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev main_v29_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1408x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceFfnIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1024 : Shape := ⟨1, ![1024]⟩
abbrev S4096x2x1408 : Shape := ⟨3, ![4096, 2, 1408]⟩
abbrev S2x4096x1408 : Shape := ⟨3, ![2, 4096, 1408]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x1024, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x2x1408, .f32⟩
  | .hbm, ⟨89, _⟩ => ⟨S2x4096x1408, .f32⟩
  | .hbm, ⟨90, _⟩ => ⟨S2x4096x1408, .bf16⟩
  | .hbm, ⟨91, _⟩ => ⟨S4096x2x1408, .f32⟩
  | .hbm, ⟨92, _⟩ => ⟨S2x4096x1408, .f32⟩
  | .hbm, ⟨93, _⟩ => ⟨S2x4096x1408, .bf16⟩
  | .hbm, ⟨94, _⟩ => ⟨S4096x2x1408, .f32⟩
  | .hbm, ⟨95, _⟩ => ⟨S2x4096x1408, .f32⟩
  | .hbm, ⟨96, _⟩ => ⟨S2x4096x1408, .bf16⟩
  | .hbm, ⟨97, _⟩ => ⟨S4096x1024, .bf16⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]
-- ==== KernelLoss.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S2x1408x1024 : Shape := ⟨3, ![2, 1408, 1024]⟩
abbrev S1x128 : Shape := ⟨2, ![1, 128]⟩
abbrev S2x4096x1408 : Shape := ⟨3, ![2, 4096, 1408]⟩
abbrev S256x1024 : Shape := ⟨2, ![256, 1024]⟩
abbrev S2x256x1408 : Shape := ⟨3, ![2, 256, 1408]⟩
abbrev S256 : Shape := ⟨1, ![256]⟩
abbrev S256x1 : Shape := ⟨2, ![256, 1]⟩
abbrev S1x1408x1024 : Shape := ⟨3, ![1, 1408, 1024]⟩
abbrev S1408x1024 : Shape := ⟨2, ![1408, 1024]⟩
abbrev S256x1408 : Shape := ⟨2, ![256, 1408]⟩
abbrev S1x256x1408 : Shape := ⟨3, ![1, 256, 1408]⟩
abbrev S1 : Shape := ⟨1, ![1]⟩
abbrev S1x1 : Shape := ⟨2, ![1, 1]⟩

abbrev nBuf : Space → Nat
  | .hbm => 21
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S2816x1024, .f32⟩
  | .hbm, ⟨8, _⟩ => ⟨S2x1408x1024, .f32⟩
  | .hbm, ⟨9, _⟩ => ⟨S2x1408x1024, .bf16⟩
  | .hbm, ⟨10, _⟩ => ⟨S2816x1024, .f32⟩
  | .hbm, ⟨11, _⟩ => ⟨S2x1408x1024, .f32⟩
  | .hbm, ⟨12, _⟩ => ⟨S2x1408x1024, .bf16⟩
  | .hbm, ⟨13, _⟩ => ⟨S2x1408x1024, .f32⟩
  | .hbm, ⟨14, _⟩ => ⟨S2x1408x1024, .bf16⟩
  | .hbm, ⟨15, _⟩ => ⟨S1x1024, .f32⟩
  | .hbm, ⟨16, _⟩ => ⟨S1x128, .f32⟩
  | .hbm, ⟨17, _⟩ => ⟨S4096x1024, .f32⟩
  | .hbm, ⟨18, _⟩ => ⟨S1x1024, .f32⟩
  | .hbm, ⟨19, _⟩ => ⟨S2x4096x1408, .bf16⟩
  | .hbm, ⟨20, _⟩ => ⟨S2x4096x1408, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x1408x1024, .bf16⟩
  | .local _ .vmem, ⟨4, _⟩ => ⟨S2x1408x1024, .bf16⟩
  | .local _ .vmem, ⟨5, _⟩ => ⟨S2x1408x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S2x256x1408, .bf16⟩
  | .local _ .vmem, ⟨14, _⟩ => ⟨S2x256x1408, .bf16⟩
  | .local _ .vmem, ⟨15, _⟩ => ⟨S2x256x1408, .bf16⟩
  | .local _ .vmem, ⟨16, _⟩ => ⟨S2x256x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceLossIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x128 : Shape := ⟨2, ![1, 128]⟩
abbrev S4096x2x1408 : Shape := ⟨3, ![4096, 2, 1408]⟩
abbrev S2x4096x1408 : Shape := ⟨3, ![2, 4096, 1408]⟩

abbrev nBuf : Space → Nat
  | .hbm => 115
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S1x128, .f32⟩
  | .hbm, ⟨108, _⟩ => ⟨S1x1024, .f32⟩
  | .hbm, ⟨109, _⟩ => ⟨S4096x2x1408, .f32⟩
  | .hbm, ⟨110, _⟩ => ⟨S2x4096x1408, .f32⟩
  | .hbm, ⟨111, _⟩ => ⟨S2x4096x1408, .bf16⟩
  | .hbm, ⟨112, _⟩ => ⟨S4096x2x1408, .f32⟩
  | .hbm, ⟨113, _⟩ => ⟨S2x4096x1408, .f32⟩
  | .hbm, ⟨114, _⟩ => ⟨S2x4096x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_cst_12 : Ref sig .tc := ⟨.hbm, 73, rfl⟩
abbrev main_cst_13 : Ref sig .tc := ⟨.hbm, 74, rfl⟩
abbrev main_v45 : Ref sig .tc := ⟨.hbm, 75, rfl⟩
abbrev main_v46 : Ref sig .tc := ⟨.hbm, 76, rfl⟩
abbrev main_cst_14 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_15 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_cst_17 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== KernelGates.lean ====
abbrev S4096x1024 : Shape := ⟨2, ![4096, 1024]⟩
abbrev S1024x1024 : Shape := ⟨2, ![1024, 1024]⟩
abbrev S_ : Shape := ⟨0, ![]⟩
abbrev S4096x2048 : Shape := ⟨2, ![4096, 2048]⟩
abbrev S1x4096x2048 : Shape := ⟨3, ![1, 4096, 2048]⟩
abbrev S4x4096x2048 : Shape := ⟨3, ![4, 4096, 2048]⟩
abbrev S512x1024 : Shape := ⟨2, ![512, 1024]⟩
abbrev S1x512x2048 : Shape := ⟨3, ![1, 512, 2048]⟩
abbrev S1x512x1024 : Shape := ⟨3, ![1, 512, 1024]⟩

abbrev nBuf : Space → Nat
  | .hbm => 25
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S1x4096x2048, .f32⟩
  | .hbm, ⟨12, _⟩ => ⟨S1x4096x2048, .f32⟩
  | .hbm, ⟨13, _⟩ => ⟨S1x4096x2048, .f32⟩
  | .hbm, ⟨14, _⟩ => ⟨S1x4096x2048, .f32⟩
  | .hbm, ⟨15, _⟩ => ⟨S4x4096x2048, .f32⟩
  | .hbm, ⟨16, _⟩ => ⟨S4x4096x2048, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S4096x1024, .bf16⟩
  | .hbm, ⟨24, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceGatesIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== KernelFwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S2x1408x1024 : Shape := ⟨3, ![2, 1408, 1024]⟩
abbrev S2x4096x1408 : Shape := ⟨3, ![2, 4096, 1408]⟩
abbrev S256x1024 : Shape := ⟨2, ![256, 1024]⟩
abbrev S2x256x1408 : Shape := ⟨3, ![2, 256, 1408]⟩
abbrev S256 : Shape := ⟨1, ![256]⟩
abbrev S256x1 : Shape := ⟨2, ![256, 1]⟩
abbrev S1x1408x1024 : Shape := ⟨3, ![1, 1408, 1024]⟩
abbrev S1408x1024 : Shape := ⟨2, ![1408, 1024]⟩
abbrev S256x1408 : Shape := ⟨2, ![256, 1408]⟩
abbrev S1x256x1408 : Shape := ⟨3, ![1, 256, 1408]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2x1408x1024, .f32⟩
  | .hbm, ⟨7, _⟩ => ⟨S2x1408x1024, .bf16⟩
  | .hbm, ⟨8, _⟩ => ⟨S2816x1024, .f32⟩
  | .hbm, ⟨9, _⟩ => ⟨S2x1408x1024, .f32⟩
  | .hbm, ⟨10, _⟩ => ⟨S2x1408x1024, .bf16⟩
  | .hbm, ⟨11, _⟩ => ⟨S2x1408x1024, .f32⟩
  | .hbm, ⟨12, _⟩ => ⟨S2x1408x1024, .bf16⟩
  | .hbm, ⟨13, _⟩ => ⟨S4096x1024, .f32⟩
  | .hbm, ⟨14, _⟩ => ⟨S2x4096x1408, .bf16⟩
  | .hbm, ⟨15, _⟩ => ⟨S2x4096x1408, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x1408x1024, .bf16⟩
  | .local _ .vmem, ⟨4, _⟩ => ⟨S2x1408x1024, .bf16⟩
  | .local _ .vmem, ⟨5, _⟩ => ⟨S2x1408x1024, .bf16⟩
  | .local _ .vmem, ⟨6, _⟩ => ⟨S256x1024, .f32⟩
  | .local _ .vmem, ⟨7, _⟩ => ⟨S256x1024, .f32⟩
  | .local _ .vmem, ⟨8, _⟩ => ⟨S2x256x1408, .bf16⟩
  | .local _ .vmem, ⟨9, _⟩ => ⟨S2x256x1408, .bf16⟩
  | .local _ .vmem, ⟨10, _⟩ => ⟨S2x256x1408, .bf16⟩
  | .local _ .vmem, ⟨11, _⟩ => ⟨S2x256x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFwdIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x2x1408 : Shape := ⟨3, ![4096, 2, 1408]⟩
abbrev S2x4096x1408 : Shape := ⟨3, ![2, 4096, 1408]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x2x1408, .f32⟩
  | .hbm, ⟨38, _⟩ => ⟨S2x4096x1408, .f32⟩
  | .hbm, ⟨39, _⟩ => ⟨S2x4096x1408, .bf16⟩
  | .hbm, ⟨40, _⟩ => ⟨S4096x2x1408, .f32⟩
  | .hbm, ⟨41, _⟩ => ⟨S2x4096x1408, .f32⟩
  | .hbm, ⟨42, _⟩ => ⟨S2x4096x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proof.Inproj.Cases.lean ====
module

public import proofs.«01_k».proof.Proof.Gen.KernelInprojIdeal.Value
public import Idealize.ShloMosaic.Lib.Tactic
public import Idealize.ShloMosaic.Lib.Pointwise

/-! What one grid point of the input projection's backward call leaves in its three output buffers, as the printed
payloads over the point's input blocks. -/

@[expose] public section

set_option maxRecDepth 16384

noncomputable section

open Idealize.ShloMosaic Idealize.ShloMosaic.TcCoe Idealize.SL.Sem
open Idealize.ShloMosaic.Pipeline (Dat)

namespace Cert.KernelInprojIdeal.Cases

open Cert.KernelInprojIdeal Cert.KernelInprojIdeal.Gen

section
variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The gradient of the normed input: eight products of a segment of the cotangent with its slice of the weights. -/
def dh (c : Dev nD) (t : Fin cfg0.N) : FVec F S512x1024 .f32 :=
  k0_pay27
    (k0_pay22
      (k0_pay16
        (k0_pay10 (iblk m c 0 t)
          (View.ld (iblk m c 8 t) (Rect.unit ![0, 0, 0] ![1, 1024, 1024] inb_S4x1024x2048_S1x1024x1024_0_0_0))
          (iblk m c 1 t)
          (View.ld (iblk m c 8 t) (Rect.unit ![0, 0, 1024] ![1, 1024, 1024] inb_S4x1024x2048_S1x1024x1024_0_0_1024)))
        (iblk m c 2 t)
        (View.ld (iblk m c 8 t) (Rect.unit ![1, 0, 0] ![1, 1024, 1024] inb_S4x1024x2048_S1x1024x1024_1_0_0))
        (iblk m c 3 t)
        (View.ld (iblk m c 8 t) (Rect.unit ![1, 0, 1024] ![1, 1024, 1024] inb_S4x1024x2048_S1x1024x1024_1_0_1024)))
      (iblk m c 4 t)
      (View.ld (iblk m c 8 t) (Rect.unit ![2, 0, 0] ![1, 1024, 1024] inb_S4x1024x2048_S1x1024x1024_2_0_0))
      (iblk m c 5 t)
      (View.ld (iblk m c 8 t) (Rect.unit ![2, 0, 1024] ![1, 1024, 1024] inb_S4x1024x2048_S1x1024x1024_2_0_1024)))
    (iblk m c 6 t)
    (View.ld (iblk m c 8 t) (Rect.unit ![3, 0, 0] ![1, 1024, 1024] inb_S4x1024x2048_S1x1024x1024_3_0_0))
    (iblk m c 7 t)
    (View.ld (iblk m c 8 t) (Rect.unit ![3, 0, 1024] ![1, 1024, 1024] inb_S4x1024x2048_S1x1024x1024_3_0_1024))

/-- The rows a point leaves of the gradient of `x`, at every point. -/
theorem dx1_eq (c : Dev nD) (t : Fin cfg0.N) :
    (outsAt0 m c t.val t.isLt).1 = k0_pay3 (dh m c t) (iblk m c 9 t) (iblk m c 11 t) (iblk m c 10 t) := by
  by_cases h0 : t.val % 8 = 0
  · rw [outsAt0_A m c t h0]
    dsimp only
    unfold out0_A_12
    rw [View.read_writes_eq_canon _ _ _ (fun _ => cover0_A_12 ..)]
    unfold kernelRun0_A
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread, (hs0_7 t).read_unread,
      (hs0_8 t).read_unread, (hs0_9 t).read_unread, (hs0_10 t).read_unread, (hs0_11 t).read_unread,
      View.ld_unit_zero (S := S512x1024) hz2, View.ld_unit_zero (S := S1x1024) hz2]
    rfl
  · rw [outsAt0_B m c t h0]
    dsimp only
    unfold out0_B_12
    rw [View.read_writes_eq_canon _ _ _ (fun _ => cover0_B_12 ..)]
    unfold kernelRun0_B
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread, (hs0_7 t).read_unread,
      (hs0_8 t).read_unread, (hs0_9 t).read_unread, (hs0_10 t).read_unread, (hs0_11 t).read_unread,
      View.ld_unit_zero (S := S512x1024) hz2, View.ld_unit_zero (S := S1x1024) hz2]
    rfl

/-- The first point sets the gain's gradient to its own sum over a zero. -/
theorem dng_A (c : Dev nD) (t : Fin cfg0.N) (h0 : t.val % 8 = 0) :
    (outsAt0 m c t.val t.isLt).2.2 = k0_pay4 (dh m c t) (iblk m c 9 t) (k0_pay6 (F := F)) := by
  rw [outsAt0_A m c t h0]
  dsimp only
  unfold out0_A_14
  rw [View.read_writes_eq_canon _ _ _ (fun _ => cover0_A_14 ..)]
  unfold kernelRun0_A
  dsimp only
  sl_unfold_words
  rw [View.canon_cons_unit_zero (S := S1x1024) hz2, View.readCov_unit_zero (S := S1x1024) _ hz2]
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, View.ld_unit_zero (S := S512x1024) hz2]
  rfl

/-- A later point adds its sum to what the point before left. -/
theorem dng_B (c : Dev nD) (t : Fin cfg0.N) (h0 : ¬t.val % 8 = 0) :
    (outsAt0 m c t.val t.isLt).2.2
      = k0_pay4 (dh m c t) (iblk m c 9 t) (outsAt0 m c (t.val - 1) (Nat.lt_of_le_of_lt (Nat.sub_le _ _) t.isLt)).2.2 := by
  rw [outsAt0_B m c t h0]
  dsimp only
  unfold out0_B_14
  rw [View.read_writes_eq_canon _ _ _ (fun _ => cover0_B_14 ..)]
  unfold kernelRun0_B
  dsimp only
  sl_unfold_words
  rw [View.canon_unit_zero hz2]
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, (hs0_14 t).read_unread,
    View.ld_unit_zero (S := S512x1024) hz2, View.ld_unit_zero (S := S1x1024) hz2]
  rfl

end

/-! ## The bias's gradient: eight rows, each a column sum -/

/-- Segment `e`'s block at a point. -/
def seg (m : (ℓ : Loc nD τ sig) → Buf (Elt Ideal) ℓ) (c : Dev nD) (t : Fin cfg0.N) (e : Fin 8) : Vec Ideal S512x1024 .bf16 :=
  match e with
  | 0 => iblk m c 0 t | 1 => iblk m c 1 t | 2 => iblk m c 2 t | 3 => iblk m c 3 t
  | 4 => iblk m c 4 t | 5 => iblk m c 5 t | 6 => iblk m c 6 t | 7 => iblk m c 7 t

/-- A stack of row writes, read at a row: the top write's payload at its own row, what lies below elsewhere. -/
theorem canon_row (k : Nat) (h : ∀ a, (![k, 0, 0] : Fin 3 → Nat) a + (![1, 1, 1024] : Fin 3 → Nat) a ≤ S8x1x1024.size a)
    (w : (Rect.unit (s := S8x1x1024) ![k, 0, 0] ![1, 1, 1024] h).shape.Idx → Elt Ideal .f32) (L : List (View.Piece (Elt Ideal) S8x1x1024 .f32))
    (e : Fin 8) (l : Fin 1024) :
    View.canon (⟨Rect.unit (s := S8x1x1024) ![k, 0, 0] ![1, 1, 1024] h, w⟩ :: L) (ix3 e 0 l)
      = if e.val = k then w (ix3 (0 : Fin 1) (0 : Fin 1) l) else View.canon L (ix3 e 0 l) := by
  by_cases he : e.val = k
  · rw [if_pos he]
    have : (ix3 e 0 l : S8x1x1024.Idx) = (Rect.unit (s := S8x1x1024) ![k, 0, 0] ![1, 1, 1024] h).emb (ix3 (0 : Fin 1) (0 : Fin 1) l) := by
      funext a; apply Fin.ext
      match a with
      | ⟨0, _⟩ => show e.val = k + 1 * 0; omega
      | ⟨1, _⟩ => rfl
      | ⟨2, _⟩ => show l.val = 0 + 1 * l.val; omega
    rw [this, View.canon_cons_emb]
  · rw [if_neg he]
    apply View.canon_cons_of_not_mem
    rw [Rect.mem_set_unit]
    intro hh
    have h1 : k ≤ e.val ∧ e.val < k + 1 := hh 0
    omega

variable (m : (ℓ : Loc nD τ sig) → Buf (Elt Ideal) ℓ)

theorem canon_zero (y : S8x1x1024.Idx) :
    View.canon (Val := Elt Ideal) (e := .f32) [⟨Rect.unit (s := S8x1x1024) ![0, 0, 0] ![8, 1, 1024] inb_S8x1x1024_S8x1x1024_0_0_0, k0_pay5 (F := Ideal)⟩] y = (0 : EReal) := by
  rw [View.canon_unit_zero hz3]
  pointwise [k0_pay5]

theorem idx_row (k : Nat) (h : ∀ a, (![k, 0, 0] : Fin 3 → Nat) a + (![1, 1, 1024] : Fin 3 → Nat) a ≤ S8x1x1024.size a)
    (hk : k < 8) (l : Fin 1024) :
    (Rect.unit (s := S8x1x1024) ![k, 0, 0] ![1, 1, 1024] h).toLoadRect.idx (ix3 (0 : Fin 1) (0 : Fin 1) l) = ix3 (⟨k, hk⟩ : Fin 8) 0 l := by
  funext a; apply Fin.ext
  match a with
  | ⟨0, _⟩ => rfl
  | ⟨1, _⟩ => rfl
  | ⟨2, _⟩ => show 0 + 1 * l.val = l.val; omega

/-- A payload that adds a block's column sums to a row it read, at a column. -/
theorem pay_row (x : Vec Ideal S512x1024 .bf16) (acc : Vec Ideal S1x1x1024 .f32) (l : Fin 1024) :
    k0_pay8 x acc (ix3 0 0 l) = acc (ix3 0 0 l) + ∑ r : Fin 512, x (ix2 r l) := by
  pointwise [k0_pay8, k0_pay7]

/-- The printed payloads of the other seven rows are that one. -/
theorem pay_rows (x : Vec Ideal S512x1024 .bf16) (acc : Vec Ideal S1x1x1024 .f32) :
    k0_pay12 (k0_pay11 x acc) = k0_pay8 x acc ∧ k0_pay14 x acc = k0_pay8 x acc ∧ k0_pay18 (k0_pay17 x acc) = k0_pay8 x acc
      ∧ k0_pay20 x acc = k0_pay8 x acc ∧ k0_pay23 x acc = k0_pay8 x acc ∧ k0_pay25 x acc = k0_pay8 x acc
      ∧ k0_pay28 x acc = k0_pay8 x acc := ⟨rfl, rfl, rfl, rfl, rfl, rfl, rfl⟩

/-- The first point sets each row of the bias's gradient to its segment's column sum. -/
theorem db_A (c : Dev nD) (t : Fin cfg0.N) (h0 : t.val % 8 = 0) (e : Fin 8) (l : Fin 1024) :
    (outsAt0 m c t.val t.isLt).2.1 (ix3 e 0 l) = (∑ r : Fin 512, seg m c t e (ix2 r l) : EReal) := by
  rw [outsAt0_A m c t h0]
  dsimp only
  unfold out0_A_13
  rw [View.read_writes_eq_canon _ _ _ (fun _ => cover0_A_13 ..)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S512x1024) hz2]
  obtain ⟨e, he⟩ := e
  interval_cases e
  all_goals
    simp only [canon_row, pay_rows, pay_row, View.readCov_eq_canon', idx_row _ _ (show 0 < 8 by decide), idx_row _ _ (show 1 < 8 by decide),
      idx_row _ _ (show 2 < 8 by decide), idx_row _ _ (show 3 < 8 by decide), idx_row _ _ (show 4 < 8 by decide),
      idx_row _ _ (show 5 < 8 by decide), idx_row _ _ (show 6 < 8 by decide), idx_row _ _ (show 7 < 8 by decide), canon_zero,
      Nat.reduceEqDiff, ↓reduceIte, zero_add, OfNat.zero_ne_ofNat, OfNat.one_ne_ofNat, OfNat.ofNat_ne_zero, OfNat.ofNat_ne_one, zero_ne_one, one_ne_zero]
    rfl

/-- A later point adds the column sums to what the point before left. -/
theorem db_B (c : Dev nD) (t : Fin cfg0.N) (h0 : ¬t.val % 8 = 0) (e : Fin 8) (l : Fin 1024) :
    (outsAt0 m c t.val t.isLt).2.1 (ix3 e 0 l)
      = ((outsAt0 m c (t.val - 1) (Nat.lt_of_le_of_lt (Nat.sub_le _ _) t.isLt)).2.1 (ix3 e 0 l)
          + ∑ r : Fin 512, seg m c t e (ix2 r l) : EReal) := by
  rw [outsAt0_B m c t h0]
  dsimp only
  unfold out0_B_13
  rw [View.read_writes_eq_canon _ _ _ (fun _ => cover0_B_13 ..)]
  unfold kernelRun0_B
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_13 t).read_unread, View.ld_unit_zero (S := S512x1024) hz2]
  obtain ⟨e, he⟩ := e
  interval_cases e
  all_goals
    simp only [canon_row, pay_rows, pay_row, View.readCov_eq_canon', View.ld, idx_row _ _ (show 0 < 8 by decide), idx_row _ _ (show 1 < 8 by decide),
      idx_row _ _ (show 2 < 8 by decide), idx_row _ _ (show 3 < 8 by decide), idx_row _ _ (show 4 < 8 by decide),
      idx_row _ _ (show 5 < 8 by decide), idx_row _ _ (show 6 < 8 by decide), idx_row _ _ (show 7 < 8 by decide), canon_zero,
      Nat.reduceEqDiff, ↓reduceIte, zero_add, OfNat.zero_ne_ofNat, OfNat.one_ne_ofNat, OfNat.ofNat_ne_zero, OfNat.ofNat_ne_one, zero_ne_one, one_ne_zero]
    rfl

end Cert.KernelInprojIdeal.Cases
-- ==== Proof.Lift.lean ====
module

public import Idealize.ShloMosaic.PureOps.Ideal.Laws
public import Idealize.ShloMosaic.Lib.Tactic

/-! Finite extended reals: sums, the constants of a root-mean-square norm, and its backward row. -/

@[expose] public section

noncomputable section

namespace Cert.Lift

open Idealize.ShloMosaic

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The width 1024 of a row. -/
theorem width : Ideal.ofBits .f32 1149239296#32 = ((1024 : ℝ) : EReal) := by
  simp [Ideal.ofBits, Ideal.ieee, -EReal.coe_mul]; norm_num

/-- The factor −1/2 of the derivative of the reciprocal square root. -/
theorem minus_half : Ideal.ofBits .f32 3204448256#32 = ((-(1 / 2) : ℝ) : EReal) := by
  simp [Ideal.ofBits, Ideal.ieee, -EReal.coe_mul]; norm_num

/-- The small number added to a mean square, a positive real. -/
theorem exists_eps : ∃ ε : ℝ, 0 < ε ∧ Ideal.ofBits .f32 897988541#32 = (ε : EReal) := by
  refine ⟨8796093 / 8796093022208, by norm_num, ?_⟩
  simp [Ideal.ofBits, Ideal.ieee, -EReal.coe_mul]; norm_num

/-- `ε`, as a real. -/
def eps : ℝ := exists_eps.choose
theorem eps_pos : 0 < eps := exists_eps.choose_spec.1
theorem eps_eq : Ideal.ofBits .f32 897988541#32 = (eps : EReal) := exists_eps.choose_spec.2

/-- A quotient of reals by a nonzero real. -/
theorem div_real (x : ℝ) {y : ℝ} (h : y ≠ 0) : Ideal.div (x : EReal) (y : EReal) = ((x / y : ℝ) : EReal) := by
  rw [Ideal.div_coe h, ← EReal.coe_mul]; congr 1; ring

/-- The reciprocal square root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The mean square of a row, plus `ε`. -/
def meanSq (x : Fin 1024 → ℝ) : ℝ := (∑ k, x k * x k) / 1024 + eps

theorem meanSq_pos (x : Fin 1024 → ℝ) : 0 < meanSq x :=
  add_pos_of_nonneg_of_pos (div_nonneg (Finset.sum_nonneg fun k _ => mul_self_nonneg _) (by norm_num)) eps_pos

/-- The reciprocal root mean square of a row. -/
def rms (x : Fin 1024 → ℝ) : ℝ := (Real.sqrt (meanSq x))⁻¹

theorem rms_div (x : Fin 1024 → ℝ) : rms x / meanSq x = rms x * rms x * rms x := by
  have h := meanSq_pos x
  have hs : rms x * rms x = (meanSq x)⁻¹ := by
    unfold rms; rw [← mul_inv, Real.mul_self_sqrt h.le]
  rw [hs, div_eq_mul_inv, mul_comm]

/-- A row's mean square plus `ε`, as the programs compute it. -/
theorem meanSq_coe (x : Fin 1024 → ℝ) :
    Ideal.div (∑ k, (x k : EReal) * (x k : EReal)) (Ideal.ofBits .f32 1149239296#32) + Ideal.ofBits .f32 897988541#32
      = (meanSq x : EReal) := by
  rw [width, eps_eq]
  simp only [← EReal.coe_mul, ← coe_sum]
  rw [div_real _ (by norm_num), ← EReal.coe_add]
  rfl

theorem rms_coe (x : Fin 1024 → ℝ) : Ideal.rsqrt (meanSq x : EReal) = (rms x : EReal) := rsqrt_real (meanSq_pos x)

/-- One element of the backward pass of a root-mean-square norm with gain `g` and the cotangent `h`: the form by hand. -/
def rmsBwd (x g h : Fin 1024 → ℝ) (l : Fin 1024) : ℝ :=
  rms x * (h l * g l - x l * rms x * ((∑ k, h k * g k * (x k * rms x)) / 1024))

/-- The same element as the transposed derivative writes it: one term through the row, two through its mean square. -/
theorem rmsBwd_eq (x g h : Fin 1024 → ℝ) (l : Fin 1024) :
    h l * g l * rms x + x l * ((∑ k, x k * (h k * g k)) * (-(1 / 2) * (rms x / meanSq x)) / 1024)
        + (∑ k, x k * (h k * g k)) * (-(1 / 2) * (rms x / meanSq x)) / 1024 * x l
      = rmsBwd x g h l := by
  have hS : (∑ k, h k * g k * (x k * rms x)) = (∑ k, x k * (h k * g k)) * rms x := by
    rw [Finset.sum_mul]; exact Finset.sum_congr rfl fun k _ => by ring
  rw [rms_div, rmsBwd, hS]
  ring

/-- The form by hand over the extended reals. -/
theorem rmsBwd_coe (x g h : Fin 1024 → ℝ) (l : Fin 1024) :
    (rms x : EReal) * ((h l : EReal) * (g l : EReal) - (x l : EReal) * (rms x : EReal)
        * Ideal.div (∑ k, (h k : EReal) * (g k : EReal) * ((x k : EReal) * (rms x : EReal))) (Ideal.ofBits .f32 1149239296#32))
      = (rmsBwd x g h l : EReal) := by
  rw [width]
  simp only [← EReal.coe_mul, ← coe_sum]
  rw [div_real _ (by norm_num)]
  simp only [← EReal.coe_mul, ← EReal.coe_sub]
  rfl

/-- The transposed derivative over the extended reals, with the gradient `d` that it is added to. -/
theorem rmsVjp_coe (x g h : Fin 1024 → ℝ) (d : EReal) (l : Fin 1024) :
    d + (h l : EReal) * (g l : EReal) * (rms x : EReal)
        + (x l : EReal) * Ideal.div ((∑ k, (x k : EReal) * ((h k : EReal) * (g k : EReal)))
            * (Ideal.ofBits .f32 3204448256#32 * Ideal.div (rms x : EReal) (meanSq x : EReal))) (Ideal.ofBits .f32 1149239296#32)
        + Ideal.div ((∑ k, (x k : EReal) * ((h k : EReal) * (g k : EReal)))
            * (Ideal.ofBits .f32 3204448256#32 * Ideal.div (rms x : EReal) (meanSq x : EReal))) (Ideal.ofBits .f32 1149239296#32) * (x l : EReal)
      = d + (rmsBwd x g h l : EReal) := by
  rw [width, minus_half, div_real _ (meanSq_pos x).ne']
  simp only [← EReal.coe_mul, ← coe_sum]
  rw [div_real _ (by norm_num), ← rmsBwd_eq]
  simp only [EReal.coe_add, EReal.coe_mul, add_assoc]

/-- A sum over 4096 rows in eight blocks of 512. -/
theorem sum_rows {M : Type} [AddCommMonoid M] (f : Fin 4096 → M) :
    ∑ R, f R = ∑ t : Fin 8, ∑ r : Fin 512, f ⟨512 * t.val + r.val, by omega⟩ := by
  rw [← (finProdFinEquiv (m := 8) (n := 512)).sum_comp, Fintype.sum_prod_type]
  refine Finset.sum_congr rfl fun t _ => Finset.sum_congr rfl fun r _ => congrArg f (Fin.ext ?_)
  simp [finProdFinEquiv]; omega

/-- A sum over 8192 columns in eight segments of 1024. -/
theorem sum_cols {M : Type} [AddCommMonoid M] (f : Fin 8192 → M) :
    ∑ j, f j = ∑ e : Fin 8, ∑ l : Fin 1024, f ⟨1024 * e.val + l.val, by omega⟩ := by
  rw [← (finProdFinEquiv (m := 8) (n := 1024)).sum_comp, Fintype.sum_prod_type]
  refine Finset.sum_congr rfl fun t _ => Finset.sum_congr rfl fun r _ => congrArg f (Fin.ext ?_)
  simp [finProdFinEquiv]; omega

end Cert.Lift
-- ==== Proof.Inproj.Arrays.lean ====
module

public import proofs.«01_k».proof.Proof.Inproj.Cases
public import proofs.«01_k».proof.Proof.Lift
public import Idealize.ShloMosaic.Lib.StableHlo.ReadAt

/-! What the three result arrays of the input projection's backward call hold after the run, at an index, from the
arguments: the gradient of `x`, of the bias and of the gain. -/

@[expose] public section

set_option maxRecDepth 16384

noncomputable section

open Idealize.ShloMosaic Idealize.ShloMosaic.TcCoe Idealize.SL.Sem
open Idealize.ShloMosaic.Pipeline (Dat)

namespace Cert.KernelInprojIdeal.Arrays

open Cert.KernelInprojIdeal Cert.KernelInprojIdeal.Gen Cert.KernelInprojIdeal.Cases

variable (m : (ℓ : Loc nD τ sig) → Buf (Elt Ideal) ℓ)

/-- Row `r` of block `t`, and column `l` of segment `e`. -/
abbrev row (t : Fin cfg0.N) (r : Fin 512) : Fin 4096 := ⟨512 * t.val + r.val, by have := t.isLt; have : cfg0.N = 8 := N_0; omega⟩
abbrev col (e : Fin 8) (l : Fin 1024) : Fin 8192 := ⟨1024 * e.val + l.val, by omega⟩

/-- The arguments: `x`, the gain, the weights, the cotangent, the gradient added. -/
abbrev aX (c : Dev nD) : Vec Ideal S4096x1024 .f32 := m ((c : Thread nD τ).loc main_arg0)
abbrev aG (c : Dev nD) : Vec Ideal S1x1024 .f32 := m ((c : Thread nD τ).loc main_arg1)
abbrev aW (c : Dev nD) : Vec Ideal S1024x8192 .f32 := m ((c : Thread nD τ).loc main_arg2)
abbrev aC (c : Dev nD) : Vec Ideal S4096x8192 .f32 := m ((c : Thread nD τ).loc main_arg3)
abbrev aD (c : Dev nD) : Vec Ideal S4096x1024 .f32 := m ((c : Thread nD τ).loc main_arg4)

/-! ## Blocks of the windows -/

/-- Where the windows' blocks lie: a row window's block `t` starts at row block `t`, the gain's and the weights' is the
    whole array. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = 0 ∧ win0_8.index t 1 = 0 ∧ win0_8.index t 2 = 0)
    ∧ (win0_9.index t 0 = t.val ∧ win0_9.index t 1 = 0) ∧ (win0_10.index t 0 = 0 ∧ win0_10.index t 1 = 0)
    ∧ (win0_11.index t 0 = t.val ∧ win0_11.index t 1 = 0) ∧ (win0_12.index t 0 = t.val ∧ win0_12.index t 1 = 0)
    ∧ (win0_13.index t 0 = 0 ∧ win0_13.index t 1 = 0 ∧ win0_13.index t 2 = 0)
    ∧ (win0_14.index t 0 = 0 ∧ win0_14.index t 1 = 0) :=
  (by decide +kernel : ∀ t : Fin grid0.N, _)

/-- An index of a row block is the array's index `512 t + r`. -/
theorem idx_rowBlock (t : Fin cfg0.N) (r : Fin 512) (l : Fin 1024) (i : S4096x1024.Idx) (p q : Nat) (hp : p = t.val) (hq : q = 0)
    (h0 : (i 0).val = p * 512 + 1 * r.val) (h1 : (i 1).val = q * 1024 + 1 * l.val) : i = ix2 (row t r) l := by
  subst hp hq
  funext a; apply Fin.ext
  match a with
  | ⟨0, _⟩ => show (i 0).val = 512 * t.val + r.val; omega
  | ⟨1, _⟩ => show (i 1).val = l.val; omega

theorem blk_x (c : Dev nD) (t : Fin cfg0.N) (r : Fin 512) (l : Fin 1024) :
    (iblk m c 9 t : Vec Ideal S512x1024 .f32) (ix2 r l) = aX m c (ix2 (row t r) l) := by
  unfold iblk
  rw [View.read_apply]
  show (V m c main_arg0 : Vec Ideal S4096x1024 .f32) _ = _
  rw [V_main_arg0]
  exact congrArg (aX m c) (idx_rowBlock t r l _ _ _ (idx_facts t).2.2.2.2.2.2.2.2.2.1.1 (idx_facts t).2.2.2.2.2.2.2.2.2.1.2 (by rfl) (by rfl))

theorem blk_d (c : Dev nD) (t : Fin cfg0.N) (r : Fin 512) (l : Fin 1024) :
    (iblk m c 11 t : Vec Ideal S512x1024 .f32) (ix2 r l) = aD m c (ix2 (row t r) l) := by
  unfold iblk
  rw [View.read_apply]
  show (V m c main_arg4 : Vec Ideal S4096x1024 .f32) _ = _
  rw [V_main_arg4]
  exact congrArg (aD m c) (idx_rowBlock t r l _ _ _ (idx_facts t).2.2.2.2.2.2.2.2.2.2.2.1.1 (idx_facts t).2.2.2.2.2.2.2.2.2.2.2.1.2 (by rfl) (by rfl))

theorem blk_g (c : Dev nD) (t : Fin cfg0.N) (l : Fin 1024) :
    (iblk m c 10 t : Vec Ideal S1x1024 .f32) (ix2 0 l) = aG m c (ix2 0 l) := by
  unfold iblk
  rw [View.read_apply]
  show (V m c main_arg1 : Vec Ideal S1x1024 .f32) _ = _
  rw [V_main_arg1]
  refine congrArg (aG m c) (funext fun a => Fin.ext ?_)
  obtain ⟨e0, e1⟩ := (idx_facts t).2.2.2.2.2.2.2.2.2.2.1
  match a with
  | ⟨0, _⟩ => show win0_10.index t 0 * 1 + 1 * 0 = 0; omega
  | ⟨1, _⟩ => show win0_10.index t 1 * 1024 + 1 * l.val = l.val; omega

/-- A segment's array is the cotangent's columns of the segment. -/
theorem segs_at (c : Dev nD) (R : Fin 4096) (l : Fin 1024) :
    (V m c main_v4 : Vec Ideal S4096x1024 .bf16) (ix2 R l) = aC m c (ix2 R (col 0 l))
    ∧ (V m c main_v6 : Vec Ideal S4096x1024 .bf16) (ix2 R l) = aC m c (ix2 R (col 1 l))
    ∧ (V m c main_v8 : Vec Ideal S4096x1024 .bf16) (ix2 R l) = aC m c (ix2 R (col 2 l))
    ∧ (V m c main_v10 : Vec Ideal S4096x1024 .bf16) (ix2 R l) = aC m c (ix2 R (col 3 l))
    ∧ (V m c main_v12 : Vec Ideal S4096x1024 .bf16) (ix2 R l) = aC m c (ix2 R (col 4 l))
    ∧ (V m c main_v14 : Vec Ideal S4096x1024 .bf16) (ix2 R l) = aC m c (ix2 R (col 5 l))
    ∧ (V m c main_v16 : Vec Ideal S4096x1024 .bf16) (ix2 R l) = aC m c (ix2 R (col 6 l))
    ∧ (V m c main_v18 : Vec Ideal S4096x1024 .bf16) (ix2 R l) = aC m c (ix2 R (col 7 l)) := by
  unfold V
  refine ⟨?_, ?_, ?_, ?_, ?_, ?_, ?_, ?_⟩
  all_goals
    after_reads_at
    refine congrArg (aC m c) (funext fun a => Fin.ext ?_)
    match a with
    | ⟨0, _⟩ => rfl
    | ⟨1, _⟩ => first | rfl | simp

/-- Segment `e` of block `t` is the cotangent's rows of the block at the segment's columns. -/
theorem blk_seg (c : Dev nD) (t : Fin cfg0.N) (e : Fin 8) (r : Fin 512) (l : Fin 1024) :
    seg m c t e (ix2 r l) = aC m c (ix2 (row t r) (col e l)) := by
  obtain ⟨f0, f1, f2, f3, f4, f5, f6, f7, -⟩ := idx_facts t
  obtain ⟨g0, g1, g2, g3, g4, g5, g6, g7⟩ := segs_at m c (row t r) l
  obtain ⟨e, he⟩ := e
  interval_cases e
  · exact (congrArg (V m c main_v4) (idx_rowBlock t r l _ _ _ f0.1 f0.2 (by rfl) (by rfl))).trans g0
  · exact (congrArg (V m c main_v6) (idx_rowBlock t r l _ _ _ f1.1 f1.2 (by rfl) (by rfl))).trans g1
  · exact (congrArg (V m c main_v8) (idx_rowBlock t r l _ _ _ f2.1 f2.2 (by rfl) (by rfl))).trans g2
  · exact (congrArg (V m c main_v10) (idx_rowBlock t r l _ _ _ f3.1 f3.2 (by rfl) (by rfl))).trans g3
  · exact (congrArg (V m c main_v12) (idx_rowBlock t r l _ _ _ f4.1 f4.2 (by rfl) (by rfl))).trans g4
  · exact (congrArg (V m c main_v14) (idx_rowBlock t r l _ _ _ f5.1 f5.2 (by rfl) (by rfl))).trans g5
  · exact (congrArg (V m c main_v16) (idx_rowBlock t r l _ _ _ f6.1 f6.2 (by rfl) (by rfl))).trans g6
  · exact (congrArg (V m c main_v18) (idx_rowBlock t r l _ _ _ f7.1 f7.2 (by rfl) (by rfl))).trans g7

/-- The weights' block: row `k`, column `j` of slab `a` is the weights' column `2048 a + j`. -/
theorem blk_w (c : Dev nD) (t : Fin cfg0.N) (a : Fin 4) (k : Fin 1024) (j : Fin 2048) :
    (iblk m c 8 t : Vec Ideal S4x1024x2048 .bf16) (ix3 a k j) = aW m c (ix2 k ⟨2048 * a.val + j.val, by omega⟩) := by
  obtain ⟨e0, e1, e2⟩ := (idx_facts t).2.2.2.2.2.2.2.2.1
  have h : (iblk m c 8 t : Vec Ideal S4x1024x2048 .bf16) (ix3 a k j) = (V m c main_v2 : Vec Ideal S4x1024x2048 .bf16) (ix3 a k j) := by
    unfold iblk
    rw [View.read_apply]
    refine congrArg (V m c main_v2) (funext fun b => Fin.ext ?_)
    match b with
    | ⟨0, _⟩ => show win0_8.index t 0 * 4 + 1 * a.val = a.val; omega
    | ⟨1, _⟩ => show win0_8.index t 1 * 1024 + 1 * k.val = k.val; omega
    | ⟨2, _⟩ => show win0_8.index t 2 * 2048 + 1 * j.val = j.val; omega
  rw [h]
  unfold V
  after_reads_at
  refine congrArg (aW m c) (funext fun b => Fin.ext ?_)
  match b with
  | ⟨0, _⟩ => rfl
  | ⟨1, _⟩ => show a.val * 2048 + j.val = 2048 * a.val + j.val; omega

/-! ## The values -/

/-- The gradient of the normed input: the cotangent against the transposed weights. -/
def DH (c : Dev nD) (R : Fin 4096) (k : Fin 1024) : EReal := ∑ j : Fin 8192, aC m c (ix2 R j) * aW m c (ix2 k j)

/-- Segment `e` of that product. -/
def DHseg (c : Dev nD) (R : Fin 4096) (k : Fin 1024) (e : Fin 8) : EReal :=
  ∑ l : Fin 1024, aC m c (ix2 R (col e l)) * aW m c (ix2 k (col e l))

theorem DH_segs (c : Dev nD) (R : Fin 4096) (k : Fin 1024) :
    DH m c R k = DHseg m c R k 0 + DHseg m c R k 1 + DHseg m c R k 2 + DHseg m c R k 3 + DHseg m c R k 4 + DHseg m c R k 5
      + DHseg m c R k 6 + DHseg m c R k 7 := by
  unfold DH
  rw [Cert.Lift.sum_cols, Fin.sum_univ_eight]
  rfl

/-- One segment, from the block of weights. -/
theorem seg_prod (c : Dev nD) (t : Fin cfg0.N) (R : Fin 4096) (k : Fin 1024) (a : Fin 4) (e : Fin 8) (f : Fin 1024 → Fin 2048)
    (hf : ∀ x, 2048 * a.val + (f x).val = 1024 * e.val + x.val) :
    ∑ x, aC m c (ix2 R (col e x)) * (iblk m c 8 t : Vec Ideal S4x1024x2048 .bf16) (ix3 a k (f x)) = DHseg m c R k e := by
  refine Finset.sum_congr rfl fun x _ => ?_
  rw [blk_w]
  exact congrArg (fun q => _ * aW m c (ix2 k q)) (Fin.ext (hf x))

/-- The eight products add up to the one product over all columns. -/
theorem dh_at (c : Dev nD) (t : Fin cfg0.N) (r : Fin 512) (k : Fin 1024) : dh m c t (ix2 r k) = DH m c (row t r) k := by
  rw [DH_segs]
  unfold dh
  have s := fun e l => blk_seg m c t e r l
  have s0 := s 0; have s1 := s 1; have s2 := s 2; have s3 := s 3; have s4 := s 4; have s5 := s 5; have s6 := s 6; have s7 := s 7
  dsimp only [seg] at s0 s1 s2 s3 s4 s5 s6 s7
  pointwise [k0_pay27, k0_pay26, k0_pay24, k0_pay22, k0_pay21, k0_pay19, k0_pay16, k0_pay15, k0_pay13, k0_pay10, k0_pay9, k0_pay7]
  simp only [s0, s1, s2, s3, s4, s5, s6, s7]
  have q := seg_prod m c t (row t r) k
  exact congrArg₂ (· + ·) (congrArg₂ (· + ·) (congrArg₂ (· + ·) (congrArg₂ (· + ·) (congrArg₂ (· + ·) (congrArg₂ (· + ·) (congrArg₂ (· + ·)
    (q 0 0 _ fun x => by show 2048 * 0 + x.val = 1024 * 0 + x.val; omega) (q 0 1 _ fun x => by show 2048 * 0 + (1024 + x.val) = 1024 * 1 + x.val; omega)) (q 1 2 _ fun x => by show 2048 * 1 + x.val = 1024 * 2 + x.val; omega))
    (q 1 3 _ fun x => by show 2048 * 1 + (1024 + x.val) = 1024 * 3 + x.val; omega)) (q 2 4 _ fun x => by show 2048 * 2 + x.val = 1024 * 4 + x.val; omega))
    (q 2 5 _ fun x => by show 2048 * 2 + (1024 + x.val) = 1024 * 5 + x.val; omega)) (q 3 6 _ fun x => by show 2048 * 3 + x.val = 1024 * 6 + x.val; omega))
    (q 3 7 _ fun x => by show 2048 * 3 + (1024 + x.val) = 1024 * 7 + x.val; omega)

/-- The reciprocal root mean square of a row of `x`, as the programs compute it. -/
def RMS (c : Dev nD) (R : Fin 4096) : EReal :=
  Ideal.rsqrt (Ideal.div (∑ k : Fin 1024, aX m c (ix2 R k) * aX m c (ix2 R k)) (Ideal.ofBits .f32 1149239296#32)
    + Ideal.ofBits .f32 897988541#32)

theorem rms_at (c : Dev nD) (t : Fin cfg0.N) (r : Fin 512) : k0_pay1 (F := Ideal) (iblk m c 9 t) (ix2 r 0) = RMS m c (row t r) := by
  have s := fun l => blk_x m c t r l
  pointwise [k0_pay1]
  simp only [s]
  rfl

/-- The gradient of `x` at row `R`, column `k`. -/
def DX (c : Dev nD) (R : Fin 4096) (k : Fin 1024) : EReal :=
  aD m c (ix2 R k) + RMS m c R * (DH m c R k * aG m c (ix2 0 k) - aX m c (ix2 R k) * RMS m c R
    * Ideal.div (∑ j : Fin 1024, DH m c R j * aG m c (ix2 0 j) * (aX m c (ix2 R j) * RMS m c R)) (Ideal.ofBits .f32 1149239296#32))

theorem dx_block (c : Dev nD) (t : Fin cfg0.N) (r : Fin 512) (k : Fin 1024) :
    (outsAt0 m c t.val t.isLt).1 (ix2 r k) = DX m c (row t r) k := by
  rw [dx1_eq]
  have sx := fun l => blk_x m c t r l
  have sg := fun l => blk_g m c t l
  have sd := fun l => blk_d m c t r l
  have sh := fun l => dh_at m c t r l
  have sr := rms_at m c t r
  pointwise [k0_pay3, k0_pay2]
  simp only [sx, sg, sd, sh, sr]
  rfl

/-- The first result: the gradient of `x`. -/
theorem final_dx (c : Dev nD) (R : Fin 4096) (k : Fin 1024) :
    ((dats m 0 c).arrAt 12 cfg0.N : Vec Ideal S4096x1024 .f32) (ix2 R k) = DX m c R k := by
  have hN : cfg0.N = 8 := N_0
  obtain ⟨t, r, rfl⟩ : ∃ (t : Fin cfg0.N) (r : Fin 512), R = row t r :=
    ⟨⟨R.val / 512, by omega⟩, ⟨R.val % 512, by omega⟩, Fin.ext (by show R.val = 512 * (R.val / 512) + R.val % 512; omega)⟩
  have h := congrFun (Value.blocks12 m c t (flush0_12 t)) (ix2 r k)
  rw [View.read_apply, Value.flushed12] at h
  refine ((congrArg ((dats m 0 c).arrAt 12 cfg0.N : Vec Ideal S4096x1024 .f32)
    (idx_rowBlock t r k _ _ _ (idx_facts t).2.2.2.2.2.2.2.2.2.2.2.2.1.1 (idx_facts t).2.2.2.2.2.2.2.2.2.2.2.2.1.2 (by rfl) (by rfl))).symm.trans h).trans ?_
  exact dx_block m c t r k

/-- The bias's gradient, row by row, and the gain's. -/
def DB (c : Dev nD) (e : Fin 8) (l : Fin 1024) : EReal := ∑ R : Fin 4096, aC m c (ix2 R (col e l))
def DG (c : Dev nD) (l : Fin 1024) : EReal := ∑ R : Fin 4096, DH m c R l * (aX m c (ix2 R l) * RMS m c R)

/-- What one point adds to the gain's gradient. -/
theorem dg_point (c : Dev nD) (t : Fin cfg0.N) (acc : Vec Ideal S1x1024 .f32) (l : Fin 1024) :
    k0_pay4 (dh m c t) (iblk m c 9 t) acc (ix2 0 l)
      = acc (ix2 0 l) + ∑ r : Fin 512, DH m c (row t r) l * (aX m c (ix2 (row t r) l) * RMS m c (row t r)) := by
  have sx := fun r => blk_x m c t r l
  have sh := fun r => dh_at m c t r l
  have sr := fun r => rms_at m c t r
  pointwise [k0_pay4, k0_pay2]
  simp only [sx, sh, sr]

/-- After point `n` the two accumulators hold the sums over the points up to `n`. -/
theorem sums_upto (c : Dev nD) : ∀ (n : ℕ) (h : n < cfg0.N),
    (∀ (e : Fin 8) (l : Fin 1024), (outsAt0 m c n h).2.1 (ix3 e 0 l)
      = ∑ s : Fin (n + 1), ∑ r : Fin 512, aC m c (ix2 (row ⟨s.val, by omega⟩ r) (col e l)))
    ∧ (∀ l : Fin 1024, (outsAt0 m c n h).2.2 (ix2 0 l)
      = ∑ s : Fin (n + 1), ∑ r : Fin 512, DH m c (row ⟨s.val, by omega⟩ r) l * (aX m c (ix2 (row ⟨s.val, by omega⟩ r) l) * RMS m c (row ⟨s.val, by omega⟩ r)))
  | 0, h => by
    refine ⟨fun e l => ?_, fun l => ?_⟩
    · rw [db_A m c ⟨0, h⟩ rfl, Fin.sum_univ_one]
      exact Finset.sum_congr rfl fun r _ => blk_seg m c ⟨0, h⟩ e r l
    · rw [dng_A m c ⟨0, h⟩ rfl, dg_point, Fin.sum_univ_one]
      pointwise [k0_pay6]
  | n + 1, h => by
    have hN : cfg0.N = 8 := N_0
    have hB : ¬(⟨n + 1, h⟩ : Fin cfg0.N).val % 8 = 0 := by dsimp only; omega
    obtain ⟨i1, i2⟩ := sums_upto c n (Nat.lt_of_succ_lt h)
    refine ⟨fun e l => ?_, fun l => ?_⟩
    · rw [db_B m c ⟨n + 1, h⟩ hB]
      refine Eq.trans ?_ (Fin.sum_univ_castSucc _).symm
      exact congrArg₂ (· + ·) (i1 e l) (Finset.sum_congr rfl fun r _ => blk_seg m c ⟨n + 1, h⟩ e r l)
    · rw [dng_B m c ⟨n + 1, h⟩ hB, dg_point]
      refine Eq.trans ?_ (Fin.sum_univ_castSucc _).symm
      exact congrArg₂ (· + ·) (i2 l) rfl

/-- The last point. -/
abbrev tL : Fin cfg0.N := ⟨7, by rw [show cfg0.N = 8 from N_0]; decide⟩

theorem flush13_last (t : Fin cfg0.N) (hf : (cfg0.win 13).flush t = true) : t = tL := by
  have := (flush0_13 t).mp hf; have := t.isLt; have hN : cfg0.N = 8 := N_0
  exact Fin.ext (by show t.val = 7; omega)

theorem flush14_last (t : Fin cfg0.N) (hf : (cfg0.win 14).flush t = true) : t = tL := by
  have := (flush0_14 t).mp hf; have := t.isLt; have hN : cfg0.N = 8 := N_0
  exact Fin.ext (by show t.val = 7; omega)

/-- The second result: the bias's gradient, what the last point leaves. -/
theorem final_db (c : Dev nD) (e : Fin 8) (l : Fin 1024) :
    ((dats m 0 c).arrAt 13 cfg0.N : Vec Ideal S8x1x1024 .f32) (ix3 e 0 l) = DB m c e l := by
  have hf : (cfg0.win 13).flush tL = true := (flush0_13 tL).mpr rfl
  have hd : ∀ t t' : Fin cfg0.N, (cfg0.win 13).flush t = true → (cfg0.win 13).flush t' = true → t ≠ t' →
      Disjoint ((cfg0.win 13).blk t).view.set ((cfg0.win 13).blk t').view.set :=
    fun t t' h h' hne => absurd ((flush13_last t h).trans (flush13_last t' h').symm) hne
  have h := congrFun ((dats m 0 c).read_blk_arrAt_eq_flushed 13 hd cfg0.N tL tL.isLt hf) (ix3 e 0 l)
  rw [View.read_apply, Value.flushed13] at h
  have hi : ((cfg0.win 13).blk tL).view.emb (ix3 e 0 l) = (ix3 e 0 l : S8x1x1024.Idx) := by
    obtain ⟨e0, e1, e2⟩ := (idx_facts tL).2.2.2.2.2.2.2.2.2.2.2.2.2.1
    funext a; apply Fin.ext
    match a with
    | ⟨0, _⟩ => show win0_13.index tL 0 * 8 + 1 * e.val = e.val; omega
    | ⟨1, _⟩ => show win0_13.index tL 1 * 1 + 1 * 0 = 0; omega
    | ⟨2, _⟩ => show win0_13.index tL 2 * 1024 + 1 * l.val = l.val; omega
  refine ((congrArg ((dats m 0 c).arrAt 13 cfg0.N : Vec Ideal S8x1x1024 .f32) hi).symm.trans h).trans ?_
  refine ((sums_upto m c 7 tL.isLt).1 e l).trans ?_
  unfold DB
  rw [Cert.Lift.sum_rows]

/-- The third result: the gain's gradient. -/
theorem final_dg (c : Dev nD) (l : Fin 1024) :
    ((dats m 0 c).arrAt 14 cfg0.N : Vec Ideal S1x1024 .f32) (ix2 0 l) = DG m c l := by
  have hf : (cfg0.win 14).flush tL = true := (flush0_14 tL).mpr rfl
  have hd : ∀ t t' : Fin cfg0.N, (cfg0.win 14).flush t = true → (cfg0.win 14).flush t' = true → t ≠ t' →
      Disjoint ((cfg0.win 14).blk t).view.set ((cfg0.win 14).blk t').view.set :=
    fun t t' h h' hne => absurd ((flush14_last t h).trans (flush14_last t' h').symm) hne
  have h := congrFun ((dats m 0 c).read_blk_arrAt_eq_flushed 14 hd cfg0.N tL tL.isLt hf) (ix2 0 l)
  rw [View.read_apply, Value.flushed14] at h
  have hi : ((cfg0.win 14).blk tL).view.emb (ix2 0 l) = (ix2 0 l : S1x1024.Idx) := by
    obtain ⟨e0, e1⟩ := (idx_facts tL).2.2.2.2.2.2.2.2.2.2.2.2.2.2
    funext a; apply Fin.ext
    match a with
    | ⟨0, _⟩ => show win0_14.index tL 0 * 1 + 1 * 0 = 0; omega
    | ⟨1, _⟩ => show win0_14.index tL 1 * 1024 + 1 * l.val = l.val; omega
  refine ((congrArg ((dats m 0 c).arrAt 14 cfg0.N : Vec Ideal S1x1024 .f32) hi).symm.trans h).trans ?_
  refine ((sums_upto m c 7 tL.isLt).2 l).trans ?_
  unfold DG
  rw [Cert.Lift.sum_rows]

end Cert.KernelInprojIdeal.Arrays
-- ==== Proof.Finite.lean ====
module

public import proofs.«01_k».proof.Proof.Lift
public import Idealize.ShloMosaic.Lib.ReduceAll
public import Idealize.ShloMosaic.Lib.Pointwise

@[expose] public section
noncomputable section
open Idealize.ShloMosaic Idealize.ShloMosaic.TcCoe Idealize.SL.Sem

namespace Cert.Lift

theorem lt_top (x : EReal) (h : BitVec.ofBool (decide (max x (-x) < Ideal.ofBits .f32 0x7F800000#32)) = 1#1) : ∃ r : ℝ, x = (r : EReal) := by
  have htop : Ideal.ofBits .f32 0x7F800000#32 = ⊤ := by simp [Ideal.ofBits, Ideal.ieee]
  rw [htop] at h
  have h' : max x (-x) < ⊤ := by
    by_contra hc
    rw [decide_eq_false hc] at h
    exact absurd h (by decide)
  induction x using EReal.rec with
  | bot => simp at h'
  | top => simp at h'
  | coe r => exact ⟨r, rfl⟩

/-- An array of which `jnp.all(jnp.abs(a) < jnp.inf)` says true holds real numbers only. -/
theorem real_of_all {s t u : Shape} [Subsingleton t.Idx] {axes : List (Fin s.rank)} (x : FVec Ideal s .f32) (d : Fin u.rank → Fin s.rank) (h0 : u.BroadcastsInDim s d)
    (hr : s.ReducesTo axes t) (hu : 0 < u.numel) (j : t.Idx)
    (h : Host.reduce IntOp.andi (cmpf .olt (Host.absf x) (broadcastInDim s d h0 (constant u .f32 0x7F800000#32))) (constantI u 1 1#1) hr hu j = 1#1)
    (i : s.Idx) : ∃ r : ℝ, x i = (r : EReal) := by
  have := Host.reduce_andi_all _ _ _ _ j h i
  refine lt_top _ ?_
  refine Eq.trans ?_ this
  simp only [Host.absf, cmpf, broadcastInDim, constant]
  rfl
end Cert.Lift
-- ==== Proof.Inproj.Claim.lean ====
module

public import proofs.«01_k».proof.Defs
public import proofs.«01_k».proof.Proof.Inproj.Arrays
public import proofs.«01_k».proof.Proof.Finite
public import proofs.«01_k».proof.Proof.Gen.ReferenceInprojIdeal
public import proofs.«01_k».proof.Proof.Gen.ReferenceInprojIdeal.Read
public import proofs.«01_k».proof.Proof.Gen.Pre_finite_inproj

@[expose] public section

set_option maxRecDepth 16384

noncomputable section

open Idealize.ShloMosaic Idealize.ShloMosaic.TcCoe Idealize.SL.Sem

namespace Cert.InprojClaim

/-! ## The reference's arrays -/

section Reference

open Cert.ReferenceInprojIdeal Cert.ReferenceInprojIdeal.Read

variable (x : Vec Ideal S4096x1024 .f32) (g : Vec Ideal S1x1024 .f32) (w : Vec Ideal S1024x8192 .f32)
  (ct : Vec Ideal S4096x8192 .f32) (d : Vec Ideal S4096x1024 .f32)

theorem ref_dh (r : Fin 4096) (l : Fin 1024) : val_main_v24 (F := Ideal) w ct (ix2 r l) = ∑ j : Fin 8192, ct (ix2 r j) * w (ix2 l j) := by
  pointwise [val_main_v24, val_main_v20]

theorem ref_ms (r : Fin 4096) : val_main_v7 (F := Ideal) x (ix2 r 0)
    = Ideal.div (∑ k : Fin 1024, x (ix2 r k) * x (ix2 r k)) (Ideal.ofBits .f32 1149239296#32) + Ideal.ofBits .f32 897988541#32 := by
  pointwise [val_main_v7, val_main_v6, val_main_v5, val_main_v4, val_main_v3, val_main_v2, val_main_v1, val_main_cst_0, val_main_cst_1, val_main_cst_2]

theorem ref_rms (r : Fin 4096) : val_main_v8 (F := Ideal) x (ix2 r 0) = Ideal.rsqrt (val_main_v7 (F := Ideal) x (ix2 r 0)) := by
  pointwise [val_main_v8]

/-- The reference's gradient of `x`. -/
theorem ref_dx (r : Fin 4096) (l : Fin 1024) : val_main_v44 (F := Ideal) x g w ct d (ix2 r l)
    = d (ix2 r l) + val_main_v24 (F := Ideal) w ct (ix2 r l) * g (ix2 0 l) * val_main_v8 (F := Ideal) x (ix2 r 0)
      + x (ix2 r l) * Ideal.div ((∑ k : Fin 1024, x (ix2 r k) * (val_main_v24 (F := Ideal) w ct (ix2 r k) * g (ix2 0 k)))
          * (Ideal.ofBits .f32 3204448256#32 * Ideal.div (val_main_v8 (F := Ideal) x (ix2 r 0)) (val_main_v7 (F := Ideal) x (ix2 r 0)))) (Ideal.ofBits .f32 1149239296#32)
      + Ideal.div ((∑ k : Fin 1024, x (ix2 r k) * (val_main_v24 (F := Ideal) w ct (ix2 r k) * g (ix2 0 k)))
          * (Ideal.ofBits .f32 3204448256#32 * Ideal.div (val_main_v8 (F := Ideal) x (ix2 r 0)) (val_main_v7 (F := Ideal) x (ix2 r 0)))) (Ideal.ofBits .f32 1149239296#32) * x (ix2 r l) := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_7, val_main_cst_8, val_main_cst_9, val_main_v11, val_main_v10, val_main_v9, val_main_cst_3]
  simp only [Fin.sum_univ_one]
  done

theorem ref_db (e : Fin 8) (l : Fin 1024) : val_main_v45 (F := Ideal) ct (ix3 e 0 l) = ∑ r : Fin 4096, ct (ix2 r ⟨1024 * e.val + l.val, by omega⟩) := by
  pointwise [val_main_v45, val_main_v23, val_main_v22, val_main_v21, val_main_cst_5, val_main_cst_4]
  simp only [Fin.sum_univ_one]
  exact Finset.sum_congr rfl fun r _ => congrArg (fun q => ct (ix2 r q)) (Fin.ext (by show e.val * 1024 + l.val = 1024 * e.val + l.val; omega))

theorem ref_dg (l : Fin 1024) : val_main_v27 (F := Ideal) x w ct (ix2 0 l)
    = ∑ r : Fin 4096, x (ix2 r l) * val_main_v8 (F := Ideal) x (ix2 r 0) * val_main_v24 (F := Ideal) w ct (ix2 r l) := by
  pointwise [val_main_v27, val_main_v26, val_main_v25, val_main_cst_6, val_main_v13, val_main_v12]
  done

end Reference

/-! ## The precondition: the named arguments hold real numbers -/

section Finite

open Cert.KernelInprojIdeal Cert.KernelInprojIdeal.Arrays

variable (m : (ℓ : Loc nD τ sig) → Buf (Elt Ideal) ℓ)

theorem reals (h : Pre_KernelInprojIdeal_finite_inproj m) (c : Dev nD) :
    (∀ i, ∃ r : ℝ, aX m c i = (r : EReal)) ∧ (∀ i, ∃ r : ℝ, aG m c i = (r : EReal)) ∧ (∀ i, ∃ r : ℝ, aW m c i = (r : EReal))
      ∧ (∀ i, ∃ r : ℝ, aC m c i = (r : EReal)) := by
  have e := congrFun (h c) (fun q => Fin.elim0 q)
  obtain ⟨e, e4⟩ := IntOp.andi_eq_one.1 e
  obtain ⟨e, e3⟩ := IntOp.andi_eq_one.1 e
  obtain ⟨e1, e2⟩ := IntOp.andi_eq_one.1 e
  haveI : Subsingleton Cert.Pre_finite_inproj.S_.Idx := ⟨fun a b => funext fun q => Fin.elim0 q⟩
  exact ⟨Cert.Lift.real_of_all _ _ _ _ _ _ e1, Cert.Lift.real_of_all _ _ _ _ _ _ e2, Cert.Lift.real_of_all _ _ _ _ _ _ e3,
    Cert.Lift.real_of_all _ _ _ _ _ _ e4⟩

open Cert.ReferenceInprojIdeal.Read in
/-- Of real arguments the two programs' gradients of `x` are equal. -/
theorem dx_eq (h : Pre_KernelInprojIdeal_finite_inproj m) (c : Dev nD) (R : Fin 4096) (k : Fin 1024) :
    DX m c R k = val_main_v44 (F := Ideal) (aX m c) (aG m c) (aW m c) (aC m c) (aD m c) (ix2 R k) := by
  obtain ⟨hx, hg, hw, hc⟩ := reals m h c
  choose x hx using hx
  choose g hg using hg
  choose w hw using hw
  choose ct hc using hc
  have hD : ∀ k, DH m c R k = ((∑ j : Fin 8192, ct (ix2 R j) * w (ix2 k j) : ℝ) : EReal) := fun k => by
    unfold DH
    simp only [hc, hw, ← EReal.coe_mul, ← Cert.Lift.coe_sum]
  have hm := Cert.Lift.meanSq_coe fun k => x (ix2 R k)
  have hM : val_main_v7 (F := Ideal) (aX m c) (ix2 R 0) = (Cert.Lift.meanSq (fun k => x (ix2 R k)) : EReal) := by
    rw [ref_ms]
    simp only [hx]
    exact hm
  have hR : RMS m c R = (Cert.Lift.rms (fun k => x (ix2 R k)) : EReal) := by
    unfold RMS
    simp only [hx]
    rw [hm, Cert.Lift.rms_coe]
  have hd : ∀ k, val_main_v24 (F := Ideal) (aW m c) (aC m c) (ix2 R k) = DH m c R k := fun k => ref_dh _ _ R k
  rw [ref_dx, ref_rms, hM, Cert.Lift.rms_coe]
  simp only [hd, hD, hx, hg]
  rw [Cert.Lift.rmsVjp_coe (fun k => x (ix2 R k)) (fun k => g (ix2 0 k)) (fun k => ∑ j : Fin 8192, ct (ix2 R j) * w (ix2 k j)) (aD m c (ix2 R k)) k,
    ← Cert.Lift.rmsBwd_coe]
  unfold DX
  simp only [hD, hx, hg, hR]

open Cert.ReferenceInprojIdeal.Read in
/-- The two programs' gradients of the gain are equal, of any arguments. -/
theorem dg_eq (c : Dev nD) (l : Fin 1024) : DG m c l = val_main_v27 (F := Ideal) (aX m c) (aW m c) (aC m c) (ix2 0 l) := by
  rw [ref_dg]
  unfold DG
  refine Finset.sum_congr rfl fun R _ => ?_
  rw [ref_dh, ref_rms, ref_ms, mul_comm]
  rfl

end Finite

/-- The reference terminates, with its arguments and every semaphore counter unchanged. -/
theorem reference_frame : quiescent_ReferenceInprojIdeal := fun m ρ _ =>
  (θ_run Cert.ReferenceInprojIdeal.defs _ _).mono
    (fun r h => ⟨fun c => (h c).2.2.2, sem_eq_zero_of_no_sems (by decide) r.2⟩) (Cert.ReferenceInprojIdeal.Value.run (F := Ideal) m ρ)

/-- The algebraic claim about the input projection's backward call. -/
theorem algebraic : algebraic_KernelInprojIdeal_ReferenceInprojIdeal_pre_finite_inproj := by
  intro m ρ m' ρ' hpre hargs
  refine ⟨_, _, _, Cert.KernelInprojIdeal.Value.run_blocks m ρ, ?_⟩
  refine (θ_run Cert.ReferenceInprojIdeal.defs _ _).mono (fun r h c => ?_) (Cert.ReferenceInprojIdeal.Value.run (F := Ideal) m' ρ')
  obtain ⟨e44, e45, e27, k0, k1, k2, k3, k4⟩ := h c
  obtain ⟨a0, a1, a2, a3, a4⟩ := hargs c
  refine ⟨e44.trans ?_, e45.trans ?_, e27.trans ?_, k0, k1, k2, k3, k4⟩
  · rw [Cert.ReferenceInprojIdeal.Read.val_main_v44_eq, a0, a1, a2, a3, a4]
    funext i
    obtain ⟨R, k, rfl⟩ : ∃ (R : Fin 4096) (k : Fin 1024), i = ix2 R k := ⟨i 0, i 1, funext fun a => by fin_cases a <;> rfl⟩
    exact ((Cert.KernelInprojIdeal.Arrays.final_dx m c R k).trans (dx_eq m hpre c R k)).symm
  · rw [Cert.ReferenceInprojIdeal.Read.val_main_v45_eq, a3]
    funext i
    obtain ⟨e, l, rfl⟩ : ∃ (e : Fin 8) (l : Fin 1024), i = ix3 e 0 l :=
      ⟨i 0, i 2, funext fun a => by fin_cases a; exacts [rfl, Subsingleton.elim (α := Fin 1) _ _, rfl]⟩
    exact ((Cert.KernelInprojIdeal.Arrays.final_db m c e l).trans (ref_db _ e l).symm).symm
  · rw [Cert.ReferenceInprojIdeal.Read.val_main_v27_eq, a0, a2, a3]
    funext i
    obtain ⟨l, rfl⟩ : ∃ l : Fin 1024, i = ix2 0 l := ⟨i 1, funext fun a => by fin_cases a; exacts [Subsingleton.elim (α := Fin 1) _ _, rfl]⟩
    exact ((Cert.KernelInprojIdeal.Arrays.final_dg m c l).trans (dg_eq m c l)).symm

end Cert.InprojClaim
-- ==== Proof.Ret.RunA.lean ====
module

public import proofs.«01_k».proof.Proof.Gen.KernelRetIdeal.Frame
public import proofs.«01_k».proof.Proof.Gen.KernelRetIdeal.Skeleton

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The first pass over one row block (`k0_part21`): what its stores leave in the kept states, the running states and
    the kept output gradients, as pieces over whatever those buffers held, with the proof that it runs. -/
def runA (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x8x256x1 .f32) (harg11 : arg11.IsWhole) (arg12 : Memref sig .tc .vmem S1x3x256x256 .f32) (harg12 : arg12.IsWhole) (arg13 : Memref sig .tc .vmem S1x2x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x256 .bf16) (harg17 : arg17.IsWhole) (arg18 : Memref sig .tc .vmem S1x8x128 .f32) (harg18 : arg18.IsWhole) (arg19 : Memref sig .tc .vmem S16x256x256 .bf16) (harg19 : arg19.IsWhole) (arg20 : Memref sig .tc .vmem S16x256x256 .bf16) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S4096x256 .bf16) (harg29 : arg29.IsWhole) (arg30 : Memref sig .tc .vmem S4096x256 .bf16) (harg30 : arg30.IsWhole)
    (arg1 arg2 : BitVec 32) (v1 v7 : FVec F S256x1 .f32) (v17 v19 : FVec F S1x256 .f32) (k0_h3 : k0_cond3 i = 1#1)
    (x0 x1 : Vec F S2048x256 .bf16) (x2 x3 x4 x5 : Vec F S1x2048x256 .bf16) (x6 x7 : Vec F S2048x128 .f32)
    (X19 X20 : Vec F S16x256x256 .bf16) (X21 X22 : Vec F S256x256 .f32) (X29 X30 : Vec F S4096x256 .bf16) :
    Σ' (L19 : List (View.Piece (Elt F) S16x256x256 .bf16)), Σ' (L20 : List (View.Piece (Elt F) S16x256x256 .bf16)),
    Σ' (L21 : List (View.Piece (Elt F) S256x256 .f32)), Σ' (L22 : List (View.Piece (Elt F) S256x256 .f32)),
    Σ' (L29 : List (View.Piece (Elt F) S4096x256 .bf16)), { L30 : List (View.Piece (Elt F) S4096x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg19 fullShare X19 ∗ owns (c : Thread nD τ) arg20 fullShare X20 ∗ owns (c : Thread nD τ) arg21 fullShare X21 ∗ owns (c : Thread nD τ) arg22 fullShare X22 ∗ owns (c : Thread nD τ) arg29 fullShare X29 ∗ owns (c : Thread nD τ) arg30 fullShare X30
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
              ∗ (arg19.view.loc (c : Thread nD τ) ↦[arg19.view.set]{fullShare} arg19.view.writes (Elt F) (harg19.unread X19) L19)
              ∗ (arg20.view.loc (c : Thread nD τ) ↦[arg20.view.set]{fullShare} arg20.view.writes (Elt F) (harg20.unread X20) L20)
              ∗ (arg21.view.loc (c : Thread nD τ) ↦[arg21.view.set]{fullShare} arg21.view.writes (Elt F) (harg21.unread X21) L21)
              ∗ (arg22.view.loc (c : Thread nD τ) ↦[arg22.view.set]{fullShare} arg22.view.writes (Elt F) (harg22.unread X22) L22)
              ∗ (arg29.view.loc (c : Thread nD τ) ↦[arg29.view.set]{fullShare} arg29.view.writes (Elt F) (harg29.unread X29) L29)
              ∗ (arg30.view.loc (c : Thread nD τ) ↦[arg30.view.set]{fullShare} arg30.view.writes (Elt F) (harg30.unread X30) L30)) -∗ K ⟨⟩))
          ⊢ wp frame (wpE (defs₀ (F := F)) Variants.none c none) E (k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3) K } := by
  refine ⟨?_, ?_, ?_, ?_, ?_, ?_, fun E K => ?run⟩
  case run =>
    simp only [k0_part21_eq_skeleton]; unfold k0_part21_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f19, %hf19, H19⟩, ⟨%f20, %hf20, H20⟩, ⟨%f21, %hf21, H21⟩, ⟨%f22, %hf22, H22⟩, ⟨%f29, %hf29, H29⟩, ⟨%f30, %hf30, H30⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    obtain rfl := harg19.eq_unread hf19; obtain rfl := harg20.eq_unread hf20; obtain rfl := harg21.eq_unread hf21; obtain rfl := harg22.eq_unread hf22; obtain rfl := harg29.eq_unread hf29; obtain rfl := harg30.eq_unread hf30
    sl_exec_parts
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H19]; · iexact H19
    isplitl [H20]; · iexact H20
    isplitl [H21]; · iexact H21
    isplitl [H22]; · iexact H22
    isplitl [H29]; · iexact H29
    iexact H30

end Cert.Ret

end
-- ==== Proof.Ret.Chunk.lean ====
module

public import proofs.«01_k».proof.Proof.Gen.KernelRetIdeal.Skeleton
public import Idealize.ShloMosaic.Lib.VecWindow

@[expose] public section

set_option maxRecDepth 65536

noncomputable section

namespace Cert.Ret

open Cert.KernelRetIdeal Cert.KernelRetIdeal.Gen
open Idealize.ShloMosaic Idealize.ShloMosaic.TcCoe

variable {F : FTy → Type} [FloatOps F]

/-! # One chunk of 256 rows, at any float values

A row block holds eight chunks. Each function below is one chunk's step, of the chunk's own rows. -/

/-- Chunk `j`'s rows of a block of 2048 rows. -/
abbrev rows (x : Vec F S2048x256 .bf16) (j : Fin 8) : Vec F S256x256 .bf16 :=
  View.ld x (Rect.unit (s := S2048x256) ![256 * j.val, 0] S256x256.size (by
    intro a; fin_cases a
    · show 256 * j.val + 256 ≤ 2048; omega
    · show 0 + 256 ≤ 256; omega))

/-- Chunk `j`'s rows of a block of 2048 rows of one plane. -/
abbrev slab (x : Vec F S1x2048x256 .bf16) (j : Fin 8) : Vec F S1x256x256 .bf16 :=
  View.ld x (Rect.unit (s := S1x2048x256) ![0, 256 * j.val, 0] S1x256x256.size (by
    intro a; fin_cases a
    · show 0 + 1 ≤ 1; omega
    · show 256 * j.val + 256 ≤ 2048; omega
    · show 0 + 256 ≤ 256; omega))

/-- Chunk `j`'s rows of a block of a table of angles. -/
abbrev angles (x : Vec F S2048x128 .f32) (j : Fin 8) : Vec F S256x128 .f32 :=
  View.ld x (Rect.unit (s := S2048x128) ![256 * j.val, 0] S256x128.size (by
    intro a; fin_cases a
    · show 256 * j.val + 256 ≤ 2048; omega
    · show 0 + 128 ≤ 128; omega))

/-- One of the three decay matrices. -/
abbrev mat (x : Vec F S1x3x256x256 .f32) (k : Fin 3) : Vec F S1x1x256x256 .f32 :=
  View.ld x (Rect.unit (s := S1x3x256x256) ![0, k.val, 0, 0] S1x1x256x256.size (by
    intro a; fin_cases a
    · show 0 + 1 ≤ 1; omega
    · show k.val + 1 ≤ 3; omega
    · show 0 + 256 ≤ 256; omega
    · show 0 + 256 ≤ 256; omega))

/-! ## Whole tiles of 256 by 256 read back -/

theorem tile_cov {sig : RefSig} {κ : Kind} {sp : Space} (v : View sig κ sp S256x256 .f32) (inb inb' : ∀ a, (![0, 0] : Fin 2 → ℕ) a + (![256, 256] : Fin 2 → ℕ) a ≤ S256x256.size a)
    (w : Vec F S256x256 .f32) (L : List (View.Piece (Elt F) S256x256 .f32)) :
    v.readCov (⟨Rect.unit (s := S256x256) ![0, 0] ![256, 256] inb, w⟩ :: L) (Rect.unit (s := S256x256) ![0, 0] ![256, 256] inb').toLoadRect = w :=
  View.readCov_full v inb' inb w L

theorem tile_ld (inb : ∀ a, (![0, 0] : Fin 2 → ℕ) a + (![256, 256] : Fin 2 → ℕ) a ≤ S256x256.size a) (X : Vec F S256x256 .f32) :
    View.ld X (Rect.unit (s := S256x256) ![0, 0] ![256, 256] inb) = X :=
  funext fun y => congrArg X (funext fun a => Fin.ext (by
    fin_cases a
    · show 0 + 1 * (y 0).val = (y 0).val; omega
    · show 0 + 1 * (y 1).val = (y 1).val; omega))

theorem tile_read {sig : RefSig} {κ : Kind} {sp : Space} (v : View sig κ sp S256x256 .f32) (f : v.ty.Contents (Elt F))
    (inb : ∀ a, (![0, 0] : Fin 2 → ℕ) a + (![256, 256] : Fin 2 → ℕ) a ≤ S256x256.size a)
    (w : Vec F S256x256 .f32) (L : List (View.Piece (Elt F) S256x256 .f32)) :
    v.read (Elt F) (v.writes (Elt F) f (⟨Rect.unit (s := S256x256) ![0, 0] ![256, 256] inb, w⟩ :: L)) = w :=
  funext fun y => View.read_writes_cons_hit_of_coords v f (Rect.unit (s := S256x256) ![0, 0] ![256, 256] inb) w L y y (by
    intro a; fin_cases a
    · show (y 0).val = 0 + 1 * (y 0).val; omega
    · show (y 1).val = 0 + 1 * (y 1).val; omega)

/-! ## The first pass -/

/-- The gradient at the retention's output, of a chunk: `r`'s rows, the gate's, the cotangent's. -/
def dout (r : Vec F S256x256 .bf16) (g : Vec F S1x256x256 .bf16) (d : Vec F S256x256 .bf16) : FVec F S256x256 .bf16 :=
  k0_pay21 (k0_pay14 r) (k0_pay15 r) (k0_pay19 g d) (k0_pay20 r g d) (FloatOps.ofBits .f32 0x43800000#32)

/-- The gradient at the gate, of a chunk. -/
def dgate (r : Vec F S256x256 .bf16) (g : Vec F S1x256x256 .bf16) (d : Vec F S256x256 .bf16) : FVec F S256x256 .bf16 :=
  k0_pay23 (k0_pay15 r) (k0_pay16 g) (k0_pay17 g) (k0_pay18 d)

/-- The running state of `k ⊗ v`, over one chunk, from the last rows back. -/
def stepSb (kb : FVec F S256x1 .f32) (cb : FVec F S1x256 .f32) (k v : Vec F S1x256x256 .bf16) (S : Vec F S256x256 .f32) : Vec F S256x256 .f32 :=
  k0_pay149 kb cb (k0_pay12 k) S v

/-- The running state of `q ⊗ dout`, over one chunk, from the last rows back. -/
def stepGf (af : FVec F S256x1 .f32) (cf : FVec F S1x256 .f32) (q : Vec F S1x256x256 .bf16) (o : FVec F S256x256 .bf16) (G : Vec F S256x256 .f32) : Vec F S256x256 .f32 :=
  k0_pay150 af cf (k0_pay11 q) o G

/-- The state of `k ⊗ v` after `n` chunks of a block, the last chunk first. -/
def foldSb (kb : FVec F S256x1 .f32) (cb : FVec F S1x256 .f32) (k v : Vec F S1x2048x256 .bf16) (S : Vec F S256x256 .f32) : ℕ → Vec F S256x256 .f32
  | 0 => S
  | n + 1 => stepSb kb cb (slab k ⟨7 - n, by omega⟩) (slab v ⟨7 - n, by omega⟩) (foldSb kb cb k v S n)

/-- The gradients at the retention's output, of chunk `j` of a block. -/
def doutOf (d r : Vec F S2048x256 .bf16) (g : Vec F S1x2048x256 .bf16) (j : Fin 8) : FVec F S256x256 .bf16 :=
  dout (rows r j) (slab g j) (rows d j)

/-- The gradients at the gate, of chunk `j` of a block. -/
def dgateOf (d r : Vec F S2048x256 .bf16) (g : Vec F S1x2048x256 .bf16) (j : Fin 8) : FVec F S256x256 .bf16 :=
  dgate (rows r j) (slab g j) (rows d j)

/-- The state of `q ⊗ dout` after `n` chunks of a block, the last chunk first. -/
def foldGf (af : FVec F S256x1 .f32) (cf : FVec F S1x256 .f32) (d r : Vec F S2048x256 .bf16) (q g : Vec F S1x2048x256 .bf16) (G : Vec F S256x256 .f32) : ℕ → Vec F S256x256 .f32
  | 0 => G
  | n + 1 => stepGf af cf (slab q ⟨7 - n, by omega⟩) (doutOf d r g ⟨7 - n, by omega⟩) (foldGf af cf d r q g G n)

/-- An array with `n` chunks put at `off`, the last chunk first. -/
def keepDown {s : Shape} {e : EltTy} (off : Fin 8 → Fin s.rank → ℕ) (size : Fin s.rank → ℕ) (w : Fin 8 → ((a : Fin s.rank) → Fin (size a)) → Elt F e)
    (X : Vec F s e) : ℕ → Vec F s e
  | 0 => X
  | n + 1 => VecWindow.put (keepDown off size w X n) (off ⟨7 - n, by omega⟩) size (w ⟨7 - n, by omega⟩)

/-- The stores of `n` chunks, the last chunk first (the newest store at the head). -/
def downPieces {s : Shape} {e : EltTy} (off : Fin 8 → Fin s.rank → ℕ) (size : Fin s.rank → ℕ) (inb : ∀ j a, off j a + size a ≤ s.size a)
    (w : Fin 8 → ((a : Fin s.rank) → Fin (size a)) → Elt F e) : ℕ → List (View.Piece (Elt F) s e)
  | 0 => []
  | n + 1 => ⟨Rect.unit (off ⟨7 - n, by omega⟩) size (inb ⟨7 - n, by omega⟩), w ⟨7 - n, by omega⟩⟩ :: downPieces off size inb w n

/-- What those stores leave. -/
theorem read_downPieces {sig : RefSig} {κ : Kind} {sp : Space} {s : Shape} {e : EltTy} (v : View sig κ sp s e) (f : v.ty.Contents (Elt F))
    (off off' : Fin 8 → Fin s.rank → ℕ) (size : Fin s.rank → ℕ) (inb : ∀ j a, off j a + size a ≤ s.size a) (h : ∀ j, off j = off' j)
    (w : Fin 8 → ((a : Fin s.rank) → Fin (size a)) → Elt F e) (n : ℕ) :
    v.read (Elt F) (v.writes (Elt F) f (downPieces off size inb w n)) = keepDown off' size w (v.read (Elt F) f) n := by
  induction n with
  | zero => rfl
  | succ n ih =>
    unfold downPieces keepDown
    rw [View.read_writes_cons_put v f _ _ _ (h _), ih]

/-- Where the first pass keeps chunk `j` of the rows: the row blocks are visited from the last. -/
def rowsAt (b : ℕ) (j : Fin 8) : Fin 2 → ℕ := ![256 * (8 * b + j.val), 0]

/-- Where it keeps chunk `j`'s states. -/
def planeAt (b : ℕ) (j : Fin 8) : Fin 3 → ℕ := ![8 * b + j.val, 0, 0]

theorem off1_eq : ∀ (i : grid0.Coords) (h : k0_cond3 i = 1#1) (j : Fin 8), k0_off1 i (BitVec.ofNat 32 j.val) = rowsAt (1 - (i 2).val) j := by
  decide +kernel

theorem off2_eq : ∀ (i : grid0.Coords) (h : k0_cond3 i = 1#1) (j : Fin 8), k0_off2 i (BitVec.ofNat 32 j.val) = planeAt (1 - (i 2).val) j := by
  decide +kernel

theorem off3_eq : ∀ (i : grid0.Coords) (h : k0_cond4 i = 1#1) (j : Fin 8), k0_off3 i (BitVec.ofNat 32 j.val) = rowsAt (i 2).val j := by
  decide +kernel

theorem off4_eq : ∀ (i : grid0.Coords) (h : k0_cond4 i = 1#1) (j : Fin 8), k0_off4 i (BitVec.ofNat 32 j.val) = planeAt (i 2).val j := by
  decide +kernel

end Cert.Ret

end
-- ==== Proof.Ret.ReadA.lean ====
module

public import proofs.«01_k».proof.Proof.Ret.RunA
public import proofs.«01_k».proof.Proof.Ret.Chunk

@[expose] public section

set_option maxRecDepth 65536

noncomputable section

namespace Cert.Ret

open Cert.KernelRetIdeal Cert.KernelRetIdeal.Gen
open Idealize.ShloMosaic Idealize.ShloMosaic.TcCoe

variable {F : FTy → Type} [FloatOps F]

variable (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x8x256x1 .f32) (harg11 : arg11.IsWhole) (arg12 : Memref sig .tc .vmem S1x3x256x256 .f32) (harg12 : arg12.IsWhole) (arg13 : Memref sig .tc .vmem S1x2x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x256 .bf16) (harg17 : arg17.IsWhole) (arg18 : Memref sig .tc .vmem S1x8x128 .f32) (harg18 : arg18.IsWhole) (arg19 : Memref sig .tc .vmem S16x256x256 .bf16) (harg19 : arg19.IsWhole) (arg20 : Memref sig .tc .vmem S16x256x256 .bf16) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S4096x256 .bf16) (harg29 : arg29.IsWhole) (arg30 : Memref sig .tc .vmem S4096x256 .bf16) (harg30 : arg30.IsWhole)
    (arg1 arg2 : BitVec 32) (v1 v7 : FVec F S256x1 .f32) (v17 v19 : FVec F S1x256 .f32) (k0_h3 : k0_cond3 i = 1#1)
    (x0 x1 : Vec F S2048x256 .bf16) (x2 x3 x4 x5 : Vec F S1x2048x256 .bf16) (x6 x7 : Vec F S2048x128 .f32)
    (X19 X20 : Vec F S16x256x256 .bf16) (X21 X22 : Vec F S256x256 .f32) (X29 X30 : Vec F S4096x256 .bf16)

/-- What the first pass leaves in the state of `k ⊗ v`. -/
theorem readA_21 : arg21.view.read (Elt F) (arg21.view.writes (Elt F) (harg21.unread X21) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.2.1) = foldSb v7 v19 x3 x4 X21 8 := by
  unfold runA; dsimp only; sl_unfold_words
  simp only [tile_cov, View.readAt_eq_ld, tile_read, harg3.read_unread, harg4.read_unread, harg5.read_unread, harg6.read_unread, harg7.read_unread, harg8.read_unread, harg21.read_unread, harg22.read_unread, tile_ld]
  rfl

/-- What the first pass leaves in the state of `q ⊗ dout`. -/
theorem readA_22 : arg22.view.read (Elt F) (arg22.view.writes (Elt F) (harg22.unread X22) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.2.2.1) = foldGf v1 v17 x0 x1 x2 x5 X22 8 := by
  unfold runA; dsimp only; sl_unfold_words
  simp only [tile_cov, View.readAt_eq_ld, tile_read, harg3.read_unread, harg4.read_unread, harg5.read_unread, harg6.read_unread, harg7.read_unread, harg8.read_unread, harg21.read_unread, harg22.read_unread, tile_ld]
  rfl

/-- What the first pass leaves in the kept states of `k ⊗ v`: each chunk's, from the rows after it. -/
theorem readA_19 : arg19.view.read (Elt F) (arg19.view.writes (Elt F) (harg19.unread X19) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).1)
    = keepDown (s := S16x256x256) (e := .bf16) (planeAt (1 - (i 2).val)) S1x256x256.size (fun j => k0_pay24 (foldSb v7 v19 x3 x4 X21 (7 - j.val))) X19 8 := by
  have hL : (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).1 = downPieces (s := S16x256x256) (e := .bf16) (fun j => k0_off2 i (BitVec.ofNat 32 j.val)) S1x256x256.size (k0_off2_inb i k0_h3) (fun j => k0_pay24 (foldSb v7 v19 x3 x4 X21 (7 - j.val))) 8 := by
    unfold runA; dsimp only; sl_unfold_words
    simp only [tile_cov, View.readAt_eq_ld, tile_read, harg3.read_unread, harg4.read_unread, harg5.read_unread, harg6.read_unread, harg7.read_unread, harg8.read_unread, harg21.read_unread, harg22.read_unread, tile_ld]
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
    all_goals rfl
  rw [hL, read_downPieces arg19.view (harg19.unread X19) _ (planeAt (1 - (i 2).val)) _ _ (off2_eq i k0_h3), harg19.read_unread]

/-- What the first pass leaves in the kept states of `q ⊗ dout`. -/
theorem readA_20 : arg20.view.read (Elt F) (arg20.view.writes (Elt F) (harg20.unread X20) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.1)
    = keepDown (s := S16x256x256) (e := .bf16) (planeAt (1 - (i 2).val)) S1x256x256.size (fun j => k0_pay25 (foldGf v1 v17 x0 x1 x2 x5 X22 (7 - j.val))) X20 8 := by
  have hL : (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.1 = downPieces (s := S16x256x256) (e := .bf16) (fun j => k0_off2 i (BitVec.ofNat 32 j.val)) S1x256x256.size (k0_off2_inb i k0_h3) (fun j => k0_pay25 (foldGf v1 v17 x0 x1 x2 x5 X22 (7 - j.val))) 8 := by
    unfold runA; dsimp only; sl_unfold_words
    simp only [tile_cov, View.readAt_eq_ld, tile_read, harg3.read_unread, harg4.read_unread, harg5.read_unread, harg6.read_unread, harg7.read_unread, harg8.read_unread, harg21.read_unread, harg22.read_unread, tile_ld]
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
    all_goals rfl
  rw [hL, read_downPieces arg20.view (harg20.unread X20) _ (planeAt (1 - (i 2).val)) _ _ (off2_eq i k0_h3), harg20.read_unread]

/-- What the first pass leaves in the kept gradients at the retention's output. -/
theorem readA_29 : arg29.view.read (Elt F) (arg29.view.writes (Elt F) (harg29.unread X29) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.2.2.2.1)
    = keepDown (s := S4096x256) (e := .bf16) (rowsAt (1 - (i 2).val)) S256x256.size (fun j => shapeCast S256x256 (doutOf x0 x1 x5 j) shapeCasts_S256x256_S256x256) X29 8 := by
  have hL : (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.2.2.2.1 = downPieces (s := S4096x256) (e := .bf16) (fun j => k0_off1 i (BitVec.ofNat 32 j.val)) S256x256.size (k0_off1_inb i k0_h3) (fun j => shapeCast S256x256 (doutOf x0 x1 x5 j) shapeCasts_S256x256_S256x256) 8 := by
    unfold runA; dsimp only; sl_unfold_words
    simp only [tile_cov, View.readAt_eq_ld, tile_read, harg3.read_unread, harg4.read_unread, harg5.read_unread, harg6.read_unread, harg7.read_unread, harg8.read_unread, harg21.read_unread, harg22.read_unread, tile_ld]
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
    all_goals rfl
  rw [hL, read_downPieces arg29.view (harg29.unread X29) _ (rowsAt (1 - (i 2).val)) _ _ (off1_eq i k0_h3), harg29.read_unread]

/-- What the first pass leaves in the kept gradients at the gate. -/
theorem readA_30 : arg30.view.read (Elt F) (arg30.view.writes (Elt F) (harg30.unread X30) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.2.2.2.2.1)
    = keepDown (s := S4096x256) (e := .bf16) (rowsAt (1 - (i 2).val)) S256x256.size (dgateOf x0 x1 x5) X30 8 := by
  have hL : (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.2.2.2.2.1 = downPieces (s := S4096x256) (e := .bf16) (fun j => k0_off1 i (BitVec.ofNat 32 j.val)) S256x256.size (k0_off1_inb i k0_h3) (dgateOf x0 x1 x5) 8 := by
    unfold runA; dsimp only; sl_unfold_words
    simp only [tile_cov, View.readAt_eq_ld, tile_read, harg3.read_unread, harg4.read_unread, harg5.read_unread, harg6.read_unread, harg7.read_unread, harg8.read_unread, harg21.read_unread, harg22.read_unread, tile_ld]
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
    all_goals rfl
  rw [hL, read_downPieces arg30.view (harg30.unread X30) _ (rowsAt (1 - (i 2).val)) _ _ (off1_eq i k0_h3), harg30.read_unread]

end Cert.Ret

end
-- ==== Proof.Ret.RunB.lean ====
module

public import proofs.«01_k».proof.Proof.Gen.KernelRetIdeal.Frame
public import proofs.«01_k».proof.Proof.Gen.KernelRetIdeal.Skeleton

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The second pass over one row block (`k0_part58`): what its stores leave in the four row outputs (whatever those
    held), the running states and the six accumulators, as pieces, with the proof that it runs. -/
def runB (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x8x256x1 .f32) (harg11 : arg11.IsWhole) (arg12 : Memref sig .tc .vmem S1x3x256x256 .f32) (harg12 : arg12.IsWhole) (arg13 : Memref sig .tc .vmem S1x2x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x256 .bf16) (harg17 : arg17.IsWhole) (arg18 : Memref sig .tc .vmem S1x8x128 .f32) (harg18 : arg18.IsWhole) (arg19 : Memref sig .tc .vmem S16x256x256 .bf16) (harg19 : arg19.IsWhole) (arg20 : Memref sig .tc .vmem S16x256x256 .bf16) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S4096x256 .bf16) (harg29 : arg29.IsWhole) (arg30 : Memref sig .tc .vmem S4096x256 .bf16) (harg30 : arg30.IsWhole)
    (arg1 arg2 : BitVec 32) (v1 v3 v5 v7 v9 v11 v13 v15 : FVec F S256x1 .f32) (v17 v19 : FVec F S1x256 .f32) (k0_h4 : k0_cond4 i = 1#1)
    (x2 x3 x4 : Vec F S1x2048x256 .bf16) (x6 x7 : Vec F S2048x128 .f32) (x9 : Vec F S1x3x256x256 .f32)
    (X19 X20 : Vec F S16x256x256 .bf16) (X29 X30 : Vec F S4096x256 .bf16) (X21 X22 X23 X24 X25 X26 X27 X28 : Vec F S256x256 .f32) :
    Σ' (L14 : List (View.Piece (Elt F) S2048x256 .bf16)), Σ' (L15 : List (View.Piece (Elt F) S2048x256 .bf16)), Σ' (L16 : List (View.Piece (Elt F) S2048x256 .bf16)), Σ' (L17 : List (View.Piece (Elt F) S2048x256 .bf16)), Σ' (L21 : List (View.Piece (Elt F) S256x256 .f32)), Σ' (L22 : List (View.Piece (Elt F) S256x256 .f32)), Σ' (L23 : List (View.Piece (Elt F) S256x256 .f32)), Σ' (L24 : List (View.Piece (Elt F) S256x256 .f32)), Σ' (L25 : List (View.Piece (Elt F) S256x256 .f32)), Σ' (L26 : List (View.Piece (Elt F) S256x256 .f32)), Σ' (L27 : List (View.Piece (Elt F) S256x256 .f32)), { L28 : List (View.Piece (Elt F) S256x256 .f32) //
      ∀ (E : Set ℕ) (K : PUnit → sProp 𝕄),
        iprop(owns (c : Thread nD τ) arg5 fullShare x2 ∗ owns (c : Thread nD τ) arg6 fullShare x3 ∗ owns (c : Thread nD τ) arg7 fullShare x4 ∗ owns (c : Thread nD τ) arg9 fullShare x6 ∗ owns (c : Thread nD τ) arg10 fullShare x7 ∗ owns (c : Thread nD τ) arg12 fullShare x9 ∗ owns (c : Thread nD τ) arg19 fullShare X19 ∗ owns (c : Thread nD τ) arg20 fullShare X20 ∗ owns (c : Thread nD τ) arg29 fullShare X29 ∗ owns (c : Thread nD τ) arg30 fullShare X30
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ owns (c : Thread nD τ) arg21 fullShare X21 ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare X26 ∗ owns (c : Thread nD τ) arg27 fullShare X27 ∗ owns (c : Thread nD τ) arg28 fullShare X28
            ∗ (iprop(owns (c : Thread nD τ) arg5 fullShare x2 ∗ owns (c : Thread nD τ) arg6 fullShare x3 ∗ owns (c : Thread nD τ) arg7 fullShare x4 ∗ owns (c : Thread nD τ) arg9 fullShare x6 ∗ owns (c : Thread nD τ) arg10 fullShare x7 ∗ owns (c : Thread nD τ) arg12 fullShare x9 ∗ owns (c : Thread nD τ) arg19 fullShare X19 ∗ owns (c : Thread nD τ) arg20 fullShare X20 ∗ owns (c : Thread nD τ) arg29 fullShare X29 ∗ owns (c : Thread nD τ) arg30 fullShare X30
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)
              ∗ (∃ f, arg17.view.loc (c : Thread nD τ) ↦[arg17.view.set]{fullShare} arg17.view.writes (Elt F) f L17)
              ∗ (arg21.view.loc (c : Thread nD τ) ↦[arg21.view.set]{fullShare} arg21.view.writes (Elt F) (harg21.unread X21) L21)
              ∗ (arg22.view.loc (c : Thread nD τ) ↦[arg22.view.set]{fullShare} arg22.view.writes (Elt F) (harg22.unread X22) L22)
              ∗ (arg23.view.loc (c : Thread nD τ) ↦[arg23.view.set]{fullShare} arg23.view.writes (Elt F) (harg23.unread X23) L23)
              ∗ (arg24.view.loc (c : Thread nD τ) ↦[arg24.view.set]{fullShare} arg24.view.writes (Elt F) (harg24.unread X24) L24)
              ∗ (arg25.view.loc (c : Thread nD τ) ↦[arg25.view.set]{fullShare} arg25.view.writes (Elt F) (harg25.unread X25) L25)
              ∗ (arg26.view.loc (c : Thread nD τ) ↦[arg26.view.set]{fullShare} arg26.view.writes (Elt F) (harg26.unread X26) L26)
              ∗ (arg27.view.loc (c : Thread nD τ) ↦[arg27.view.set]{fullShare} arg27.view.writes (Elt F) (harg27.unread X27) L27)
              ∗ (arg28.view.loc (c : Thread nD τ) ↦[arg28.view.set]{fullShare} arg28.view.writes (Elt F) (harg28.unread X28) L28)) -∗ K ⟨⟩))
          ⊢ wp frame (wpE (defs₀ (F := F)) Variants.none c none) E (k0_part58 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4) K } := by
  refine ⟨?_, ?_, ?_, ?_, ?_, ?_, ?_, ?_, ?_, ?_, ?_, ?_, fun E K => ?run⟩
  case run =>
    simp only [k0_part58_eq_skeleton]; unfold k0_part58_skel
    unfold owns
    iintro ⟨⟨%f5, %hf5, H5⟩, ⟨%f6, %hf6, H6⟩, ⟨%f7, %hf7, H7⟩, ⟨%f9, %hf9, H9⟩, ⟨%f10, %hf10, H10⟩, ⟨%f12, %hf12, H12⟩, ⟨%f19, %hf19, H19⟩, ⟨%f20, %hf20, H20⟩, ⟨%f29, %hf29, H29⟩, ⟨%f30, %hf30, H30⟩, ⟨%d14, %f14, -, H14⟩, ⟨%d15, %f15, -, H15⟩, ⟨%d16, %f16, -, H16⟩, ⟨%d17, %f17, -, H17⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, Hk⟩
    obtain rfl := harg5.eq_unread hf5; obtain rfl := harg6.eq_unread hf6; obtain rfl := harg7.eq_unread hf7; obtain rfl := harg9.eq_unread hf9; obtain rfl := harg10.eq_unread hf10; obtain rfl := harg12.eq_unread hf12; obtain rfl := harg19.eq_unread hf19; obtain rfl := harg20.eq_unread hf20; obtain rfl := harg29.eq_unread hf29; obtain rfl := harg30.eq_unread hf30
    obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28
    sl_exec_parts
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _; isplitr; · ipureintro; exact harg9.read_unread _
      iexact H9
    isplitl [H10]
    · iexists _; isplitr; · ipureintro; exact harg10.read_unread _
      iexact H10
    isplitl [H12]
    · iexists _; isplitr; · ipureintro; exact harg12.read_unread _
      iexact H12
    isplitl [H19]
    · iexists _; isplitr; · ipureintro; exact harg19.read_unread _
      iexact H19
    isplitl [H20]
    · iexists _; isplitr; · ipureintro; exact harg20.read_unread _
      iexact H20
    isplitl [H29]
    · iexists _; isplitr; · ipureintro; exact harg29.read_unread _
      iexact H29
    isplitl [H30]
    · iexists _; isplitr; · ipureintro; exact harg30.read_unread _
      iexact H30
    isplitl [H14]; · iexists _; iexact H14
    isplitl [H15]; · iexists _; iexact H15
    isplitl [H16]; · iexists _; iexact H16
    isplitl [H17]; · iexists _; iexact H17
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28

end Cert.Ret

end
-- ==== Proof.Ret.ChunkB.lean ====
module

public import proofs.«01_k».proof.Proof.Ret.Chunk

@[expose] public section

set_option maxRecDepth 65536

noncomputable section

namespace Cert.Ret

open Cert.KernelRetIdeal Cert.KernelRetIdeal.Gen
open Idealize.ShloMosaic Idealize.ShloMosaic.TcCoe

variable {F : FTy → Type} [FloatOps F]

/-! # The second pass's chunks, and what the first pass kept for them -/

theorem rowsAt_inb (b : Fin 2) (j : Fin 8) : ∀ a, rowsAt b.val j a + S256x256.size a ≤ S4096x256.size a := by
  intro a; fin_cases a
  · show 256 * (8 * b.val + j.val) + 256 ≤ 4096; omega
  · show 0 + 256 ≤ 256; omega

theorem planeAt_inb (b : Fin 2) (j : Fin 8) : ∀ a, planeAt b.val j a + S1x256x256.size a ≤ S16x256x256.size a := by
  intro a; fin_cases a
  · show (8 * b.val + j.val) + 1 ≤ 16; omega
  · show 0 + 256 ≤ 256; omega
  · show 0 + 256 ≤ 256; omega

/-- Chunk `j` of row block `b` among the kept rows. -/
def keptRows (X : Vec F S4096x256 .bf16) (b : Fin 2) (j : Fin 8) : Vec F S256x256 .bf16 :=
  VecWindow.window (s := S4096x256) X (rowsAt b.val j) S256x256.size (rowsAt_inb b j)

/-- Chunk `j` of row block `b` among the kept states. -/
def keptPlane (X : Vec F S16x256x256 .bf16) (b : Fin 2) (j : Fin 8) : Vec F S1x256x256 .bf16 :=
  VecWindow.window (s := S16x256x256) X (planeAt b.val j) S1x256x256.size (planeAt_inb b j)

theorem ld_keptRows (X : Vec F S4096x256 .bf16) (b : Fin 2) (j : Fin 8) (off : Fin 2 → ℕ) (inb : ∀ a, off a + S256x256.size a ≤ S4096x256.size a)
    (h : off = rowsAt b.val j) : View.ld X (Rect.unit (s := S4096x256) off S256x256.size inb) = keptRows X b j := by
  subst h; rfl

theorem ld_keptPlane (X : Vec F S16x256x256 .bf16) (b : Fin 2) (j : Fin 8) (off : Fin 3 → ℕ) (inb : ∀ a, off a + S1x256x256.size a ≤ S16x256x256.size a)
    (h : off = planeAt b.val j) : View.ld X (Rect.unit (s := S16x256x256) off S1x256x256.size inb) = keptPlane X b j := by
  subst h; rfl

/-- After the stores of the last `n` chunks of block `b`, those chunks hold what was stored. -/
theorem keptRows_keepDown (X : Vec F S4096x256 .bf16) (b : Fin 2) (w : Fin 8 → Vec F S256x256 .bf16) (n : ℕ) (hn : n ≤ 8) (j : Fin 8) (hj : 8 - n ≤ j.val) :
    keptRows (keepDown (s := S4096x256) (e := .bf16) (rowsAt b.val) S256x256.size w X n) b j = w j := by
  induction n with
  | zero => have := j.isLt; omega
  | succ n ih =>
    have hlt : 7 - n < 8 := Nat.lt_of_le_of_lt (Nat.sub_le 7 n) (by decide)
    rcases eq_or_ne j ⟨7 - n, hlt⟩ with rfl | hne
    · exact VecWindow.window_put_same (s := S4096x256) _ _ _ _ _
    · have hv : j.val ≠ 7 - n := fun h => hne (Fin.ext h)
      refine (VecWindow.window_put_of_disjoint (s := S4096x256) _ _ _ _ _ (rowsAt_inb b j) _ (0 : Fin 2) ?_).trans (ih (by omega) (by omega))
      show 256 * (8 * b.val + j.val) + 256 ≤ 256 * (8 * b.val + (7 - n)) ∨ 256 * (8 * b.val + (7 - n)) + 256 ≤ 256 * (8 * b.val + j.val)
      omega

/-- Stores into one row block leave the other's. -/
theorem keptRows_keepDown_ne (X : Vec F S4096x256 .bf16) (b b' : Fin 2) (hb : b' ≠ b) (w : Fin 8 → Vec F S256x256 .bf16) (n : ℕ) (j : Fin 8) :
    keptRows (keepDown (s := S4096x256) (e := .bf16) (rowsAt b.val) S256x256.size w X n) b' j = keptRows X b' j := by
  have hv : b'.val ≠ b.val := fun h => hb (Fin.ext h)
  induction n with
  | zero => rfl
  | succ n ih =>
    refine (VecWindow.window_put_of_disjoint (s := S4096x256) _ _ _ _ _ (rowsAt_inb b' j) _ (0 : Fin 2) ?_).trans ih
    show 256 * (8 * b'.val + j.val) + 256 ≤ 256 * (8 * b.val + (7 - n)) ∨ 256 * (8 * b.val + (7 - n)) + 256 ≤ 256 * (8 * b'.val + j.val)
    have := j.isLt; omega

theorem keptPlane_keepDown (X : Vec F S16x256x256 .bf16) (b : Fin 2) (w : Fin 8 → Vec F S1x256x256 .bf16) (n : ℕ) (hn : n ≤ 8) (j : Fin 8) (hj : 8 - n ≤ j.val) :
    keptPlane (keepDown (s := S16x256x256) (e := .bf16) (planeAt b.val) S1x256x256.size w X n) b j = w j := by
  induction n with
  | zero => have := j.isLt; omega
  | succ n ih =>
    have hlt : 7 - n < 8 := Nat.lt_of_le_of_lt (Nat.sub_le 7 n) (by decide)
    rcases eq_or_ne j ⟨7 - n, hlt⟩ with rfl | hne
    · exact VecWindow.window_put_same (s := S16x256x256) _ _ _ _ _
    · have hv : j.val ≠ 7 - n := fun h => hne (Fin.ext h)
      refine (VecWindow.window_put_of_disjoint (s := S16x256x256) _ _ _ _ _ (planeAt_inb b j) _ (0 : Fin 3) ?_).trans (ih (by omega) (by omega))
      show (8 * b.val + j.val) + 1 ≤ 8 * b.val + (7 - n) ∨ 8 * b.val + (7 - n) + 1 ≤ 8 * b.val + j.val
      omega

theorem keptPlane_keepDown_ne (X : Vec F S16x256x256 .bf16) (b b' : Fin 2) (hb : b' ≠ b) (w : Fin 8 → Vec F S1x256x256 .bf16) (n : ℕ) (j : Fin 8) :
    keptPlane (keepDown (s := S16x256x256) (e := .bf16) (planeAt b.val) S1x256x256.size w X n) b' j = keptPlane X b' j := by
  have hv : b'.val ≠ b.val := fun h => hb (Fin.ext h)
  induction n with
  | zero => rfl
  | succ n ih =>
    refine (VecWindow.window_put_of_disjoint (s := S16x256x256) _ _ _ _ _ (planeAt_inb b' j) _ (0 : Fin 3) ?_).trans ih
    show (8 * b'.val + j.val) + 1 ≤ 8 * b.val + (7 - n) ∨ 8 * b.val + (7 - n) + 1 ≤ 8 * b'.val + j.val
    have := j.isLt; omega

/-! ## One chunk of the second pass -/

/-- The decay columns and the two whole-chunk decays, forward and backward in time. -/
structure Decays (F : FTy → Type) [FloatOps F] where
  af : FVec F S256x1 .f32
  ab : FVec F S256x1 .f32
  kf : FVec F S256x1 .f32
  kb : FVec F S256x1 .f32
  af1 : FVec F S256x1 .f32
  ab1 : FVec F S256x1 .f32
  kf1 : FVec F S256x1 .f32
  kb1 : FVec F S256x1 .f32
  cf : FVec F S1x256 .f32
  cb : FVec F S1x256 .f32

/-- One chunk's rows: the gradients at the output, `q`, `k`, `v`, the angles, the kept states, the decay matrices. -/
structure Piece (F : FTy → Type) [FloatOps F] where
  d : Vec F S256x256 .bf16
  g : Vec F S256x256 .bf16
  q : Vec F S1x256x256 .bf16
  k : Vec F S1x256x256 .bf16
  v : Vec F S1x256x256 .bf16
  cos : Vec F S256x128 .f32
  sin : Vec F S256x128 .f32
  sb : Vec F S1x256x256 .bf16
  gf : Vec F S1x256x256 .bf16
  m0 : Vec F S1x1x256x256 .f32
  m1 : Vec F S1x1x256x256 .f32
  m2 : Vec F S1x1x256x256 .f32

variable (D : Decays F) (P : Piece F) (S G A : Vec F S256x256 .f32)

/-- The running state of `k ⊗ v`, over one chunk. -/
def stepS : Vec F S256x256 .f32 := k0_pay181 D.cf (k0_pay153 P.v) S (k0_pay170 D.kf (k0_pay157 P.k))

/-- The running state of `q ⊗ dout`, over one chunk. -/
def stepG : Vec F S256x256 .f32 := k0_pay182 D.ab D.cb P.d (k0_pay156 P.q) G

/-- The gradient at `q`'s rows. -/
def dqOf : FVec F S256x256 .bf16 :=
  k0_pay183 (k0_pay151 P.cos) (k0_pay152 P.sin) (k0_pay171 D.af D.ab P.d (k0_pay153 P.v) (k0_pay155 P.k) (k0_pay158 S) (k0_pay160 P.sb) P.m0)

/-- The gradient at `k`'s rows. -/
def dkOf : FVec F S256x256 .bf16 :=
  k0_pay184 (k0_pay151 P.cos) (k0_pay152 P.sin) (k0_pay172 D.kf D.kb P.d (k0_pay153 P.v) (k0_pay154 P.q) (k0_pay159 G) (k0_pay161 P.gf) P.m0)

/-- The gradient at `v`'s rows. -/
def dvOf : FVec F S256x256 .bf16 :=
  k0_pay185 (k0_pay173 D.kf D.kb P.d (k0_pay154 P.q) (k0_pay155 P.k) (k0_pay157 P.k) (k0_pay159 G) (k0_pay161 P.gf) P.m0)

/-- The products of a chunk's scores with its gradients. -/
def psOf : FVec F S256x256 .f32 := k0_pay174 P.d (k0_pay153 P.v) (k0_pay154 P.q) (k0_pay155 P.k)

/-- The six accumulators of the gradient at the decays. -/
def accA : Vec F S256x256 .f32 := k0_pay175 (psOf P) A P.m1
def accB : Vec F S256x256 .f32 := k0_pay176 (psOf P) A P.m2
def accC : Vec F S256x256 .f32 :=
  k0_pay177 D.af1 D.kf1 (k0_pay156 P.q) (k0_pay157 P.k) (k0_pay166 P.d (k0_pay158 S)) (k0_pay168 (k0_pay153 P.v) (k0_pay161 P.gf)) A
def accD : Vec F S256x256 .f32 :=
  k0_pay178 D.ab1 D.kb1 (k0_pay156 P.q) (k0_pay157 P.k) (k0_pay167 P.d (k0_pay160 P.sb)) (k0_pay169 (k0_pay153 P.v) (k0_pay159 G)) A
def accE : Vec F S256x256 .f32 := k0_pay179 S (k0_pay161 P.gf) A
def accG : Vec F S256x256 .f32 := k0_pay180 G (k0_pay160 P.sb) A

/-- The running contents of the second pass. -/
structure Run (F : FTy → Type) [FloatOps F] where
  S : Vec F S256x256 .f32
  G : Vec F S256x256 .f32
  A : Vec F S256x256 .f32
  B : Vec F S256x256 .f32
  C : Vec F S256x256 .f32
  D : Vec F S256x256 .f32
  E : Vec F S256x256 .f32
  G' : Vec F S256x256 .f32

/-- One chunk of the second pass. -/
def stepRun (D : Decays F) (P : Piece F) (r : Run F) : Run F where
  S := stepS D P r.S
  G := stepG D P r.G
  A := accA P r.A
  B := accB P r.B
  C := accC D P r.S r.C
  D := accD D P r.G r.D
  E := accE P r.S r.E
  G' := accG P r.G r.G'

/-- `n` chunks of the second pass, the first chunk first. -/
def foldRun (D : Decays F) (P : Fin 8 → Piece F) (r : Run F) : ℕ → Run F
  | 0 => r
  | n + 1 => stepRun D (P ⟨n % 8, Nat.mod_lt _ (by decide)⟩) (foldRun D P r n)

/-! ## Eight chunks of rows stored one after the other -/

/-- A row's place in its chunk. -/
def inChunk (y : S2048x256.Idx) : S256x256.Idx := fun a => match a with
  | 0 => ⟨(y 0).val % 256, Nat.mod_lt _ (show 0 < 256 by decide)⟩
  | 1 => y 1

/-- Eight chunks of rows as one block. -/
def asm (w : Fin 8 → Vec F S256x256 .bf16) : Vec F S2048x256 .bf16 :=
  fun y => w ⟨(y 0).val / 256, by have := (y 0).isLt; show _ < 8; exact (Nat.div_lt_iff_lt_mul (by decide)).2 this⟩ (inChunk y)

theorem upAt_inb (j : Fin 8) : ∀ a, (![256 * j.val, 0] : Fin 2 → ℕ) a + S256x256.size a ≤ S2048x256.size a := by
  intro a; fin_cases a
  · show 256 * j.val + 256 ≤ 2048; omega
  · show 0 + 256 ≤ 256; omega

/-- The stores of `n` chunks, the first chunk first (the newest store at the head). -/
def upPieces (w : Fin 8 → Vec F S256x256 .bf16) : ℕ → List (View.Piece (Elt F) S2048x256 .bf16)
  | 0 => []
  | n + 1 => ⟨Rect.unit ![256 * (n % 8), 0] S256x256.size (upAt_inb ⟨n % 8, Nat.mod_lt _ (by decide)⟩), w ⟨n % 8, Nat.mod_lt _ (by decide)⟩⟩ :: upPieces w n

theorem read_upPieces {sig : RefSig} {κ : Kind} {sp : Space} (v : View sig κ sp S2048x256 .bf16) (f : v.ty.Contents (Elt F))
    (w : Fin 8 → Vec F S256x256 .bf16) (n : ℕ) (hn : n ≤ 8) (y : S2048x256.Idx) (hy : (y 0).val < 256 * n) :
    v.read (Elt F) (v.writes (Elt F) f (upPieces w n)) y = asm w y := by
  induction n with
  | zero => omega
  | succ n ih =>
    have hm : n % 8 = n := Nat.mod_eq_of_lt (by omega)
    by_cases h : (y 0).val < 256 * n
    · exact (View.read_writes_cons_unit_of_not_mem v f _ _ _ y rfl (0 : Fin 2)
        (Or.inl (show (y 0).val < 256 * (n % 8) by omega))).trans (ih (by omega) h)
    · have hd : (y 0).val / 256 = n := by omega
      unfold upPieces asm
      refine (View.read_writes_cons_unit_of_mem v f _ _ _ y (inChunk y) rfl ?_).trans ?_
      · intro a; fin_cases a
        · show (y 0).val = 256 * (n % 8) + (y 0).val % 256; omega
        · show (y 1).val = 0 + (y 1).val; omega
      · have e : (⟨n % 8, Nat.mod_lt _ (by decide)⟩ : Fin 8) = ⟨(y 0).val / 256, by omega⟩ := Fin.ext (show n % 8 = (y 0).val / 256 by omega)
        exact congrArg (fun j => w j (inChunk y)) e

/-- All eight: the block, whatever was there. -/
theorem read_upPieces_eight {sig : RefSig} {κ : Kind} {sp : Space} (v : View sig κ sp S2048x256 .bf16) (f : v.ty.Contents (Elt F))
    (w : Fin 8 → Vec F S256x256 .bf16) : v.read (Elt F) (v.writes (Elt F) f (upPieces w 8)) = asm w :=
  funext fun y => read_upPieces v f w 8 le_rfl y (y 0).isLt

end Cert.Ret

end
-- ==== Proof.Ret.ReadB.lean ====
module

public import proofs.«01_k».proof.Proof.Ret.RunB
public import proofs.«01_k».proof.Proof.Ret.ChunkB

@[expose] public section

set_option maxRecDepth 65536

noncomputable section

namespace Cert.Ret

open Cert.KernelRetIdeal Cert.KernelRetIdeal.Gen
open Idealize.ShloMosaic Idealize.ShloMosaic.TcCoe

variable {F : FTy → Type} [FloatOps F]

/-- Chunk `j` of a row block, as the second pass loads it. -/
def raw (i : grid0.Coords) (k0_h4 : k0_cond4 i = 1#1) (x2 x3 x4 : Vec F S1x2048x256 .bf16) (x6 x7 : Vec F S2048x128 .f32) (x9 : Vec F S1x3x256x256 .f32)
    (X19 X20 : Vec F S16x256x256 .bf16) (X29 X30 : Vec F S4096x256 .bf16) (j : Fin 8) : Piece F where
  d := View.ld X29 (Rect.unit (s := S4096x256) (k0_off3 i (BitVec.ofNat 32 j.val)) S256x256.size (k0_off3_inb i k0_h4 j))
  g := View.ld X30 (Rect.unit (s := S4096x256) (k0_off3 i (BitVec.ofNat 32 j.val)) S256x256.size (k0_off3_inb i k0_h4 j))
  q := slab x2 j
  k := slab x3 j
  v := slab x4 j
  cos := angles x6 j
  sin := angles x7 j
  sb := View.ld X19 (Rect.unit (s := S16x256x256) (k0_off4 i (BitVec.ofNat 32 j.val)) S1x256x256.size (k0_off4_inb i k0_h4 j))
  gf := View.ld X20 (Rect.unit (s := S16x256x256) (k0_off4 i (BitVec.ofNat 32 j.val)) S1x256x256.size (k0_off4_inb i k0_h4 j))
  m0 := mat x9 0
  m1 := mat x9 1
  m2 := mat x9 2

/-- Chunk `j` of row block `b`, of what the first pass kept. -/
def piece (b : Fin 2) (x2 x3 x4 : Vec F S1x2048x256 .bf16) (x6 x7 : Vec F S2048x128 .f32) (x9 : Vec F S1x3x256x256 .f32)
    (X19 X20 : Vec F S16x256x256 .bf16) (X29 X30 : Vec F S4096x256 .bf16) (j : Fin 8) : Piece F where
  d := keptRows X29 b j
  g := keptRows X30 b j
  q := slab x2 j
  k := slab x3 j
  v := slab x4 j
  cos := angles x6 j
  sin := angles x7 j
  sb := keptPlane X19 b j
  gf := keptPlane X20 b j
  m0 := mat x9 0
  m1 := mat x9 1
  m2 := mat x9 2

theorem raw_eq (i : grid0.Coords) (k0_h4 : k0_cond4 i = 1#1) (x2 x3 x4 : Vec F S1x2048x256 .bf16) (x6 x7 : Vec F S2048x128 .f32) (x9 : Vec F S1x3x256x256 .f32)
    (X19 X20 : Vec F S16x256x256 .bf16) (X29 X30 : Vec F S4096x256 .bf16) :
    raw i k0_h4 x2 x3 x4 x6 x7 x9 X19 X20 X29 X30 = piece (i 2) x2 x3 x4 x6 x7 x9 X19 X20 X29 X30 := by
  funext j
  unfold raw piece
  congr 1
  · exact ld_keptRows X29 (i 2) j _ _ (off3_eq i k0_h4 j)
  · exact ld_keptRows X30 (i 2) j _ _ (off3_eq i k0_h4 j)
  · exact ld_keptPlane X19 (i 2) j _ _ (off4_eq i k0_h4 j)
  · exact ld_keptPlane X20 (i 2) j _ _ (off4_eq i k0_h4 j)

/-! ## What the second pass leaves -/

variable (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x8x256x1 .f32) (harg11 : arg11.IsWhole) (arg12 : Memref sig .tc .vmem S1x3x256x256 .f32) (harg12 : arg12.IsWhole) (arg13 : Memref sig .tc .vmem S1x2x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x256 .bf16) (harg17 : arg17.IsWhole) (arg18 : Memref sig .tc .vmem S1x8x128 .f32) (harg18 : arg18.IsWhole) (arg19 : Memref sig .tc .vmem S16x256x256 .bf16) (harg19 : arg19.IsWhole) (arg20 : Memref sig .tc .vmem S16x256x256 .bf16) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S4096x256 .bf16) (harg29 : arg29.IsWhole) (arg30 : Memref sig .tc .vmem S4096x256 .bf16) (harg30 : arg30.IsWhole)
    (arg1 arg2 : BitVec 32) (v1 v3 v5 v7 v9 v11 v13 v15 : FVec F S256x1 .f32) (v17 v19 : FVec F S1x256 .f32) (k0_h4 : k0_cond4 i = 1#1)
    (x2 x3 x4 : Vec F S1x2048x256 .bf16) (x6 x7 : Vec F S2048x128 .f32) (x9 : Vec F S1x3x256x256 .f32)
    (X19 X20 : Vec F S16x256x256 .bf16) (X29 X30 : Vec F S4096x256 .bf16) (X21 X22 X23 X24 X25 X26 X27 X28 : Vec F S256x256 .f32)

theorem readB_21 : arg21.view.read (Elt F) (arg21.view.writes (Elt F) (harg21.unread X21) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.1) = (foldRun ⟨v1, v3, v5, v7, v9, v11, v13, v15, v17, v19⟩ (raw i k0_h4 x2 x3 x4 x6 x7 x9 X19 X20 X29 X30) ⟨X21, X22, X23, X24, X25, X26, X27, X28⟩ 8).S := by
  unfold runB; dsimp only; sl_unfold_words
  simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
  rfl

theorem readB_22 : arg22.view.read (Elt F) (arg22.view.writes (Elt F) (harg22.unread X22) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.2.1) = (foldRun ⟨v1, v3, v5, v7, v9, v11, v13, v15, v17, v19⟩ (raw i k0_h4 x2 x3 x4 x6 x7 x9 X19 X20 X29 X30) ⟨X21, X22, X23, X24, X25, X26, X27, X28⟩ 8).G := by
  unfold runB; dsimp only; sl_unfold_words
  simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
  rfl

theorem readB_23 : arg23.view.read (Elt F) (arg23.view.writes (Elt F) (harg23.unread X23) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.2.2.1) = (foldRun ⟨v1, v3, v5, v7, v9, v11, v13, v15, v17, v19⟩ (raw i k0_h4 x2 x3 x4 x6 x7 x9 X19 X20 X29 X30) ⟨X21, X22, X23, X24, X25, X26, X27, X28⟩ 8).A := by
  unfold runB; dsimp only; sl_unfold_words
  simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
  rfl

theorem readB_24 : arg24.view.read (Elt F) (arg24.view.writes (Elt F) (harg24.unread X24) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.2.2.2.1) = (foldRun ⟨v1, v3, v5, v7, v9, v11, v13, v15, v17, v19⟩ (raw i k0_h4 x2 x3 x4 x6 x7 x9 X19 X20 X29 X30) ⟨X21, X22, X23, X24, X25, X26, X27, X28⟩ 8).B := by
  unfold runB; dsimp only; sl_unfold_words
  simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
  rfl

theorem readB_25 : arg25.view.read (Elt F) (arg25.view.writes (Elt F) (harg25.unread X25) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.2.2.2.2.1) = (foldRun ⟨v1, v3, v5, v7, v9, v11, v13, v15, v17, v19⟩ (raw i k0_h4 x2 x3 x4 x6 x7 x9 X19 X20 X29 X30) ⟨X21, X22, X23, X24, X25, X26, X27, X28⟩ 8).C := by
  unfold runB; dsimp only; sl_unfold_words
  simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
  rfl

theorem readB_26 : arg26.view.read (Elt F) (arg26.view.writes (Elt F) (harg26.unread X26) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.2.2.2.2.2.1) = (foldRun ⟨v1, v3, v5, v7, v9, v11, v13, v15, v17, v19⟩ (raw i k0_h4 x2 x3 x4 x6 x7 x9 X19 X20 X29 X30) ⟨X21, X22, X23, X24, X25, X26, X27, X28⟩ 8).D := by
  unfold runB; dsimp only; sl_unfold_words
  simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
  rfl

theorem readB_27 : arg27.view.read (Elt F) (arg27.view.writes (Elt F) (harg27.unread X27) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.2.2.2.2.2.2.1) = (foldRun ⟨v1, v3, v5, v7, v9, v11, v13, v15, v17, v19⟩ (raw i k0_h4 x2 x3 x4 x6 x7 x9 X19 X20 X29 X30) ⟨X21, X22, X23, X24, X25, X26, X27, X28⟩ 8).E := by
  unfold runB; dsimp only; sl_unfold_words
  simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
  rfl

theorem readB_28 : arg28.view.read (Elt F) (arg28.view.writes (Elt F) (harg28.unread X28) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.2.2.2.2.2.2.2.1) = (foldRun ⟨v1, v3, v5, v7, v9, v11, v13, v15, v17, v19⟩ (raw i k0_h4 x2 x3 x4 x6 x7 x9 X19 X20 X29 X30) ⟨X21, X22, X23, X24, X25, X26, X27, X28⟩ 8).G' := by
  unfold runB; dsimp only; sl_unfold_words
  simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
  rfl

theorem readB_14 (f : arg14.view.ty.Contents (Elt F)) : arg14.view.read (Elt F) (arg14.view.writes (Elt F) f (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).1)
    = asm (fun j => dqOf ⟨v1, v3, v5, v7, v9, v11, v13, v15, v17, v19⟩ ((raw i k0_h4 x2 x3 x4 x6 x7 x9 X19 X20 X29 X30) j) (foldRun ⟨v1, v3, v5, v7, v9, v11, v13, v15, v17, v19⟩ (raw i k0_h4 x2 x3 x4 x6 x7 x9 X19 X20 X29 X30) ⟨X21, X22, X23, X24, X25, X26, X27, X28⟩ j.val).S) := by
  have hL : (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).1 = upPieces (fun j => dqOf ⟨v1, v3, v5, v7, v9, v11, v13, v15, v17, v19⟩ ((raw i k0_h4 x2 x3 x4 x6 x7 x9 X19 X20 X29 X30) j) (foldRun ⟨v1, v3, v5, v7, v9, v11, v13, v15, v17, v19⟩ (raw i k0_h4 x2 x3 x4 x6 x7 x9 X19 X20 X29 X30) ⟨X21, X22, X23, X24, X25, X26, X27, X28⟩ j.val).S) 8 := by
    unfold runB; dsimp only; sl_unfold_words
    simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
    all_goals rfl
  rw [hL, read_upPieces_eight]

theorem readB_15 (f : arg15.view.ty.Contents (Elt F)) : arg15.view.read (Elt F) (arg15.view.writes (Elt F) f (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.1)
    = asm (fun j => dkOf ⟨v1, v3, v5, v7, v9, v11, v13, v15, v17, v19⟩ ((raw i k0_h4 x2 x3 x4 x6 x7 x9 X19 X20 X29 X30) j) (foldRun ⟨v1, v3, v5, v7, v9, v11, v13, v15, v17, v19⟩ (raw i k0_h4 x2 x3 x4 x6 x7 x9 X19 X20 X29 X30) ⟨X21, X22, X23, X24, X25, X26, X27, X28⟩ j.val).G) := by
  have hL : (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.1 = upPieces (fun j => dkOf ⟨v1, v3, v5, v7, v9, v11, v13, v15, v17, v19⟩ ((raw i k0_h4 x2 x3 x4 x6 x7 x9 X19 X20 X29 X30) j) (foldRun ⟨v1, v3, v5, v7, v9, v11, v13, v15, v17, v19⟩ (raw i k0_h4 x2 x3 x4 x6 x7 x9 X19 X20 X29 X30) ⟨X21, X22, X23, X24, X25, X26, X27, X28⟩ j.val).G) 8 := by
    unfold runB; dsimp only; sl_unfold_words
    simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
    all_goals rfl
  rw [hL, read_upPieces_eight]

theorem readB_16 (f : arg16.view.ty.Contents (Elt F)) : arg16.view.read (Elt F) (arg16.view.writes (Elt F) f (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.1)
    = asm (fun j => dvOf ⟨v1, v3, v5, v7, v9, v11, v13, v15, v17, v19⟩ ((raw i k0_h4 x2 x3 x4 x6 x7 x9 X19 X20 X29 X30) j) (foldRun ⟨v1, v3, v5, v7, v9, v11, v13, v15, v17, v19⟩ (raw i k0_h4 x2 x3 x4 x6 x7 x9 X19 X20 X29 X30) ⟨X21, X22, X23, X24, X25, X26, X27, X28⟩ j.val).G) := by
  have hL : (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.1 = upPieces (fun j => dvOf ⟨v1, v3, v5, v7, v9, v11, v13, v15, v17, v19⟩ ((raw i k0_h4 x2 x3 x4 x6 x7 x9 X19 X20 X29 X30) j) (foldRun ⟨v1, v3, v5, v7, v9, v11, v13, v15, v17, v19⟩ (raw i k0_h4 x2 x3 x4 x6 x7 x9 X19 X20 X29 X30) ⟨X21, X22, X23, X24, X25, X26, X27, X28⟩ j.val).G) 8 := by
    unfold runB; dsimp only; sl_unfold_words
    simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
    all_goals rfl
  rw [hL, read_upPieces_eight]

theorem readB_17 (f : arg17.view.ty.Contents (Elt F)) : arg17.view.read (Elt F) (arg17.view.writes (Elt F) f (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.1)
    = asm (fun j => ((raw i k0_h4 x2 x3 x4 x6 x7 x9 X19 X20 X29 X30) j).g) := by
  have hL : (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.1 = upPieces (fun j => ((raw i k0_h4 x2 x3 x4 x6 x7 x9 X19 X20 X29 X30) j).g) 8 := by
    unfold runB; dsimp only; sl_unfold_words
    simp only [tile_cov, View.readAt_eq_ld, tile_read, harg5.read_unread, harg6.read_unread, harg7.read_unread, harg9.read_unread, harg10.read_unread, harg12.read_unread, harg19.read_unread, harg20.read_unread, harg21.read_unread, harg22.read_unread, harg23.read_unread, harg24.read_unread, harg25.read_unread, harg26.read_unread, harg27.read_unread, harg28.read_unread, harg29.read_unread, harg30.read_unread, tile_ld]
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
    all_goals rfl
  rw [hL, read_upPieces_eight]

end Cert.Ret

end
-- ==== Proof.Ret.Pass.lean ====
module

public import proofs.«01_k».proof.Proof.Ret.ReadA
public import proofs.«01_k».proof.Proof.Ret.ReadB

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # Each pass over a row block, on what it owns -/

/-- What the first pass over row block `b` leaves in the kept states of `k ⊗ v`. -/
def keptSb (kb : FVec F S256x1 .f32) (cb : FVec F S1x256 .f32) (k v : Vec F S1x2048x256 .bf16) (S : Vec F S256x256 .f32) (b : ℕ) (X : Vec F S16x256x256 .bf16) : Vec F S16x256x256 .bf16 :=
  keepDown (s := S16x256x256) (e := .bf16) (planeAt b) S1x256x256.size (fun j => k0_pay24 (foldSb kb cb k v S (7 - j.val))) X 8

/-- What it leaves in the kept states of `q ⊗ dout`. -/
def keptGf (af : FVec F S256x1 .f32) (cf : FVec F S1x256 .f32) (d r : Vec F S2048x256 .bf16) (q g : Vec F S1x2048x256 .bf16) (G : Vec F S256x256 .f32) (b : ℕ) (X : Vec F S16x256x256 .bf16) : Vec F S16x256x256 .bf16 :=
  keepDown (s := S16x256x256) (e := .bf16) (planeAt b) S1x256x256.size (fun j => k0_pay25 (foldGf af cf d r q g G (7 - j.val))) X 8

/-- What it leaves in the kept gradients at the retention's output. -/
def keptDout (d r : Vec F S2048x256 .bf16) (g : Vec F S1x2048x256 .bf16) (b : ℕ) (X : Vec F S4096x256 .bf16) : Vec F S4096x256 .bf16 :=
  keepDown (s := S4096x256) (e := .bf16) (rowsAt b) S256x256.size (fun j => shapeCast S256x256 (doutOf d r g j) shapeCasts_S256x256_S256x256) X 8

/-- What it leaves in the kept gradients at the gate. -/
def keptDgate (d r : Vec F S2048x256 .bf16) (g : Vec F S1x2048x256 .bf16) (b : ℕ) (X : Vec F S4096x256 .bf16) : Vec F S4096x256 .bf16 :=
  keepDown (s := S4096x256) (e := .bf16) (rowsAt b) S256x256.size (dgateOf d r g) X 8

/-- The second pass's rows of the gradient at `q`, at `k`, at `v`, at the gate. -/
def dqRows (D : Decays F) (P : Fin 8 → Piece F) (r : Run F) : Vec F S2048x256 .bf16 := asm (fun j => dqOf D (P j) (foldRun D P r j.val).S)
def dkRows (D : Decays F) (P : Fin 8 → Piece F) (r : Run F) : Vec F S2048x256 .bf16 := asm (fun j => dkOf D (P j) (foldRun D P r j.val).G)
def dvRows (D : Decays F) (P : Fin 8 → Piece F) (r : Run F) : Vec F S2048x256 .bf16 := asm (fun j => dvOf D (P j) (foldRun D P r j.val).G)
def dgRows (P : Fin 8 → Piece F) : Vec F S2048x256 .bf16 := asm (fun j => (P j).g)

variable (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x8x256x1 .f32) (harg11 : arg11.IsWhole) (arg12 : Memref sig .tc .vmem S1x3x256x256 .f32) (harg12 : arg12.IsWhole) (arg13 : Memref sig .tc .vmem S1x2x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x256 .bf16) (harg17 : arg17.IsWhole) (arg18 : Memref sig .tc .vmem S1x8x128 .f32) (harg18 : arg18.IsWhole) (arg19 : Memref sig .tc .vmem S16x256x256 .bf16) (harg19 : arg19.IsWhole) (arg20 : Memref sig .tc .vmem S16x256x256 .bf16) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S4096x256 .bf16) (harg29 : arg29.IsWhole) (arg30 : Memref sig .tc .vmem S4096x256 .bf16) (harg30 : arg30.IsWhole)
    (arg1 arg2 : BitVec 32) (v1 v3 v5 v7 v9 v11 v13 v15 : FVec F S256x1 .f32) (v17 v19 : FVec F S1x256 .f32)
    (x0 x1 : Vec F S2048x256 .bf16) (x2 x3 x4 x5 : Vec F S1x2048x256 .bf16) (x6 x7 : Vec F S2048x128 .f32) (x9 : Vec F S1x3x256x256 .f32)
    (X19 X20 : Vec F S16x256x256 .bf16) (X29 X30 : Vec F S4096x256 .bf16) (X21 X22 X23 X24 X25 X26 X27 X28 : Vec F S256x256 .f32)

set_option maxHeartbeats 1000000 in
/-- The first pass over a row block runs, and leaves the kept arrays and the two states of the previous section. -/
theorem passA (k0_h3 : k0_cond3 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg19 fullShare X19 ∗ owns (c : Thread nD τ) arg20 fullShare X20 ∗ owns (c : Thread nD τ) arg21 fullShare X21 ∗ owns (c : Thread nD τ) arg22 fullShare X22 ∗ owns (c : Thread nD τ) arg29 fullShare X29 ∗ owns (c : Thread nD τ) arg30 fullShare X30
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg19 fullShare (keptSb v7 v19 x3 x4 X21 (1 - (i 2).val) X19) ∗ owns (c : Thread nD τ) arg20 fullShare (keptGf v1 v17 x0 x1 x2 x5 X22 (1 - (i 2).val) X20) ∗ owns (c : Thread nD τ) arg21 fullShare (foldSb v7 v19 x3 x4 X21 8) ∗ owns (c : Thread nD τ) arg22 fullShare (foldGf v1 v17 x0 x1 x2 x5 X22 8) ∗ owns (c : Thread nD τ) arg29 fullShare (keptDout x0 x1 x5 (1 - (i 2).val) X29) ∗ owns (c : Thread nD τ) arg30 fullShare (keptDgate x0 x1 x5 (1 - (i 2).val) X30)) -∗ K ⟨⟩))
      ⊢ wp frame (wpE (defs₀ (F := F)) Variants.none c none) E (k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3) K := by
  iintro ⟨H3, H4, H5, H6, H7, H8, H9, H10, H19, H20, H21, H22, H29, H30, Hk⟩
  iapply (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30).2.2.2.2.2.2 E K
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H19]; · iexact H19
  isplitl [H20]; · iexact H20
  isplitl [H21]; · iexact H21
  isplitl [H22]; · iexact H22
  isplitl [H29]; · iexact H29
  isplitl [H30]; · iexact H30
  iintro ⟨H3, H4, H5, H6, H7, H8, H9, H10, H19, H20, H21, H22, H29, H30⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H19]
  · unfold owns; iexists _; isplitr
    swap; · iexact H19
    ipureintro; exact readA_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30
  isplitl [H20]
  · unfold owns; iexists _; isplitr
    swap; · iexact H20
    ipureintro; exact readA_20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30
  isplitl [H21]
  · unfold owns; iexists _; isplitr
    swap; · iexact H21
    ipureintro; exact readA_21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30
  isplitl [H22]
  · unfold owns; iexists _; isplitr
    swap; · iexact H22
    ipureintro; exact readA_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30
  isplitl [H29]
  · unfold owns; iexists _; isplitr
    swap; · iexact H29
    ipureintro; exact readA_29 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30
  unfold owns; iexists _; isplitr
  swap; · iexact H30
  ipureintro; exact readA_30 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v7 v17 v19 k0_h3 x0 x1 x2 x3 x4 x5 x6 x7 X19 X20 X21 X22 X29 X30

set_option maxHeartbeats 1000000 in
/-- The second pass over a row block runs, and leaves the four outputs' rows, the states and the accumulators. -/
theorem passB (k0_h4 : k0_cond4 i = 1#1) (E : Set ℕ) (K : PUnit → sProp 𝕄) :
    iprop(owns (c : Thread nD τ) arg5 fullShare x2 ∗ owns (c : Thread nD τ) arg6 fullShare x3 ∗ owns (c : Thread nD τ) arg7 fullShare x4 ∗ owns (c : Thread nD τ) arg9 fullShare x6 ∗ owns (c : Thread nD τ) arg10 fullShare x7 ∗ owns (c : Thread nD τ) arg12 fullShare x9 ∗ owns (c : Thread nD τ) arg19 fullShare X19 ∗ owns (c : Thread nD τ) arg20 fullShare X20 ∗ owns (c : Thread nD τ) arg29 fullShare X29 ∗ owns (c : Thread nD τ) arg30 fullShare X30 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg21 fullShare X21 ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare X26 ∗ owns (c : Thread nD τ) arg27 fullShare X27 ∗ owns (c : Thread nD τ) arg28 fullShare X28
        ∗ (iprop(owns (c : Thread nD τ) arg5 fullShare x2 ∗ owns (c : Thread nD τ) arg6 fullShare x3 ∗ owns (c : Thread nD τ) arg7 fullShare x4 ∗ owns (c : Thread nD τ) arg9 fullShare x6 ∗ owns (c : Thread nD τ) arg10 fullShare x7 ∗ owns (c : Thread nD τ) arg12 fullShare x9 ∗ owns (c : Thread nD τ) arg19 fullShare X19 ∗ owns (c : Thread nD τ) arg20 fullShare X20 ∗ owns (c : Thread nD τ) arg29 fullShare X29 ∗ owns (c : Thread nD τ) arg30 fullShare X30 ∗ owns (c : Thread nD τ) arg14 fullShare (dqRows ⟨v1, v3, v5, v7, v9, v11, v13, v15, v17, v19⟩ (piece (i 2) x2 x3 x4 x6 x7 x9 X19 X20 X29 X30) ⟨X21, X22, X23, X24, X25, X26, X27, X28⟩) ∗ owns (c : Thread nD τ) arg15 fullShare (dkRows ⟨v1, v3, v5, v7, v9, v11, v13, v15, v17, v19⟩ (piece (i 2) x2 x3 x4 x6 x7 x9 X19 X20 X29 X30) ⟨X21, X22, X23, X24, X25, X26, X27, X28⟩) ∗ owns (c : Thread nD τ) arg16 fullShare (dvRows ⟨v1, v3, v5, v7, v9, v11, v13, v15, v17, v19⟩ (piece (i 2) x2 x3 x4 x6 x7 x9 X19 X20 X29 X30) ⟨X21, X22, X23, X24, X25, X26, X27, X28⟩) ∗ owns (c : Thread nD τ) arg17 fullShare (dgRows (piece (i 2) x2 x3 x4 x6 x7 x9 X19 X20 X29 X30)) ∗ owns (c : Thread nD τ) arg21 fullShare (foldRun ⟨v1, v3, v5, v7, v9, v11, v13, v15, v17, v19⟩ (piece (i 2) x2 x3 x4 x6 x7 x9 X19 X20 X29 X30) ⟨X21, X22, X23, X24, X25, X26, X27, X28⟩ 8).S ∗ owns (c : Thread nD τ) arg22 fullShare (foldRun ⟨v1, v3, v5, v7, v9, v11, v13, v15, v17, v19⟩ (piece (i 2) x2 x3 x4 x6 x7 x9 X19 X20 X29 X30) ⟨X21, X22, X23, X24, X25, X26, X27, X28⟩ 8).G ∗ owns (c : Thread nD τ) arg23 fullShare (foldRun ⟨v1, v3, v5, v7, v9, v11, v13, v15, v17, v19⟩ (piece (i 2) x2 x3 x4 x6 x7 x9 X19 X20 X29 X30) ⟨X21, X22, X23, X24, X25, X26, X27, X28⟩ 8).A ∗ owns (c : Thread nD τ) arg24 fullShare (foldRun ⟨v1, v3, v5, v7, v9, v11, v13, v15, v17, v19⟩ (piece (i 2) x2 x3 x4 x6 x7 x9 X19 X20 X29 X30) ⟨X21, X22, X23, X24, X25, X26, X27, X28⟩ 8).B ∗ owns (c : Thread nD τ) arg25 fullShare (foldRun ⟨v1, v3, v5, v7, v9, v11, v13, v15, v17, v19⟩ (piece (i 2) x2 x3 x4 x6 x7 x9 X19 X20 X29 X30) ⟨X21, X22, X23, X24, X25, X26, X27, X28⟩ 8).C ∗ owns (c : Thread nD τ) arg26 fullShare (foldRun ⟨v1, v3, v5, v7, v9, v11, v13, v15, v17, v19⟩ (piece (i 2) x2 x3 x4 x6 x7 x9 X19 X20 X29 X30) ⟨X21, X22, X23, X24, X25, X26, X27, X28⟩ 8).D ∗ owns (c : Thread nD τ) arg27 fullShare (foldRun ⟨v1, v3, v5, v7, v9, v11, v13, v15, v17, v19⟩ (piece (i 2) x2 x3 x4 x6 x7 x9 X19 X20 X29 X30) ⟨X21, X22, X23, X24, X25, X26, X27, X28⟩ 8).E ∗ owns (c : Thread nD τ) arg28 fullShare (foldRun ⟨v1, v3, v5, v7, v9, v11, v13, v15, v17, v19⟩ (piece (i 2) x2 x3 x4 x6 x7 x9 X19 X20 X29 X30) ⟨X21, X22, X23, X24, X25, X26, X27, X28⟩ 8).G') -∗ K ⟨⟩))
      ⊢ wp frame (wpE (defs₀ (F := F)) Variants.none c none) E (k0_part58 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4) K := by
  rw [← raw_eq i k0_h4 x2 x3 x4 x6 x7 x9 X19 X20 X29 X30]
  iintro ⟨H5, H6, H7, H9, H10, H12, H19, H20, H29, H30, H14, H15, H16, H17, H21, H22, H23, H24, H25, H26, H27, H28, Hk⟩
  iapply (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28).2.2.2.2.2.2.2.2.2.2.2.2 E K
  isplitl [H5]; · iexact H5
  isplitl [H6]; · iexact H6
  isplitl [H7]; · iexact H7
  isplitl [H9]; · iexact H9
  isplitl [H10]; · iexact H10
  isplitl [H12]; · iexact H12
  isplitl [H19]; · iexact H19
  isplitl [H20]; · iexact H20
  isplitl [H29]; · iexact H29
  isplitl [H30]; · iexact H30
  isplitl [H14]; · iexact H14
  isplitl [H15]; · iexact H15
  isplitl [H16]; · iexact H16
  isplitl [H17]; · iexact H17
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iintro ⟨H5, H6, H7, H9, H10, H12, H19, H20, H29, H30, ⟨%f14, H14⟩, ⟨%f15, H15⟩, ⟨%f16, H16⟩, ⟨%f17, H17⟩, H21, H22, H23, H24, H25, H26, H27, H28⟩
  iapply Hk
  isplitl [H5]; · iexact H5
  isplitl [H6]; · iexact H6
  isplitl [H7]; · iexact H7
  isplitl [H9]; · iexact H9
  isplitl [H10]; · iexact H10
  isplitl [H12]; · iexact H12
  isplitl [H19]; · iexact H19
  isplitl [H20]; · iexact H20
  isplitl [H29]; · iexact H29
  isplitl [H30]; · iexact H30
  isplitl [H14]
  · unfold owns; iexists _; isplitr
    swap; · iexact H14
    ipureintro; exact readB_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28 f14
  isplitl [H15]
  · unfold owns; iexists _; isplitr
    swap; · iexact H15
    ipureintro; exact readB_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28 f15
  isplitl [H16]
  · unfold owns; iexists _; isplitr
    swap; · iexact H16
    ipureintro; exact readB_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28 f16
  isplitl [H17]
  · unfold owns; iexists _; isplitr
    swap; · iexact H17
    ipureintro; exact readB_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28 f17
  isplitl [H21]
  · unfold owns; iexists _; isplitr
    swap; · iexact H21
    ipureintro; exact readB_21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28
  isplitl [H22]
  · unfold owns; iexists _; isplitr
    swap; · iexact H22
    ipureintro; exact readB_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28
  isplitl [H23]
  · unfold owns; iexists _; isplitr
    swap; · iexact H23
    ipureintro; exact readB_23 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28
  isplitl [H24]
  · unfold owns; iexists _; isplitr
    swap; · iexact H24
    ipureintro; exact readB_24 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28
  isplitl [H25]
  · unfold owns; iexists _; isplitr
    swap; · iexact H25
    ipureintro; exact readB_25 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28
  isplitl [H26]
  · unfold owns; iexists _; isplitr
    swap; · iexact H26
    ipureintro; exact readB_26 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28
  isplitl [H27]
  · unfold owns; iexists _; isplitr
    swap; · iexact H27
    ipureintro; exact readB_27 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28
  unfold owns; iexists _; isplitr
  swap; · iexact H28
  ipureintro; exact readB_28 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 arg2 v1 v3 v5 v7 v9 v11 v13 v15 v17 v19 k0_h4 x2 x3 x4 x6 x7 x9 X19 X20 X29 X30 X21 X22 X23 X24 X25 X26 X27 X28

end Cert.Ret

end
-- ==== Proof.Ret.BodyA.lean ====
module

public import proofs.«01_k».proof.Proof.Ret.Pass

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
/-! # The body in the first pass -/

/-- The condition of the body's first `scf.if`: the first block of a pass. -/
abbrev cond1 (i : grid0.Coords) : BitVec 1 := Scalar.cmpi .ne (Scalar.extui (Scalar.cmpi .eq (BitVec.ofNat 32 (i 2).val) 0#32)) 0#32

/-- Of its second: the first block of the second pass. -/
abbrev cond2 (i : grid0.Coords) : BitVec 1 :=
  Scalar.cmpi .ne (Scalar.extui (Scalar.andi (Scalar.cmpi .eq (BitVec.ofNat 32 (i 2).val) 0#32) (Scalar.cmpi .eq (BitVec.ofNat 32 (i 1).val) 1#32))) 0#32

/-- The decay columns and whole-chunk decays of a head. -/
def decays (x8 : Vec F S1x8x256x1 .f32) (x10 : Vec F S1x2x256 .f32) : Decays F where
  af := k0_pay459 (View.ld x8 (Rect.unit (s := S1x8x256x1) ![0, 0, 0, 0] S1x1x256x1.size inb_S1x8x256x1_S1x1x256x1_0_0_0_0))
  ab := k0_pay460 (View.ld x8 (Rect.unit (s := S1x8x256x1) ![0, 1, 0, 0] S1x1x256x1.size inb_S1x8x256x1_S1x1x256x1_0_1_0_0))
  kf := k0_pay461 (View.ld x8 (Rect.unit (s := S1x8x256x1) ![0, 2, 0, 0] S1x1x256x1.size inb_S1x8x256x1_S1x1x256x1_0_2_0_0))
  kb := k0_pay462 (View.ld x8 (Rect.unit (s := S1x8x256x1) ![0, 3, 0, 0] S1x1x256x1.size inb_S1x8x256x1_S1x1x256x1_0_3_0_0))
  af1 := k0_pay463 (View.ld x8 (Rect.unit (s := S1x8x256x1) ![0, 4, 0, 0] S1x1x256x1.size inb_S1x8x256x1_S1x1x256x1_0_4_0_0))
  ab1 := k0_pay464 (View.ld x8 (Rect.unit (s := S1x8x256x1) ![0, 5, 0, 0] S1x1x256x1.size inb_S1x8x256x1_S1x1x256x1_0_5_0_0))
  kf1 := k0_pay465 (View.ld x8 (Rect.unit (s := S1x8x256x1) ![0, 6, 0, 0] S1x1x256x1.size inb_S1x8x256x1_S1x1x256x1_0_6_0_0))
  kb1 := k0_pay466 (View.ld x8 (Rect.unit (s := S1x8x256x1) ![0, 7, 0, 0] S1x1x256x1.size inb_S1x8x256x1_S1x1x256x1_0_7_0_0))
  cf := k0_pay467 (View.ld x10 (Rect.unit (s := S1x2x256) ![0, 0, 0] S1x1x256.size inb_S1x2x256_S1x1x256_0_0_0))
  cb := k0_pay1 (View.ld x10 (Rect.unit (s := S1x2x256) ![0, 1, 0] S1x1x256.size inb_S1x2x256_S1x1x256_0_1_0))

/-- A tile of zeros. -/
abbrev zeroTile : Vec F S256x256 .f32 := k0_pay2

/-- The second pass at its start. -/
abbrev zeroRun : Run F := ⟨zeroTile, zeroTile, zeroTile, zeroTile, zeroTile, zeroTile, zeroTile, zeroTile⟩

variable (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x8x256x1 .f32) (harg11 : arg11.IsWhole) (arg12 : Memref sig .tc .vmem S1x3x256x256 .f32) (harg12 : arg12.IsWhole) (arg13 : Memref sig .tc .vmem S1x2x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x256 .bf16) (harg17 : arg17.IsWhole) (arg18 : Memref sig .tc .vmem S1x8x128 .f32) (harg18 : arg18.IsWhole) (arg19 : Memref sig .tc .vmem S16x256x256 .bf16) (harg19 : arg19.IsWhole) (arg20 : Memref sig .tc .vmem S16x256x256 .bf16) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S4096x256 .bf16) (harg29 : arg29.IsWhole) (arg30 : Memref sig .tc .vmem S4096x256 .bf16) (harg30 : arg30.IsWhole)
    (x0 x1 : Vec F S2048x256 .bf16) (x2 x3 x4 x5 : Vec F S1x2048x256 .bf16) (x6 x7 : Vec F S2048x128 .f32) (x8 : Vec F S1x8x256x1 .f32) (x9 : Vec F S1x3x256x256 .f32) (x10 : Vec F S1x2x256 .f32)
    (X19 X20 : Vec F S16x256x256 .bf16) (X29 X30 : Vec F S4096x256 .bf16) (X21 X22 X23 X24 X25 X26 X27 X28 : Vec F S256x256 .f32)

set_option maxHeartbeats 4000000 in
/-- The first block of the first pass: both states start at zero. -/
theorem bodyA0 (hc1 : cond1 i = 1#1) (hc2 : ¬cond2 i = 1#1) (hc3 : k0_cond3 i = 1#1) (hc4 : ¬k0_cond4 i = 1#1) (hc5 : ¬k0_cond5 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg19 fullShare X19 ∗ owns (c : Thread nD τ) arg20 fullShare X20 ∗ (∃ d, owns (c : Thread nD τ) arg21 fullShare d) ∗ (∃ d, owns (c : Thread nD τ) arg22 fullShare d) ∗ owns (c : Thread nD τ) arg29 fullShare X29 ∗ owns (c : Thread nD τ) arg30 fullShare X30
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg19 fullShare (keptSb (decays x8 x10).kb (decays x8 x10).cb x3 x4 zeroTile (1 - (i 2).val) X19) ∗ owns (c : Thread nD τ) arg20 fullShare (keptGf (decays x8 x10).af (decays x8 x10).cf x0 x1 x2 x5 zeroTile (1 - (i 2).val) X20) ∗ owns (c : Thread nD τ) arg21 fullShare (foldSb (decays x8 x10).kb (decays x8 x10).cb x3 x4 zeroTile 8) ∗ owns (c : Thread nD τ) arg22 fullShare (foldGf (decays x8 x10).af (decays x8 x10).cf x0 x1 x2 x5 zeroTile 8) ∗ owns (c : Thread nD τ) arg29 fullShare (keptDout x0 x1 x5 (1 - (i 2).val) X29) ∗ owns (c : Thread nD τ) arg30 fullShare (keptDgate x0 x1 x5 (1 - (i 2).val) X30)) -∗ K ⟨⟩))
      ⊢ wp frame (wpE (defs₀ (F := F)) Variants.none c none) E (cc0_ret_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [cc0_ret_bwd_eq_skeleton]; unfold cc0_ret_bwd_skel
  simp only [k0_part60_eq_skeleton, k0_part59_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f19, %hf19, H19⟩, ⟨%f20, %hf20, H20⟩, ⟨%d21, %f21, -, H21⟩, ⟨%d22, %f22, -, H22⟩, ⟨%f29, %hf29, H29⟩, ⟨%f30, %hf30, H30⟩, Hk⟩
  subst hf11; subst hf13
  set_option sl_exec.stopBefore "k0_part21" in sl_exec (disch := first | sl_exact hc1 | sl_exact hc2 | sl_exact hc3 | sl_exact hc4 | sl_exact hc5)
  beta_reduce
  rw [wp_bind]
  iapply (passA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 _ _ (decays (arg11.view.read (Elt F) f11) (arg13.view.read (Elt F) f13)).af (decays (arg11.view.read (Elt F) f11) (arg13.view.read (Elt F) f13)).kb (decays (arg11.view.read (Elt F) f11) (arg13.view.read (Elt F) f13)).cf (decays (arg11.view.read (Elt F) f11) (arg13.view.read (Elt F) f13)).cb x0 x1 x2 x3 x4 x5 x6 x7 X19 X20 X29 X30 zeroTile zeroTile hc3 E _)
  isplitl [H3]
  · unfold owns; iexists _; isplitr
    swap; · iexact H3
    ipureintro; exact hf3
  isplitl [H4]
  · unfold owns; iexists _; isplitr
    swap; · iexact H4
    ipureintro; exact hf4
  isplitl [H5]
  · unfold owns; iexists _; isplitr
    swap; · iexact H5
    ipureintro; exact hf5
  isplitl [H6]
  · unfold owns; iexists _; isplitr
    swap; · iexact H6
    ipureintro; exact hf6
  isplitl [H7]
  · unfold owns; iexists _; isplitr
    swap; · iexact H7
    ipureintro; exact hf7
  isplitl [H8]
  · unfold owns; iexists _; isplitr
    swap; · iexact H8
    ipureintro; exact hf8
  isplitl [H9]
  · unfold owns; iexists _; isplitr
    swap; · iexact H9
    ipureintro; exact hf9
  isplitl [H10]
  · unfold owns; iexists _; isplitr
    swap; · iexact H10
    ipureintro; exact hf10
  isplitl [H19]
  · unfold owns; iexists _; isplitr
    swap; · iexact H19
    ipureintro; exact hf19
  isplitl [H20]
  · unfold owns; iexists _; isplitr
    swap; · iexact H20
    ipureintro; exact hf20
  isplitl [H21]
  · unfold owns; iexists _; isplitr
    swap; · iexact H21
    ipureintro; exact tile_read _ _ _ _ _
  isplitl [H22]
  · unfold owns; iexists _; isplitr
    swap; · iexact H22
    ipureintro; exact tile_read _ _ _ _ _
  isplitl [H29]
  · unfold owns; iexists _; isplitr
    swap; · iexact H29
    ipureintro; exact hf29
  isplitl [H30]
  · unfold owns; iexists _; isplitr
    swap; · iexact H30
    ipureintro; exact hf30
  iintro ⟨H3, H4, H5, H6, H7, H8, H9, H10, H19, H20, H21, H22, H29, H30⟩
  sl_exec (disch := first | sl_exact hc4 | sl_exact hc5)
  sl_step
  unfold owns
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr
    swap; · iexact H11
    ipureintro; rfl
  isplitl [H12]
  · iexists _; isplitr
    swap; · iexact H12
    ipureintro; exact hf12
  isplitl [H13]
  · iexists _; isplitr
    swap; · iexact H13
    ipureintro; rfl
  isplitl [H19]; · iexact H19
  isplitl [H20]; · iexact H20
  isplitl [H21]; · iexact H21
  isplitl [H22]; · iexact H22
  isplitl [H29]; · iexact H29
  iexact H30

set_option maxHeartbeats 4000000 in
/-- The second block of the first pass: the states go on. -/
theorem bodyA1 (hc1 : ¬cond1 i = 1#1) (hc2 : ¬cond2 i = 1#1) (hc3 : k0_cond3 i = 1#1) (hc4 : ¬k0_cond4 i = 1#1) (hc5 : ¬k0_cond5 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg19 fullShare X19 ∗ owns (c : Thread nD τ) arg20 fullShare X20 ∗ owns (c : Thread nD τ) arg21 fullShare X21 ∗ owns (c : Thread nD τ) arg22 fullShare X22 ∗ owns (c : Thread nD τ) arg29 fullShare X29 ∗ owns (c : Thread nD τ) arg30 fullShare X30
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg19 fullShare (keptSb (decays x8 x10).kb (decays x8 x10).cb x3 x4 X21 (1 - (i 2).val) X19) ∗ owns (c : Thread nD τ) arg20 fullShare (keptGf (decays x8 x10).af (decays x8 x10).cf x0 x1 x2 x5 X22 (1 - (i 2).val) X20) ∗ owns (c : Thread nD τ) arg21 fullShare (foldSb (decays x8 x10).kb (decays x8 x10).cb x3 x4 X21 8) ∗ owns (c : Thread nD τ) arg22 fullShare (foldGf (decays x8 x10).af (decays x8 x10).cf x0 x1 x2 x5 X22 8) ∗ owns (c : Thread nD τ) arg29 fullShare (keptDout x0 x1 x5 (1 - (i 2).val) X29) ∗ owns (c : Thread nD τ) arg30 fullShare (keptDgate x0 x1 x5 (1 - (i 2).val) X30)) -∗ K ⟨⟩))
      ⊢ wp frame (wpE (defs₀ (F := F)) Variants.none c none) E (cc0_ret_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [cc0_ret_bwd_eq_skeleton]; unfold cc0_ret_bwd_skel
  simp only [k0_part60_eq_skeleton, k0_part59_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f19, %hf19, H19⟩, ⟨%f20, %hf20, H20⟩, ⟨%f21, %hf21, H21⟩, ⟨%f22, %hf22, H22⟩, ⟨%f29, %hf29, H29⟩, ⟨%f30, %hf30, H30⟩, Hk⟩
  subst hf11; subst hf13
  set_option sl_exec.stopBefore "k0_part21" in sl_exec (disch := first | sl_exact hc1 | sl_exact hc2 | sl_exact hc3 | sl_exact hc4 | sl_exact hc5)
  beta_reduce
  rw [wp_bind]
  iapply (passA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 _ _ (decays (arg11.view.read (Elt F) f11) (arg13.view.read (Elt F) f13)).af (decays (arg11.view.read (Elt F) f11) (arg13.view.read (Elt F) f13)).kb (decays (arg11.view.read (Elt F) f11) (arg13.view.read (Elt F) f13)).cf (decays (arg11.view.read (Elt F) f11) (arg13.view.read (Elt F) f13)).cb x0 x1 x2 x3 x4 x5 x6 x7 X19 X20 X29 X30 X21 X22 hc3 E _)
  isplitl [H3]
  · unfold owns; iexists _; isplitr
    swap; · iexact H3
    ipureintro; exact hf3
  isplitl [H4]
  · unfold owns; iexists _; isplitr
    swap; · iexact H4
    ipureintro; exact hf4
  isplitl [H5]
  · unfold owns; iexists _; isplitr
    swap; · iexact H5
    ipureintro; exact hf5
  isplitl [H6]
  · unfold owns; iexists _; isplitr
    swap; · iexact H6
    ipureintro; exact hf6
  isplitl [H7]
  · unfold owns; iexists _; isplitr
    swap; · iexact H7
    ipureintro; exact hf7
  isplitl [H8]
  · unfold owns; iexists _; isplitr
    swap; · iexact H8
    ipureintro; exact hf8
  isplitl [H9]
  · unfold owns; iexists _; isplitr
    swap; · iexact H9
    ipureintro; exact hf9
  isplitl [H10]
  · unfold owns; iexists _; isplitr
    swap; · iexact H10
    ipureintro; exact hf10
  isplitl [H19]
  · unfold owns; iexists _; isplitr
    swap; · iexact H19
    ipureintro; exact hf19
  isplitl [H20]
  · unfold owns; iexists _; isplitr
    swap; · iexact H20
    ipureintro; exact hf20
  isplitl [H21]
  · unfold owns; iexists _; isplitr
    swap; · iexact H21
    ipureintro; exact hf21
  isplitl [H22]
  · unfold owns; iexists _; isplitr
    swap; · iexact H22
    ipureintro; exact hf22
  isplitl [H29]
  · unfold owns; iexists _; isplitr
    swap; · iexact H29
    ipureintro; exact hf29
  isplitl [H30]
  · unfold owns; iexists _; isplitr
    swap; · iexact H30
    ipureintro; exact hf30
  iintro ⟨H3, H4, H5, H6, H7, H8, H9, H10, H19, H20, H21, H22, H29, H30⟩
  sl_exec (disch := first | sl_exact hc4 | sl_exact hc5)
  sl_step
  unfold owns
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr
    swap; · iexact H11
    ipureintro; rfl
  isplitl [H12]
  · iexists _; isplitr
    swap; · iexact H12
    ipureintro; exact hf12
  isplitl [H13]
  · iexists _; isplitr
    swap; · iexact H13
    ipureintro; rfl
  isplitl [H19]; · iexact H19
  isplitl [H20]; · iexact H20
  isplitl [H21]; · iexact H21
  isplitl [H22]; · iexact H22
  isplitl [H29]; · iexact H29
  iexact H30

end Cert.Ret

end
-- ==== Proof.Ret.BodyB.lean ====
module

public import proofs.«01_k».proof.Proof.Ret.BodyA

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
/-! # The body in the second pass -/

/-- The tile of the gradient at the decays, from the accumulators of a head. -/
def dlgTile (D : Decays F) (r : Run F) : Vec F S1x8x128 .f32 :=
  k0_pay10 (k0_pay457 D.cf r.A r.C r.E) (k0_pay458 D.cb r.B r.D r.G')

theorem head_read {sig : RefSig} {κ : Kind} {sp : Space} (v : View sig κ sp S1x8x128 .f32) (f : v.ty.Contents (Elt F))
    (inb : ∀ a, (![0, 0, 0] : Fin 3 → ℕ) a + S1x8x128.size a ≤ S1x8x128.size a)
    (w : Vec F S1x8x128 .f32) (L : List (View.Piece (Elt F) S1x8x128 .f32)) :
    v.read (Elt F) (v.writes (Elt F) f (⟨Rect.unit (s := S1x8x128) ![0, 0, 0] S1x8x128.size inb, w⟩ :: L)) = w :=
  funext fun y => View.read_writes_cons_hit_of_coords v f (Rect.unit (s := S1x8x128) ![0, 0, 0] S1x8x128.size inb) w L y y (by
    intro a; fin_cases a
    · show (y 0).val = 0 + 1 * (y 0).val; omega
    · show (y 1).val = 0 + 1 * (y 1).val; omega
    · show (y 2).val = 0 + 1 * (y 2).val; omega)

variable (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x8x256x1 .f32) (harg11 : arg11.IsWhole) (arg12 : Memref sig .tc .vmem S1x3x256x256 .f32) (harg12 : arg12.IsWhole) (arg13 : Memref sig .tc .vmem S1x2x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S2048x256 .bf16) (harg17 : arg17.IsWhole) (arg18 : Memref sig .tc .vmem S1x8x128 .f32) (harg18 : arg18.IsWhole) (arg19 : Memref sig .tc .vmem S16x256x256 .bf16) (harg19 : arg19.IsWhole) (arg20 : Memref sig .tc .vmem S16x256x256 .bf16) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S4096x256 .bf16) (harg29 : arg29.IsWhole) (arg30 : Memref sig .tc .vmem S4096x256 .bf16) (harg30 : arg30.IsWhole)
    (x0 x1 : Vec F S2048x256 .bf16) (x2 x3 x4 x5 : Vec F S1x2048x256 .bf16) (x6 x7 : Vec F S2048x128 .f32) (x8 : Vec F S1x8x256x1 .f32) (x9 : Vec F S1x3x256x256 .f32) (x10 : Vec F S1x2x256 .f32)
    (X19 X20 : Vec F S16x256x256 .bf16) (X29 X30 : Vec F S4096x256 .bf16) (X21 X22 X23 X24 X25 X26 X27 X28 : Vec F S256x256 .f32)

set_option maxHeartbeats 4000000 in
/-- The first block of the second pass: states and accumulators start at zero. -/
theorem bodyB0 (hc1 : cond1 i = 1#1) (hc2 : cond2 i = 1#1) (hc3 : ¬k0_cond3 i = 1#1) (hc4 : k0_cond4 i = 1#1) (hc5 : ¬k0_cond5 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg19 fullShare X19 ∗ owns (c : Thread nD τ) arg20 fullShare X20 ∗ owns (c : Thread nD τ) arg29 fullShare X29 ∗ owns (c : Thread nD τ) arg30 fullShare X30 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg19 fullShare X19 ∗ owns (c : Thread nD τ) arg20 fullShare X20 ∗ owns (c : Thread nD τ) arg29 fullShare X29 ∗ owns (c : Thread nD τ) arg30 fullShare X30 ∗ owns (c : Thread nD τ) arg21 fullShare (foldRun (decays x8 x10) (piece (i 2) x2 x3 x4 x6 x7 x9 X19 X20 X29 X30) zeroRun 8).S ∗ owns (c : Thread nD τ) arg22 fullShare (foldRun (decays x8 x10) (piece (i 2) x2 x3 x4 x6 x7 x9 X19 X20 X29 X30) zeroRun 8).G ∗ owns (c : Thread nD τ) arg23 fullShare (foldRun (decays x8 x10) (piece (i 2) x2 x3 x4 x6 x7 x9 X19 X20 X29 X30) zeroRun 8).A ∗ owns (c : Thread nD τ) arg24 fullShare (foldRun (decays x8 x10) (piece (i 2) x2 x3 x4 x6 x7 x9 X19 X20 X29 X30) zeroRun 8).B ∗ owns (c : Thread nD τ) arg25 fullShare (foldRun (decays x8 x10) (piece (i 2) x2 x3 x4 x6 x7 x9 X19 X20 X29 X30) zeroRun 8).C ∗ owns (c : Thread nD τ) arg26 fullShare (foldRun (decays x8 x10) (piece (i 2) x2 x3 x4 x6 x7 x9 X19 X20 X29 X30) zeroRun 8).D ∗ owns (c : Thread nD τ) arg27 fullShare (foldRun (decays x8 x10) (piece (i 2) x2 x3 x4 x6 x7 x9 X19 X20 X29 X30) zeroRun 8).E ∗ owns (c : Thread nD τ) arg28 fullShare (foldRun (decays x8 x10) (piece (i 2) x2 x3 x4 x6 x7 x9 X19 X20 X29 X30) zeroRun 8).G' ∗ owns (c : Thread nD τ) arg14 fullShare (dqRows (decays x8 x10) (piece (i 2) x2 x3 x4 x6 x7 x9 X19 X20 X29 X30) zeroRun) ∗ owns (c : Thread nD τ) arg15 fullShare (dkRows (decays x8 x10) (piece (i 2) x2 x3 x4 x6 x7 x9 X19 X20 X29 X30) zeroRun) ∗ owns (c : Thread nD τ) arg16 fullShare (dvRows (decays x8 x10) (piece (i 2) x2 x3 x4 x6 x7 x9 X19 X20 X29 X30) zeroRun) ∗ owns (c : Thread nD τ) arg17 fullShare (dgRows (piece (i 2) x2 x3 x4 x6 x7 x9 X19 X20 X29 X30))) -∗ K ⟨⟩))
      ⊢ wp frame (wpE (defs₀ (F := F)) Variants.none c none) E (cc0_ret_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [cc0_ret_bwd_eq_skeleton]; unfold cc0_ret_bwd_skel
  simp only [k0_part60_eq_skeleton, k0_part59_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f19, %hf19, H19⟩, ⟨%f20, %hf20, H20⟩, ⟨%f29, %hf29, H29⟩, ⟨%f30, %hf30, H30⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d14, %f14, -, H14⟩, ⟨%d15, %f15, -, H15⟩, ⟨%d16, %f16, -, H16⟩, ⟨%d17, %f17, -, H17⟩, Hk⟩
  subst hf11; subst hf13
  set_option sl_exec.stopBefore "k0_part58" in sl_exec (disch := first | sl_exact hc1 | sl_exact hc2 | sl_exact hc3 | sl_exact hc4 | sl_exact hc5)
  beta_reduce
  rw [wp_bind]
  iapply (passB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 _ _ (decays (arg11.view.read (Elt F) f11) (arg13.view.read (Elt F) f13)).af (decays (arg11.view.read (Elt F) f11) (arg13.view.read (Elt F) f13)).ab (decays (arg11.view.read (Elt F) f11) (arg13.view.read (Elt F) f13)).kf (decays (arg11.view.read (Elt F) f11) (arg13.view.read (Elt F) f13)).kb (decays (arg11.view.read (Elt F) f11) (arg13.view.read (Elt F) f13)).af1 (decays (arg11.view.read (Elt F) f11) (arg13.view.read (Elt F) f13)).ab1 (decays (arg11.view.read (Elt F) f11) (arg13.view.read (Elt F) f13)).kf1 (decays (arg11.view.read (Elt F) f11) (arg13.view.read (Elt F) f13)).kb1 (decays (arg11.view.read (Elt F) f11) (arg13.view.read (Elt F) f13)).cf (decays (arg11.view.read (Elt F) f11) (arg13.view.read (Elt F) f13)).cb x2 x3 x4 x6 x7 x9 X19 X20 X29 X30 zeroTile zeroTile zeroTile zeroTile zeroTile zeroTile zeroTile zeroTile hc4 E _)
  isplitl [H5]
  · unfold owns; iexists _; isplitr
    swap; · iexact H5
    ipureintro; exact hf5
  isplitl [H6]
  · unfold owns; iexists _; isplitr
    swap; · iexact H6
    ipureintro; exact hf6
  isplitl [H7]
  · unfold owns; iexists _; isplitr
    swap; · iexact H7
    ipureintro; exact hf7
  isplitl [H9]
  · unfold owns; iexists _; isplitr
    swap; · iexact H9
    ipureintro; exact hf9
  isplitl [H10]
  · unfold owns; iexists _; isplitr
    swap; · iexact H10
    ipureintro; exact hf10
  isplitl [H12]
  · unfold owns; iexists _; isplitr
    swap; · iexact H12
    ipureintro; exact hf12
  isplitl [H19]
  · unfold owns; iexists _; isplitr
    swap; · iexact H19
    ipureintro; exact hf19
  isplitl [H20]
  · unfold owns; iexists _; isplitr
    swap; · iexact H20
    ipureintro; exact hf20
  isplitl [H29]
  · unfold owns; iexists _; isplitr
    swap; · iexact H29
    ipureintro; exact hf29
  isplitl [H30]
  · unfold owns; iexists _; isplitr
    swap; · iexact H30
    ipureintro; exact hf30
  isplitl [H14]
  · iexists _; unfold owns; iexists _; isplitr
    swap; · iexact H14
    ipureintro; rfl
  isplitl [H15]
  · iexists _; unfold owns; iexists _; isplitr
    swap; · iexact H15
    ipureintro; rfl
  isplitl [H16]
  · iexists _; unfold owns; iexists _; isplitr
    swap; · iexact H16
    ipureintro; rfl
  isplitl [H17]
  · iexists _; unfold owns; iexists _; isplitr
    swap; · iexact H17
    ipureintro; rfl
  isplitl [H21]
  · unfold owns; iexists _; isplitr
    swap; · iexact H21
    ipureintro; exact tile_read _ _ _ _ _
  isplitl [H22]
  · unfold owns; iexists _; isplitr
    swap; · iexact H22
    ipureintro; exact tile_read _ _ _ _ _
  isplitl [H23]
  · unfold owns; iexists _; isplitr
    swap; · iexact H23
    ipureintro; exact tile_read _ _ _ _ _
  isplitl [H24]
  · unfold owns; iexists _; isplitr
    swap; · iexact H24
    ipureintro; exact tile_read _ _ _ _ _
  isplitl [H25]
  · unfold owns; iexists _; isplitr
    swap; · iexact H25
    ipureintro; exact tile_read _ _ _ _ _
  isplitl [H26]
  · unfold owns; iexists _; isplitr
    swap; · iexact H26
    ipureintro; exact tile_read _ _ _ _ _
  isplitl [H27]
  · unfold owns; iexists _; isplitr
    swap; · iexact H27
    ipureintro; exact tile_read _ _ _ _ _
  isplitl [H28]
  · unfold owns; iexists _; isplitr
    swap; · iexact H28
    ipureintro; exact tile_read _ _ _ _ _
  iintro ⟨H5, H6, H7, H9, H10, H12, H19, H20, H29, H30, H14, H15, H16, H17, H21, H22, H23, H24, H25, H26, H27, H28⟩
  sl_exec (disch := first | sl_exact hc5)
  sl_step
  unfold owns
  iapply Hk
  isplitl [H3]
  · iexists _; isplitr
    swap; · iexact H3
    ipureintro; exact hf3
  isplitl [H4]
  · iexists _; isplitr
    swap; · iexact H4
    ipureintro; exact hf4
  isplitl [H5]; · iexact H5
  isplitl [H6]; · iexact H6
  isplitl [H7]; · iexact H7
  isplitl [H8]
  · iexists _; isplitr
    swap; · iexact H8
    ipureintro; exact hf8
  isplitl [H9]; · iexact H9
  isplitl [H10]; · iexact H10
  isplitl [H11]
  · iexists _; isplitr
    swap; · iexact H11
    ipureintro; rfl
  isplitl [H12]; · iexact H12
  isplitl [H13]
  · iexists _; isplitr
    swap; · iexact H13
    ipureintro; rfl
  isplitl [H19]; · iexact H19
  isplitl [H20]; · iexact H20
  isplitl [H29]; · iexact H29
  isplitl [H30]; · iexact H30
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H14]; · iexact H14
  isplitl [H15]; · iexact H15
  isplitl [H16]; · iexact H16
  iexact H17

set_option maxHeartbeats 4000000 in
/-- The second block of the second pass: the states and accumulators go on, and the gradient at the decays is stored. -/
theorem bodyB1 (hc1 : ¬cond1 i = 1#1) (hc2 : ¬cond2 i = 1#1) (hc3 : ¬k0_cond3 i = 1#1) (hc4 : k0_cond4 i = 1#1) (hc5 : k0_cond5 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg19 fullShare X19 ∗ owns (c : Thread nD τ) arg20 fullShare X20 ∗ owns (c : Thread nD τ) arg29 fullShare X29 ∗ owns (c : Thread nD τ) arg30 fullShare X30 ∗ owns (c : Thread nD τ) arg21 fullShare X21 ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare X26 ∗ owns (c : Thread nD τ) arg27 fullShare X27 ∗ owns (c : Thread nD τ) arg28 fullShare X28 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg19 fullShare X19 ∗ owns (c : Thread nD τ) arg20 fullShare X20 ∗ owns (c : Thread nD τ) arg29 fullShare X29 ∗ owns (c : Thread nD τ) arg30 fullShare X30 ∗ owns (c : Thread nD τ) arg21 fullShare (foldRun (decays x8 x10) (piece (i 2) x2 x3 x4 x6 x7 x9 X19 X20 X29 X30) ⟨X21, X22, X23, X24, X25, X26, X27, X28⟩ 8).S ∗ owns (c : Thread nD τ) arg22 fullShare (foldRun (decays x8 x10) (piece (i 2) x2 x3 x4 x6 x7 x9 X19 X20 X29 X30) ⟨X21, X22, X23, X24, X25, X26, X27, X28⟩ 8).G ∗ owns (c : Thread nD τ) arg23 fullShare (foldRun (decays x8 x10) (piece (i 2) x2 x3 x4 x6 x7 x9 X19 X20 X29 X30) ⟨X21, X22, X23, X24, X25, X26, X27, X28⟩ 8).A ∗ owns (c : Thread nD τ) arg24 fullShare (foldRun (decays x8 x10) (piece (i 2) x2 x3 x4 x6 x7 x9 X19 X20 X29 X30) ⟨X21, X22, X23, X24, X25, X26, X27, X28⟩ 8).B ∗ owns (c : Thread nD τ) arg25 fullShare (foldRun (decays x8 x10) (piece (i 2) x2 x3 x4 x6 x7 x9 X19 X20 X29 X30) ⟨X21, X22, X23, X24, X25, X26, X27, X28⟩ 8).C ∗ owns (c : Thread nD τ) arg26 fullShare (foldRun (decays x8 x10) (piece (i 2) x2 x3 x4 x6 x7 x9 X19 X20 X29 X30) ⟨X21, X22, X23, X24, X25, X26, X27, X28⟩ 8).D ∗ owns (c : Thread nD τ) arg27 fullShare (foldRun (decays x8 x10) (piece (i 2) x2 x3 x4 x6 x7 x9 X19 X20 X29 X30) ⟨X21, X22, X23, X24, X25, X26, X27, X28⟩ 8).E ∗ owns (c : Thread nD τ) arg28 fullShare (foldRun (decays x8 x10) (piece (i 2) x2 x3 x4 x6 x7 x9 X19 X20 X29 X30) ⟨X21, X22, X23, X24, X25, X26, X27, X28⟩ 8).G' ∗ owns (c : Thread nD τ) arg14 fullShare (dqRows (decays x8 x10) (piece (i 2) x2 x3 x4 x6 x7 x9 X19 X20 X29 X30) ⟨X21, X22, X23, X24, X25, X26, X27, X28⟩) ∗ owns (c : Thread nD τ) arg15 fullShare (dkRows (decays x8 x10) (piece (i 2) x2 x3 x4 x6 x7 x9 X19 X20 X29 X30) ⟨X21, X22, X23, X24, X25, X26, X27, X28⟩) ∗ owns (c : Thread nD τ) arg16 fullShare (dvRows (decays x8 x10) (piece (i 2) x2 x3 x4 x6 x7 x9 X19 X20 X29 X30) ⟨X21, X22, X23, X24, X25, X26, X27, X28⟩) ∗ owns (c : Thread nD τ) arg17 fullShare (dgRows (piece (i 2) x2 x3 x4 x6 x7 x9 X19 X20 X29 X30)) ∗ owns (c : Thread nD τ) arg18 fullShare (dlgTile (decays x8 x10) (foldRun (decays x8 x10) (piece (i 2) x2 x3 x4 x6 x7 x9 X19 X20 X29 X30) ⟨X21, X22, X23, X24, X25, X26, X27, X28⟩ 8))) -∗ K ⟨⟩))
      ⊢ wp frame (wpE (defs₀ (F := F)) Variants.none c none) E (cc0_ret_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [cc0_ret_bwd_eq_skeleton]; unfold cc0_ret_bwd_skel
  simp only [k0_part60_eq_skeleton, k0_part59_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f19, %hf19, H19⟩, ⟨%f20, %hf20, H20⟩, ⟨%f29, %hf29, H29⟩, ⟨%f30, %hf30, H30⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d14, %f14, -, H14⟩, ⟨%d15, %f15, -, H15⟩, ⟨%d16, %f16, -, H16⟩, ⟨%d17, %f17, -, H17⟩, ⟨%d18, %f18, -, H18⟩, Hk⟩
  subst hf11; subst hf13
  set_option sl_exec.stopBefore "k0_part58" in sl_exec (disch := first | sl_exact hc1 | sl_exact hc2 | sl_exact hc3 | sl_exact hc4 | sl_exact hc5)
  beta_reduce
  rw [wp_bind]
  iapply (passB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 _ _ (decays (arg11.view.read (Elt F) f11) (arg13.view.read (Elt F) f13)).af (decays (arg11.view.read (Elt F) f11) (arg13.view.read (Elt F) f13)).ab (decays (arg11.view.read (Elt F) f11) (arg13.view.read (Elt F) f13)).kf (decays (arg11.view.read (Elt F) f11) (arg13.view.read (Elt F) f13)).kb (decays (arg11.view.read (Elt F) f11) (arg13.view.read (Elt F) f13)).af1 (decays (arg11.view.read (Elt F) f11) (arg13.view.read (Elt F) f13)).ab1 (decays (arg11.view.read (Elt F) f11) (arg13.view.read (Elt F) f13)).kf1 (decays (arg11.view.read (Elt F) f11) (arg13.view.read (Elt F) f13)).kb1 (decays (arg11.view.read (Elt F) f11) (arg13.view.read (Elt F) f13)).cf (decays (arg11.view.read (Elt F) f11) (arg13.view.read (Elt F) f13)).cb x2 x3 x4 x6 x7 x9 X19 X20 X29 X30 X21 X22 X23 X24 X25 X26 X27 X28 hc4 E _)
  isplitl [H5]
  · unfold owns; iexists _; isplitr
    swap; · iexact H5
    ipureintro; exact hf5
  isplitl [H6]
  · unfold owns; iexists _; isplitr
    swap; · iexact H6
    ipureintro; exact hf6
  isplitl [H7]
  · unfold owns; iexists _; isplitr
    swap; · iexact H7
    ipureintro; exact hf7
  isplitl [H9]
  · unfold owns; iexists _; isplitr
    swap; · iexact H9
    ipureintro; exact hf9
  isplitl [H10]
  · unfold owns; iexists _; isplitr
    swap; · iexact H10
    ipureintro; exact hf10
  isplitl [H12]
  · unfold owns; iexists _; isplitr
    swap; · iexact H12
    ipureintro; exact hf12
  isplitl [H19]
  · unfold owns; iexists _; isplitr
    swap; · iexact H19
    ipureintro; exact hf19
  isplitl [H20]
  · unfold owns; iexists _; isplitr
    swap; · iexact H20
    ipureintro; exact hf20
  isplitl [H29]
  · unfold owns; iexists _; isplitr
    swap; · iexact H29
    ipureintro; exact hf29
  isplitl [H30]
  · unfold owns; iexists _; isplitr
    swap; · iexact H30
    ipureintro; exact hf30
  isplitl [H14]
  · iexists _; unfold owns; iexists _; isplitr
    swap; · iexact H14
    ipureintro; rfl
  isplitl [H15]
  · iexists _; unfold owns; iexists _; isplitr
    swap; · iexact H15
    ipureintro; rfl
  isplitl [H16]
  · iexists _; unfold owns; iexists _; isplitr
    swap; · iexact H16
    ipureintro; rfl
  isplitl [H17]
  · iexists _; unfold owns; iexists _; isplitr
    swap; · iexact H17
    ipureintro; rfl
  isplitl [H21]
  · unfold owns; iexists _; isplitr
    swap; · iexact H21
    ipureintro; exact hf21
  isplitl [H22]
  · unfold owns; iexists _; isplitr
    swap; · iexact H22
    ipureintro; exact hf22
  isplitl [H23]
  · unfold owns; iexists _; isplitr
    swap; · iexact H23
    ipureintro; exact hf23
  isplitl [H24]
  · unfold owns; iexists _; isplitr
    swap; · iexact H24
    ipureintro; exact hf24
  isplitl [H25]
  · unfold owns; iexists _; isplitr
    swap; · iexact H25
    ipureintro; exact hf25
  isplitl [H26]
  · unfold owns; iexists _; isplitr
    swap; · iexact H26
    ipureintro; exact hf26
  isplitl [H27]
  · unfold owns; iexists _; isplitr
    swap; · iexact H27
    ipureintro; exact hf27
  isplitl [H28]
  · unfold owns; iexists _; isplitr
    swap; · iexact H28
    ipureintro; exact hf28
  unfold owns
  iintro ⟨H5, H6, H7, H9, H10, H12, H19, H20, H29, H30, H14, H15, H16, H17, H21, H22, ⟨%g23, %hg23, H23⟩, ⟨%g24, %hg24, H24⟩, ⟨%g25, %hg25, H25⟩, ⟨%g26, %hg26, H26⟩, ⟨%g27, %hg27, H27⟩, ⟨%g28, %hg28, H28⟩⟩
  sl_exec (disch := first | sl_exact hc5)
  sl_step
  iapply Hk
  isplitl [H3]
  · iexists _; isplitr
    swap; · iexact H3
    ipureintro; exact hf3
  isplitl [H4]
  · iexists _; isplitr
    swap; · iexact H4
    ipureintro; exact hf4
  isplitl [H5]; · iexact H5
  isplitl [H6]; · iexact H6
  isplitl [H7]; · iexact H7
  isplitl [H8]
  · iexists _; isplitr
    swap; · iexact H8
    ipureintro; exact hf8
  isplitl [H9]; · iexact H9
  isplitl [H10]; · iexact H10
  isplitl [H11]
  · iexists _; isplitr
    swap; · iexact H11
    ipureintro; rfl
  isplitl [H12]; · iexact H12
  isplitl [H13]
  · iexists _; isplitr
    swap; · iexact H13
    ipureintro; rfl
  isplitl [H19]; · iexact H19
  isplitl [H20]; · iexact H20
  isplitl [H29]; · iexact H29
  isplitl [H30]; · iexact H30
  isplitl [H21]; · iexact H21
  isplitl [H22]; · iexact H22
  isplitl [H23]
  · iexists _; isplitr
    swap; · iexact H23
    ipureintro; exact hg23
  isplitl [H24]
  · iexists _; isplitr
    swap; · iexact H24
    ipureintro; exact hg24
  isplitl [H25]
  · iexists _; isplitr
    swap; · iexact H25
    ipureintro; exact hg25
  isplitl [H26]
  · iexists _; isplitr
    swap; · iexact H26
    ipureintro; exact hg26
  isplitl [H27]
  · iexists _; isplitr
    swap; · iexact H27
    ipureintro; exact hg27
  isplitl [H28]
  · iexists _; isplitr
    swap; · iexact H28
    ipureintro; exact hg28
  isplitl [H14]; · iexact H14
  isplitl [H15]; · iexact H15
  isplitl [H16]; · iexact H16
  isplitl [H17]; · iexact H17
  iexists _; isplitr
  swap; · iexact H18
  ipureintro
  refine (head_read _ _ _ _ _).trans ?_
  unfold dlgTile
  rw [← hg23, ← hg24, ← hg25, ← hg26, ← hg27, ← hg28]
  sl_unfold_words
  simp only [View.readAt_eq_ld, tile_ld]
  rfl

end Cert.Ret

end
-- ==== Proof.Ret.Inv.lean ====
module

public import proofs.«01_k».proof.Proof.Ret.BodyB

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # What the scratch buffers hold, point by point -/

variable (m : (ℓ : Loc nD τ sig) → Buf (Elt F) ℓ) (c : Dev nD)

/-- Point `r` of head `h`: the first pass over the later block and over the earlier, then the second over the earlier and over the later. -/
def pt (h r : ℕ) : Fin cfg0.N := ⟨(4 * h + r) % 16, lt_of_lt_of_eq (Nat.mod_lt _ (by decide)) (show (16 : ℕ) = cfg0.N from N_0.symm)⟩

theorem pt_eq (t : Fin cfg0.N) (r : ℕ) (h : t.val % 4 = r) : pt (t.val / 4) r = t := by
  have hN : t.val < 16 := lt_of_lt_of_eq t.isLt (show cfg0.N = 16 from N_0)
  apply Fin.ext; show (4 * (t.val / 4) + r) % 16 = t.val; omega

/-- The decays at a point. -/
abbrev decAt (t : Fin cfg0.N) : Decays F := decays (iblk m c 8 t) (iblk m c 10 t)

/-- The two states after the first pass over the later block. -/
def stS (h : ℕ) : Vec F S256x256 .f32 := foldSb (decAt m c (pt h 0)).kb (decAt m c (pt h 0)).cb (iblk m c 3 (pt h 0)) (iblk m c 4 (pt h 0)) zeroTile 8
def stG (h : ℕ) : Vec F S256x256 .f32 := foldGf (decAt m c (pt h 0)).af (decAt m c (pt h 0)).cf (iblk m c 0 (pt h 0)) (iblk m c 1 (pt h 0)) (iblk m c 2 (pt h 0)) (iblk m c 5 (pt h 0)) zeroTile 8

/-- The point of the first pass that visits block `b`. -/
def ptA (h : ℕ) (b : Fin 2) : Fin cfg0.N := pt h (1 - b.val)
/-- The states the first pass has before block `b`. -/
def inS (h : ℕ) (b : Fin 2) : Vec F S256x256 .f32 := if b = 1 then zeroTile else stS m c h
def inG (h : ℕ) (b : Fin 2) : Vec F S256x256 .f32 := if b = 1 then zeroTile else stG m c h

/-- What the first pass keeps of chunk `j` of block `b`: the state after it of `k ⊗ v`, of `q ⊗ dout`, the two gradients. -/
def sbK (h : ℕ) (b : Fin 2) (j : Fin 8) : Vec F S1x256x256 .bf16 :=
  k0_pay24 (foldSb (decAt m c (ptA h b)).kb (decAt m c (ptA h b)).cb (iblk m c 3 (ptA h b)) (iblk m c 4 (ptA h b)) (inS m c h b) (7 - j.val))
def gfK (h : ℕ) (b : Fin 2) (j : Fin 8) : Vec F S1x256x256 .bf16 :=
  k0_pay25 (foldGf (decAt m c (ptA h b)).af (decAt m c (ptA h b)).cf (iblk m c 0 (ptA h b)) (iblk m c 1 (ptA h b)) (iblk m c 2 (ptA h b)) (iblk m c 5 (ptA h b)) (inG m c h b) (7 - j.val))
def doK (h : ℕ) (b : Fin 2) (j : Fin 8) : Vec F S256x256 .bf16 :=
  shapeCast S256x256 (doutOf (iblk m c 0 (ptA h b)) (iblk m c 1 (ptA h b)) (iblk m c 5 (ptA h b)) j) shapeCasts_S256x256_S256x256
def dgK (h : ℕ) (b : Fin 2) (j : Fin 8) : Vec F S256x256 .bf16 := dgateOf (iblk m c 0 (ptA h b)) (iblk m c 1 (ptA h b)) (iblk m c 5 (ptA h b)) j

/-- What the second pass reads of chunk `j` of block `b` at point `t`. -/
def pieceK (h : ℕ) (b : Fin 2) (t : Fin cfg0.N) (j : Fin 8) : Piece F where
  d := doK m c h b j
  g := dgK m c h b j
  q := slab (iblk m c 2 t) j
  k := slab (iblk m c 3 t) j
  v := slab (iblk m c 4 t) j
  cos := angles (iblk m c 6 t) j
  sin := angles (iblk m c 7 t) j
  sb := sbK m c h b j
  gf := gfK m c h b j
  m0 := mat (iblk m c 9 t) 0
  m1 := mat (iblk m c 9 t) 1
  m2 := mat (iblk m c 9 t) 2

/-- What the second pass carries from the earlier block to the later. -/
def run1 (h : ℕ) : Run F := foldRun (decAt m c (pt h 2)) (pieceK m c h 0 (pt h 2)) zeroRun 8

/-- The block that point `t` of the second pass visits, and what that pass carries into it. -/
def blkAt (t : Fin cfg0.N) : Fin 2 := if t.val % 4 = 3 then 1 else 0
def runAt (t : Fin cfg0.N) : Run F := if t.val % 4 = 3 then run1 m c (t.val / 4) else zeroRun
abbrev pieceAt (t : Fin cfg0.N) : Fin 8 → Piece F := pieceK m c (t.val / 4) (blkAt t) t

/-- The contents of the scratch buffers. -/
structure Store (F : FTy → Type) [FloatOps F] where
  sb : Vec F S16x256x256 .bf16
  gf : Vec F S16x256x256 .bf16
  run : Run F
  dout : Vec F S4096x256 .bf16
  dgate : Vec F S4096x256 .bf16

/-- Block `b` of the kept buffers holds what head `h`'s first pass keeps. -/
def Holds (h : ℕ) (b : Fin 2) (X : Store F) : Prop :=
  ∀ j, keptPlane X.sb b j = sbK m c h b j ∧ keptPlane X.gf b j = gfK m c h b j ∧ keptRows X.dout b j = doK m c h b j ∧ keptRows X.dgate b j = dgK m c h b j

/-- What the scratch buffers hold before point `n`. -/
def Inv (n : ℕ) (X : Store F) : Prop :=
  (n % 4 = 1 → X.run.S = stS m c (n / 4) ∧ X.run.G = stG m c (n / 4) ∧ Holds m c (n / 4) 1 X)
  ∧ (n % 4 = 2 → Holds m c (n / 4) 0 X ∧ Holds m c (n / 4) 1 X)
  ∧ (n % 4 = 3 → X.run = run1 m c (n / 4) ∧ Holds m c (n / 4) 0 X ∧ Holds m c (n / 4) 1 X)

theorem piece_eq (h : ℕ) (b : Fin 2) (t : Fin cfg0.N) (X : Store F) (hX : Holds m c h b X) :
    piece b (iblk m c 2 t) (iblk m c 3 t) (iblk m c 4 t) (iblk m c 6 t) (iblk m c 7 t) (iblk m c 9 t) X.sb X.gf X.dout X.dgate = pieceK m c h b t := by
  funext j
  obtain ⟨h1, h2, h3, h4⟩ := hX j
  unfold piece pieceK
  rw [h1, h2, h3, h4]

/-- The first pass over block `b`, from the states it has before it, leaves the block as it is to be kept, -/
theorem holds_kept (h : ℕ) (b : Fin 2) (t : Fin cfg0.N) (ht : ptA h b = t) (X : Store F) (r : Run F) :
    Holds m c h b ⟨keptSb (decAt m c t).kb (decAt m c t).cb (iblk m c 3 t) (iblk m c 4 t) (inS m c h b) b.val X.sb,
      keptGf (decAt m c t).af (decAt m c t).cf (iblk m c 0 t) (iblk m c 1 t) (iblk m c 2 t) (iblk m c 5 t) (inG m c h b) b.val X.gf, r,
      keptDout (iblk m c 0 t) (iblk m c 1 t) (iblk m c 5 t) b.val X.dout, keptDgate (iblk m c 0 t) (iblk m c 1 t) (iblk m c 5 t) b.val X.dgate⟩ := by
  subst ht
  intro j
  refine ⟨?_, ?_, ?_, ?_⟩
  · exact keptPlane_keepDown _ b _ 8 (Nat.le_refl 8) j (by simp)
  · exact keptPlane_keepDown _ b _ 8 (Nat.le_refl 8) j (by simp)
  · exact keptRows_keepDown _ b _ 8 (Nat.le_refl 8) j (by simp)
  · exact keptRows_keepDown _ b _ 8 (Nat.le_refl 8) j (by simp)

/-- and the other block as it was. -/
theorem holds_other (h : ℕ) (b b' : Fin 2) (hb : b' ≠ b) (X : Store F) (hX : Holds m c h b' X) (r : Run F)
    (kb : FVec F S256x1 .f32) (cb : FVec F S1x256 .f32) (k v : Vec F S1x2048x256 .bf16) (S : Vec F S256x256 .f32)
    (af : FVec F S256x1 .f32) (cf : FVec F S1x256 .f32) (d o : Vec F S2048x256 .bf16) (q g : Vec F S1x2048x256 .bf16) (G : Vec F S256x256 .f32) :
    Holds m c h b' ⟨keptSb kb cb k v S b.val X.sb, keptGf af cf d o q g G b.val X.gf, r, keptDout d o g b.val X.dout, keptDgate d o g b.val X.dgate⟩ := by
  intro j
  obtain ⟨h1, h2, h3, h4⟩ := hX j
  refine ⟨?_, ?_, ?_, ?_⟩
  · exact (keptPlane_keepDown_ne _ b b' hb _ 8 j).trans h1
  · exact (keptPlane_keepDown_ne _ b b' hb _ 8 j).trans h2
  · exact (keptRows_keepDown_ne _ b b' hb _ 8 j).trans h3
  · exact (keptRows_keepDown_ne _ b b' hb _ 8 j).trans h4

/-! ## The points of the grid -/

theorem coord2 : ∀ t : Fin grid0.N, ((grid0.coords t) 2).val = t.val % 2 := by decide +kernel
theorem conds0 : ∀ t : Fin grid0.N, t.val % 4 = 0 → cond1 (grid0.coords t) = 1#1 ∧ ¬cond2 (grid0.coords t) = 1#1 ∧ k0_cond3 (grid0.coords t) = 1#1 ∧ ¬k0_cond4 (grid0.coords t) = 1#1 ∧ ¬k0_cond5 (grid0.coords t) = 1#1 := by decide +kernel
theorem conds1 : ∀ t : Fin grid0.N, t.val % 4 = 1 → ¬cond1 (grid0.coords t) = 1#1 ∧ ¬cond2 (grid0.coords t) = 1#1 ∧ k0_cond3 (grid0.coords t) = 1#1 ∧ ¬k0_cond4 (grid0.coords t) = 1#1 ∧ ¬k0_cond5 (grid0.coords t) = 1#1 := by decide +kernel
theorem conds2 : ∀ t : Fin grid0.N, t.val % 4 = 2 → cond1 (grid0.coords t) = 1#1 ∧ cond2 (grid0.coords t) = 1#1 ∧ ¬k0_cond3 (grid0.coords t) = 1#1 ∧ k0_cond4 (grid0.coords t) = 1#1 ∧ ¬k0_cond5 (grid0.coords t) = 1#1 := by decide +kernel
theorem conds3 : ∀ t : Fin grid0.N, t.val % 4 = 3 → ¬cond1 (grid0.coords t) = 1#1 ∧ ¬cond2 (grid0.coords t) = 1#1 ∧ ¬k0_cond3 (grid0.coords t) = 1#1 ∧ k0_cond4 (grid0.coords t) = 1#1 ∧ k0_cond5 (grid0.coords t) = 1#1 := by decide +kernel
/-- In the first pass no result is written back, -/
theorem keep11 : ∀ t : Fin grid0.N, t.val % 4 < 2 → win0_11.flush t = false := by decide +kernel
theorem keep12 : ∀ t : Fin grid0.N, t.val % 4 < 2 → win0_12.flush t = false := by decide +kernel
theorem keep13 : ∀ t : Fin grid0.N, t.val % 4 < 2 → win0_13.flush t = false := by decide +kernel
theorem keep14 : ∀ t : Fin grid0.N, t.val % 4 < 2 → win0_14.flush t = false := by decide +kernel
/-- and the gradient at the decays only at a head's last point. -/
theorem keep15 (t : Fin cfg0.N) (h : t.val % 4 ≠ 3) : (cfg0.win 15).flush t = false :=
  Bool.eq_false_iff.mpr fun e => h ((flush0_15 t).mp e)

end Cert.Ret
-- ==== Proof.Ret.Data.lean ====
module

public import proofs.«01_k».proof.Proof.Ret.Inv
public import Idealize.ShloMosaic.Lib.Claim

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The frame -/

variable (m : (ℓ : Loc nD τ sig) → Buf (Elt F) ℓ) (ρ : Dev nD → PrngReg)

/-- The scratch buffers at given contents. -/
def held (c : Dev nD) (X : Store F) : sProp 𝕄 :=
  iprop(owns (c : Thread nD τ) (Memref.whole cc0_scratch0) fullShare X.sb ∗ owns (c : Thread nD τ) (Memref.whole cc0_scratch1) fullShare X.gf ∗ owns (c : Thread nD τ) (Memref.whole cc0_scratch2) fullShare X.run.S ∗ owns (c : Thread nD τ) (Memref.whole cc0_scratch3) fullShare X.run.G ∗ owns (c : Thread nD τ) (Memref.whole cc0_scratch4) fullShare X.run.A ∗ owns (c : Thread nD τ) (Memref.whole cc0_scratch5) fullShare X.run.B ∗ owns (c : Thread nD τ) (Memref.whole cc0_scratch6) fullShare X.run.C ∗ owns (c : Thread nD τ) (Memref.whole cc0_scratch7) fullShare X.run.D ∗ owns (c : Thread nD τ) (Memref.whole cc0_scratch8) fullShare X.run.E ∗ owns (c : Thread nD τ) (Memref.whole cc0_scratch9) fullShare X.run.G' ∗ owns (c : Thread nD τ) (Memref.whole cc0_scratch10) fullShare X.dout ∗ owns (c : Thread nD τ) (Memref.whole cc0_scratch11) fullShare X.dgate)

/-- The invariant before point `n`: the scratch buffers hold what `Inv` says. -/
def Phi (c : Dev nD) (n : ℕ) : sProp 𝕄 := iprop((∃ X : Store F, ⌜Inv m c n X⌝ ∗ held c X) ∗ ∃ r, prngReg c r)

theorem phi_in (c : Dev nD) (n : ℕ) (hn : n % 4 = 0) : (Pipeline.ΦA spec0 c : sProp 𝕄) ⊢ Phi m c n := by
  unfold Pipeline.ΦA Phi held
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩, Hr⟩
  isplitr [Hr]
  · iexists (⟨f0, f1, ⟨f2, f3, f4, f5, f6, f7, f8, f9⟩, f10, f11⟩ : Store F)
    isplitr
    · ipureintro; exact ⟨fun h => by omega, fun h => by omega, fun h => by omega⟩
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iexact Hr

theorem phi_out (c : Dev nD) (n : ℕ) : Phi m c n ⊢ (Pipeline.ΦA spec0 c : sProp 𝕄) := by
  unfold Pipeline.ΦA Phi held
  rw [scopedRest0_eq]
  simp only [owns_whole]
  iintro ⟨⟨%X, -, H0, H1, H2, H3, H4, H5, H6, H7, H8, H9, H10, H11⟩, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  · iexact Hr

/-- The proof data: an argument's block stays; what the second pass leaves of each result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dqRows (decAt m c t) (pieceAt m c t) (runAt m c t)
    | ⟨12, _⟩ => dkRows (decAt m c t) (pieceAt m c t) (runAt m c t)
    | ⟨13, _⟩ => dvRows (decAt m c t) (pieceAt m c t) (runAt m c t)
    | ⟨14, _⟩ => dgRows (pieceAt m c t)
    | ⟨15, _⟩ => dlgTile (decAt m c t) (foldRun (decAt m c t) (pieceAt m c t) (runAt m c t) 8)
    | ⟨_ + 16, h⟩ => absurd h (Nat.not_lt.2 (Nat.le_add_left _ _))
  Φ n := Phi m c n.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = dqRows (decAt m c t) (pieceAt m c t) (runAt m c t) := by dsimp only [dats]
theorem after_12 (c : Dev nD) (t : Fin cfg0.N) : (dats m 0 c).after 12 t = dkRows (decAt m c t) (pieceAt m c t) (runAt m c t) := by dsimp only [dats]
theorem after_13 (c : Dev nD) (t : Fin cfg0.N) : (dats m 0 c).after 13 t = dvRows (decAt m c t) (pieceAt m c t) (runAt m c t) := by dsimp only [dats]
theorem after_14 (c : Dev nD) (t : Fin cfg0.N) : (dats m 0 c).after 14 t = dgRows (pieceAt m c t) := by dsimp only [dats]
theorem after_15 (c : Dev nD) (t : Fin cfg0.N) : (dats m 0 c).after 15 t = dlgTile (decAt m c t) (foldRun (decAt m c t) (pieceAt m c t) (runAt m c t) 8) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem leaves_0 (c : Dev nD) (t : Fin cfg0.N) : (dats m 0 c).leavesExact 0 t = owns (c : Thread nD τ) (st0_0 t) fullShare (iblk m c 0 t) := by
  show owns (c : Thread nD τ) (st0_0 t) fullShare ((dats m 0 c).after 0 t) = _; rw [after_0]
theorem leaves_1 (c : Dev nD) (t : Fin cfg0.N) : (dats m 0 c).leavesExact 1 t = owns (c : Thread nD τ) (st0_1 t) fullShare (iblk m c 1 t) := by
  show owns (c : Thread nD τ) (st0_1 t) fullShare ((dats m 0 c).after 1 t) = _; rw [after_1]
theorem leaves_2 (c : Dev nD) (t : Fin cfg0.N) : (dats m 0 c).leavesExact 2 t = owns (c : Thread nD τ) (st0_2 t) fullShare (iblk m c 2 t) := by
  show owns (c : Thread nD τ) (st0_2 t) fullShare ((dats m 0 c).after 2 t) = _; rw [after_2]
theorem leaves_3 (c : Dev nD) (t : Fin cfg0.N) : (dats m 0 c).leavesExact 3 t = owns (c : Thread nD τ) (st0_3 t) fullShare (iblk m c 3 t) := by
  show owns (c : Thread nD τ) (st0_3 t) fullShare ((dats m 0 c).after 3 t) = _; rw [after_3]
theorem leaves_4 (c : Dev nD) (t : Fin cfg0.N) : (dats m 0 c).leavesExact 4 t = owns (c : Thread nD τ) (st0_4 t) fullShare (iblk m c 4 t) := by
  show owns (c : Thread nD τ) (st0_4 t) fullShare ((dats m 0 c).after 4 t) = _; rw [after_4]
theorem leaves_5 (c : Dev nD) (t : Fin cfg0.N) : (dats m 0 c).leavesExact 5 t = owns (c : Thread nD τ) (st0_5 t) fullShare (iblk m c 5 t) := by
  show owns (c : Thread nD τ) (st0_5 t) fullShare ((dats m 0 c).after 5 t) = _; rw [after_5]
theorem leaves_6 (c : Dev nD) (t : Fin cfg0.N) : (dats m 0 c).leavesExact 6 t = owns (c : Thread nD τ) (st0_6 t) fullShare (iblk m c 6 t) := by
  show owns (c : Thread nD τ) (st0_6 t) fullShare ((dats m 0 c).after 6 t) = _; rw [after_6]
theorem leaves_7 (c : Dev nD) (t : Fin cfg0.N) : (dats m 0 c).leavesExact 7 t = owns (c : Thread nD τ) (st0_7 t) fullShare (iblk m c 7 t) := by
  show owns (c : Thread nD τ) (st0_7 t) fullShare ((dats m 0 c).after 7 t) = _; rw [after_7]
theorem leaves_8 (c : Dev nD) (t : Fin cfg0.N) : (dats m 0 c).leavesExact 8 t = owns (c : Thread nD τ) (st0_8 t) fullShare (iblk m c 8 t) := by
  show owns (c : Thread nD τ) (st0_8 t) fullShare ((dats m 0 c).after 8 t) = _; rw [after_8]
theorem leaves_9 (c : Dev nD) (t : Fin cfg0.N) : (dats m 0 c).leavesExact 9 t = owns (c : Thread nD τ) (st0_9 t) fullShare (iblk m c 9 t) := by
  show owns (c : Thread nD τ) (st0_9 t) fullShare ((dats m 0 c).after 9 t) = _; rw [after_9]
theorem leaves_10 (c : Dev nD) (t : Fin cfg0.N) : (dats m 0 c).leavesExact 10 t = owns (c : Thread nD τ) (st0_10 t) fullShare (iblk m c 10 t) := by
  show owns (c : Thread nD τ) (st0_10 t) fullShare ((dats m 0 c).after 10 t) = _; rw [after_10]
theorem live_11 (c : Dev nD) (t : Fin cfg0.N) (h : k0_cond4 (grid0.coords t) = 1#1) : (dats m 0 c).leavesExact 11 t = owns (c : Thread nD τ) (st0_11 t) fullShare (dqRows (decAt m c t) (pieceAt m c t) (runAt m c t)) := by
  have hi : cfg0.idle 11 (cfg0.grid.coords t) = false := by show (!(k0_cond4 (grid0.coords t) == 1#1)) = false; rw [h]; rfl
  unfold Dat.leavesExact; rw [hi, after_11]
theorem idle_11 (c : Dev nD) (t : Fin cfg0.N) (h : ¬k0_cond4 (grid0.coords t) = 1#1) (hf : (cfg0.win 11).flush t = false) : (dats m 0 c).leavesExact 11 t = iprop(∃ d, owns (c : Thread nD τ) (st0_11 t) fullShare ((dats m 0 c).before 11 t d)) :=
  Dat.leavesExact_idle (dats m 0 c) 11 t (by show (!(k0_cond4 (grid0.coords t) == 1#1)) = true; rw [beq_eq_false_iff_ne.mpr h]; rfl) hf
theorem live_12 (c : Dev nD) (t : Fin cfg0.N) (h : k0_cond4 (grid0.coords t) = 1#1) : (dats m 0 c).leavesExact 12 t = owns (c : Thread nD τ) (st0_12 t) fullShare (dkRows (decAt m c t) (pieceAt m c t) (runAt m c t)) := by
  have hi : cfg0.idle 12 (cfg0.grid.coords t) = false := by show (!(k0_cond4 (grid0.coords t) == 1#1)) = false; rw [h]; rfl
  unfold Dat.leavesExact; rw [hi, after_12]
theorem idle_12 (c : Dev nD) (t : Fin cfg0.N) (h : ¬k0_cond4 (grid0.coords t) = 1#1) (hf : (cfg0.win 12).flush t = false) : (dats m 0 c).leavesExact 12 t = iprop(∃ d, owns (c : Thread nD τ) (st0_12 t) fullShare ((dats m 0 c).before 12 t d)) :=
  Dat.leavesExact_idle (dats m 0 c) 12 t (by show (!(k0_cond4 (grid0.coords t) == 1#1)) = true; rw [beq_eq_false_iff_ne.mpr h]; rfl) hf
theorem live_13 (c : Dev nD) (t : Fin cfg0.N) (h : k0_cond4 (grid0.coords t) = 1#1) : (dats m 0 c).leavesExact 13 t = owns (c : Thread nD τ) (st0_13 t) fullShare (dvRows (decAt m c t) (pieceAt m c t) (runAt m c t)) := by
  have hi : cfg0.idle 13 (cfg0.grid.coords t) = false := by show (!(k0_cond4 (grid0.coords t) == 1#1)) = false; rw [h]; rfl
  unfold Dat.leavesExact; rw [hi, after_13]
theorem idle_13 (c : Dev nD) (t : Fin cfg0.N) (h : ¬k0_cond4 (grid0.coords t) = 1#1) (hf : (cfg0.win 13).flush t = false) : (dats m 0 c).leavesExact 13 t = iprop(∃ d, owns (c : Thread nD τ) (st0_13 t) fullShare ((dats m 0 c).before 13 t d)) :=
  Dat.leavesExact_idle (dats m 0 c) 13 t (by show (!(k0_cond4 (grid0.coords t) == 1#1)) = true; rw [beq_eq_false_iff_ne.mpr h]; rfl) hf
theorem live_14 (c : Dev nD) (t : Fin cfg0.N) (h : k0_cond4 (grid0.coords t) = 1#1) : (dats m 0 c).leavesExact 14 t = owns (c : Thread nD τ) (st0_14 t) fullShare (dgRows (pieceAt m c t)) := by
  have hi : cfg0.idle 14 (cfg0.grid.coords t) = false := by show (!(k0_cond4 (grid0.coords t) == 1#1)) = false; rw [h]; rfl
  unfold Dat.leavesExact; rw [hi, after_14]
theorem idle_14 (c : Dev nD) (t : Fin cfg0.N) (h : ¬k0_cond4 (grid0.coords t) = 1#1) (hf : (cfg0.win 14).flush t = false) : (dats m 0 c).leavesExact 14 t = iprop(∃ d, owns (c : Thread nD τ) (st0_14 t) fullShare ((dats m 0 c).before 14 t d)) :=
  Dat.leavesExact_idle (dats m 0 c) 14 t (by show (!(k0_cond4 (grid0.coords t) == 1#1)) = true; rw [beq_eq_false_iff_ne.mpr h]; rfl) hf
theorem live_15 (c : Dev nD) (t : Fin cfg0.N) (h : k0_cond5 (grid0.coords t) = 1#1) : (dats m 0 c).leavesExact 15 t = owns (c : Thread nD τ) (st0_15 t) fullShare (dlgTile (decAt m c t) (foldRun (decAt m c t) (pieceAt m c t) (runAt m c t) 8)) := by
  have hi : cfg0.idle 15 (cfg0.grid.coords t) = false := by show (!(k0_cond5 (grid0.coords t) == 1#1)) = false; rw [h]; rfl
  unfold Dat.leavesExact; rw [hi, after_15]
theorem idle_15 (c : Dev nD) (t : Fin cfg0.N) (h : ¬k0_cond5 (grid0.coords t) = 1#1) (hf : (cfg0.win 15).flush t = false) : (dats m 0 c).leavesExact 15 t = iprop(∃ d, owns (c : Thread nD τ) (st0_15 t) fullShare ((dats m 0 c).before 15 t d)) :=
  Dat.leavesExact_idle (dats m 0 c) 15 t (by show (!(k0_cond5 (grid0.coords t) == 1#1)) = true; rw [beq_eq_false_iff_ne.mpr h]; rfl) hf

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem out_eq (c : Dev nD) (t : Fin cfg0.N) {b : Fin 2} {R : Run F} {Q : Fin 8 → Piece F} {α : Type} (f : (Fin 8 → Piece F) → Run F → α)
    (hr : runAt m c t = R) (hk : blkAt t = b) (he : Q = pieceK m c (t.val / 4) b t) : f (pieceAt m c t) (runAt m c t) = f Q R := by
  rw [hr, he, ← hk]

end Cert.Ret
-- ==== Proof.Ret.SoundA.lean ====
module

public import proofs.«01_k».proof.Proof.Ret.Data
public import Idealize.ShloMosaic.Lib.Claim

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The body keeps the invariant -/

variable (m : (ℓ : Loc nD τ sig) → Buf (Elt F) ℓ) (ρ : Dev nD → PrngReg)

set_option maxHeartbeats 2400000 in
/-- The body at a point `t` with `t % 4 = 0`. -/
theorem sound_0 (c : Dev nD) (t : Fin cfg0.N) (h : t.val % 4 = 0) :
    bodyPre m c t ⊢ wp frame (wpE (defs₀ (F := F)) Variants.none c none) Set.univ (bodyAt0 t) (fun _ => bodyPost m c t) := by
  obtain ⟨hc1, hc2, hc3, hc4, hc5⟩ := conds0 t h
  have h2 := coord2 t
  unfold bodyPre bodyPost
  simp only [before_0, before_1, before_2, before_3, before_4, before_5, before_6, before_7, before_8, before_9, before_10, leaves_0, leaves_1, leaves_2, leaves_3, leaves_4, leaves_5, leaves_6, leaves_7, leaves_8, leaves_9, leaves_10]
  rw [idle_11 m c t hc4 (keep11 t (by omega)), idle_12 m c t hc4 (keep12 t (by omega)), idle_13 m c t hc4 (keep13 t (by omega)), idle_14 m c t hc4 (keep14 t (by omega)), idle_15 m c t hc5 (keep15 t (by omega))]
  rw [show (dats m 0 c).Φ t.castSucc = Phi m c t.val from rfl, show (dats m 0 c).Φ t.succ = Phi m c (t.val + 1) from rfl,
    show (dats m 0 c).owesAt () t.succ = (dats m 0 c).owesAt () t.castSucc from rfl]
  unfold Phi held
  iintro ⟨⟨⟨%X, %hX, S0, S1, S2, S3, S4, S5, S6, S7, S8, S9, S10, S11⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15⟩
  have hb : 1 - ((grid0.coords t) 2).val = (1 : Fin 2).val := by
    rw [h2]; have h3 : t.val % 2 = 0 := by omega
    rw [h3]; rfl
  have hp : ptA (t.val / 4) 1 = t := pt_eq t 0 h
  have hp0 : pt (t.val / 4) 0 = t := pt_eq t 0 h
  iapply (bodyA0 c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) X.sb X.gf X.dout X.dgate hc1 hc2 hc3 hc4 hc5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexists _; iexact S2
  isplitl [S3]; · iexists _; iexact S3
  isplitl [S10]; · iexact S10
  isplitl [S11]; · iexact S11
  iintro ⟨H0, H1, H2, H3, H4, H5, H6, H7, H8, H9, H10, S0, S1, S2, S3, S10, S11⟩
  isplitl [Hr S0 S1 S2 S3 S4 S5 S6 S7 S8 S9 S10 S11]
  · isplitr [Hr]
    · iexists (⟨keptSb (decAt m c t).kb (decAt m c t).cb (iblk m c 3 t) (iblk m c 4 t) zeroTile (1 - ((grid0.coords t) 2).val) X.sb, keptGf (decAt m c t).af (decAt m c t).cf (iblk m c 0 t) (iblk m c 1 t) (iblk m c 2 t) (iblk m c 5 t) zeroTile (1 - ((grid0.coords t) 2).val) X.gf, ⟨foldSb (decAt m c t).kb (decAt m c t).cb (iblk m c 3 t) (iblk m c 4 t) zeroTile 8, foldGf (decAt m c t).af (decAt m c t).cf (iblk m c 0 t) (iblk m c 1 t) (iblk m c 2 t) (iblk m c 5 t) zeroTile 8, X.run.A, X.run.B, X.run.C, X.run.D, X.run.E, X.run.G'⟩, keptDout (iblk m c 0 t) (iblk m c 1 t) (iblk m c 5 t) (1 - ((grid0.coords t) 2).val) X.dout, keptDgate (iblk m c 0 t) (iblk m c 1 t) (iblk m c 5 t) (1 - ((grid0.coords t) 2).val) X.dgate⟩ : Store F)
      isplitr
      · ipureintro
        rw [hb]
        have hd : (t.val + 1) / 4 = t.val / 4 := by omega
        refine ⟨fun _ => ?_, fun e => by omega, fun e => by omega⟩
        rw [hd]
        refine ⟨?_, ?_, holds_kept m c (t.val / 4) 1 t hp X _⟩
        · unfold stS; rw [hp0]
        · unfold stG; rw [hp0]
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 2400000 in
/-- The body at a point `t` with `t % 4 = 1`. -/
theorem sound_1 (c : Dev nD) (t : Fin cfg0.N) (h : t.val % 4 = 1) :
    bodyPre m c t ⊢ wp frame (wpE (defs₀ (F := F)) Variants.none c none) Set.univ (bodyAt0 t) (fun _ => bodyPost m c t) := by
  obtain ⟨hc1, hc2, hc3, hc4, hc5⟩ := conds1 t h
  have h2 := coord2 t
  unfold bodyPre bodyPost
  simp only [before_0, before_1, before_2, before_3, before_4, before_5, before_6, before_7, before_8, before_9, before_10, leaves_0, leaves_1, leaves_2, leaves_3, leaves_4, leaves_5, leaves_6, leaves_7, leaves_8, leaves_9, leaves_10]
  rw [idle_11 m c t hc4 (keep11 t (by omega)), idle_12 m c t hc4 (keep12 t (by omega)), idle_13 m c t hc4 (keep13 t (by omega)), idle_14 m c t hc4 (keep14 t (by omega)), idle_15 m c t hc5 (keep15 t (by omega))]
  rw [show (dats m 0 c).Φ t.castSucc = Phi m c t.val from rfl, show (dats m 0 c).Φ t.succ = Phi m c (t.val + 1) from rfl,
    show (dats m 0 c).owesAt () t.succ = (dats m 0 c).owesAt () t.castSucc from rfl]
  unfold Phi held
  iintro ⟨⟨⟨%X, %hX, S0, S1, S2, S3, S4, S5, S6, S7, S8, S9, S10, S11⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15⟩
  have hb : 1 - ((grid0.coords t) 2).val = (0 : Fin 2).val := by
    rw [h2]; have h3 : t.val % 2 = 1 := by omega
    rw [h3]; rfl
  obtain ⟨hS, hG, hh⟩ := hX.1 h
  have hp : ptA (t.val / 4) 0 = t := pt_eq t 1 h
  iapply (bodyA1 c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) X.sb X.gf X.dout X.dgate X.run.S X.run.G hc1 hc2 hc3 hc4 hc5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S10]; · iexact S10
  isplitl [S11]; · iexact S11
  iintro ⟨H0, H1, H2, H3, H4, H5, H6, H7, H8, H9, H10, S0, S1, S2, S3, S10, S11⟩
  isplitl [Hr S0 S1 S2 S3 S4 S5 S6 S7 S8 S9 S10 S11]
  · isplitr [Hr]
    · iexists (⟨keptSb (decAt m c t).kb (decAt m c t).cb (iblk m c 3 t) (iblk m c 4 t) X.run.S (1 - ((grid0.coords t) 2).val) X.sb, keptGf (decAt m c t).af (decAt m c t).cf (iblk m c 0 t) (iblk m c 1 t) (iblk m c 2 t) (iblk m c 5 t) X.run.G (1 - ((grid0.coords t) 2).val) X.gf, ⟨foldSb (decAt m c t).kb (decAt m c t).cb (iblk m c 3 t) (iblk m c 4 t) X.run.S 8, foldGf (decAt m c t).af (decAt m c t).cf (iblk m c 0 t) (iblk m c 1 t) (iblk m c 2 t) (iblk m c 5 t) X.run.G 8, X.run.A, X.run.B, X.run.C, X.run.D, X.run.E, X.run.G'⟩, keptDout (iblk m c 0 t) (iblk m c 1 t) (iblk m c 5 t) (1 - ((grid0.coords t) 2).val) X.dout, keptDgate (iblk m c 0 t) (iblk m c 1 t) (iblk m c 5 t) (1 - ((grid0.coords t) 2).val) X.dgate⟩ : Store F)
      isplitr
      · ipureintro
        rw [hb]
        have hd : (t.val + 1) / 4 = t.val / 4 := by omega
        refine ⟨fun e => by omega, fun _ => ?_, fun e => by omega⟩
        rw [hd]
        refine ⟨?_, holds_other m c (t.val / 4) 0 1 (by decide) X hh _ _ _ _ _ _ _ _ _ _ _ _ _⟩
        have hk := holds_kept m c (t.val / 4) 0 t hp X
        rw [show inS m c (t.val / 4) 0 = X.run.S from hS.symm, show inG m c (t.val / 4) 0 = X.run.G from hG.symm] at hk
        exact hk _
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.Ret
-- ==== Proof.Ret.SoundB0.lean ====
module

public import proofs.«01_k».proof.Proof.Ret.Data
public import Idealize.ShloMosaic.Lib.Claim

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The body keeps the invariant -/

variable (m : (ℓ : Loc nD τ sig) → Buf (Elt F) ℓ) (ρ : Dev nD → PrngReg)

set_option maxHeartbeats 2400000 in
/-- The body at a point `t` with `t % 4 = 2`. -/
theorem sound_2 (c : Dev nD) (t : Fin cfg0.N) (h : t.val % 4 = 2) :
    bodyPre m c t ⊢ wp frame (wpE (defs₀ (F := F)) Variants.none c none) Set.univ (bodyAt0 t) (fun _ => bodyPost m c t) := by
  obtain ⟨hc1, hc2, hc3, hc4, hc5⟩ := conds2 t h
  have h2 := coord2 t
  unfold bodyPre bodyPost
  simp only [before_0, before_1, before_2, before_3, before_4, before_5, before_6, before_7, before_8, before_9, before_10, leaves_0, leaves_1, leaves_2, leaves_3, leaves_4, leaves_5, leaves_6, leaves_7, leaves_8, leaves_9, leaves_10]
  rw [live_11 m c t hc4, live_12 m c t hc4, live_13 m c t hc4, live_14 m c t hc4, idle_15 m c t hc5 (keep15 t (by omega))]
  rw [show (dats m 0 c).Φ t.castSucc = Phi m c t.val from rfl, show (dats m 0 c).Φ t.succ = Phi m c (t.val + 1) from rfl,
    show (dats m 0 c).owesAt () t.succ = (dats m 0 c).owesAt () t.castSucc from rfl]
  unfold Phi held
  iintro ⟨⟨⟨%X, %hX, S0, S1, S2, S3, S4, S5, S6, S7, S8, S9, S10, S11⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
  obtain ⟨hh0, hh1⟩ := hX.2.1 h
  have hp2 : pt (t.val / 4) 2 = t := pt_eq t 2 h
  have hi : (show Fin 2 from (grid0.coords t) 2) = (0 : Fin 2) := Fin.ext (by show ((grid0.coords t) 2).val = 0; rw [h2]; omega)
  have hk : blkAt t = 0 := if_neg (by omega)
  have hr : runAt m c t = zeroRun := if_neg (by omega)
  have he := (congrArg (fun b => piece b (iblk m c 2 t) (iblk m c 3 t) (iblk m c 4 t) (iblk m c 6 t) (iblk m c 7 t) (iblk m c 9 t) X.sb X.gf X.dout X.dgate) hi).trans (piece_eq m c (t.val / 4) 0 t X hh0)
  beta_reduce at he
  have hP : pieceAt m c t = _ := (congrArg (fun b => pieceK m c (t.val / 4) b t) hk).trans he.symm
  rw [hP, hr]
  iapply (bodyB0 c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) X.sb X.gf X.dout X.dgate hc1 hc2 hc3 hc4 hc5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S10]; · iexact S10
  isplitl [S11]; · iexact S11
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, S0, S1, S10, S11, S2, S3, S4, S5, S6, S7, S8, S9, H11, H12, H13, H14⟩
  isplitl [Hr S0 S1 S2 S3 S4 S5 S6 S7 S8 S9 S10 S11]
  · isplitr [Hr]
    · iexists (⟨X.sb, X.gf, foldRun (decAt m c t) (piece (grid0.coords t 2) (iblk m c 2 t) (iblk m c 3 t) (iblk m c 4 t) (iblk m c 6 t) (iblk m c 7 t) (iblk m c 9 t) X.sb X.gf X.dout X.dgate) zeroRun 8, X.dout, X.dgate⟩ : Store F)
      isplitr
      · ipureintro
        have hd : (t.val + 1) / 4 = t.val / 4 := by omega
        refine ⟨fun e => by omega, fun e => by omega, fun _ => ?_⟩
        rw [hd]
        refine ⟨?_, hh0, hh1⟩
        unfold run1; rw [hp2]
        exact congrArg (fun P => foldRun (decAt m c t) P zeroRun 8) he
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.Ret
-- ==== Proof.Ret.SoundB1.lean ====
module

public import proofs.«01_k».proof.Proof.Ret.Data
public import Idealize.ShloMosaic.Lib.Claim

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The body keeps the invariant -/

variable (m : (ℓ : Loc nD τ sig) → Buf (Elt F) ℓ) (ρ : Dev nD → PrngReg)

set_option maxHeartbeats 2400000 in
/-- The body at a point `t` with `t % 4 = 3`. -/
theorem sound_3 (c : Dev nD) (t : Fin cfg0.N) (h : t.val % 4 = 3) :
    bodyPre m c t ⊢ wp frame (wpE (defs₀ (F := F)) Variants.none c none) Set.univ (bodyAt0 t) (fun _ => bodyPost m c t) := by
  obtain ⟨hc1, hc2, hc3, hc4, hc5⟩ := conds3 t h
  have h2 := coord2 t
  unfold bodyPre bodyPost
  simp only [before_0, before_1, before_2, before_3, before_4, before_5, before_6, before_7, before_8, before_9, before_10, leaves_0, leaves_1, leaves_2, leaves_3, leaves_4, leaves_5, leaves_6, leaves_7, leaves_8, leaves_9, leaves_10]
  rw [live_11 m c t hc4, live_12 m c t hc4, live_13 m c t hc4, live_14 m c t hc4, live_15 m c t hc5]
  rw [show (dats m 0 c).Φ t.castSucc = Phi m c t.val from rfl, show (dats m 0 c).Φ t.succ = Phi m c (t.val + 1) from rfl,
    show (dats m 0 c).owesAt () t.succ = (dats m 0 c).owesAt () t.castSucc from rfl]
  unfold Phi held
  iintro ⟨⟨⟨%X, %hX, S0, S1, S2, S3, S4, S5, S6, S7, S8, S9, S10, S11⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain ⟨hrun, hh0, hh1⟩ := hX.2.2 h
  have hi : (show Fin 2 from (grid0.coords t) 2) = (1 : Fin 2) := Fin.ext (by show ((grid0.coords t) 2).val = 1; rw [h2]; omega)
  have hk : blkAt t = 1 := if_pos h
  have hr : runAt m c t = (⟨X.run.S, X.run.G, X.run.A, X.run.B, X.run.C, X.run.D, X.run.E, X.run.G'⟩ : Run F) := (if_pos h).trans hrun.symm
  have he := (congrArg (fun b => piece b (iblk m c 2 t) (iblk m c 3 t) (iblk m c 4 t) (iblk m c 6 t) (iblk m c 7 t) (iblk m c 9 t) X.sb X.gf X.dout X.dgate) hi).trans (piece_eq m c (t.val / 4) 1 t X hh1)
  beta_reduce at he
  have hP : pieceAt m c t = _ := (congrArg (fun b => pieceK m c (t.val / 4) b t) hk).trans he.symm
  rw [hP, hr]
  iapply (bodyB1 c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) X.sb X.gf X.dout X.dgate X.run.S X.run.G X.run.A X.run.B X.run.C X.run.D X.run.E X.run.G' hc1 hc2 hc3 hc4 hc5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S10]; · iexact S10
  isplitl [S11]; · iexact S11
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, S0, S1, S10, S11, S2, S3, S4, S5, S6, S7, S8, S9, H11, H12, H13, H14, H15⟩
  isplitl [Hr S0 S1 S2 S3 S4 S5 S6 S7 S8 S9 S10 S11]
  · isplitr [Hr]
    · iexists (⟨X.sb, X.gf, foldRun (decAt m c t) (piece (grid0.coords t 2) (iblk m c 2 t) (iblk m c 3 t) (iblk m c 4 t) (iblk m c 6 t) (iblk m c 7 t) (iblk m c 9 t) X.sb X.gf X.dout X.dgate) ⟨X.run.S, X.run.G, X.run.A, X.run.B, X.run.C, X.run.D, X.run.E, X.run.G'⟩ 8, X.dout, X.dgate⟩ : Store F)
      isplitr
      · ipureintro
        exact ⟨fun e => by omega, fun e => by omega, fun e => by omega⟩
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.Ret
-- ==== Proof.Ret.Frame.lean ====
module

public import proofs.«01_k».proof.Proof.Ret.SoundA
public import proofs.«01_k».proof.Proof.Ret.SoundB0
public import proofs.«01_k».proof.Proof.Ret.SoundB1
public import Idealize.ShloMosaic.Lib.Claim

@[expose] public section

set_option maxRecDepth 65536

noncomputable section

namespace Cert.Ret

open Cert.KernelRetIdeal Cert.KernelRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The body keeps the invariant -/

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  have h : t.val % 4 < 4 := Nat.mod_lt _ (by decide)
  rcases (show t.val % 4 = 0 ∨ t.val % 4 = 1 ∨ t.val % 4 = 2 ∨ t.val % 4 = 3 by omega) with h | h | h | h
  exacts [sound_0 m c t h, sound_1 m c t h, sound_2 m c t h, sound_3 m c t h]

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every final state has the arrays of the pipeline at what the proof data say, and no counter above zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => phi_in m c 0 rfl) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

end Cert.Ret
-- ==== Proof.Ret.Quiescent.lean ====
module

public import proofs.«01_k».proof.Proof.Ret.Frame
public import proofs.«01_k».proof.Proof.Gen.ReferenceRetIdeal.Read
public import proofs.«01_k».proof.Defs
public import proofs.«01_k».proof.Proof.Gen.KernelRet
public import proofs.«01_k».proof.Proof.Gen.Pre_finite_ret

@[expose] public section

set_option maxRecDepth 65536

noncomputable section

namespace Cert.Ret

open Idealize.ShloMosaic Idealize.SL.Sem Cert.KernelRetIdeal Cert.KernelRetIdeal.Gen

variable {F : FTy → Type} [FloatOps F]
variable (m : (ℓ : Loc nD τ sig) → Buf (Elt F) ℓ) (ρ : Dev nD → PrngReg)

/-- The retention's backward call terminates, leaves its arguments unchanged and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Ret

namespace Cert.RetClaim

open Idealize.ShloMosaic Idealize.SL.Sem

/-- The same for the program over machine floats: its text is that of the ideal one. -/
theorem kernel_frame : Cert.quiescent_KernelRet (hKernelRet := Cert.KernelRet.Gen.facts) := by
  intro m ρ _
  refine cast ?_ (Cert.Ret.quiescent (F := Bits) m ρ)
  sl_kernel_rfl

theorem ideal_frame : Cert.quiescent_KernelRetIdeal (hKernelRetIdeal := Cert.KernelRetIdeal.Gen.facts) := fun m ρ _ =>
  Cert.Ret.quiescent (F := Ideal) m ρ

theorem ideal_frame_pre : Cert.quiescent_KernelRetIdeal_pre_finite_ret (hKernelRetIdeal := Cert.KernelRetIdeal.Gen.facts) (hPre_finite_ret := Cert.Pre_finite_ret.Gen.facts) := fun m ρ _ =>
  Cert.Ret.quiescent (F := Ideal) m ρ

end Cert.RetClaim

end
-- ==== Proof.Ret.Real.lean ====
module

public import proofs.«01_k».proof.Proof.Lift
public import Idealize.ShloMosaic.Lib.Pointwise
public import Idealize.ShloMosaic.Lib.ValueIdx

@[expose] public section

set_option maxRecDepth 65536

noncomputable section

namespace Cert.Ret

open Idealize.ShloMosaic Cert.Lift

/-! # The retention and its gradient over the reals -/

/-! ## Scalars -/

/-- The logarithm of the logistic function. -/
def logSig (x : ℝ) : ℝ := -(max (-x) 0 + Real.log (1 + Real.exp (-(max (-x) (- -x)))))

theorem max_coe (x y : ℝ) : max (x : EReal) (y : EReal) = ((max x y : ℝ) : EReal) := (EReal.coe_strictMono.monotone.map_max).symm

/-- It is what both programs compute from a finite number. -/
theorem logSig_coe (x : ℝ) :
    (-if (-(x : EReal)) ≠ -(x : EReal) then -(x : EReal)
      else max (-(x : EReal)) 0 + Ideal.log1p (Ideal.exp (-FloatOps.absf (F := Ideal) (φ := .f32) (-(x : EReal) : EReal)))) = ((logSig x : ℝ) : EReal) := by
  rw [if_neg (by simp), Ideal.absf_def]
  have h1 : (0 : ℝ) < 1 + Real.exp (-(max (-x) (- -x))) := by positivity
  have e : (1 : EReal) + ((Real.exp (-(max (-x) (- -x))) : ℝ) : EReal) = ((1 + Real.exp (-(max (-x) (- -x))) : ℝ) : EReal) := by
    rw [EReal.coe_add]; rfl
  have e0 : (0 : EReal) = ((0 : ℝ) : EReal) := rfl
  rw [e0]
  simp only [← EReal.coe_neg, max_coe, Ideal.exp_coe, Ideal.log1p]
  rw [e, Ideal.log_coe, if_neg (not_le.2 h1), ← EReal.coe_add, ← EReal.coe_neg]
  rfl

/-- A small natural number as a float. -/
theorem sitofp_real {n : ℕ} (h : n < 2 ^ 31) : (FloatOps.sitofp (F := Ideal) .f32 (BitVec.ofNat 32 n) : EReal) = ((n : ℝ) : EReal) := by
  show (((BitVec.ofNat 32 n).toInt : ℝ) : EReal) = _
  have e : (BitVec.ofNat 32 n).toInt = (n : ℤ) := by
    have h2 : (BitVec.ofNat 32 n).toNat = n := by rw [BitVec.toNat_ofNat]; exact Nat.mod_eq_of_lt (by omega)
    rw [BitVec.toInt_eq_toNat_of_lt (by rw [h2]; omega), h2]
  rw [e]; simp

theorem lit256 : Ideal.ofBits .f32 1132462080#32 = ((256 : ℝ) : EReal) := by
  simp [Ideal.ofBits, Ideal.ieee, -EReal.coe_mul]; norm_num
theorem lit255 : Ideal.ofBits .f32 1132396544#32 = ((255 : ℝ) : EReal) := by
  simp [Ideal.ofBits, Ideal.ieee, -EReal.coe_mul]; norm_num
theorem lit16 : Ideal.ofBits .f32 1031798784#32 = ((1 / 16 : ℝ) : EReal) := by
  simp [Ideal.ofBits, Ideal.ieee, -EReal.coe_mul]; norm_num
theorem lit2 : Ideal.ofBits .f32 1073741824#32 = ((2 : ℝ) : EReal) := by
  simp [Ideal.ofBits, Ideal.ieee, -EReal.coe_mul]; norm_num
theorem lit10000 : Ideal.ofBits .f32 1176256512#32 = ((10000 : ℝ) : EReal) := by
  simp [Ideal.ofBits, Ideal.ieee, -EReal.coe_mul]; norm_num

/-- The angle of row `T` in pair `l`. -/
def angle (T l : ℕ) : ℝ := (T : ℝ) * Real.rpow 10000 (-(2 * (l : ℝ)) / 256)

theorem angle_coe {T l : ℕ} (hT : T < 2 ^ 31) (hl : l < 2 ^ 31) :
    FloatOps.sitofp (F := Ideal) .f32 (BitVec.ofNat 32 T) *
          Ideal.pow (Ideal.ofBits FTy.f32 1176256512#32)
            (Ideal.div (-(Ideal.ofBits FTy.f32 1073741824#32 * FloatOps.sitofp (F := Ideal) .f32 (BitVec.ofNat 32 l)))
              (Ideal.ofBits FTy.f32 1132462080#32)) = ((angle T l : ℝ) : EReal) := by
  rw [sitofp_real hT, sitofp_real hl, lit256, lit2, lit10000]
  simp only [← EReal.coe_mul, ← EReal.coe_neg]
  rw [div_real _ (by norm_num), Ideal.pow_coe_coe, ← EReal.coe_mul]
  rfl

/-- The logistic function. -/
def logis (x : ℝ) : ℝ := (1 + Real.exp (-x))⁻¹

/-! ## The arrays -/

/-- The arguments: what the projections give for `q`, `k`, `v` and the gate, the cotangent, the decays' logits. -/
structure Data where
  xq : Fin 4096 → Fin 1024 → ℝ
  xk : Fin 4096 → Fin 1024 → ℝ
  xv : Fin 4096 → Fin 1024 → ℝ
  xg : Fin 4096 → Fin 1024 → ℝ
  ct : Fin 4096 → Fin 1024 → ℝ
  dl : Fin 2 → Fin 4 → ℝ

/-- Column `a` of head `h`. -/
def hc (h : Fin 4) (a : Fin 256) : Fin 1024 := ⟨256 * h.val + a.val, by omega⟩

/-- A row turned by its angles. -/
def rot (x : Fin 256 → ℝ) (T : Fin 4096) (a : Fin 256) : ℝ :=
  if h : a.val < 128 then x a * Real.cos (angle T.val a.val) - x ⟨128 + a.val, by omega⟩ * Real.sin (angle T.val a.val)
  else x a * Real.cos (angle T.val (a.val - 128)) + x ⟨a.val - 128, by omega⟩ * Real.sin (angle T.val (a.val - 128))

/-- A row turned back. -/
def unrot (x : Fin 256 → ℝ) (T : Fin 4096) (a : Fin 256) : ℝ :=
  if h : a.val < 128 then x a * Real.cos (angle T.val a.val) + x ⟨128 + a.val, by omega⟩ * Real.sin (angle T.val a.val)
  else x a * Real.cos (angle T.val (a.val - 128)) - x ⟨a.val - 128, by omega⟩ * Real.sin (angle T.val (a.val - 128))

namespace Data

variable (X : Data) (h : Fin 4)

def LF : ℝ := logSig (X.dl 0 h)
def LB : ℝ := logSig (X.dl 1 h)

def q (T : Fin 4096) (a : Fin 256) : ℝ := rot (fun b => X.xq T (hc h b)) T a
def k (T : Fin 4096) (a : Fin 256) : ℝ := rot (fun b => X.xk T (hc h b)) T a * (1 / 16)
def v (T : Fin 4096) (a : Fin 256) : ℝ := X.xv T (hc h a)
def g (T : Fin 4096) (a : Fin 256) : ℝ := X.xg T (hc h a)
def c (T : Fin 4096) (a : Fin 256) : ℝ := X.ct T (hc h a)

end Data

/-- The decay between rows `T` and `S`. -/
def decay (LF LB : ℝ) (T S : ℕ) : ℝ := if S ≤ T then Real.exp (((T : ℝ) - S) * LF) else Real.exp (((S : ℝ) - T) * LB)

namespace Data

variable (X : Data) (h : Fin 4)

def W (T S : Fin 4096) : ℝ := decay (X.LF h) (X.LB h) T.val S.val
def P (T S : Fin 4096) : ℝ := ∑ a, X.q h T a * X.k h S a

/-- The retention's output. -/
def R (T : Fin 4096) (e : Fin 256) : ℝ := ∑ S, X.v h S e * (X.P h T S * X.W h T S)

def ms (T : Fin 4096) : ℝ := (∑ e, X.R h T e * X.R h T e) / 256 + eps
def rs (T : Fin 4096) : ℝ := (Real.sqrt (X.ms h T))⁻¹

theorem ms_pos (T : Fin 4096) : 0 < X.ms h T :=
  add_pos_of_nonneg_of_pos (div_nonneg (Finset.sum_nonneg fun k _ => mul_self_nonneg _) (by norm_num)) eps_pos

/-- The gradient at the normed output. -/
def dn (T : Fin 4096) (e : Fin 256) : ℝ := X.c h T e * X.g h T e * logis (X.g h T e)

/-- The gradient at the retention's output. -/
def dO (T : Fin 4096) (e : Fin 256) : ℝ :=
  X.rs h T * (X.dn h T e - X.R h T e * X.rs h T * ((∑ k, X.dn h T k * (X.R h T k * X.rs h T)) / 256))

/-- The gradient at the gate. -/
def dG (T : Fin 4096) (e : Fin 256) : ℝ :=
  X.c h T e * (X.R h T e * X.rs h T) * (logis (X.g h T e) * (1 + X.g h T e * (1 - logis (X.g h T e))))

/-- The gradient at the decayed scores. -/
def dS (T S : Fin 4096) : ℝ := ∑ e, X.dO h T e * X.v h S e

/-- The gradients at the turned `q` and `k`, and at `v`. -/
def dq (T : Fin 4096) (a : Fin 256) : ℝ := ∑ S, X.dS h T S * X.W h T S * X.k h S a
def dk (S : Fin 4096) (a : Fin 256) : ℝ := ∑ T, X.dS h T S * X.W h T S * X.q h T a
def dv (S : Fin 4096) (e : Fin 256) : ℝ := ∑ T, X.P h T S * X.W h T S * X.dO h T e

/-- The gradients at the logarithms of the two decays. -/
def dLF : ℝ := ∑ T : Fin 4096, ∑ S : Fin 4096, if S.val ≤ T.val then X.dS h T S * X.P h T S * (((T.val : ℝ) - S.val) * Real.exp (((T.val : ℝ) - S.val) * X.LF h)) else 0
def dLB : ℝ := ∑ T : Fin 4096, ∑ S : Fin 4096, if S.val ≤ T.val then 0 else X.dS h T S * X.P h T S * (((S.val : ℝ) - T.val) * Real.exp (((S.val : ℝ) - T.val) * X.LB h))

end Data

/-! ## What the programs write, as these reals -/

/-- The angle as the programs write it. -/
abbrev angE (T l : ℕ) : EReal :=
  FloatOps.sitofp (F := Ideal) .f32 (BitVec.ofNat 32 T) *
    Ideal.pow (Ideal.ofBits FTy.f32 1176256512#32)
      (Ideal.div (-(Ideal.ofBits FTy.f32 1073741824#32 * FloatOps.sitofp (F := Ideal) .f32 (BitVec.ofNat 32 l)))
        (Ideal.ofBits FTy.f32 1132462080#32))

theorem hc_div (h : Fin 4) (a : Fin 256) : (hc h a).val / 256 = h.val := by show (256 * h.val + a.val) / 256 = h.val; omega
theorem hc_mod (h : Fin 4) (a : Fin 256) : (hc h a).val % 256 = a.val := by show (256 * h.val + a.val) % 256 = a.val; omega

theorem hc_eq {h : Fin 4} {a : Fin 256} {n : ℕ} (hn : n < 1024) (e : n = h.val * 256 + a.val) : (⟨n, hn⟩ : Fin 1024) = hc h a :=
  Fin.ext (by show n = 256 * h.val + a.val; omega)

section
variable {x : Fin 1024 → EReal} {f : Fin 1024 → ℝ} (hx : ∀ l, x l = ((f l : ℝ) : EReal)) (T : Fin 4096) (h : Fin 4)
include hx

theorem rot_lo (a : Fin 128) :
    x ⟨h.val * 256 + a.val, by omega⟩ * Ideal.cos (angE T.val a.val) - x ⟨h.val * 256 + (128 + a.val), by omega⟩ * Ideal.sin (angE T.val a.val)
      = ((rot (fun b => f (hc h b)) T ⟨a.val, by omega⟩ : ℝ) : EReal) := by
  have hT := T.isLt
  have ha := a.isLt
  rw [hx, hx, angE, angle_coe (by omega) (by omega), hc_eq (h := h) (a := ⟨a.val, by omega⟩) _ rfl, hc_eq (h := h) (a := ⟨128 + a.val, by omega⟩) _ rfl,
    rot, dif_pos ha, EReal.coe_sub, EReal.coe_mul, EReal.coe_mul]
  rfl

theorem rot_hi (a : Fin 128) :
    x ⟨h.val * 256 + (128 + a.val), by omega⟩ * Ideal.cos (angE T.val a.val) + x ⟨h.val * 256 + a.val, by omega⟩ * Ideal.sin (angE T.val a.val)
      = ((rot (fun b => f (hc h b)) T ⟨128 + a.val, by omega⟩ : ℝ) : EReal) := by
  have hT := T.isLt
  have ha := a.isLt
  rw [hx, hx, angE, angle_coe (by omega) (by omega), hc_eq (h := h) (a := ⟨a.val, by omega⟩) _ rfl, hc_eq (h := h) (a := ⟨128 + a.val, by omega⟩) _ rfl,
    rot, dif_neg (by show ¬ 128 + a.val < 128; omega), EReal.coe_add, EReal.coe_mul, EReal.coe_mul]
  simp only [Nat.add_sub_cancel_left]
  rfl

/-- Both halves at once. -/
theorem rot_at (a : Fin 256) :
    (if h1 : a.val < 128 then
      x ⟨h.val * 256 + a.val, by omega⟩ * Ideal.cos (angE T.val a.val) - x ⟨h.val * 256 + (128 + a.val), by omega⟩ * Ideal.sin (angE T.val a.val)
    else
      x ⟨h.val * 256 + (128 + (a.val - 128)), by omega⟩ * Ideal.cos (angE T.val (a.val - 128)) + x ⟨h.val * 256 + (a.val - 128), by omega⟩ * Ideal.sin (angE T.val (a.val - 128)))
      = ((rot (fun b => f (hc h b)) T a : ℝ) : EReal) := by
  by_cases h1 : a.val < 128
  · rw [dif_pos h1]; exact rot_lo hx T h ⟨a.val, h1⟩
  · rw [dif_neg h1]
    refine (rot_hi hx T h ⟨a.val - 128, by omega⟩).trans ?_
    congr 2
    exact Fin.ext (by show 128 + (a.val - 128) = a.val; omega)

end

/-- A sum over a head's columns in two halves. -/
theorem sum_halves {M : Type} [AddCommMonoid M] (f : Fin 256 → M) :
    (∑ a : Fin 128, f ⟨a.val, by omega⟩) + (∑ a : Fin 128, f ⟨128 + a.val, by omega⟩) = ∑ a, f a :=
  (Fin.sum_univ_add (a := 128) (b := 128) f).symm

/-- The decay as the programs write it. -/
theorem decay_coe (LF LB : ℝ) (T S : Fin 4096) :
    (if (FloatOps.sitofp (F := Ideal) .f32 (BitVec.ofNat 32 S.val) : EReal) ≤ FloatOps.sitofp (F := Ideal) .f32 (BitVec.ofNat 32 T.val) then
      Ideal.exp (max ((FloatOps.sitofp (F := Ideal) .f32 (BitVec.ofNat 32 T.val) : EReal) - FloatOps.sitofp (F := Ideal) .f32 (BitVec.ofNat 32 S.val)) 0 * (LF : EReal))
    else Ideal.exp (max ((FloatOps.sitofp (F := Ideal) .f32 (BitVec.ofNat 32 S.val) : EReal) - FloatOps.sitofp (F := Ideal) .f32 (BitVec.ofNat 32 T.val)) 0 * (LB : EReal)))
      = ((decay LF LB T.val S.val : ℝ) : EReal) := by
  have hT := T.isLt
  have hS := S.isLt
  rw [sitofp_real (by omega), sitofp_real (by omega)]
  have e0 : (0 : EReal) = ((0 : ℝ) : EReal) := rfl
  rw [e0]
  simp only [← EReal.coe_sub, max_coe, ← EReal.coe_mul, Ideal.exp_coe, EReal.coe_le_coe_iff, Nat.cast_le]
  unfold decay
  by_cases h : S.val ≤ T.val
  · have : (S.val : ℝ) ≤ T.val := by exact_mod_cast h
    rw [if_pos h, if_pos h, max_eq_left (by linarith)]
  · have : (T.val : ℝ) ≤ S.val := by exact_mod_cast (by omega : T.val ≤ S.val)
    rw [if_neg h, if_neg h, max_eq_left (by linarith)]

theorem sit_fin (u : Fin 256) : (FloatOps.sitofp (F := Ideal) .f32 (BitVec.ofNat 32 u.val) : EReal) = ((u.val : ℝ) : EReal) := by
  have := u.isLt
  exact sitofp_real (by omega)

/-- The chunk's weights: of the rows before and after it, and of its own rows towards the chunks before and after. -/
def wAf (LF : ℝ) (u : Fin 256) : ℝ := Real.exp (((u.val : ℝ) + 1) * LF)
def wAb (LB : ℝ) (u : Fin 256) : ℝ := Real.exp ((256 - (u.val : ℝ)) * LB)
def wKf (LF : ℝ) (u : Fin 256) : ℝ := Real.exp ((255 - (u.val : ℝ)) * LF)
def wKb (LB : ℝ) (u : Fin 256) : ℝ := Real.exp ((u.val : ℝ) * LB)

/-- The decay's derivatives inside a chunk. -/
def wM1 (LF : ℝ) (u x : Fin 256) : ℝ := if x.val ≤ u.val then Real.exp (((u.val : ℝ) - x.val) * LF) * ((u.val : ℝ) - x.val) else 0
def wM2 (LB : ℝ) (u x : Fin 256) : ℝ := if x.val ≤ u.val then 0 else Real.exp (((x.val : ℝ) - u.val) * LB) * ((x.val : ℝ) - u.val)

end Cert.Ret
end
-- ==== Proof.Ret.Host.lean ====
module

public import proofs.«01_k».proof.Proof.Gen.KernelRetIdeal.Frame
public import proofs.«01_k».proof.Proof.Ret.Real
public import Idealize.ShloMosaic.Lib.StableHlo.ReadAt

@[expose] public section

set_option maxRecDepth 65536
set_option maxHeartbeats 1000000

noncomputable section

namespace Cert.Ret

open Cert.KernelRetIdeal Cert.KernelRetIdeal.Gen
open Idealize.ShloMosaic Idealize.ShloMosaic.TcCoe Idealize.ShloMosaic.Tactic Cert.Lift

/-! # What the host code prepares -/

variable (m : (ℓ : Loc nD τ sig) → Buf (Elt Ideal) ℓ) (c : Dev nD) (X : Data)

/-- The arguments are the reals of `X`. -/
structure Args : Prop where
  q : ∀ T l, (m (c, Proc.tc.devRef main_arg0) : Vec Ideal S4096x1024 .f32) (ix2 T l) = ((X.xq T l : ℝ) : EReal)
  k : ∀ T l, (m (c, Proc.tc.devRef main_arg1) : Vec Ideal S4096x1024 .f32) (ix2 T l) = ((X.xk T l : ℝ) : EReal)
  v : ∀ T l, (m (c, Proc.tc.devRef main_arg2) : Vec Ideal S4096x1024 .f32) (ix2 T l) = ((X.xv T l : ℝ) : EReal)
  g : ∀ T l, (m (c, Proc.tc.devRef main_arg3) : Vec Ideal S4096x1024 .f32) (ix2 T l) = ((X.xg T l : ℝ) : EReal)
  d : ∀ i h, (m (c, Proc.tc.devRef main_arg4) : Vec Ideal S2x4 .f32) (ix2 i h) = ((X.dl i h : ℝ) : EReal)
  c : ∀ T l, (m (c, Proc.tc.devRef main_arg5) : Vec Ideal S4096x1024 .f32) (ix2 T l) = ((X.ct T l : ℝ) : EReal)

variable {m c X} (A : Args m c X)
include A

theorem cos_at (T : Fin 4096) (l : Fin 128) :
    (V m c main_v128 : Vec Ideal S4096x128 .f32) (ix2 T l) = ((Real.cos (angle T.val l.val) : ℝ) : EReal)
    ∧ (V m c main_v129 : Vec Ideal S4096x128 .f32) (ix2 T l) = ((Real.sin (angle T.val l.val) : ℝ) : EReal) := by
  unfold V
  constructor
  all_goals
    after_reads_at
    rw [angle_coe (by omega) (by omega)]
    rfl

theorem ct_at (T : Fin 4096) (l : Fin 1024) : (V m c main_v245 : Vec Ideal S4096x1024 .bf16) (ix2 T l) = ((X.ct T l : ℝ) : EReal) := by
  unfold V
  after_reads_at
  exact A.c T l

theorem vg_at (T : Fin 4096) (l : Fin 1024) :
    (V m c main_v244 : Vec Ideal S4x4096x2048 .bf16) (ix3 2 T ⟨l.val, by omega⟩) = ((X.xv T l : ℝ) : EReal)
    ∧ (V m c main_v244 : Vec Ideal S4x4096x2048 .bf16) (ix3 2 T ⟨1024 + l.val, by omega⟩) = ((X.xg T l : ℝ) : EReal) := by
  unfold V
  constructor
  · repeat after_reads_at
    exact A.v T l
  · repeat after_reads_at
    exact A.g T l

theorem qk_at (T : Fin 4096) (h : Fin 4) (a : Fin 256) :
    (V m c main_v244 : Vec Ideal S4x4096x2048 .bf16) (ix3 1 T ⟨(hc h a).val, by omega⟩) = ((X.q h T a : ℝ) : EReal)
    ∧ (V m c main_v244 : Vec Ideal S4x4096x2048 .bf16) (ix3 1 T ⟨1024 + (hc h a).val, by omega⟩) = ((X.k h T a : ℝ) : EReal) := by
  unfold V
  constructor
  · repeat after_reads_at
    simp only [hc_div, hc_mod]
    exact rot_at (A.q T) T h a
  · repeat after_reads_at
    simp only [hc_div, hc_mod]
    simp only [lit16]
    have e := rot_at (A.k T) T h a
    split_ifs at e ⊢ with h1
    all_goals
      rw [e, ← EReal.coe_mul]
      rfl

end Cert.Ret
end
-- ==== Proof.Ret.HostB.lean ====
module

public import proofs.«01_k».proof.Proof.Gen.KernelRetIdeal.Frame
public import proofs.«01_k».proof.Proof.Ret.Host
public import Idealize.ShloMosaic.Lib.StableHlo.ReadAt

@[expose] public section

set_option maxRecDepth 65536
set_option maxHeartbeats 1000000

noncomputable section

namespace Cert.Ret

open Cert.KernelRetIdeal Cert.KernelRetIdeal.Gen
open Idealize.ShloMosaic Idealize.ShloMosaic.TcCoe Idealize.ShloMosaic.Tactic Cert.Lift

variable {m : (ℓ : Loc nD τ sig) → Buf (Elt Ideal) ℓ} {c : Dev nD} {X : Data} (A : Args m c X)
include A

omit A in
theorem zero_ix : (id (constant (F := Ideal) S_ FTy.f32 0#32) ix0 : EReal) = ((0 : ℝ) : EReal) := by
  show Ideal.ofBits FTy.f32 0#32 = _
  simp [Ideal.ofBits, Ideal.ieee]

omit A in
theorem lit1 : Ideal.ofBits FTy.f32 1065353216#32 = ((1 : ℝ) : EReal) := by
  simp [Ideal.ofBits, Ideal.ieee, -EReal.coe_mul]
  norm_num

omit A in
theorem add_z {a b z : EReal} (hz : z = ((0 : ℝ) : EReal)) (h : a = b) : a + z = b := by rw [hz, h]; exact add_zero b

omit A in
theorem z_add {a b z : EReal} (hz : z = ((0 : ℝ) : EReal)) (h : a = b) : z + a = b := by rw [hz, h]; exact zero_add b

omit A in
theorem z_mul {a : ℝ} {z : EReal} (hz : z = ((0 : ℝ) : EReal)) : z * (a : EReal) = ((0 : ℝ) : EReal) := by rw [hz, ← EReal.coe_mul, zero_mul]

/-- The logarithms of the two decays. -/
theorem lf_at (h : Fin 4) : (m (c, Proc.tc.devRef main_arg4) : Vec Ideal S2x4 .f32) (ix2 0 h) = ((X.dl 0 h : ℝ) : EReal) := A.d 0 h
theorem lb_at (h : Fin 4) : (m (c, Proc.tc.devRef main_arg4) : Vec Ideal S2x4 .f32) (ix2 1 h) = ((X.dl 1 h : ℝ) : EReal) := A.d 1 h

theorem col0 (h : Fin 4) (u : Fin 256) : (V m c main_v56 : Vec Ideal S4x8x256x1 .f32) (ix4 h 0 u 0) = ((wAf (X.LF h) u : ℝ) : EReal) := by
  unfold V
  repeat after_reads_at
  rw [lf_at A h, logSig_coe]
  simp only [sit_fin, lit256, lit255, lit1, ← EReal.coe_sub, ← EReal.coe_add, ← EReal.coe_mul, Ideal.exp_coe]
  rfl

theorem col1 (h : Fin 4) (u : Fin 256) : (V m c main_v56 : Vec Ideal S4x8x256x1 .f32) (ix4 h 1 u 0) = ((wAb (X.LB h) u : ℝ) : EReal) := by
  unfold V
  repeat after_reads_at
  rw [lb_at A h, logSig_coe]
  simp only [sit_fin, lit256, lit255, lit1, ← EReal.coe_sub, ← EReal.coe_add, ← EReal.coe_mul, Ideal.exp_coe]
  rfl

theorem col2 (h : Fin 4) (u : Fin 256) : (V m c main_v56 : Vec Ideal S4x8x256x1 .f32) (ix4 h 2 u 0) = ((wKf (X.LF h) u : ℝ) : EReal) := by
  unfold V
  repeat after_reads_at
  rw [lf_at A h, logSig_coe]
  simp only [sit_fin, lit256, lit255, lit1, ← EReal.coe_sub, ← EReal.coe_add, ← EReal.coe_mul, Ideal.exp_coe]
  rfl

theorem col3 (h : Fin 4) (u : Fin 256) : (V m c main_v56 : Vec Ideal S4x8x256x1 .f32) (ix4 h 3 u 0) = ((wKb (X.LB h) u : ℝ) : EReal) := by
  unfold V
  repeat after_reads_at
  rw [lb_at A h, logSig_coe]
  simp only [sit_fin, lit256, lit255, lit1, ← EReal.coe_sub, ← EReal.coe_add, ← EReal.coe_mul, Ideal.exp_coe]
  rfl

theorem col4 (h : Fin 4) (u : Fin 256) : (V m c main_v56 : Vec Ideal S4x8x256x1 .f32) (ix4 h 4 u 0) = ((wAf (X.LF h) u * ((u.val : ℝ) + 1) : ℝ) : EReal) := by
  unfold V
  repeat after_reads_at
  rw [lf_at A h, logSig_coe]
  simp only [sit_fin, lit256, lit255, lit1, ← EReal.coe_sub, ← EReal.coe_add, ← EReal.coe_mul, Ideal.exp_coe]
  rfl

theorem col5 (h : Fin 4) (u : Fin 256) : (V m c main_v56 : Vec Ideal S4x8x256x1 .f32) (ix4 h 5 u 0) = ((wAb (X.LB h) u * (256 - (u.val : ℝ)) : ℝ) : EReal) := by
  unfold V
  repeat after_reads_at
  rw [lb_at A h, logSig_coe]
  simp only [sit_fin, lit256, lit255, lit1, ← EReal.coe_sub, ← EReal.coe_add, ← EReal.coe_mul, Ideal.exp_coe]
  rfl

theorem col6 (h : Fin 4) (u : Fin 256) : (V m c main_v56 : Vec Ideal S4x8x256x1 .f32) (ix4 h 6 u 0) = ((wKf (X.LF h) u * (255 - (u.val : ℝ)) : ℝ) : EReal) := by
  unfold V
  repeat after_reads_at
  rw [lf_at A h, logSig_coe]
  simp only [sit_fin, lit256, lit255, lit1, ← EReal.coe_sub, ← EReal.coe_add, ← EReal.coe_mul, Ideal.exp_coe]
  rfl

theorem col7 (h : Fin 4) (u : Fin 256) : (V m c main_v56 : Vec Ideal S4x8x256x1 .f32) (ix4 h 7 u 0) = ((wKb (X.LB h) u * (u.val : ℝ) : ℝ) : EReal) := by
  unfold V
  repeat after_reads_at
  rw [lb_at A h, logSig_coe]
  simp only [sit_fin, lit256, lit255, lit1, ← EReal.coe_sub, ← EReal.coe_add, ← EReal.coe_mul, Ideal.exp_coe]
  rfl

theorem mat0 (h : Fin 4) (u x : Fin 256) : (V m c main_v98 : Vec Ideal S4x3x256x256 .f32) (ix4 h 0 u x) = ((decay (X.LF h) (X.LB h) u.val x.val : ℝ) : EReal) := by
  unfold V
  repeat after_reads_at
  have e0 : (0 : EReal) = ((0 : ℝ) : EReal) := rfl
  rw [lf_at A h, lb_at A h]
  simp only [logSig_coe, zero_ix]
  simp only [e0]
  simp only [sit_fin, ← EReal.coe_sub, ← EReal.coe_neg, max_coe, ← EReal.coe_mul, Ideal.exp_coe, EReal.coe_le_coe_iff, EReal.coe_lt_coe_iff, sub_nonneg, sub_neg, Nat.cast_le, Nat.cast_lt]
  unfold decay
  by_cases hx : x.val ≤ u.val
  · have h' : (x.val : ℝ) ≤ u.val := by exact_mod_cast hx
    simp only [hx, not_lt.2 hx, if_true, if_false, ← EReal.coe_add, ← EReal.coe_mul]
    refine add_z zero_ix ?_
    rw [max_eq_left (by linarith)]; rfl
  · have h' : (u.val : ℝ) ≤ x.val := by exact_mod_cast (not_le.1 hx).le
    simp only [hx, not_le.1 hx, if_true, if_false, ← EReal.coe_add, ← EReal.coe_mul]
    refine z_add zero_ix ?_
    rw [max_eq_left (by linarith), neg_sub]; rfl

theorem mat1 (h : Fin 4) (u x : Fin 256) : (V m c main_v98 : Vec Ideal S4x3x256x256 .f32) (ix4 h 1 u x) = ((wM1 (X.LF h) u x : ℝ) : EReal) := by
  unfold V
  repeat after_reads_at
  have e0 : (0 : EReal) = ((0 : ℝ) : EReal) := rfl
  rw [lf_at A h]
  simp only [logSig_coe, zero_ix]
  simp only [e0]
  simp only [sit_fin, ← EReal.coe_sub, ← EReal.coe_neg, max_coe, ← EReal.coe_mul, Ideal.exp_coe, EReal.coe_le_coe_iff, EReal.coe_lt_coe_iff, sub_nonneg, sub_neg, Nat.cast_le, Nat.cast_lt]
  unfold wM1
  by_cases hx : x.val ≤ u.val
  · have h' : (x.val : ℝ) ≤ u.val := by exact_mod_cast hx
    simp only [hx, not_lt.2 hx, if_true, if_false, ← EReal.coe_add, ← EReal.coe_mul]
    congr 1
    rw [max_eq_left (by linarith)]; rfl
  · have h' : (u.val : ℝ) ≤ x.val := by exact_mod_cast (not_le.1 hx).le
    simp only [hx, not_le.1 hx, if_true, if_false, ← EReal.coe_add, ← EReal.coe_mul]
    exact z_mul zero_ix

theorem mat2 (h : Fin 4) (u x : Fin 256) : (V m c main_v98 : Vec Ideal S4x3x256x256 .f32) (ix4 h 2 u x) = ((wM2 (X.LB h) u x : ℝ) : EReal) := by
  unfold V
  repeat after_reads_at
  have e0 : (0 : EReal) = ((0 : ℝ) : EReal) := rfl
  rw [lb_at A h]
  simp only [logSig_coe, zero_ix]
  simp only [e0]
  simp only [sit_fin, ← EReal.coe_sub, ← EReal.coe_neg, max_coe, ← EReal.coe_mul, Ideal.exp_coe, EReal.coe_le_coe_iff, EReal.coe_lt_coe_iff, sub_nonneg, sub_neg, Nat.cast_le, Nat.cast_lt]
  unfold wM2
  by_cases hx : x.val ≤ u.val
  · have h' : (x.val : ℝ) ≤ u.val := by exact_mod_cast hx
    simp only [hx, not_lt.2 hx, if_true, if_false, ← EReal.coe_add, ← EReal.coe_mul]
    exact z_mul zero_ix
  · have h' : (u.val : ℝ) ≤ x.val := by exact_mod_cast (not_le.1 hx).le
    simp only [hx, not_le.1 hx, if_true, if_false, ← EReal.coe_add, ← EReal.coe_mul]
    congr 1
    rw [max_eq_left (by linarith), neg_sub]; rfl

theorem cd0 (h : Fin 4) (u : Fin 256) : (V m c main_v109 : Vec Ideal S4x2x256 .f32) (ix3 h 0 u) = ((Real.exp (256 * X.LF h) : ℝ) : EReal) := by
  unfold V
  repeat after_reads_at
  rw [lf_at A h, logSig_coe, lit256, ← EReal.coe_mul, Ideal.exp_coe]
  rfl

theorem cd1 (h : Fin 4) (u : Fin 256) : (V m c main_v109 : Vec Ideal S4x2x256 .f32) (ix3 h 1 u) = ((Real.exp (256 * X.LB h) : ℝ) : EReal) := by
  unfold V
  repeat after_reads_at
  rw [lb_at A h, logSig_coe, lit256, ← EReal.coe_mul, Ideal.exp_coe]
  rfl

end Cert.Ret
end
-- ==== Proof.Ret.HostC.lean ====
module

public import proofs.«01_k».proof.Proof.Gen.KernelRetIdeal.Frame
public import proofs.«01_k».proof.Proof.Ret.HostB
public import Idealize.ShloMosaic.Lib.StableHlo.ReadAt

@[expose] public section

set_option maxRecDepth 65536
set_option maxHeartbeats 400000

noncomputable section

namespace Cert.Ret

open Cert.KernelRetIdeal Cert.KernelRetIdeal.Gen
open Idealize.ShloMosaic Idealize.ShloMosaic.TcCoe Idealize.ShloMosaic.Tactic Cert.Lift

variable {m : (ℓ : Loc nD τ sig) → Buf (Elt Ideal) ℓ} {c : Dev nD} {X : Data} (A : Args m c X)
include A

omit A in
theorem coe_mul3 (a b c : ℝ) : ((a * (b * c) : ℝ) : EReal) = (a : EReal) * ((b : EReal) * (c : EReal)) := by rw [EReal.coe_mul, EReal.coe_mul]

/-- The retention's forward output. -/
theorem r_at (T : Fin 4096) (h : Fin 4) (e : Fin 256) : (V m c main_v233 : Vec Ideal S4096x1024 .bf16) (ix2 T (hc h e)) = ((X.R h T e : ℝ) : EReal) := by
  unfold V
  repeat after_reads_at
  have e0 : ((X.R h T e : ℝ) : EReal) = ∑ S, ((X.v h S e * (X.P h T S * X.W h T S) : ℝ) : EReal) := coe_sum _ _
  refine Eq.trans ?_ e0.symm
  refine Finset.sum_congr rfl fun S _ => ?_
  simp only [hc_div, hc_mod, lit16, Fin.eta]
  refine Eq.trans ?_ (coe_mul3 _ _ _).symm
  refine congrArg₂ (· * ·) ?_ (congrArg₂ (· * ·) ?_ ?_)
  · rw [hc_eq (h := h) (a := e) _ rfl]; exact A.v S _
  · have e1 : ((X.P h T S : ℝ) : EReal) = ∑ a, ((X.q h T a * X.k h S a : ℝ) : EReal) := coe_sum _ _
    refine Eq.trans ?_ ((sum_halves _).trans e1.symm)
    refine congrArg₂ (· + ·) (Finset.sum_congr rfl fun a _ => ?_) (Finset.sum_congr rfl fun a _ => ?_)
    · have ek := rot_lo (A.k S) S h a
      have eq := rot_lo (A.q T) T h a
      exact (congrArg₂ (fun y z : EReal => y * (z * ((1 / 16 : ℝ) : EReal))) eq ek).trans (coe_mul3 _ _ _).symm
    · have ek := rot_hi (A.k S) S h a
      have eq := rot_hi (A.q T) T h a
      exact (congrArg₂ (fun y z : EReal => y * (z * ((1 / 16 : ℝ) : EReal))) eq ek).trans (coe_mul3 _ _ _).symm
  · rw [lf_at A h, lb_at A h, logSig_coe, logSig_coe]
    exact decay_coe _ _ T S

end Cert.Ret
end
-- ==== Proof.Ret.Sums.lean ====
module

public import proofs.«01_k».proof.Proof.Ret.Real

@[expose] public section

noncomputable section

namespace Cert.Ret

/-! # Sums over all rows, chunk by chunk -/

/-- Row `u` of chunk `n`. -/
def row (n : ℕ) (u : Fin 256) : Fin 4096 := ⟨(256 * n + u.val) % 4096, Nat.mod_lt _ (by decide)⟩

theorem row_val (n : ℕ) (hn : n < 16) (u : Fin 256) : (row n u).val = 256 * n + u.val := by
  show (256 * n + u.val) % 4096 = _
  omega

/-- A row and its chunk. -/
def rowEquiv : Fin 16 × Fin 256 ≃ Fin 4096 where
  toFun p := row p.1.val p.2
  invFun T := (⟨T.val / 256, by omega⟩, ⟨T.val % 256, by omega⟩)
  left_inv p := by
    have h := row_val p.1.val p.1.isLt p.2
    apply Prod.ext
    · apply Fin.ext; show (row p.1.val p.2).val / 256 = p.1.val; omega
    · apply Fin.ext; show (row p.1.val p.2).val % 256 = p.2.val; omega
  right_inv T := by
    apply Fin.ext
    show (row (T.val / 256) ⟨T.val % 256, by omega⟩).val = T.val
    rw [row_val _ (by omega)]
    show 256 * (T.val / 256) + T.val % 256 = T.val
    omega

theorem sum_rows_eq (f : Fin 4096 → ℝ) : ∑ C : Fin 16, ∑ u, f (row C.val u) = ∑ T, f T := by
  rw [← Fintype.sum_prod_type']
  exact Equiv.sum_comp rowEquiv f

/-- The rows of one chunk among all. -/
theorem sum_chunk (n : ℕ) (hn : n < 16) (f : Fin 4096 → ℝ) : ∑ T : Fin 4096, (if T.val / 256 = n then f T else 0) = ∑ u, f (row n u) := by
  rw [← sum_rows_eq, Finset.sum_eq_single (⟨n, hn⟩ : Fin 16)]
  · refine Finset.sum_congr rfl fun u _ => if_pos ?_
    rw [row_val n hn]; omega
  · intro C _ hC
    refine Finset.sum_eq_zero fun u _ => if_neg ?_
    rw [row_val _ C.isLt]
    intro e
    exact hC (Fin.ext (by show C.val = n; omega))
  · intro h; exact absurd (Finset.mem_univ _) h

/-- A state carried over the chunks from the first: `n` chunks. -/
def pre (w : Fin 256 → ℝ) (c : ℝ) (z : Fin 4096 → ℝ) : ℕ → ℝ
  | 0 => 0
  | n + 1 => pre w c z n * c + ∑ x, w x * z (row n x)

/-- A state carried over the chunks from the last: `n` chunks. -/
def suf (w : Fin 256 → ℝ) (c : ℝ) (z : Fin 4096 → ℝ) : ℕ → ℝ
  | 0 => 0
  | n + 1 => suf w c z n * c + ∑ x, w x * z (row (15 - n) x)

/-- What a row before chunk `n` weighs in the first, -/
def preW (L α : ℝ) (n : ℕ) (T : Fin 4096) : ℝ := if T.val < 256 * n then Real.exp ((256 * ((n : ℝ) - 1) + α - T.val) * L) else 0

/-- and a row from chunk `n` on in the second. -/
def sufW (L β : ℝ) (n : ℕ) (T : Fin 4096) : ℝ := if 256 * n ≤ T.val then Real.exp ((T.val - 256 * (n : ℝ) + β) * L) else 0

theorem pre_eq (L α : ℝ) (w : Fin 256 → ℝ) (hw : ∀ x, w x = Real.exp ((α - x.val) * L)) (z : Fin 4096 → ℝ) (n : ℕ) (hn : n ≤ 16) :
    pre w (Real.exp (256 * L)) z n = ∑ T, preW L α n T * z T := by
  induction n with
  | zero => exact (Finset.sum_eq_zero fun T _ => by rw [preW, if_neg (by omega), zero_mul]).symm
  | succ n ih =>
    rw [pre, ih (by omega), Finset.sum_mul]
    have e : ∑ x, w x * z (row n x) = ∑ T : Fin 4096, (if T.val / 256 = n then Real.exp ((256 * (n : ℝ) + α - T.val) * L) * z T else 0) := by
      rw [sum_chunk n (by omega)]
      refine Finset.sum_congr rfl fun x _ => ?_
      rw [hw, row_val n (by omega)]
      congr 2
      push_cast; ring
    rw [e, ← Finset.sum_add_distrib]
    refine Finset.sum_congr rfl fun T _ => ?_
    unfold preW
    by_cases h1 : T.val < 256 * n
    · rw [if_pos h1, if_neg (by omega), if_pos (by omega), add_zero, mul_right_comm, ← Real.exp_add]
      congr 2
      push_cast; ring
    · by_cases h2 : T.val / 256 = n
      · rw [if_neg h1, if_pos h2, if_pos (by omega), zero_mul, zero_mul, zero_add]
        congr 2
        push_cast; ring
      · rw [if_neg h1, if_neg h2, if_neg (by omega)]; ring

theorem suf_eq (L β : ℝ) (w : Fin 256 → ℝ) (hw : ∀ x, w x = Real.exp ((β + x.val) * L)) (z : Fin 4096 → ℝ) (n : ℕ) (hn : n ≤ 16) :
    suf w (Real.exp (256 * L)) z n = ∑ T, sufW L β (16 - n) T * z T := by
  induction n with
  | zero => exact (Finset.sum_eq_zero fun T _ => by rw [sufW, if_neg (by omega), zero_mul]).symm
  | succ n ih =>
    rw [suf, ih (by omega), Finset.sum_mul]
    have e : ∑ x, w x * z (row (15 - n) x) = ∑ T : Fin 4096, (if T.val / 256 = 15 - n then Real.exp ((T.val - 256 * ((15 - n : ℕ) : ℝ) + β) * L) * z T else 0) := by
      rw [sum_chunk (15 - n) (by omega)]
      refine Finset.sum_congr rfl fun x _ => ?_
      rw [hw, row_val (15 - n) (by omega)]
      congr 2
      push_cast; ring
    have h16 : 16 - n = 15 - n + 1 := by omega
    have h15 : 16 - (n + 1) = 15 - n := by omega
    rw [e, ← Finset.sum_add_distrib, h16, h15]
    generalize 15 - n = C
    refine Finset.sum_congr rfl fun T _ => ?_
    unfold sufW
    by_cases h1 : 256 * (C + 1) ≤ T.val
    · rw [if_pos h1, if_neg (by omega), if_pos (by omega), add_zero, mul_right_comm, ← Real.exp_add]
      congr 2
      push_cast; ring
    · by_cases h2 : T.val / 256 = C
      · rw [if_neg h1, if_pos h2, if_pos (by omega), zero_mul, zero_mul, zero_add]
      · rw [if_neg h1, if_neg h2, if_neg (by omega)]; ring

/-! ## The four states -/

variable (LF LB : ℝ) (z : Fin 4096 → ℝ)

theorem pre_kf (n : ℕ) (hn : n ≤ 16) : pre (wKf LF) (Real.exp (256 * LF)) z n = ∑ T, preW LF 255 n T * z T :=
  pre_eq LF 255 _ (fun _ => rfl) z n hn
theorem pre_ab (n : ℕ) (hn : n ≤ 16) : pre (wAb LB) (Real.exp (256 * LB)) z n = ∑ T, preW LB 256 n T * z T :=
  pre_eq LB 256 _ (fun _ => rfl) z n hn
theorem suf_kb (n : ℕ) (hn : n ≤ 16) : suf (wKb LB) (Real.exp (256 * LB)) z n = ∑ T, sufW LB 0 (16 - n) T * z T :=
  suf_eq LB 0 _ (fun x => by rw [wKb, zero_add]) z n hn
theorem suf_af (n : ℕ) (hn : n ≤ 16) : suf (wAf LF) (Real.exp (256 * LF)) z n = ∑ T, sufW LF 1 (16 - n) T * z T :=
  suf_eq LF 1 _ (fun x => by rw [wAf, add_comm]) z n hn

/-! ## A row against all rows -/

theorem decay_split (C : ℕ) (hC : C < 16) (u : Fin 256) (S : Fin 4096) :
    decay LF LB (row C u).val S.val = (if S.val / 256 = C then decay LF LB (256 * C + u.val) S.val else 0)
      + wAf LF u * preW LF 255 C S + wAb LB u * sufW LB 0 (C + 1) S := by
  rw [row_val C hC]
  by_cases h : S.val / 256 = C
  · rw [if_pos h, preW, sufW, if_neg (by omega), if_neg (by omega)]; ring
  rw [if_neg h, zero_add]
  unfold decay preW sufW wAf wAb
  by_cases h1 : S.val < 256 * C
  · rw [if_pos (by omega), if_pos h1, if_neg (by omega), mul_zero, add_zero, ← Real.exp_add]
    congr 1
    push_cast; ring
  · rw [if_neg (by omega), if_neg h1, if_pos (by omega), mul_zero, zero_add, ← Real.exp_add]
    congr 1
    push_cast; ring

theorem decay_split' (C : ℕ) (hC : C < 16) (u : Fin 256) (T : Fin 4096) :
    decay LF LB T.val (row C u).val = (if T.val / 256 = C then decay LF LB T.val (256 * C + u.val) else 0)
      + wKf LF u * sufW LF 1 (C + 1) T + wKb LB u * preW LB 256 C T := by
  rw [row_val C hC]
  by_cases h : T.val / 256 = C
  · rw [if_pos h, preW, sufW, if_neg (by omega), if_neg (by omega)]; ring
  rw [if_neg h, zero_add]
  unfold decay preW sufW wKf wKb
  by_cases h1 : T.val < 256 * C
  · rw [if_neg (by omega), if_pos h1, if_neg (by omega), mul_zero, zero_add, ← Real.exp_add]
    congr 1
    push_cast; ring
  · rw [if_pos (by omega), if_neg h1, if_pos (by omega), mul_zero, add_zero, ← Real.exp_add]
    congr 1
    push_cast; ring

theorem decay_shift (C : ℕ) (hC : C < 16) (u x : Fin 256) : decay LF LB (256 * C + u.val) (row C x).val = decay LF LB u.val x.val := by
  rw [row_val C hC]
  unfold decay
  by_cases h : x.val ≤ u.val
  · rw [if_pos h, if_pos (by omega)]; congr 1; push_cast; ring
  · rw [if_neg h, if_neg (by omega)]; congr 1; push_cast; ring

theorem decay_shift' (C : ℕ) (hC : C < 16) (u x : Fin 256) : decay LF LB (row C x).val (256 * C + u.val) = decay LF LB x.val u.val := by
  rw [row_val C hC]
  unfold decay
  by_cases h : u.val ≤ x.val
  · rw [if_pos h, if_pos (by omega)]; congr 1; push_cast; ring
  · rw [if_neg h, if_neg (by omega)]; congr 1; push_cast; ring

/-- A decayed sum over all columns: the row's own chunk, the chunks before it, the chunks after it. -/
theorem sum_decay (C : ℕ) (hC : C < 16) (u : Fin 256) :
    ∑ S : Fin 4096, decay LF LB (row C u).val S.val * z S
      = (∑ x, decay LF LB u.val x.val * z (row C x)) + wAf LF u * pre (wKf LF) (Real.exp (256 * LF)) z C
        + wAb LB u * suf (wKb LB) (Real.exp (256 * LB)) z (15 - C) := by
  rw [pre_kf _ _ _ (by omega), suf_kb _ _ _ (by omega), show 16 - (15 - C) = C + 1 by omega, Finset.mul_sum, Finset.mul_sum]
  have e := sum_chunk C hC (fun S => decay LF LB (256 * C + u.val) S.val * z S)
  simp only [decay_shift LF LB C hC] at e
  rw [← e, ← Finset.sum_add_distrib, ← Finset.sum_add_distrib]
  refine Finset.sum_congr rfl fun S _ => ?_
  rw [decay_split LF LB C hC]
  split_ifs <;> ring

/-- A decayed sum over all rows, likewise. -/
theorem sum_decay' (C : ℕ) (hC : C < 16) (u : Fin 256) :
    ∑ T : Fin 4096, decay LF LB T.val (row C u).val * z T
      = (∑ x : Fin 256, decay LF LB x.val u.val * z (row C x)) + wKf LF u * suf (wAf LF) (Real.exp (256 * LF)) z (15 - C)
        + wKb LB u * pre (wAb LB) (Real.exp (256 * LB)) z C := by
  rw [pre_ab _ _ _ (by omega), suf_af _ _ _ (by omega), show 16 - (15 - C) = C + 1 by omega, Finset.mul_sum, Finset.mul_sum]
  have e := sum_chunk C hC (fun T => decay LF LB T.val (256 * C + u.val) * z T)
  simp only [decay_shift' LF LB C hC] at e
  rw [← e, ← Finset.sum_add_distrib, ← Finset.sum_add_distrib]
  refine Finset.sum_congr rfl fun S _ => ?_
  rw [decay_split' LF LB C hC]
  split_ifs <;> ring

/-! ## The distances -/

/-- The chunks strictly between two rows. -/
theorem count_between (e l : Fin 4096) (h : e.val / 256 < l.val / 256) :
    (∑ C : Fin 16, if e.val < 256 * C.val ∧ 256 * (C.val + 1) ≤ l.val then (1 : ℝ) else 0) = (l.val / 256 : ℕ) - (e.val / 256 : ℕ) - 1 := by
  have e1 : (∑ C : Fin 16, if e.val < 256 * C.val ∧ 256 * (C.val + 1) ≤ l.val then (1 : ℝ) else 0)
      = ∑ C ∈ Finset.range 16, if e.val < 256 * C ∧ 256 * (C + 1) ≤ l.val then (1 : ℝ) else 0 :=
    Fin.sum_univ_eq_sum_range (fun C => if e.val < 256 * C ∧ 256 * (C + 1) ≤ l.val then (1 : ℝ) else 0) 16
  have e2 : (Finset.range 16).filter (fun C => e.val < 256 * C ∧ 256 * (C + 1) ≤ l.val) = Finset.Ico (e.val / 256 + 1) (l.val / 256) := by
    ext C
    simp only [Finset.mem_filter, Finset.mem_range, Finset.mem_Ico]
    omega
  rw [e1, Finset.sum_boole, e2, Nat.card_Ico, Nat.cast_sub (by omega)]
  push_cast; ring

/-- The distance of two rows of different chunks, times its weight, by the three parts of the distance. -/
theorem dist_split (L α β : ℝ) (hαβ : α + β = 256) (l e : Fin 4096) :
    (if e.val / 256 < l.val / 256 then ((l.val : ℝ) - e.val) * Real.exp (((l.val : ℝ) - e.val) * L) else 0)
      = (β + (l.val % 256 : ℕ)) * Real.exp ((β + (l.val % 256 : ℕ)) * L) * preW L α (l.val / 256) e
        + (α - (e.val % 256 : ℕ)) * Real.exp ((α - (e.val % 256 : ℕ)) * L) * sufW L β (e.val / 256 + 1) l
        + 256 * Real.exp (256 * L) * ∑ C : Fin 16, sufW L β (C.val + 1) l * preW L α C.val e := by
  have hl : (l.val : ℝ) = 256 * (l.val / 256 : ℕ) + (l.val % 256 : ℕ) := by exact_mod_cast (Nat.div_add_mod l.val 256).symm
  have he : (e.val : ℝ) = 256 * (e.val / 256 : ℕ) + (e.val % 256 : ℕ) := by exact_mod_cast (Nat.div_add_mod e.val 256).symm
  by_cases h : e.val / 256 < l.val / 256
  · have e3 : 256 * Real.exp (256 * L) * (∑ C : Fin 16, sufW L β (C.val + 1) l * preW L α C.val e)
        = 256 * ((l.val / 256 : ℕ) - (e.val / 256 : ℕ) - 1) * Real.exp (((l.val : ℝ) - e.val) * L) := by
      rw [← count_between e l h, Finset.mul_sum, Finset.mul_sum, Finset.sum_mul]
      refine Finset.sum_congr rfl fun C _ => ?_
      unfold sufW preW
      by_cases h1 : e.val < 256 * C.val ∧ 256 * (C.val + 1) ≤ l.val
      · rw [if_pos h1, if_pos h1.1, if_pos h1.2, mul_assoc, ← Real.exp_add, ← Real.exp_add, mul_one]
        congr 2
        push_cast
        linear_combination L * hαβ
      · rw [if_neg h1]
        by_cases h2 : e.val < 256 * C.val
        · rw [if_neg (fun h3 => h1 ⟨h2, h3⟩)]; ring
        · rw [if_neg h2]; ring
    rw [if_pos h, e3, preW, sufW, if_pos (by omega), if_pos (by omega), mul_assoc, mul_assoc, ← Real.exp_add, ← Real.exp_add]
    have x1 : (β + (l.val % 256 : ℕ)) * L + (256 * (((l.val / 256 : ℕ) : ℝ) - 1) + α - e.val) * L = ((l.val : ℝ) - e.val) * L := by
      rw [hl]; linear_combination L * hαβ
    have x2 : (α - (e.val % 256 : ℕ)) * L + (l.val - 256 * ((e.val / 256 + 1 : ℕ) : ℝ) + β) * L = ((l.val : ℝ) - e.val) * L := by
      rw [he]; push_cast; linear_combination L * hαβ
    rw [x1, x2, ← add_mul, ← add_mul]
    congr 1
    rw [hl, he]
    linear_combination -hαβ
  · rw [if_neg h, preW, sufW, if_neg (by omega), if_neg (by omega), Finset.sum_eq_zero]
    · ring
    · intro C _
      unfold sufW preW
      by_cases h2 : e.val < 256 * C.val
      · rw [if_neg (by omega)]; ring
      · rw [if_neg h2]; ring

/-- The sum of the distances of the rows of different chunks, as three sums over the chunks. -/
theorem sum_dist (L α β : ℝ) (hαβ : α + β = 256) (p : Fin 4096 → Fin 4096 → ℝ) :
    (∑ l : Fin 4096, ∑ e : Fin 4096, if e.val / 256 < l.val / 256 then p l e * (((l.val : ℝ) - e.val) * Real.exp (((l.val : ℝ) - e.val) * L)) else 0)
      = (∑ C : Fin 16, ∑ u : Fin 256, (β + u.val) * Real.exp ((β + u.val) * L) * ∑ e, preW L α C.val e * p (row C.val u) e)
        + (∑ C : Fin 16, ∑ x : Fin 256, (α - x.val) * Real.exp ((α - x.val) * L) * ∑ l, sufW L β (C.val + 1) l * p l (row C.val x))
        + 256 * Real.exp (256 * L) * ∑ C : Fin 16, ∑ l, ∑ e, sufW L β (C.val + 1) l * preW L α C.val e * p l e := by
  have e1 : (∑ C : Fin 16, ∑ u : Fin 256, (β + u.val) * Real.exp ((β + u.val) * L) * ∑ e, preW L α C.val e * p (row C.val u) e)
      = ∑ l : Fin 4096, ∑ e, (β + (l.val % 256 : ℕ)) * Real.exp ((β + (l.val % 256 : ℕ)) * L) * preW L α (l.val / 256) e * p l e := by
    rw [← sum_rows_eq]
    refine Finset.sum_congr rfl fun C _ => Finset.sum_congr rfl fun u _ => ?_
    rw [row_val _ C.isLt, show (256 * C.val + u.val) / 256 = C.val by omega, show (256 * C.val + u.val) % 256 = u.val by omega, Finset.mul_sum]
    exact Finset.sum_congr rfl fun e _ => by ring
  have e2 : (∑ C : Fin 16, ∑ x : Fin 256, (α - x.val) * Real.exp ((α - x.val) * L) * ∑ l, sufW L β (C.val + 1) l * p l (row C.val x))
      = ∑ l : Fin 4096, ∑ e : Fin 4096, (α - (e.val % 256 : ℕ)) * Real.exp ((α - (e.val % 256 : ℕ)) * L) * sufW L β (e.val / 256 + 1) l * p l e := by
    refine Eq.trans ?_ Finset.sum_comm
    rw [← sum_rows_eq]
    refine Finset.sum_congr rfl fun C _ => Finset.sum_congr rfl fun u _ => ?_
    rw [row_val _ C.isLt, show (256 * C.val + u.val) / 256 = C.val by omega, show (256 * C.val + u.val) % 256 = u.val by omega, Finset.mul_sum]
    exact Finset.sum_congr rfl fun e _ => by ring
  have e3 : 256 * Real.exp (256 * L) * (∑ C : Fin 16, ∑ l, ∑ e, sufW L β (C.val + 1) l * preW L α C.val e * p l e)
      = ∑ l, ∑ e, 256 * Real.exp (256 * L) * (∑ C : Fin 16, sufW L β (C.val + 1) l * preW L α C.val e) * p l e := by
    rw [Finset.sum_comm, Finset.mul_sum]
    refine Finset.sum_congr rfl fun l _ => ?_
    rw [Finset.sum_comm, Finset.mul_sum]
    refine Finset.sum_congr rfl fun e _ => ?_
    rw [← Finset.sum_mul]; ring
  rw [e1, e2, e3, ← Finset.sum_add_distrib, ← Finset.sum_add_distrib]
  refine Finset.sum_congr rfl fun l _ => ?_
  rw [← Finset.sum_add_distrib, ← Finset.sum_add_distrib]
  refine Finset.sum_congr rfl fun e _ => ?_
  have d := dist_split L α β hαβ l e
  rw [← add_mul, ← add_mul, ← d]
  split_ifs <;> ring

end Cert.Ret

end
-- ==== Proof.Ret.State.lean ====
module

public import proofs.«01_k».proof.Proof.Gen.KernelRetIdeal.Frame
public import proofs.«01_k».proof.Proof.Ret.Sums
public import Idealize.ShloMosaic.Lib.StableHlo.ReadAt

@[expose] public section

set_option maxRecDepth 65536
set_option maxHeartbeats 1000000

noncomputable section

namespace Cert.Ret

/-! # What one chunk computes -/

/-! ## The carried states, over the reals -/

theorem pre_lin {ι : Type} (s : Finset ι) (a : ι → ℝ) (w : Fin 256 → ℝ) (c : ℝ) (z : ι → Fin 4096 → ℝ) (n : ℕ) :
    ∑ e ∈ s, a e * pre w c (z e) n = pre w c (fun T => ∑ e ∈ s, a e * z e T) n := by
  induction n with
  | zero => exact Finset.sum_eq_zero fun e _ => mul_zero _
  | succ n ih =>
    simp only [pre]
    rw [← ih, Finset.sum_mul]
    simp only [Finset.mul_sum]
    rw [Finset.sum_comm, ← Finset.sum_add_distrib]
    refine Finset.sum_congr rfl fun e _ => ?_
    rw [mul_add, Finset.mul_sum]
    refine congrArg₂ (· + ·) (by ring) (Finset.sum_congr rfl fun x _ => by ring)

theorem suf_lin {ι : Type} (s : Finset ι) (a : ι → ℝ) (w : Fin 256 → ℝ) (c : ℝ) (z : ι → Fin 4096 → ℝ) (n : ℕ) :
    ∑ e ∈ s, a e * suf w c (z e) n = suf w c (fun T => ∑ e ∈ s, a e * z e T) n := by
  induction n with
  | zero => exact Finset.sum_eq_zero fun e _ => mul_zero _
  | succ n ih =>
    simp only [suf]
    rw [← ih, Finset.sum_mul]
    simp only [Finset.mul_sum]
    rw [Finset.sum_comm, ← Finset.sum_add_distrib]
    refine Finset.sum_congr rfl fun e _ => ?_
    rw [mul_add, Finset.mul_sum]
    refine congrArg₂ (· + ·) (by ring) (Finset.sum_congr rfl fun x _ => by ring)

theorem pre_smul (r : ℝ) (w : Fin 256 → ℝ) (c : ℝ) (z : Fin 4096 → ℝ) (n : ℕ) : pre w c (fun T => r * z T) n = r * pre w c z n := by
  have e := pre_lin (Finset.univ : Finset (Fin 1)) (fun _ => r) w c (fun _ => z) n
  simpa using e.symm

theorem suf_smul (r : ℝ) (w : Fin 256 → ℝ) (c : ℝ) (z : Fin 4096 → ℝ) (n : ℕ) : suf w c (fun T => r * z T) n = r * suf w c z n := by
  have e := suf_lin (Finset.univ : Finset (Fin 1)) (fun _ => r) w c (fun _ => z) n
  simpa using e.symm

namespace Data

variable (X : Data) (h : Fin 4)

/-- The states before chunk `n`, -/
def stS (n : ℕ) (a b : Fin 256) : ℝ := pre (wKf (X.LF h)) (Real.exp (256 * X.LF h)) (fun T => X.k h T a * X.v h T b) n
def stG (n : ℕ) (a b : Fin 256) : ℝ := pre (wAb (X.LB h)) (Real.exp (256 * X.LB h)) (fun T => X.q h T a * X.dO h T b) n
/-- and after the last `n` chunks. -/
def suS (n : ℕ) (a b : Fin 256) : ℝ := suf (wKb (X.LB h)) (Real.exp (256 * X.LB h)) (fun T => X.k h T a * X.v h T b) n
def suG (n : ℕ) (a b : Fin 256) : ℝ := suf (wAf (X.LF h)) (Real.exp (256 * X.LF h)) (fun T => X.q h T a * X.dO h T b) n

/-- What chunk `C` adds to the accumulators of the gradient at the decays. -/
def tA (C : ℕ) (u x : Fin 256) : ℝ := X.dS h (row C u) (row C x) * X.P h (row C u) (row C x) * wM1 (X.LF h) u x
def tB (C : ℕ) (u x : Fin 256) : ℝ := X.dS h (row C u) (row C x) * X.P h (row C u) (row C x) * wM2 (X.LB h) u x
def tC (C : ℕ) (u b : Fin 256) : ℝ :=
  (∑ x, X.dO h (row C u) x * X.stS h C b x) * X.q h (row C u) b * (wAf (X.LF h) u * ((u.val : ℝ) + 1))
    + (∑ x, X.v h (row C u) x * X.suG h (15 - C) b x) * X.k h (row C u) b * (wKf (X.LF h) u * (255 - (u.val : ℝ)))
def tD (C : ℕ) (u b : Fin 256) : ℝ :=
  (∑ x, X.dO h (row C u) x * X.suS h (15 - C) b x) * X.q h (row C u) b * (wAb (X.LB h) u * (256 - (u.val : ℝ)))
    + (∑ x, X.v h (row C u) x * X.stG h C b x) * X.k h (row C u) b * (wKb (X.LB h) u * (u.val : ℝ))
def tE (C : ℕ) (a b : Fin 256) : ℝ := X.suG h (15 - C) a b * X.stS h C a b
def tG (C : ℕ) (a b : Fin 256) : ℝ := X.stG h C a b * X.suS h (15 - C) a b

/-- The gradient at `q`, from a chunk. -/
theorem dq_in (C : ℕ) (hC : C < 16) (u b : Fin 256) :
    (∑ x, (∑ e, X.dO h (row C u) e * X.v h (row C x) e) * decay (X.LF h) (X.LB h) u.val x.val * X.k h (row C x) b)
        + (∑ e, X.dO h (row C u) e * X.stS h C b e) * wAf (X.LF h) u
      + (∑ e, X.dO h (row C u) e * X.suS h (15 - C) b e) * wAb (X.LB h) u = X.dq h (row C u) b := by
  unfold stS suS dq W
  rw [pre_lin, suf_lin]
  have e := sum_decay (X.LF h) (X.LB h) (fun S => X.dS h (row C u) S * X.k h S b) C hC u
  refine Eq.trans ?_ (Eq.trans e.symm (Finset.sum_congr rfl fun S _ => by ring))
  have ez : (fun T => ∑ e, X.dO h (row C u) e * (X.k h T b * X.v h T e)) = fun S => X.dS h (row C u) S * X.k h S b := by
    funext S
    unfold dS
    rw [Finset.sum_mul]
    exact Finset.sum_congr rfl fun e _ => by ring
  rw [ez]
  refine congrArg₂ (· + ·) (congrArg₂ (· + ·) (Finset.sum_congr rfl fun x _ => ?_) (by ring)) (by ring)
  unfold dS; ring

/-- The gradient at `k`, from a chunk. -/
theorem dk_in (C : ℕ) (hC : C < 16) (u b : Fin 256) :
    (∑ x, (∑ e, X.dO h (row C x) e * X.v h (row C u) e) * decay (X.LF h) (X.LB h) x.val u.val * X.q h (row C x) b)
        + (∑ e, X.v h (row C u) e * X.suG h (15 - C) b e) * wKf (X.LF h) u
      + (∑ e, X.v h (row C u) e * X.stG h C b e) * wKb (X.LB h) u = X.dk h (row C u) b := by
  unfold stG suG dk W
  rw [pre_lin, suf_lin]
  have e := sum_decay' (X.LF h) (X.LB h) (fun T => X.dS h T (row C u) * X.q h T b) C hC u
  refine Eq.trans ?_ (Eq.trans e.symm (Finset.sum_congr rfl fun S _ => by ring))
  have ez : (fun T => ∑ e, X.v h (row C u) e * (X.q h T b * X.dO h T e)) = fun T => X.dS h T (row C u) * X.q h T b := by
    funext T
    unfold dS
    rw [Finset.sum_mul]
    exact Finset.sum_congr rfl fun e _ => by ring
  rw [ez]
  refine congrArg₂ (· + ·) (congrArg₂ (· + ·) (Finset.sum_congr rfl fun x _ => ?_) (by ring)) (by ring)
  unfold dS; ring

/-- The gradient at `v`, from a chunk. -/
theorem dv_in (C : ℕ) (hC : C < 16) (u b : Fin 256) :
    (∑ x, (∑ a, X.q h (row C x) a * X.k h (row C u) a) * decay (X.LF h) (X.LB h) x.val u.val * X.dO h (row C x) b)
        + (∑ a, X.k h (row C u) a * wKf (X.LF h) u * X.suG h (15 - C) a b)
      + (∑ a, X.k h (row C u) a * wKb (X.LB h) u * X.stG h C a b) = X.dv h (row C u) b := by
  unfold stG suG dv W
  rw [pre_lin, suf_lin]
  have e := sum_decay' (X.LF h) (X.LB h) (fun T => X.P h T (row C u) * X.dO h T b) C hC u
  refine Eq.trans ?_ (Eq.trans e.symm (Finset.sum_congr rfl fun S _ => by ring))
  rw [← pre_smul, ← suf_smul]
  refine congrArg₂ (· + ·) (congrArg₂ (· + ·) (Finset.sum_congr rfl fun x _ => ?_) ?_) ?_
  · unfold P; ring
  · congr 1
    funext T
    unfold P
    rw [Finset.sum_mul, Finset.mul_sum]
    exact Finset.sum_congr rfl fun e _ => by ring
  · congr 1
    funext T
    unfold P
    rw [Finset.sum_mul, Finset.mul_sum]
    exact Finset.sum_congr rfl fun e _ => by ring

end Data

end Cert.Ret
end
-- ==== Proof.Ret.Pay.lean ====
module

public import proofs.«01_k».proof.Proof.Gen.KernelRetIdeal.Frame
public import proofs.«01_k».proof.Proof.Ret.Data
public import proofs.«01_k».proof.Proof.Ret.State
public import Idealize.ShloMosaic.Lib.StableHlo.ReadAt

@[expose] public section

set_option maxRecDepth 65536
set_option maxHeartbeats 400000
set_option maxHeartbeats 1000000

noncomputable section

namespace Cert.Ret

open Cert.KernelRetIdeal Cert.KernelRetIdeal.Gen
open Idealize.ShloMosaic Idealize.ShloMosaic.TcCoe Idealize.ShloMosaic.Tactic Cert.Lift

/-! # What one chunk computes, from real rows -/

variable (X : Data) (h : Fin 4)

/-- The decays of a head. -/
structure IsDec (D : Decays Ideal) : Prop where
  af : ∀ u, D.af (ix2 u 0) = ((wAf (X.LF h) u : ℝ) : EReal)
  ab : ∀ u, D.ab (ix2 u 0) = ((wAb (X.LB h) u : ℝ) : EReal)
  kf : ∀ u, D.kf (ix2 u 0) = ((wKf (X.LF h) u : ℝ) : EReal)
  kb : ∀ u, D.kb (ix2 u 0) = ((wKb (X.LB h) u : ℝ) : EReal)
  af1 : ∀ u, D.af1 (ix2 u 0) = ((wAf (X.LF h) u * ((u.val : ℝ) + 1) : ℝ) : EReal)
  ab1 : ∀ u, D.ab1 (ix2 u 0) = ((wAb (X.LB h) u * (256 - (u.val : ℝ)) : ℝ) : EReal)
  kf1 : ∀ u, D.kf1 (ix2 u 0) = ((wKf (X.LF h) u * (255 - (u.val : ℝ)) : ℝ) : EReal)
  kb1 : ∀ u, D.kb1 (ix2 u 0) = ((wKb (X.LB h) u * (u.val : ℝ) : ℝ) : EReal)
  cf : ∀ b, D.cf (ix2 0 b) = ((Real.exp (256 * X.LF h) : ℝ) : EReal)
  cb : ∀ b, D.cb (ix2 0 b) = ((Real.exp (256 * X.LB h) : ℝ) : EReal)

/-- Chunk `C`'s rows. -/
structure IsPiece (C : ℕ) (P : Piece Ideal) : Prop where
  d : ∀ u b, P.d (ix2 u b) = ((X.dO h (row C u) b : ℝ) : EReal)
  g : ∀ u b, P.g (ix2 u b) = ((X.dG h (row C u) b : ℝ) : EReal)
  q : ∀ u b, P.q (ix3 0 u b) = ((X.q h (row C u) b : ℝ) : EReal)
  k : ∀ u b, P.k (ix3 0 u b) = ((X.k h (row C u) b : ℝ) : EReal)
  v : ∀ u b, P.v (ix3 0 u b) = ((X.v h (row C u) b : ℝ) : EReal)
  cos : ∀ u l, P.cos (ix2 u l) = ((Real.cos (angle (row C u).val l.val) : ℝ) : EReal)
  sin : ∀ u l, P.sin (ix2 u l) = ((Real.sin (angle (row C u).val l.val) : ℝ) : EReal)
  sb : ∀ a b, P.sb (ix3 0 a b) = ((X.suS h (15 - C) a b : ℝ) : EReal)
  gf : ∀ a b, P.gf (ix3 0 a b) = ((X.suG h (15 - C) a b : ℝ) : EReal)
  m0 : ∀ u x, P.m0 (ix4 0 0 u x) = ((decay (X.LF h) (X.LB h) u.val x.val : ℝ) : EReal)
  m1 : ∀ u x, P.m1 (ix4 0 0 u x) = ((wM1 (X.LF h) u x : ℝ) : EReal)
  m2 : ∀ u x, P.m2 (ix4 0 0 u x) = ((wM2 (X.LB h) u x : ℝ) : EReal)

/-- What the second pass carries before chunk `n`. -/
structure IsRun (n : ℕ) (r : Run Ideal) : Prop where
  S : ∀ a b, r.S (ix2 a b) = ((X.stS h n a b : ℝ) : EReal)
  G : ∀ a b, r.G (ix2 a b) = ((X.stG h n a b : ℝ) : EReal)
  A : ∀ a b, r.A (ix2 a b) = ((∑ C ∈ Finset.range n, X.tA h C a b : ℝ) : EReal)
  B : ∀ a b, r.B (ix2 a b) = ((∑ C ∈ Finset.range n, X.tB h C a b : ℝ) : EReal)
  C : ∀ a b, r.C (ix2 a b) = ((∑ C ∈ Finset.range n, X.tC h C a b : ℝ) : EReal)
  D : ∀ a b, r.D (ix2 a b) = ((∑ C ∈ Finset.range n, X.tD h C a b : ℝ) : EReal)
  E : ∀ a b, r.E (ix2 a b) = ((∑ C ∈ Finset.range n, X.tE h C a b : ℝ) : EReal)
  G' : ∀ a b, r.G' (ix2 a b) = ((∑ C ∈ Finset.range n, X.tG h C a b : ℝ) : EReal)

variable {X h} {C : ℕ} {D : Decays Ideal} {P : Piece Ideal} {r : Run Ideal} (hD : IsDec X h D) (hP : IsPiece X h C P) (hr : IsRun X h C r)

include hD hP hr in
theorem step_S (a b : Fin 256) : stepS D P r.S (ix2 a b) = ((X.stS h (C + 1) a b : ℝ) : EReal) := by
  unfold stepS
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.S, hD.cf, hD.kf, hP.k, hP.v]
  simp only [← EReal.coe_mul, ← coe_sum, ← EReal.coe_add]
  congr 1
  simp only [Data.stS, pre]
  refine congrArg₂ (· + ·) rfl (Finset.sum_congr rfl fun x _ => ?_)
  ring

include hD hP hr in
theorem step_G (a b : Fin 256) : stepG D P r.G (ix2 a b) = ((X.stG h (C + 1) a b : ℝ) : EReal) := by
  unfold stepG
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.G, hD.cb, hD.ab, hP.q, hP.d]
  simp only [← EReal.coe_mul, ← coe_sum, ← EReal.coe_add]
  congr 1
  simp only [Data.stG, pre]
  refine congrArg₂ (· + ·) rfl (Finset.sum_congr rfl fun x _ => ?_)
  ring

include hD hP hr in
theorem step_A (a b : Fin 256) : accA P r.A (ix2 a b) = ((∑ C ∈ Finset.range (C + 1), X.tA h C a b : ℝ) : EReal) := by
  unfold accA psOf
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.A, hP.d, hP.v, hP.q, hP.k, hP.m1]
  simp only [← EReal.coe_mul, ← coe_sum, ← EReal.coe_add]
  congr 1
  rw [Finset.sum_range_succ]
  rfl

include hD hP hr in
theorem step_B (a b : Fin 256) : accB P r.B (ix2 a b) = ((∑ C ∈ Finset.range (C + 1), X.tB h C a b : ℝ) : EReal) := by
  unfold accB psOf
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.B, hP.d, hP.v, hP.q, hP.k, hP.m2]
  simp only [← EReal.coe_mul, ← coe_sum, ← EReal.coe_add]
  congr 1
  rw [Finset.sum_range_succ]
  rfl

include hD hP hr in
theorem step_C (a b : Fin 256) : accC D P r.S r.C (ix2 a b) = ((∑ C ∈ Finset.range (C + 1), X.tC h C a b : ℝ) : EReal) := by
  unfold accC
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.C, hr.S, hP.d, hP.v, hP.q, hP.k, hP.gf, hD.af1, hD.kf1]
  simp only [← EReal.coe_mul, ← coe_sum, ← EReal.coe_add]
  congr 1
  rw [Finset.sum_range_succ]
  rfl

include hD hP hr in
theorem step_D (a b : Fin 256) : accD D P r.G r.D (ix2 a b) = ((∑ C ∈ Finset.range (C + 1), X.tD h C a b : ℝ) : EReal) := by
  unfold accD
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.D, hr.G, hP.d, hP.v, hP.q, hP.k, hP.sb, hD.ab1, hD.kb1]
  simp only [← EReal.coe_mul, ← coe_sum, ← EReal.coe_add]
  congr 1
  rw [Finset.sum_range_succ]
  rfl

include hD hP hr in
theorem step_E (a b : Fin 256) : accE P r.S r.E (ix2 a b) = ((∑ C ∈ Finset.range (C + 1), X.tE h C a b : ℝ) : EReal) := by
  unfold accE
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.E, hr.S, hP.gf]
  simp only [← EReal.coe_mul, ← coe_sum, ← EReal.coe_add]
  congr 1
  rw [Finset.sum_range_succ]
  rfl

include hD hP hr in
theorem step_G2 (a b : Fin 256) : accG P r.G r.G' (ix2 a b) = ((∑ C ∈ Finset.range (C + 1), X.tG h C a b : ℝ) : EReal) := by
  unfold accG
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.G', hr.G, hP.sb]
  simp only [← EReal.coe_mul, ← coe_sum, ← EReal.coe_add]
  congr 1
  rw [Finset.sum_range_succ]
  rfl

include hD hP hr in
/-- One chunk of the second pass. -/
theorem stepRun_is : IsRun X h (C + 1) (stepRun D P r) :=
  ⟨step_S hD hP hr, step_G hD hP hr, step_A hD hP hr, step_B hD hP hr, step_C hD hP hr, step_D hD hP hr, step_E hD hP hr, step_G2 hD hP hr⟩

include hD hP hr in
/-- The gradient at the turned `q`, turned back. -/
theorem dqOf_is (hC : C < 16) (u b : Fin 256) : dqOf D P r.S (ix2 u b) = ((unrot (X.dq h (row C u)) (row C u) b : ℝ) : EReal) := by
  unfold dqOf
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.S, hP.d, hP.v, hP.k, hP.m0, hP.sb, hP.cos, hP.sin, hD.af, hD.ab]
  simp only [← EReal.coe_mul, ← coe_sum, ← EReal.coe_add, ← EReal.coe_sub, X.dq_in h C hC]
  unfold unrot
  by_cases h1 : b.val < 128
  · rw [dif_pos h1, dif_pos h1]
  · rw [dif_neg h1, dif_neg h1]
    have e : (⟨128 + (b.val - 128), by omega⟩ : Fin 256) = b := Fin.ext (by show 128 + (b.val - 128) = b.val; omega)
    rw [e]

include hD hP hr in
/-- The gradient at the turned `k`, turned back and scaled. -/
theorem dkOf_is (hC : C < 16) (u b : Fin 256) : dkOf D P r.G (ix2 u b) = ((unrot (X.dk h (row C u)) (row C u) b * (1 / 16) : ℝ) : EReal) := by
  unfold dkOf
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.G, hP.d, hP.v, hP.q, hP.m0, hP.gf, hP.cos, hP.sin, hD.kf, hD.kb, lit16]
  simp only [← EReal.coe_mul, ← coe_sum, ← EReal.coe_add, ← EReal.coe_sub, X.dk_in h C hC]
  unfold unrot
  by_cases h1 : b.val < 128
  · rw [dif_pos h1, dif_pos h1, ← EReal.coe_mul]
  · rw [dif_neg h1, dif_neg h1, ← EReal.coe_mul]
    have e : (⟨128 + (b.val - 128), by omega⟩ : Fin 256) = b := Fin.ext (by show 128 + (b.val - 128) = b.val; omega)
    rw [e]

include hD hP hr in
/-- The gradient at `v`. -/
theorem dvOf_is (hC : C < 16) (u b : Fin 256) : dvOf D P r.G (ix2 u b) = ((X.dv h (row C u) b : ℝ) : EReal) := by
  unfold dvOf
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186]
  simp only [hr.G, hP.d, hP.q, hP.k, hP.m0, hP.gf, hD.kf, hD.kb]
  simp only [← EReal.coe_mul, ← coe_sum, ← EReal.coe_add, X.dv_in h C hC]

/-! ## The first pass -/

section
variable {d o : Vec Ideal S256x256 .bf16} {g q k v : Vec Ideal S1x256x256 .bf16} {S G : Vec Ideal S256x256 .f32}

/-- The gradient at the retention's output. -/
theorem dout_is (hd : ∀ u b, d (ix2 u b) = ((X.c h (row C u) b : ℝ) : EReal)) (ho : ∀ u b, o (ix2 u b) = ((X.R h (row C u) b : ℝ) : EReal))
    (hg : ∀ u b, g (ix3 0 u b) = ((X.g h (row C u) b : ℝ) : EReal)) (u b : Fin 256) :
    dout o g d (ix2 u b) = ((X.dO h (row C u) b : ℝ) : EReal) := by
  have hp := X.ms_pos h (row C u)
  have hp' : 0 < (∑ x, X.R h (row C u) x * X.R h (row C u) x) / 256 + eps := hp
  have h256 : (256 : ℝ) ≠ 0 := by norm_num
  unfold dout
  pointwise [k0_pay21, k0_pay14, k0_pay15, k0_pay19, k0_pay20, k0_pay13, k0_pay16, k0_pay17, k0_pay18]
  simp only [hd, ho, hg, lit256, eps_eq, Ideal.logistic_coe]
  simp only [← EReal.coe_mul, ← coe_sum, div_real _ h256, ← EReal.coe_add, rsqrt_real hp', ← EReal.coe_sub]
  rfl

/-- The gradient at the gate. -/
theorem dgate_is (hd : ∀ u b, d (ix2 u b) = ((X.c h (row C u) b : ℝ) : EReal)) (ho : ∀ u b, o (ix2 u b) = ((X.R h (row C u) b : ℝ) : EReal))
    (hg : ∀ u b, g (ix3 0 u b) = ((X.g h (row C u) b : ℝ) : EReal)) (u b : Fin 256) :
    dgate o g d (ix2 u b) = ((X.dG h (row C u) b : ℝ) : EReal) := by
  have hp := X.ms_pos h (row C u)
  have hp' : 0 < (∑ x, X.R h (row C u) x * X.R h (row C u) x) / 256 + eps := hp
  have h256 : (256 : ℝ) ≠ 0 := by norm_num
  have e1 : (1 : EReal) = ((1 : ℝ) : EReal) := rfl
  unfold dgate
  pointwise [k0_pay23, k0_pay13, k0_pay14, k0_pay15, k0_pay16, k0_pay17, k0_pay18]
  simp only [hd, ho, hg, lit256, eps_eq, Ideal.logistic_coe, e1]
  simp only [← EReal.coe_mul, ← coe_sum, div_real _ h256, ← EReal.coe_add, rsqrt_real hp', ← EReal.coe_sub]
  rfl

include hD in
theorem stepSb_is (n : ℕ) (hk : ∀ u b, k (ix3 0 u b) = ((X.k h (row (15 - n) u) b : ℝ) : EReal)) (hv : ∀ u b, v (ix3 0 u b) = ((X.v h (row (15 - n) u) b : ℝ) : EReal))
    (hS : ∀ a b, S (ix2 a b) = ((X.suS h n a b : ℝ) : EReal)) (a b : Fin 256) :
    stepSb D.kb D.cb k v S (ix2 a b) = ((X.suS h (n + 1) a b : ℝ) : EReal) := by
  unfold stepSb
  pointwise [k0_pay149, k0_pay12]
  simp only [hS, hk, hv, hD.cb, hD.kb]
  simp only [← EReal.coe_mul, ← coe_sum, ← EReal.coe_add]
  congr 1
  simp only [Data.suS, suf]
  refine congrArg₂ (· + ·) rfl (Finset.sum_congr rfl fun x _ => ?_)
  ring

include hD in
theorem stepGf_is (n : ℕ) (hq : ∀ u b, q (ix3 0 u b) = ((X.q h (row (15 - n) u) b : ℝ) : EReal)) {w : FVec Ideal S256x256 .bf16} (hw : ∀ u b, w (ix2 u b) = ((X.dO h (row (15 - n) u) b : ℝ) : EReal))
    (hG : ∀ a b, G (ix2 a b) = ((X.suG h n a b : ℝ) : EReal)) (a b : Fin 256) :
    stepGf D.af D.cf q w G (ix2 a b) = ((X.suG h (n + 1) a b : ℝ) : EReal) := by
  unfold stepGf
  pointwise [k0_pay150, k0_pay11]
  simp only [hG, hq, hw, hD.cf, hD.af]
  simp only [← EReal.coe_mul, ← coe_sum, ← EReal.coe_add]
  congr 1
  simp only [Data.suG, suf]
  refine congrArg₂ (· + ·) rfl (Finset.sum_congr rfl fun x _ => ?_)
  ring

end

end Cert.Ret
end
-- ==== Proof.Ret.Blocks.lean ====
module

public import proofs.«01_k».proof.Proof.Gen.KernelRetIdeal.Frame
public import proofs.«01_k».proof.Proof.Ret.HostC
public import proofs.«01_k».proof.Proof.Ret.Pay
public import Idealize.ShloMosaic.Lib.StableHlo.ReadAt

@[expose] public section

set_option maxRecDepth 65536
set_option maxHeartbeats 1000000

noncomputable section

namespace Cert.Ret

open Cert.KernelRetIdeal Cert.KernelRetIdeal.Gen
open Idealize.ShloMosaic Idealize.ShloMosaic.TcCoe Idealize.ShloMosaic.Tactic Cert.Lift

/-! # The blocks of the arrays that a point sees -/

variable {m : (ℓ : Loc nD τ sig) → Buf (Elt Ideal) ℓ} {c : Dev nD} {X : Data} (A : Args m c X)
include A

omit A in
/-- Where the windows' blocks lie: the head is the point's quarter; the first pass visits the later block first, -/
theorem idx_a : ∀ t : Fin cfg0.N,
    t.val % 4 < 2 → (win0_0.index t 0 = 1 - t.val % 4 ∧ win0_0.index t 1 = t.val / 4) ∧ (win0_1.index t 0 = 1 - t.val % 4 ∧ win0_1.index t 1 = t.val / 4)
      ∧ (win0_2.index t 0 = 1 ∧ win0_2.index t 1 = 1 - t.val % 4 ∧ win0_2.index t 2 = t.val / 4)
      ∧ (win0_3.index t 0 = 1 ∧ win0_3.index t 1 = 1 - t.val % 4 ∧ win0_3.index t 2 = 4 + t.val / 4)
      ∧ (win0_4.index t 0 = 2 ∧ win0_4.index t 1 = 1 - t.val % 4 ∧ win0_4.index t 2 = t.val / 4)
      ∧ (win0_5.index t 0 = 2 ∧ win0_5.index t 1 = 1 - t.val % 4 ∧ win0_5.index t 2 = 4 + t.val / 4) :=
  (by decide +kernel : ∀ t : Fin grid0.N, _)

omit A in
/-- the second the earlier, -/
theorem idx_b : ∀ t : Fin cfg0.N,
    2 ≤ t.val % 4 → (win0_2.index t 0 = 1 ∧ win0_2.index t 1 = t.val % 4 - 2 ∧ win0_2.index t 2 = t.val / 4)
      ∧ (win0_3.index t 0 = 1 ∧ win0_3.index t 1 = t.val % 4 - 2 ∧ win0_3.index t 2 = 4 + t.val / 4)
      ∧ (win0_4.index t 0 = 2 ∧ win0_4.index t 1 = t.val % 4 - 2 ∧ win0_4.index t 2 = t.val / 4)
      ∧ (win0_6.index t 0 = t.val % 4 - 2 ∧ win0_6.index t 1 = 0) ∧ (win0_7.index t 0 = t.val % 4 - 2 ∧ win0_7.index t 1 = 0) :=
  (by decide +kernel : ∀ t : Fin grid0.N, _)

omit A in
/-- and the decays are the head's. -/
theorem idx_c : ∀ t : Fin cfg0.N,
    (win0_8.index t 0 = t.val / 4 ∧ win0_8.index t 1 = 0 ∧ win0_8.index t 2 = 0 ∧ win0_8.index t 3 = 0)
    ∧ (win0_9.index t 0 = t.val / 4 ∧ win0_9.index t 1 = 0 ∧ win0_9.index t 2 = 0 ∧ win0_9.index t 3 = 0)
    ∧ (win0_10.index t 0 = t.val / 4 ∧ win0_10.index t 1 = 0 ∧ win0_10.index t 2 = 0) :=
  (by decide +kernel : ∀ t : Fin grid0.N, _)

/-- Row `u` of block `v`. -/
def rowB (v : Fin 2) (u : Fin 2048) : Fin 4096 := ⟨2048 * v.val + u.val, by omega⟩

omit A in
theorem pt_val (h : Fin 4) (r : ℕ) (hr : r < 4) : (pt h.val r).val = 4 * h.val + r := by
  show (4 * h.val + r) % 16 = _; omega

theorem blk0a (h : Fin 4) (v : Fin 2) (u : Fin 2048) (b : Fin 256) :
    (iblk m c 0 (ptA h.val v) : Vec Ideal S2048x256 .bf16) (ix2 u b) = ((X.c h (rowB v u) b : ℝ) : EReal) := by
  have e : (ptA h.val v).val = 4 * h.val + (1 - v.val) := pt_val h _ (by omega)
  have F := idx_a (ptA h.val v) (by omega)
  rw [e] at F
  obtain ⟨e0, e1⟩ := F.1
  unfold iblk
  rw [View.read_apply]
  refine Eq.trans ?_ (ct_at A (rowB v u) (hc h b))
  refine congrArg (V m c main_v245) (funext fun a => Fin.ext ?_)
  match a with
  | ⟨0, _⟩ => show win0_0.index (ptA h.val v) 0 * 2048 + 1 * u.val = 2048 * v.val + u.val; omega
  | ⟨1, _⟩ => show win0_0.index (ptA h.val v) 1 * 256 + 1 * b.val = 256 * h.val + b.val; omega

theorem blk1a (h : Fin 4) (v : Fin 2) (u : Fin 2048) (b : Fin 256) :
    (iblk m c 1 (ptA h.val v) : Vec Ideal S2048x256 .bf16) (ix2 u b) = ((X.R h (rowB v u) b : ℝ) : EReal) := by
  have e : (ptA h.val v).val = 4 * h.val + (1 - v.val) := pt_val h _ (by omega)
  have F := idx_a (ptA h.val v) (by omega)
  rw [e] at F
  obtain ⟨e0, e1⟩ := F.2.1
  unfold iblk
  rw [View.read_apply]
  refine Eq.trans ?_ (r_at A (rowB v u) h b)
  refine congrArg (V m c main_v233) (funext fun a => Fin.ext ?_)
  match a with
  | ⟨0, _⟩ => show win0_1.index (ptA h.val v) 0 * 2048 + 1 * u.val = 2048 * v.val + u.val; omega
  | ⟨1, _⟩ => show win0_1.index (ptA h.val v) 1 * 256 + 1 * b.val = 256 * h.val + b.val; omega

theorem blk2a (h : Fin 4) (v : Fin 2) (u : Fin 2048) (b : Fin 256) :
    (iblk m c 2 (ptA h.val v) : Vec Ideal S1x2048x256 .bf16) (ix3 0 u b) = ((X.q h (rowB v u) b : ℝ) : EReal) := by
  have e : (ptA h.val v).val = 4 * h.val + (1 - v.val) := pt_val h _ (by omega)
  have F := idx_a (ptA h.val v) (by omega)
  rw [e] at F
  obtain ⟨e0, e1, e2⟩ := F.2.2.1
  unfold iblk
  rw [View.read_apply]
  refine Eq.trans ?_ ((qk_at A (rowB v u) h b).1)
  refine congrArg (V m c main_v244) (funext fun a => Fin.ext ?_)
  match a with
  | ⟨0, _⟩ => show win0_2.index (ptA h.val v) 0 * 1 + 1 * 0 = 1; omega
  | ⟨1, _⟩ => show win0_2.index (ptA h.val v) 1 * 2048 + 1 * u.val = 2048 * v.val + u.val; omega
  | ⟨2, _⟩ => show win0_2.index (ptA h.val v) 2 * 256 + 1 * b.val = (256 * h.val + b.val); omega

theorem blk3a (h : Fin 4) (v : Fin 2) (u : Fin 2048) (b : Fin 256) :
    (iblk m c 3 (ptA h.val v) : Vec Ideal S1x2048x256 .bf16) (ix3 0 u b) = ((X.k h (rowB v u) b : ℝ) : EReal) := by
  have e : (ptA h.val v).val = 4 * h.val + (1 - v.val) := pt_val h _ (by omega)
  have F := idx_a (ptA h.val v) (by omega)
  rw [e] at F
  obtain ⟨e0, e1, e2⟩ := F.2.2.2.1
  unfold iblk
  rw [View.read_apply]
  refine Eq.trans ?_ ((qk_at A (rowB v u) h b).2)
  refine congrArg (V m c main_v244) (funext fun a => Fin.ext ?_)
  match a with
  | ⟨0, _⟩ => show win0_3.index (ptA h.val v) 0 * 1 + 1 * 0 = 1; omega
  | ⟨1, _⟩ => show win0_3.index (ptA h.val v) 1 * 2048 + 1 * u.val = 2048 * v.val + u.val; omega
  | ⟨2, _⟩ => show win0_3.index (ptA h.val v) 2 * 256 + 1 * b.val = 1024 + (256 * h.val + b.val); omega

theorem blk4a (h : Fin 4) (v : Fin 2) (u : Fin 2048) (b : Fin 256) :
    (iblk m c 4 (ptA h.val v) : Vec Ideal S1x2048x256 .bf16) (ix3 0 u b) = ((X.v h (rowB v u) b : ℝ) : EReal) := by
  have e : (ptA h.val v).val = 4 * h.val + (1 - v.val) := pt_val h _ (by omega)
  have F := idx_a (ptA h.val v) (by omega)
  rw [e] at F
  obtain ⟨e0, e1, e2⟩ := F.2.2.2.2.1
  unfold iblk
  rw [View.read_apply]
  refine Eq.trans ?_ ((vg_at A (rowB v u) (hc h b)).1)
  refine congrArg (V m c main_v244) (funext fun a => Fin.ext ?_)
  match a with
  | ⟨0, _⟩ => show win0_4.index (ptA h.val v) 0 * 1 + 1 * 0 = 2; omega
  | ⟨1, _⟩ => show win0_4.index (ptA h.val v) 1 * 2048 + 1 * u.val = 2048 * v.val + u.val; omega
  | ⟨2, _⟩ => show win0_4.index (ptA h.val v) 2 * 256 + 1 * b.val = (256 * h.val + b.val); omega

theorem blk5a (h : Fin 4) (v : Fin 2) (u : Fin 2048) (b : Fin 256) :
    (iblk m c 5 (ptA h.val v) : Vec Ideal S1x2048x256 .bf16) (ix3 0 u b) = ((X.g h (rowB v u) b : ℝ) : EReal) := by
  have e : (ptA h.val v).val = 4 * h.val + (1 - v.val) := pt_val h _ (by omega)
  have F := idx_a (ptA h.val v) (by omega)
  rw [e] at F
  obtain ⟨e0, e1, e2⟩ := F.2.2.2.2.2
  unfold iblk
  rw [View.read_apply]
  refine Eq.trans ?_ ((vg_at A (rowB v u) (hc h b)).2)
  refine congrArg (V m c main_v244) (funext fun a => Fin.ext ?_)
  match a with
  | ⟨0, _⟩ => show win0_5.index (ptA h.val v) 0 * 1 + 1 * 0 = 2; omega
  | ⟨1, _⟩ => show win0_5.index (ptA h.val v) 1 * 2048 + 1 * u.val = 2048 * v.val + u.val; omega
  | ⟨2, _⟩ => show win0_5.index (ptA h.val v) 2 * 256 + 1 * b.val = 1024 + (256 * h.val + b.val); omega

theorem blk2b (h : Fin 4) (v : Fin 2) (u : Fin 2048) (b : Fin 256) :
    (iblk m c 2 (pt h.val (2 + v.val)) : Vec Ideal S1x2048x256 .bf16) (ix3 0 u b) = ((X.q h (rowB v u) b : ℝ) : EReal) := by
  have e : (pt h.val (2 + v.val)).val = 4 * h.val + (2 + v.val) := pt_val h _ (by omega)
  have F := idx_b (pt h.val (2 + v.val)) (by omega)
  rw [e] at F
  obtain ⟨e0, e1, e2⟩ := F.1
  unfold iblk
  rw [View.read_apply]
  refine Eq.trans ?_ ((qk_at A (rowB v u) h b).1)
  refine congrArg (V m c main_v244) (funext fun a => Fin.ext ?_)
  match a with
  | ⟨0, _⟩ => show win0_2.index (pt h.val (2 + v.val)) 0 * 1 + 1 * 0 = 1; omega
  | ⟨1, _⟩ => show win0_2.index (pt h.val (2 + v.val)) 1 * 2048 + 1 * u.val = 2048 * v.val + u.val; omega
  | ⟨2, _⟩ => show win0_2.index (pt h.val (2 + v.val)) 2 * 256 + 1 * b.val = (256 * h.val + b.val); omega

theorem blk3b (h : Fin 4) (v : Fin 2) (u : Fin 2048) (b : Fin 256) :
    (iblk m c 3 (pt h.val (2 + v.val)) : Vec Ideal S1x2048x256 .bf16) (ix3 0 u b) = ((X.k h (rowB v u) b : ℝ) : EReal) := by
  have e : (pt h.val (2 + v.val)).val = 4 * h.val + (2 + v.val) := pt_val h _ (by omega)
  have F := idx_b (pt h.val (2 + v.val)) (by omega)
  rw [e] at F
  obtain ⟨e0, e1, e2⟩ := F.2.1
  unfold iblk
  rw [View.read_apply]
  refine Eq.trans ?_ ((qk_at A (rowB v u) h b).2)
  refine congrArg (V m c main_v244) (funext fun a => Fin.ext ?_)
  match a with
  | ⟨0, _⟩ => show win0_3.index (pt h.val (2 + v.val)) 0 * 1 + 1 * 0 = 1; omega
  | ⟨1, _⟩ => show win0_3.index (pt h.val (2 + v.val)) 1 * 2048 + 1 * u.val = 2048 * v.val + u.val; omega
  | ⟨2, _⟩ => show win0_3.index (pt h.val (2 + v.val)) 2 * 256 + 1 * b.val = 1024 + (256 * h.val + b.val); omega

theorem blk4b (h : Fin 4) (v : Fin 2) (u : Fin 2048) (b : Fin 256) :
    (iblk m c 4 (pt h.val (2 + v.val)) : Vec Ideal S1x2048x256 .bf16) (ix3 0 u b) = ((X.v h (rowB v u) b : ℝ) : EReal) := by
  have e : (pt h.val (2 + v.val)).val = 4 * h.val + (2 + v.val) := pt_val h _ (by omega)
  have F := idx_b (pt h.val (2 + v.val)) (by omega)
  rw [e] at F
  obtain ⟨e0, e1, e2⟩ := F.2.2.1
  unfold iblk
  rw [View.read_apply]
  refine Eq.trans ?_ ((vg_at A (rowB v u) (hc h b)).1)
  refine congrArg (V m c main_v244) (funext fun a => Fin.ext ?_)
  match a with
  | ⟨0, _⟩ => show win0_4.index (pt h.val (2 + v.val)) 0 * 1 + 1 * 0 = 2; omega
  | ⟨1, _⟩ => show win0_4.index (pt h.val (2 + v.val)) 1 * 2048 + 1 * u.val = 2048 * v.val + u.val; omega
  | ⟨2, _⟩ => show win0_4.index (pt h.val (2 + v.val)) 2 * 256 + 1 * b.val = (256 * h.val + b.val); omega

theorem blk6b (h : Fin 4) (v : Fin 2) (u : Fin 2048) (b : Fin 128) :
    (iblk m c 6 (pt h.val (2 + v.val)) : Vec Ideal S2048x128 .f32) (ix2 u b) = ((Real.cos (angle (rowB v u).val b.val) : ℝ) : EReal) := by
  have e : (pt h.val (2 + v.val)).val = 4 * h.val + (2 + v.val) := pt_val h _ (by omega)
  have F := idx_b (pt h.val (2 + v.val)) (by omega)
  rw [e] at F
  obtain ⟨e0, e1⟩ := F.2.2.2.1
  unfold iblk
  rw [View.read_apply]
  refine Eq.trans ?_ ((cos_at A (rowB v u) b).1)
  refine congrArg (V m c main_v128) (funext fun a => Fin.ext ?_)
  match a with
  | ⟨0, _⟩ => show win0_6.index (pt h.val (2 + v.val)) 0 * 2048 + 1 * u.val = 2048 * v.val + u.val; omega
  | ⟨1, _⟩ => show win0_6.index (pt h.val (2 + v.val)) 1 * 128 + 1 * b.val = b.val; omega

theorem blk7b (h : Fin 4) (v : Fin 2) (u : Fin 2048) (b : Fin 128) :
    (iblk m c 7 (pt h.val (2 + v.val)) : Vec Ideal S2048x128 .f32) (ix2 u b) = ((Real.sin (angle (rowB v u).val b.val) : ℝ) : EReal) := by
  have e : (pt h.val (2 + v.val)).val = 4 * h.val + (2 + v.val) := pt_val h _ (by omega)
  have F := idx_b (pt h.val (2 + v.val)) (by omega)
  rw [e] at F
  obtain ⟨e0, e1⟩ := F.2.2.2.2
  unfold iblk
  rw [View.read_apply]
  refine Eq.trans ?_ ((cos_at A (rowB v u) b).2)
  refine congrArg (V m c main_v129) (funext fun a => Fin.ext ?_)
  match a with
  | ⟨0, _⟩ => show win0_7.index (pt h.val (2 + v.val)) 0 * 2048 + 1 * u.val = 2048 * v.val + u.val; omega
  | ⟨1, _⟩ => show win0_7.index (pt h.val (2 + v.val)) 1 * 128 + 1 * b.val = b.val; omega

omit A in
theorem blk8 (h : Fin 4) (t : Fin cfg0.N) (ht : t.val / 4 = h.val) (j : Fin 8) (u : Fin 256) :
    (iblk m c 8 t : Vec Ideal S1x8x256x1 .f32) (ix4 0 j u 0) = (V m c main_v56 : Vec Ideal S4x8x256x1 .f32) (ix4 h j u 0) := by
  obtain ⟨e0, e1, e2, e3⟩ := (idx_c t).1
  unfold iblk
  rw [View.read_apply]
  refine congrArg (V m c main_v56) (funext fun a => Fin.ext ?_)
  match a with
  | ⟨0, _⟩ => show win0_8.index t 0 * 1 + 1 * 0 = h.val; omega
  | ⟨1, _⟩ => show win0_8.index t 1 * 8 + 1 * j.val = j.val; omega
  | ⟨2, _⟩ => show win0_8.index t 2 * 256 + 1 * u.val = u.val; omega
  | ⟨3, _⟩ => show win0_8.index t 3 * 1 + 1 * 0 = 0; omega

omit A in
theorem blk9 (h : Fin 4) (t : Fin cfg0.N) (ht : t.val / 4 = h.val) (j : Fin 3) (u x : Fin 256) :
    (iblk m c 9 t : Vec Ideal S1x3x256x256 .f32) (ix4 0 j u x) = (V m c main_v98 : Vec Ideal S4x3x256x256 .f32) (ix4 h j u x) := by
  obtain ⟨e0, e1, e2, e3⟩ := (idx_c t).2.1
  unfold iblk
  rw [View.read_apply]
  refine congrArg (V m c main_v98) (funext fun a => Fin.ext ?_)
  match a with
  | ⟨0, _⟩ => show win0_9.index t 0 * 1 + 1 * 0 = h.val; omega
  | ⟨1, _⟩ => show win0_9.index t 1 * 3 + 1 * j.val = j.val; omega
  | ⟨2, _⟩ => show win0_9.index t 2 * 256 + 1 * u.val = u.val; omega
  | ⟨3, _⟩ => show win0_9.index t 3 * 256 + 1 * x.val = x.val; omega

omit A in
theorem blk10 (h : Fin 4) (t : Fin cfg0.N) (ht : t.val / 4 = h.val) (j : Fin 2) (u : Fin 256) :
    (iblk m c 10 t : Vec Ideal S1x2x256 .f32) (ix3 0 j u) = (V m c main_v109 : Vec Ideal S4x2x256 .f32) (ix3 h j u) := by
  obtain ⟨e0, e1, e2⟩ := (idx_c t).2.2
  unfold iblk
  rw [View.read_apply]
  refine congrArg (V m c main_v109) (funext fun a => Fin.ext ?_)
  match a with
  | ⟨0, _⟩ => show win0_10.index t 0 * 1 + 1 * 0 = h.val; omega
  | ⟨1, _⟩ => show win0_10.index t 1 * 2 + 1 * j.val = j.val; omega
  | ⟨2, _⟩ => show win0_10.index t 2 * 256 + 1 * u.val = u.val; omega

omit A in
theorem rowB_eq (v : Fin 2) (j : Fin 8) (u : Fin 256) : rowB v ⟨256 * j.val + u.val, by omega⟩ = row (8 * v.val + j.val) u := by
  apply Fin.ext
  rw [row_val _ (by omega)]
  show 2048 * v.val + (256 * j.val + u.val) = _
  omega

omit A in
theorem rows_at (x : Vec Ideal S2048x256 .bf16) (j : Fin 8) (u b : Fin 256) : rows x j (ix2 u b) = x (ix2 ⟨256 * j.val + u.val, by omega⟩ b) :=
  congrArg x (funext fun a => Fin.ext (match a with
    | ⟨0, _⟩ => by show 256 * j.val + 1 * u.val = 256 * j.val + u.val; omega
    | ⟨1, _⟩ => by show 0 + 1 * b.val = b.val; omega))

omit A in
theorem slab_at (x : Vec Ideal S1x2048x256 .bf16) (j : Fin 8) (u b : Fin 256) : slab x j (ix3 0 u b) = x (ix3 0 ⟨256 * j.val + u.val, by omega⟩ b) :=
  congrArg x (funext fun a => Fin.ext (match a with
    | ⟨0, _⟩ => by show 0 + 1 * 0 = 0; omega
    | ⟨1, _⟩ => by show 256 * j.val + 1 * u.val = 256 * j.val + u.val; omega
    | ⟨2, _⟩ => by show 0 + 1 * b.val = b.val; omega))

omit A in
theorem angles_at (x : Vec Ideal S2048x128 .f32) (j : Fin 8) (u : Fin 256) (l : Fin 128) : angles x j (ix2 u l) = x (ix2 ⟨256 * j.val + u.val, by omega⟩ l) :=
  congrArg x (funext fun a => Fin.ext (match a with
    | ⟨0, _⟩ => by show 256 * j.val + 1 * u.val = 256 * j.val + u.val; omega
    | ⟨1, _⟩ => by show 0 + 1 * l.val = l.val; omega))

omit A in
theorem mat_at (x : Vec Ideal S1x3x256x256 .f32) (k : Fin 3) (u l : Fin 256) : mat x k (ix4 0 0 u l) = x (ix4 0 k u l) :=
  congrArg x (funext fun a => Fin.ext (match a with
    | ⟨0, _⟩ => by show 0 + 1 * 0 = 0; omega
    | ⟨1, _⟩ => by show k.val + 1 * 0 = k.val; omega
    | ⟨2, _⟩ => by show 0 + 1 * u.val = u.val; omega
    | ⟨3, _⟩ => by show 0 + 1 * l.val = l.val; omega))

end Cert.Ret
end
-- ==== Proof.Ret.Folds.lean ====
module

public import proofs.«01_k».proof.Proof.Gen.KernelRetIdeal.Frame
public import proofs.«01_k».proof.Proof.Ret.Blocks
public import Idealize.ShloMosaic.Lib.StableHlo.ReadAt

@[expose] public section

set_option maxRecDepth 65536
set_option maxHeartbeats 1000000

noncomputable section

namespace Cert.Ret

open Cert.KernelRetIdeal Cert.KernelRetIdeal.Gen
open Idealize.ShloMosaic Idealize.ShloMosaic.TcCoe Idealize.ShloMosaic.Tactic Cert.Lift

/-! # What the two passes hold, chunk by chunk -/

variable {m : (ℓ : Loc nD τ sig) → Buf (Elt Ideal) ℓ} {c : Dev nD} {X : Data} (A : Args m c X)
include A

omit A in
theorem dec_af (x8 : Vec Ideal S1x8x256x1 .f32) (x10 : Vec Ideal S1x2x256 .f32) (u : Fin 256) : (decays x8 x10).af (ix2 u 0) = x8 (ix4 0 0 u 0) := by
  unfold decays
  dsimp only
  pointwise [k0_pay459]

omit A in
theorem dec_ab (x8 : Vec Ideal S1x8x256x1 .f32) (x10 : Vec Ideal S1x2x256 .f32) (u : Fin 256) : (decays x8 x10).ab (ix2 u 0) = x8 (ix4 0 1 u 0) := by
  unfold decays
  dsimp only
  pointwise [k0_pay460]

omit A in
theorem dec_kf (x8 : Vec Ideal S1x8x256x1 .f32) (x10 : Vec Ideal S1x2x256 .f32) (u : Fin 256) : (decays x8 x10).kf (ix2 u 0) = x8 (ix4 0 2 u 0) := by
  unfold decays
  dsimp only
  pointwise [k0_pay461]

omit A in
theorem dec_kb (x8 : Vec Ideal S1x8x256x1 .f32) (x10 : Vec Ideal S1x2x256 .f32) (u : Fin 256) : (decays x8 x10).kb (ix2 u 0) = x8 (ix4 0 3 u 0) := by
  unfold decays
  dsimp only
  pointwise [k0_pay462]

omit A in
theorem dec_af1 (x8 : Vec Ideal S1x8x256x1 .f32) (x10 : Vec Ideal S1x2x256 .f32) (u : Fin 256) : (decays x8 x10).af1 (ix2 u 0) = x8 (ix4 0 4 u 0) := by
  unfold decays
  dsimp only
  pointwise [k0_pay463]

omit A in
theorem dec_ab1 (x8 : Vec Ideal S1x8x256x1 .f32) (x10 : Vec Ideal S1x2x256 .f32) (u : Fin 256) : (decays x8 x10).ab1 (ix2 u 0) = x8 (ix4 0 5 u 0) := by
  unfold decays
  dsimp only
  pointwise [k0_pay464]

omit A in
theorem dec_kf1 (x8 : Vec Ideal S1x8x256x1 .f32) (x10 : Vec Ideal S1x2x256 .f32) (u : Fin 256) : (decays x8 x10).kf1 (ix2 u 0) = x8 (ix4 0 6 u 0) := by
  unfold decays
  dsimp only
  pointwise [k0_pay465]

omit A in
theorem dec_kb1 (x8 : Vec Ideal S1x8x256x1 .f32) (x10 : Vec Ideal S1x2x256 .f32) (u : Fin 256) : (decays x8 x10).kb1 (ix2 u 0) = x8 (ix4 0 7 u 0) := by
  unfold decays
  dsimp only
  pointwise [k0_pay466]

omit A in
theorem dec_cf (x8 : Vec Ideal S1x8x256x1 .f32) (x10 : Vec Ideal S1x2x256 .f32) (u : Fin 256) : (decays x8 x10).cf (ix2 0 u) = x10 (ix3 0 0 u) := by
  unfold decays
  dsimp only
  pointwise [k0_pay467]

omit A in
theorem dec_cb (x8 : Vec Ideal S1x8x256x1 .f32) (x10 : Vec Ideal S1x2x256 .f32) (u : Fin 256) : (decays x8 x10).cb (ix2 0 u) = x10 (ix3 0 1 u) := by
  unfold decays
  dsimp only
  pointwise [k0_pay1]

/-- A point's decays are its head's. -/
theorem decAt_is (h : Fin 4) (t : Fin cfg0.N) (ht : t.val / 4 = h.val) : IsDec X h (decAt m c t) where
  af u := (dec_af _ _ u).trans ((blk8 h t ht 0 u).trans (col0 A h u))
  ab u := (dec_ab _ _ u).trans ((blk8 h t ht 1 u).trans (col1 A h u))
  kf u := (dec_kf _ _ u).trans ((blk8 h t ht 2 u).trans (col2 A h u))
  kb u := (dec_kb _ _ u).trans ((blk8 h t ht 3 u).trans (col3 A h u))
  af1 u := (dec_af1 _ _ u).trans ((blk8 h t ht 4 u).trans (col4 A h u))
  ab1 u := (dec_ab1 _ _ u).trans ((blk8 h t ht 5 u).trans (col5 A h u))
  kf1 u := (dec_kf1 _ _ u).trans ((blk8 h t ht 6 u).trans (col6 A h u))
  kb1 u := (dec_kb1 _ _ u).trans ((blk8 h t ht 7 u).trans (col7 A h u))
  cf u := (dec_cf _ _ u).trans ((blk10 h t ht 0 u).trans (cd0 A h u))
  cb u := (dec_cb _ _ u).trans ((blk10 h t ht 1 u).trans (cd1 A h u))

omit A in
theorem ptA_div (h : Fin 4) (v : Fin 2) : (ptA h.val v).val / 4 = h.val := by
  have e : (ptA h.val v).val = 4 * h.val + (1 - v.val) := pt_val h _ (by omega)
  omega

omit A in
theorem ptB_div (h : Fin 4) (v : Fin 2) : (pt h.val (2 + v.val)).val / 4 = h.val := by
  have e : (pt h.val (2 + v.val)).val = 4 * h.val + (2 + v.val) := pt_val h _ (by omega)
  omega

/-- The gradients at the output and at the gate, of a chunk. -/
theorem doutOf_is (h : Fin 4) (v : Fin 2) (j : Fin 8) (u b : Fin 256) :
    doutOf (iblk m c 0 (ptA h.val v)) (iblk m c 1 (ptA h.val v)) (iblk m c 5 (ptA h.val v)) j (ix2 u b) = ((X.dO h (row (8 * v.val + j.val) u) b : ℝ) : EReal) := by
  unfold doutOf
  refine dout_is (C := 8 * v.val + j.val) (fun u b => ?_) (fun u b => ?_) (fun u b => ?_) u b
  · rw [rows_at]; refine (blk0a A h v _ b).trans ?_; rw [rowB_eq]
  · rw [rows_at]; refine (blk1a A h v _ b).trans ?_; rw [rowB_eq]
  · rw [slab_at]; refine (blk5a A h v _ b).trans ?_; rw [rowB_eq]

theorem dgateOf_is (h : Fin 4) (v : Fin 2) (j : Fin 8) (u b : Fin 256) :
    dgateOf (iblk m c 0 (ptA h.val v)) (iblk m c 1 (ptA h.val v)) (iblk m c 5 (ptA h.val v)) j (ix2 u b) = ((X.dG h (row (8 * v.val + j.val) u) b : ℝ) : EReal) := by
  unfold dgateOf
  refine dgate_is (C := 8 * v.val + j.val) (fun u b => ?_) (fun u b => ?_) (fun u b => ?_) u b
  · rw [rows_at]; refine (blk0a A h v _ b).trans ?_; rw [rowB_eq]
  · rw [rows_at]; refine (blk1a A h v _ b).trans ?_; rw [rowB_eq]
  · rw [slab_at]; refine (blk5a A h v _ b).trans ?_; rw [rowB_eq]

omit A in
theorem at_chunk {f : Fin 4096 → ℝ} {v : Fin 2} {n : ℕ} (hn : n < 8) (u : Fin 256) :
    f (row (8 * v.val + (⟨7 - n, by omega⟩ : Fin 8).val) u) = f (row (15 - (8 * (1 - v.val) + n)) u) := by
  have e : 8 * v.val + (7 - n) = 15 - (8 * (1 - v.val) + n) := by omega
  show f (row (8 * v.val + (7 - n)) u) = _
  rw [e]

/-- The first pass's states, `n` chunks into a block, -/
theorem foldSb_is (h : Fin 4) (v : Fin 2) (S : Vec Ideal S256x256 .f32) (hS : ∀ a b, S (ix2 a b) = ((X.suS h (8 * (1 - v.val)) a b : ℝ) : EReal)) (n : ℕ) (hn : n ≤ 8) (a b : Fin 256) :
    foldSb (decAt m c (ptA h.val v)).kb (decAt m c (ptA h.val v)).cb (iblk m c 3 (ptA h.val v)) (iblk m c 4 (ptA h.val v)) S n (ix2 a b)
      = ((X.suS h (8 * (1 - v.val) + n) a b : ℝ) : EReal) := by
  induction n generalizing a b with
  | zero => exact hS a b
  | succ n ih =>
    refine stepSb_is (decAt_is A h _ (ptA_div h v)) (8 * (1 - v.val) + n) (fun u b => ?_) (fun u b => ?_) (fun a b => ih (by omega) a b) a b
    · rw [slab_at]; refine (blk3a A h v _ b).trans ?_; rw [rowB_eq]; exact congrArg _ (at_chunk (f := fun T => X.k h T b) (by omega) u)
    · rw [slab_at]; refine (blk4a A h v _ b).trans ?_; rw [rowB_eq]; exact congrArg _ (at_chunk (f := fun T => X.v h T b) (by omega) u)

theorem foldGf_is (h : Fin 4) (v : Fin 2) (S : Vec Ideal S256x256 .f32) (hS : ∀ a b, S (ix2 a b) = ((X.suG h (8 * (1 - v.val)) a b : ℝ) : EReal)) (n : ℕ) (hn : n ≤ 8) (a b : Fin 256) :
    foldGf (decAt m c (ptA h.val v)).af (decAt m c (ptA h.val v)).cf (iblk m c 0 (ptA h.val v)) (iblk m c 1 (ptA h.val v)) (iblk m c 2 (ptA h.val v)) (iblk m c 5 (ptA h.val v)) S n (ix2 a b)
      = ((X.suG h (8 * (1 - v.val) + n) a b : ℝ) : EReal) := by
  induction n generalizing a b with
  | zero => exact hS a b
  | succ n ih =>
    refine stepGf_is (decAt_is A h _ (ptA_div h v)) (8 * (1 - v.val) + n) (fun u b => ?_) (fun u b => ?_) (fun a b => ih (by omega) a b) a b
    · rw [slab_at]; refine (blk2a A h v _ b).trans ?_; rw [rowB_eq]; exact congrArg _ (at_chunk (f := fun T => X.q h T b) (by omega) u)
    · refine (doutOf_is A h v _ u b).trans ?_; exact congrArg _ (at_chunk (f := fun T => X.dO h T b) (by omega) u)

omit A in
theorem zeroTile_is (a b : Fin 256) : (zeroTile (F := Ideal) : Vec Ideal S256x256 .f32) (ix2 a b) = ((0 : ℝ) : EReal) := by
  unfold zeroTile
  pointwise [k0_pay2]
  rfl

/-- The states before a block. -/
theorem inS_is (h : Fin 4) (v : Fin 2) (a b : Fin 256) : inS m c h.val v (ix2 a b) = ((X.suS h (8 * (1 - v.val)) a b : ℝ) : EReal) := by
  unfold inS
  match v with
  | 1 => rw [if_pos rfl]; exact zeroTile_is a b
  | 0 => rw [if_neg (by decide)]; exact foldSb_is A h 1 zeroTile (fun a b => zeroTile_is a b) 8 le_rfl a b

theorem inG_is (h : Fin 4) (v : Fin 2) (a b : Fin 256) : inG m c h.val v (ix2 a b) = ((X.suG h (8 * (1 - v.val)) a b : ℝ) : EReal) := by
  unfold inG
  match v with
  | 1 => rw [if_pos rfl]; exact zeroTile_is a b
  | 0 => rw [if_neg (by decide)]; exact foldGf_is A h 1 zeroTile (fun a b => zeroTile_is a b) 8 le_rfl a b

theorem sbK_is (h : Fin 4) (v : Fin 2) (j : Fin 8) (a b : Fin 256) : sbK m c h.val v j (ix3 0 a b) = ((X.suS h (15 - (8 * v.val + j.val)) a b : ℝ) : EReal) := by
  have e : 8 * (1 - v.val) + (7 - j.val) = 15 - (8 * v.val + j.val) := by omega
  unfold sbK
  pointwise [k0_pay24]
  refine (foldSb_is A h v _ (inS_is A h v) (7 - j.val) (by omega) a b).trans ?_
  rw [e]

theorem gfK_is (h : Fin 4) (v : Fin 2) (j : Fin 8) (a b : Fin 256) : gfK m c h.val v j (ix3 0 a b) = ((X.suG h (15 - (8 * v.val + j.val)) a b : ℝ) : EReal) := by
  have e : 8 * (1 - v.val) + (7 - j.val) = 15 - (8 * v.val + j.val) := by omega
  unfold gfK
  pointwise [k0_pay25]
  refine (foldGf_is A h v _ (inG_is A h v) (7 - j.val) (by omega) a b).trans ?_
  rw [e]

theorem piece_q (h : Fin 4) (v : Fin 2) (j : Fin 8) (u b : Fin 256) : (pieceK m c h.val v (pt h.val (2 + v.val)) j).q (ix3 0 u b) = ((X.q h (row (8 * v.val + j.val) u) b : ℝ) : EReal) := by
  unfold pieceK
  dsimp only
  rw [slab_at, ← rowB_eq]
  exact blk2b A h v _ b

theorem piece_k (h : Fin 4) (v : Fin 2) (j : Fin 8) (u b : Fin 256) : (pieceK m c h.val v (pt h.val (2 + v.val)) j).k (ix3 0 u b) = ((X.k h (row (8 * v.val + j.val) u) b : ℝ) : EReal) := by
  unfold pieceK
  dsimp only
  rw [slab_at, ← rowB_eq]
  exact blk3b A h v _ b

theorem piece_v (h : Fin 4) (v : Fin 2) (j : Fin 8) (u b : Fin 256) : (pieceK m c h.val v (pt h.val (2 + v.val)) j).v (ix3 0 u b) = ((X.v h (row (8 * v.val + j.val) u) b : ℝ) : EReal) := by
  unfold pieceK
  dsimp only
  rw [slab_at, ← rowB_eq]
  exact blk4b A h v _ b

theorem piece_cos (h : Fin 4) (v : Fin 2) (j : Fin 8) (u : Fin 256) (l : Fin 128) : (pieceK m c h.val v (pt h.val (2 + v.val)) j).cos (ix2 u l) = ((Real.cos (angle (row (8 * v.val + j.val) u).val l.val) : ℝ) : EReal) := by
  unfold pieceK
  dsimp only
  rw [angles_at, ← rowB_eq]
  exact blk6b A h v _ l

theorem piece_sin (h : Fin 4) (v : Fin 2) (j : Fin 8) (u : Fin 256) (l : Fin 128) : (pieceK m c h.val v (pt h.val (2 + v.val)) j).sin (ix2 u l) = ((Real.sin (angle (row (8 * v.val + j.val) u).val l.val) : ℝ) : EReal) := by
  unfold pieceK
  dsimp only
  rw [angles_at, ← rowB_eq]
  exact blk7b A h v _ l

theorem piece_m0 (h : Fin 4) (v : Fin 2) (j : Fin 8) (u x : Fin 256) : (pieceK m c h.val v (pt h.val (2 + v.val)) j).m0 (ix4 0 0 u x) = ((decay (X.LF h) (X.LB h) u.val x.val : ℝ) : EReal) := by
  unfold pieceK
  dsimp only
  rw [mat_at]
  exact (blk9 h _ (ptB_div h v) 0 u x).trans (mat0 A h u x)

theorem piece_m1 (h : Fin 4) (v : Fin 2) (j : Fin 8) (u x : Fin 256) : (pieceK m c h.val v (pt h.val (2 + v.val)) j).m1 (ix4 0 0 u x) = ((wM1 (X.LF h) u x : ℝ) : EReal) := by
  unfold pieceK
  dsimp only
  rw [mat_at]
  exact (blk9 h _ (ptB_div h v) 1 u x).trans (mat1 A h u x)

theorem piece_m2 (h : Fin 4) (v : Fin 2) (j : Fin 8) (u x : Fin 256) : (pieceK m c h.val v (pt h.val (2 + v.val)) j).m2 (ix4 0 0 u x) = ((wM2 (X.LB h) u x : ℝ) : EReal) := by
  unfold pieceK
  dsimp only
  rw [mat_at]
  exact (blk9 h _ (ptB_div h v) 2 u x).trans (mat2 A h u x)

theorem piece_d (h : Fin 4) (v : Fin 2) (j : Fin 8) (u b : Fin 256) : (pieceK m c h.val v (pt h.val (2 + v.val)) j).d (ix2 u b) = ((X.dO h (row (8 * v.val + j.val) u) b : ℝ) : EReal) := by
  unfold pieceK
  dsimp only
  unfold doK
  pointwise []
  exact doutOf_is A h v j u b

theorem piece_g (h : Fin 4) (v : Fin 2) (j : Fin 8) (u b : Fin 256) : (pieceK m c h.val v (pt h.val (2 + v.val)) j).g (ix2 u b) = ((X.dG h (row (8 * v.val + j.val) u) b : ℝ) : EReal) := by
  unfold pieceK
  dsimp only
  exact dgateOf_is A h v j u b

theorem piece_sb (h : Fin 4) (v : Fin 2) (j : Fin 8) (a b : Fin 256) : (pieceK m c h.val v (pt h.val (2 + v.val)) j).sb (ix3 0 a b) = ((X.suS h (15 - (8 * v.val + j.val)) a b : ℝ) : EReal) := by
  unfold pieceK
  dsimp only
  exact sbK_is A h v j a b

theorem piece_gf (h : Fin 4) (v : Fin 2) (j : Fin 8) (a b : Fin 256) : (pieceK m c h.val v (pt h.val (2 + v.val)) j).gf (ix3 0 a b) = ((X.suG h (15 - (8 * v.val + j.val)) a b : ℝ) : EReal) := by
  unfold pieceK
  dsimp only
  exact gfK_is A h v j a b

/-- What the second pass reads of a chunk. -/
theorem pieceK_is (h : Fin 4) (v : Fin 2) (j : Fin 8) : IsPiece X h (8 * v.val + j.val) (pieceK m c h.val v (pt h.val (2 + v.val)) j) :=
  ⟨piece_d A h v j, piece_g A h v j, piece_q A h v j, piece_k A h v j, piece_v A h v j, piece_cos A h v j, piece_sin A h v j,
    piece_sb A h v j, piece_gf A h v j, piece_m0 A h v j, piece_m1 A h v j, piece_m2 A h v j⟩

/-- The second pass, `n` chunks into a block. -/
theorem foldRun_is (h : Fin 4) (v : Fin 2) (r : Run Ideal) (hr : IsRun X h (8 * v.val) r) (n : ℕ) (hn : n ≤ 8) :
    IsRun X h (8 * v.val + n) (foldRun (decAt m c (pt h.val (2 + v.val))) (pieceK m c h.val v (pt h.val (2 + v.val))) r n) := by
  induction n with
  | zero => exact hr
  | succ n ih =>
    have hP := pieceK_is A h v ⟨n % 8, Nat.mod_lt _ (by decide)⟩
    have e : 8 * v.val + n % 8 = 8 * v.val + n := by omega
    rw [show (8 * v.val + (⟨n % 8, Nat.mod_lt _ (by decide)⟩ : Fin 8).val) = 8 * v.val + n from e] at hP
    exact stepRun_is (decAt_is A h _ (ptB_div h v)) hP (ih (by omega))

omit A in
theorem zeroRun_is (h : Fin 4) : IsRun X h 0 (zeroRun (F := Ideal)) :=
  ⟨zeroTile_is, zeroTile_is, zeroTile_is, zeroTile_is, zeroTile_is, zeroTile_is, zeroTile_is, zeroTile_is⟩

/-- What the second pass carries into a block. -/
def runInto (m : (ℓ : Loc nD τ sig) → Buf (Elt Ideal) ℓ) (c : Dev nD) (h : ℕ) (v : Fin 2) : Run Ideal := if v = 1 then run1 m c h else zeroRun

theorem runInto_is (h : Fin 4) (v : Fin 2) : IsRun X h (8 * v.val) (runInto m c h.val v) := by
  unfold runInto
  match v with
  | 0 => rw [if_neg (by decide)]; exact zeroRun_is h
  | 1 => rw [if_pos rfl]; exact foldRun_is A h 0 zeroRun (zeroRun_is h) 8 le_rfl

end Cert.Ret
end
-- ==== Proof.Ret.Decay.lean ====
module

public import proofs.«01_k».proof.Proof.Gen.KernelRetIdeal.Frame
public import proofs.«01_k».proof.Proof.Ret.State
public import Idealize.ShloMosaic.Lib.StableHlo.ReadAt

@[expose] public section

set_option maxRecDepth 65536
set_option maxHeartbeats 1000000

noncomputable section

namespace Cert.Ret

/-! # The gradient at the decays, from the chunks -/

namespace Data

variable (X : Data) (h : Fin 4)

/-- A row's products with all rows before a chunk, by the state carried there. -/
theorem late_q (C : ℕ) (hC : C < 16) (l : Fin 4096) :
    ∑ e, preW (X.LF h) 255 C e * (X.dS h l e * X.P h l e) = ∑ b, (∑ x, X.dO h l x * X.stS h C b x) * X.q h l b := by
  unfold stS
  rw [← pre_kf _ _ _ (by omega)]
  simp only [pre_lin]
  refine Eq.trans ?_ (Finset.sum_congr rfl fun b _ => mul_comm _ _)
  rw [pre_lin]
  congr 1
  funext T
  unfold dS P
  rw [Finset.mul_sum]
  refine Finset.sum_congr rfl fun b _ => ?_
  rw [Finset.sum_mul, Finset.mul_sum]
  exact Finset.sum_congr rfl fun x _ => by ring

theorem late_k (C : ℕ) (hC : C < 16) (l : Fin 4096) :
    ∑ e, preW (X.LB h) 256 C e * (X.dS h e l * X.P h e l) = ∑ b, (∑ x, X.v h l x * X.stG h C b x) * X.k h l b := by
  unfold stG
  rw [← pre_ab _ _ _ (by omega)]
  simp only [pre_lin]
  refine Eq.trans ?_ (Finset.sum_congr rfl fun b _ => mul_comm _ _)
  rw [pre_lin]
  congr 1
  funext T
  unfold dS P
  rw [Finset.mul_sum]
  refine Finset.sum_congr rfl fun b _ => ?_
  rw [Finset.sum_mul, Finset.mul_sum]
  exact Finset.sum_congr rfl fun x _ => by ring

theorem early_k (C : ℕ) (hC : C < 16) (e : Fin 4096) :
    ∑ l, sufW (X.LF h) 1 (C + 1) l * (X.dS h l e * X.P h l e) = ∑ b, (∑ x, X.v h e x * X.suG h (15 - C) b x) * X.k h e b := by
  unfold suG
  have es := fun z => suf_af (X.LF h) z (15 - C) (by omega)
  rw [show 16 - (15 - C) = C + 1 by omega] at es
  rw [← es]
  simp only [suf_lin]
  refine Eq.trans ?_ (Finset.sum_congr rfl fun b _ => mul_comm _ _)
  rw [suf_lin]
  congr 1
  funext T
  unfold dS P
  rw [Finset.mul_sum]
  refine Finset.sum_congr rfl fun b _ => ?_
  rw [Finset.sum_mul, Finset.mul_sum]
  exact Finset.sum_congr rfl fun x _ => by ring

theorem early_q (C : ℕ) (hC : C < 16) (e : Fin 4096) :
    ∑ l, sufW (X.LB h) 0 (C + 1) l * (X.dS h e l * X.P h e l) = ∑ b, (∑ x, X.dO h e x * X.suS h (15 - C) b x) * X.q h e b := by
  unfold suS
  have es := fun z => suf_kb (X.LB h) z (15 - C) (by omega)
  rw [show 16 - (15 - C) = C + 1 by omega] at es
  rw [← es]
  simp only [suf_lin]
  refine Eq.trans ?_ (Finset.sum_congr rfl fun b _ => mul_comm _ _)
  rw [suf_lin]
  congr 1
  funext T
  unfold dS P
  rw [Finset.mul_sum]
  refine Finset.sum_congr rfl fun b _ => ?_
  rw [Finset.sum_mul, Finset.mul_sum]
  exact Finset.sum_congr rfl fun x _ => by ring

/-- The products of all later rows with all earlier ones, from the two states at a chunk. -/
theorem across (z : Fin 4096 → Fin 256 → ℝ) (y : Fin 4096 → Fin 256 → ℝ) (s : Fin 4096 → ℝ) (B : Fin 256 → Fin 256 → ℝ) :
    ∑ l, s l * (∑ b, (∑ x, y l x * B b x) * z l b) = ∑ a, ∑ b, (∑ l, s l * (z l a * y l b)) * B a b := by
  simp only [Finset.sum_mul, Finset.mul_sum]
  rw [Finset.sum_comm]
  refine Finset.sum_congr rfl fun a _ => ?_
  rw [Finset.sum_comm]
  refine Finset.sum_congr rfl fun b _ => Finset.sum_congr rfl fun l _ => ?_
  ring

theorem tE_eq (C : ℕ) (hC : C < 16) :
    ∑ l, ∑ e, sufW (X.LF h) 1 (C + 1) l * preW (X.LF h) 255 C e * (X.dS h l e * X.P h l e) = ∑ a, ∑ b, X.tE h C a b := by
  have e1 : ∀ a b, X.suG h (15 - C) a b = ∑ l, sufW (X.LF h) 1 (C + 1) l * (X.q h l a * X.dO h l b) := fun a b => by
    unfold suG; rw [suf_af _ _ _ (by omega), show 16 - (15 - C) = C + 1 by omega]
  simp only [tE, e1]
  rw [← across]
  refine Finset.sum_congr rfl fun l _ => ?_
  rw [← late_q X h C hC l, Finset.mul_sum]
  exact Finset.sum_congr rfl fun e _ => by ring

theorem tG_eq (C : ℕ) (hC : C < 16) :
    ∑ l, ∑ e, sufW (X.LB h) 0 (C + 1) l * preW (X.LB h) 256 C e * (X.dS h e l * X.P h e l) = ∑ a, ∑ b, X.tG h C a b := by
  have e1 : ∀ a b, X.suS h (15 - C) a b = ∑ l, sufW (X.LB h) 0 (C + 1) l * (X.k h l a * X.v h l b) := fun a b => by
    unfold suS; rw [suf_kb _ _ _ (by omega), show 16 - (15 - C) = C + 1 by omega]
  simp only [tG, e1]
  simp only [mul_comm (X.stG h C _ _)]
  rw [← across]
  refine Finset.sum_congr rfl fun l _ => ?_
  rw [← late_k X h C hC l, Finset.mul_sum]
  exact Finset.sum_congr rfl fun e _ => by ring

theorem sum_C (t : ℕ → Fin 256 → Fin 256 → ℝ) :
    ∑ u, ∑ x, ∑ C ∈ Finset.range 16, t C u x = ∑ C : Fin 16, ∑ u, ∑ x, t C.val u x := by
  rw [Fin.sum_univ_eq_sum_range (fun C => ∑ u, ∑ x, t C u x) 16]
  refine (Finset.sum_congr rfl fun u _ => Finset.sum_comm).trans ?_
  exact Finset.sum_comm

/-- A chunk against itself. -/
theorem own (p : Fin 4096 → Fin 4096 → ℝ) : (∑ T : Fin 4096, ∑ S : Fin 4096, if S.val / 256 = T.val / 256 then p T S else 0)
    = ∑ C : Fin 16, ∑ u, ∑ x, p (row C.val u) (row C.val x) := by
  rw [← sum_rows_eq]
  refine Finset.sum_congr rfl fun C _ => Finset.sum_congr rfl fun u _ => ?_
  rw [row_val _ C.isLt, show (256 * C.val + u.val) / 256 = C.val by omega]
  exact sum_chunk C.val C.isLt (fun S => p (row C.val u) S)

/-- The gradient at the logarithm of the forward decay. -/
theorem dLF_eq : X.dLF h = ((∑ u, ∑ x, ∑ C ∈ Finset.range 16, X.tA h C u x) + ∑ u, ∑ b, ∑ C ∈ Finset.range 16, X.tC h C u b)
    + 256 * ∑ a, ∑ b, (∑ C ∈ Finset.range 16, X.tE h C a b) * Real.exp (256 * X.LF h) := by
  simp only [← Finset.sum_mul]
  rw [sum_C, sum_C, sum_C]
  have d := sum_dist (X.LF h) 255 1 (by norm_num) (fun l e => X.dS h l e * X.P h l e)
  have o := own (fun T S => if S.val ≤ T.val then X.dS h T S * X.P h T S * (((T.val : ℝ) - S.val) * Real.exp (((T.val : ℝ) - S.val) * X.LF h)) else 0)
  refine Eq.trans ?_ ((congrArg₂ (· + ·) o d).trans ?_)
  · rw [dLF, ← Finset.sum_add_distrib]
    refine Finset.sum_congr rfl fun T _ => ?_
    rw [← Finset.sum_add_distrib]
    refine Finset.sum_congr rfl fun S _ => ?_
    by_cases h1 : S.val / 256 = T.val / 256
    · rw [if_pos h1, if_neg (show ¬ S.val / 256 < T.val / 256 by omega), add_zero]
    · by_cases h2 : S.val ≤ T.val
      · rw [if_neg h1, if_pos h2, if_pos (show S.val / 256 < T.val / 256 by omega), zero_add]
      · rw [if_neg h1, if_neg h2, if_neg (show ¬ S.val / 256 < T.val / 256 by omega), zero_add]
  simp only [← add_assoc]
  refine congrArg₂ (· + ·) ?_ ?_
  · rw [add_assoc]
    refine congrArg₂ (· + ·) ?_ ?_
    · refine Finset.sum_congr rfl fun C _ => Finset.sum_congr rfl fun u _ => Finset.sum_congr rfl fun x _ => ?_
      unfold tA wM1
      rw [row_val _ C.isLt, row_val _ C.isLt]
      by_cases h1 : x.val ≤ u.val
      · rw [if_pos h1, if_pos (by omega)]
        have e1 : ((256 * C.val + u.val : ℕ) : ℝ) - ((256 * C.val + x.val : ℕ) : ℝ) = (u.val : ℝ) - x.val := by push_cast; ring
        rw [e1]; ring
      · rw [if_neg h1, if_neg (by omega), mul_zero]
    · rw [← Finset.sum_add_distrib]
      refine Finset.sum_congr rfl fun C _ => ?_
      rw [← Finset.sum_add_distrib]
      refine Finset.sum_congr rfl fun u _ => ?_
      rw [late_q X h C.val C.isLt, early_k X h C.val C.isLt, Finset.mul_sum, Finset.mul_sum, ← Finset.sum_add_distrib]
      refine Finset.sum_congr rfl fun b _ => ?_
      unfold tC wAf wKf
      rw [add_comm (1 : ℝ)]; ring
  · rw [mul_assoc, mul_comm (Real.exp _)]
    congr 2
    exact Finset.sum_congr rfl fun C _ => tE_eq X h C.val C.isLt

/-- The gradient at the logarithm of the backward decay. -/
theorem dLB_eq : X.dLB h = ((∑ u, ∑ x, ∑ C ∈ Finset.range 16, X.tB h C u x) + ∑ u, ∑ b, ∑ C ∈ Finset.range 16, X.tD h C u b)
    + 256 * ∑ a, ∑ b, (∑ C ∈ Finset.range 16, X.tG h C a b) * Real.exp (256 * X.LB h) := by
  simp only [← Finset.sum_mul]
  rw [sum_C, sum_C, sum_C]
  have d := sum_dist (X.LB h) 256 0 (by norm_num) (fun l e => X.dS h e l * X.P h e l)
  rw [Finset.sum_comm] at d
  have o := own (fun T S => if S.val ≤ T.val then 0 else X.dS h T S * X.P h T S * (((S.val : ℝ) - T.val) * Real.exp (((S.val : ℝ) - T.val) * X.LB h)))
  refine Eq.trans ?_ ((congrArg₂ (· + ·) o d).trans ?_)
  · rw [dLB, ← Finset.sum_add_distrib]
    refine Finset.sum_congr rfl fun T _ => ?_
    rw [← Finset.sum_add_distrib]
    refine Finset.sum_congr rfl fun S _ => ?_
    by_cases h1 : S.val / 256 = T.val / 256
    · rw [if_pos h1, if_neg (show ¬ T.val / 256 < S.val / 256 by omega), add_zero]
    · by_cases h2 : S.val ≤ T.val
      · rw [if_neg h1, if_pos h2, if_neg (show ¬ T.val / 256 < S.val / 256 by omega), zero_add]
      · rw [if_neg h1, if_neg h2, if_pos (show T.val / 256 < S.val / 256 by omega), zero_add]
  simp only [← add_assoc]
  refine congrArg₂ (· + ·) ?_ ?_
  · rw [add_assoc]
    refine congrArg₂ (· + ·) ?_ ?_
    · refine Finset.sum_congr rfl fun C _ => Finset.sum_congr rfl fun u _ => Finset.sum_congr rfl fun x _ => ?_
      unfold tB wM2
      rw [row_val _ C.isLt, row_val _ C.isLt]
      by_cases h1 : x.val ≤ u.val
      · rw [if_pos h1, if_pos (by omega), mul_zero]
      · rw [if_neg h1, if_neg (by omega)]
        have e1 : ((256 * C.val + x.val : ℕ) : ℝ) - ((256 * C.val + u.val : ℕ) : ℝ) = (x.val : ℝ) - u.val := by push_cast; ring
        rw [e1]; ring
    · rw [← Finset.sum_add_distrib]
      refine Finset.sum_congr rfl fun C _ => ?_
      rw [← Finset.sum_add_distrib]
      refine Finset.sum_congr rfl fun u _ => ?_
      rw [late_k X h C.val C.isLt, early_q X h C.val C.isLt, Finset.mul_sum, Finset.mul_sum, ← Finset.sum_add_distrib]
      refine Finset.sum_congr rfl fun b _ => ?_
      unfold tD wAb wKb
      rw [zero_add]; ring
  · rw [mul_assoc, mul_comm (Real.exp _)]
    congr 2
    exact Finset.sum_congr rfl fun C _ => tG_eq X h C.val C.isLt

end Data

end Cert.Ret
end
-- ==== Proof.Ret.Result.lean ====
module

public import proofs.«01_k».proof.Proof.Gen.KernelRetIdeal.Frame
public import proofs.«01_k».proof.Proof.Ret.Folds
public import proofs.«01_k».proof.Proof.Ret.Decay

@[expose] public section

set_option maxRecDepth 65536
set_option maxHeartbeats 1000000

noncomputable section

namespace Cert.Ret

open Cert.KernelRetIdeal Cert.KernelRetIdeal.Gen
open Idealize.ShloMosaic Idealize.ShloMosaic.TcCoe Idealize.ShloMosaic.Tactic Cert.Lift

variable {m : (ℓ : Loc nD τ sig) → Buf (Elt Ideal) ℓ} {c : Dev nD} {X : Data} (A : Args m c X)

/-- Where a point of the second pass writes its blocks of the four large results. -/
theorem idx_o : ∀ t : Fin cfg0.N, 2 ≤ t.val % 4 →
    (win0_11.index t 0 = t.val % 4 - 2 ∧ win0_11.index t 1 = t.val / 4) ∧ (win0_12.index t 0 = t.val % 4 - 2 ∧ win0_12.index t 1 = t.val / 4)
      ∧ (win0_13.index t 0 = t.val % 4 - 2 ∧ win0_13.index t 1 = t.val / 4) ∧ (win0_14.index t 0 = t.val % 4 - 2 ∧ win0_14.index t 1 = t.val / 4) :=
  (by decide +kernel : ∀ t : Fin grid0.N, _)

/-- Where the head's row of decay sums goes. -/
theorem idx_o15 : ∀ t : Fin cfg0.N, win0_15.index t 0 = t.val / 4 ∧ win0_15.index t 1 = 0 ∧ win0_15.index t 2 = 0 :=
  (by decide +kernel : ∀ t : Fin grid0.N, _)

theorem flush_11 : ∀ t : Fin cfg0.N, (cfg0.win 11).flush t = true ↔ 2 ≤ t.val % 4 :=
  (by decide +kernel : ∀ t : Fin grid0.N, _)

theorem apart_11 (t t' : Fin cfg0.N) (hf : (cfg0.win 11).flush t = true) (hf' : (cfg0.win 11).flush t' = true) (hne : t ≠ t') :
    Disjoint ((cfg0.win 11).blk t).view.set ((cfg0.win 11).blk t').view.set :=
  (cfg0.win 11).disjoint_blk fun e => hne (by
    have h0 : win0_11.index t 0 = win0_11.index t' 0 := congrFun e 0
    have h1 : win0_11.index t 1 = win0_11.index t' 1 := congrFun e 1
    have a := (flush_11 t).1 hf
    have a' := (flush_11 t').1 hf'
    have F := idx_o t a
    have F' := idx_o t' a'
    apply Fin.ext
    omega)

theorem flush_12 : ∀ t : Fin cfg0.N, (cfg0.win 12).flush t = true ↔ 2 ≤ t.val % 4 :=
  (by decide +kernel : ∀ t : Fin grid0.N, _)

theorem apart_12 (t t' : Fin cfg0.N) (hf : (cfg0.win 12).flush t = true) (hf' : (cfg0.win 12).flush t' = true) (hne : t ≠ t') :
    Disjoint ((cfg0.win 12).blk t).view.set ((cfg0.win 12).blk t').view.set :=
  (cfg0.win 12).disjoint_blk fun e => hne (by
    have h0 : win0_12.index t 0 = win0_12.index t' 0 := congrFun e 0
    have h1 : win0_12.index t 1 = win0_12.index t' 1 := congrFun e 1
    have a := (flush_12 t).1 hf
    have a' := (flush_12 t').1 hf'
    have F := idx_o t a
    have F' := idx_o t' a'
    apply Fin.ext
    omega)

theorem flush_13 : ∀ t : Fin cfg0.N, (cfg0.win 13).flush t = true ↔ 2 ≤ t.val % 4 :=
  (by decide +kernel : ∀ t : Fin grid0.N, _)

theorem apart_13 (t t' : Fin cfg0.N) (hf : (cfg0.win 13).flush t = true) (hf' : (cfg0.win 13).flush t' = true) (hne : t ≠ t') :
    Disjoint ((cfg0.win 13).blk t).view.set ((cfg0.win 13).blk t').view.set :=
  (cfg0.win 13).disjoint_blk fun e => hne (by
    have h0 : win0_13.index t 0 = win0_13.index t' 0 := congrFun e 0
    have h1 : win0_13.index t 1 = win0_13.index t' 1 := congrFun e 1
    have a := (flush_13 t).1 hf
    have a' := (flush_13 t').1 hf'
    have F := idx_o t a
    have F' := idx_o t' a'
    apply Fin.ext
    omega)

theorem flush_14 : ∀ t : Fin cfg0.N, (cfg0.win 14).flush t = true ↔ 2 ≤ t.val % 4 :=
  (by decide +kernel : ∀ t : Fin grid0.N, _)

theorem apart_14 (t t' : Fin cfg0.N) (hf : (cfg0.win 14).flush t = true) (hf' : (cfg0.win 14).flush t' = true) (hne : t ≠ t') :
    Disjoint ((cfg0.win 14).blk t).view.set ((cfg0.win 14).blk t').view.set :=
  (cfg0.win 14).disjoint_blk fun e => hne (by
    have h0 : win0_14.index t 0 = win0_14.index t' 0 := congrFun e 0
    have h1 : win0_14.index t 1 = win0_14.index t' 1 := congrFun e 1
    have a := (flush_14 t).1 hf
    have a' := (flush_14 t').1 hf'
    have F := idx_o t a
    have F' := idx_o t' a'
    apply Fin.ext
    omega)

theorem apart_15 (t t' : Fin cfg0.N) (hf : (cfg0.win 15).flush t = true) (hf' : (cfg0.win 15).flush t' = true) (hne : t ≠ t') :
    Disjoint ((cfg0.win 15).blk t).view.set ((cfg0.win 15).blk t').view.set :=
  (cfg0.win 15).disjoint_blk fun e => hne (by
    have h0 : win0_15.index t 0 = win0_15.index t' 0 := congrFun e 0
    have a := (flush0_15 t).1 hf
    have a' := (flush0_15 t').1 hf'
    have F := idx_o15 t
    have F' := idx_o15 t'
    apply Fin.ext
    omega)

theorem pt_mod (h : Fin 4) (v : Fin 2) : (pt h.val (2 + v.val)).val % 4 = 2 + v.val := by
  rw [pt_val h _ (by omega)]; omega

theorem pt_div (h : Fin 4) (v : Fin 2) : (pt h.val (2 + v.val)).val / 4 = h.val := by
  rw [pt_val h _ (by omega)]; omega

theorem blkAt_pt (h : Fin 4) (v : Fin 2) : blkAt (pt h.val (2 + v.val)) = v := by
  unfold blkAt
  rw [pt_mod]
  match v with
  | 0 => exact if_neg (by decide)
  | 1 => exact if_pos rfl

theorem pieceAt_pt (m : (ℓ : Loc nD τ sig) → Buf (Elt Ideal) ℓ) (c : Dev nD) (h : Fin 4) (v : Fin 2) :
    pieceAt m c (pt h.val (2 + v.val)) = pieceK m c h.val v (pt h.val (2 + v.val)) := by
  unfold pieceAt
  rw [pt_div, blkAt_pt]

theorem runAt_pt (m : (ℓ : Loc nD τ sig) → Buf (Elt Ideal) ℓ) (c : Dev nD) (h : Fin 4) (v : Fin 2) :
    runAt m c (pt h.val (2 + v.val)) = runInto m c h.val v := by
  unfold runAt runInto
  rw [pt_mod, pt_div]
  match v with
  | 0 => rw [if_neg (by decide), if_neg (by decide)]
  | 1 => rw [if_pos (by decide), if_pos rfl]

/-- A row of the block that holds chunk `j`'s row `u`. -/
theorem asm_at (w : Fin 8 → Vec Ideal S256x256 .bf16) (j : Fin 8) (u b : Fin 256) (r : Fin 2048) (hr : r.val = 256 * j.val + u.val) :
    asm w (ix2 r b) = w j (ix2 u b) := by
  have e1 : (⟨r.val / 256, by have := r.isLt; omega⟩ : Fin 8) = j := Fin.ext (by show r.val / 256 = j.val; omega)
  have e2 : inChunk (ix2 r b : S2048x256.Idx) = ix2 u b := by
    funext a; apply Fin.ext
    match a with
    | ⟨0, _⟩ => show r.val % 256 = u.val; omega
    | ⟨1, _⟩ => rfl
  show w ⟨r.val / 256, _⟩ (inChunk (ix2 r b : S2048x256.Idx)) = _
  rw [e2]
  exact congrArg (fun k => w k (ix2 u b)) e1

/-- Every row is a row of a chunk of a block. -/
theorem row_split (T : Fin 4096) : ∃ (v : Fin 2) (j : Fin 8) (u : Fin 256) (r : Fin 2048), T = row (8 * v.val + j.val) u ∧ r.val = 256 * j.val + u.val ∧ T.val = 2048 * v.val + r.val :=
  ⟨⟨T.val / 2048, by omega⟩, ⟨T.val / 256 % 8, by omega⟩, ⟨T.val % 256, by omega⟩, ⟨T.val % 2048, by omega⟩,
    Fin.ext (by rw [row_val _ (show 8 * (T.val / 2048) + T.val / 256 % 8 < 16 by omega)]; show T.val = 256 * (8 * (T.val / 2048) + T.val / 256 % 8) + T.val % 256; omega),
    by show T.val % 2048 = 256 * (T.val / 256 % 8) + T.val % 256; omega, by show T.val = 2048 * (T.val / 2048) + T.val % 2048; omega⟩

include A
/-- The kernel's array of `dq`. -/
theorem final_dq (h : Fin 4) (T : Fin 4096) (b : Fin 256) :
    ((dats m 0 c).arrAt 11 cfg0.N : Vec Ideal S4096x1024 .bf16) (ix2 T (hc h b)) = ((unrot (X.dq h T) T b : ℝ) : EReal) := by
  obtain ⟨v, j, u, r, rfl, hr, hT⟩ := row_split T
  have hm := pt_mod h v
  have hdv := pt_div h v
  have hf : (cfg0.win 11).flush (pt h.val (2 + v.val)) = true := (flush_11 _).2 (by omega)
  have g := congrFun ((dats m 0 c).read_blk_arrAt_eq_flushed 11 apart_11 cfg0.N _ (pt h.val (2 + v.val)).isLt hf) (ix2 r b)
  rw [View.read_apply] at g
  have hi : ((cfg0.win 11).blk (pt h.val (2 + v.val))).view.emb (ix2 r b) = (ix2 (row (8 * v.val + j.val) u) (hc h b) : S4096x1024.Idx) := by
    have F := (idx_o (pt h.val (2 + v.val)) (by omega)).1
    obtain ⟨e0, e1⟩ := F
    funext a; apply Fin.ext
    match a with
    | ⟨0, _⟩ => show win0_11.index (pt h.val (2 + v.val)) 0 * 2048 + 1 * r.val = (row (8 * v.val + j.val) u).val; omega
    | ⟨1, _⟩ => show win0_11.index (pt h.val (2 + v.val)) 1 * 256 + 1 * b.val = 256 * h.val + b.val; omega
  refine ((congrArg ((dats m 0 c).arrAt 11 cfg0.N : Vec Ideal S4096x1024 .bf16) hi).symm.trans g).trans ?_
  have step : (dats m 0 c).flushed 11 (pt h.val (2 + v.val)) = (cfg0.win 11).cut (grid0.coords (pt h.val (2 + v.val))) ((dats m 0 c).after 11 (pt h.val (2 + v.val))) := rfl
  rw [step, after_11]
  have fin : dqRows (decAt m c (pt h.val (2 + v.val))) (pieceAt m c (pt h.val (2 + v.val))) (runAt m c (pt h.val (2 + v.val))) (ix2 r b) = ((unrot (X.dq h (row (8 * v.val + j.val) u)) (row (8 * v.val + j.val) u) b : ℝ) : EReal) := by
    rw [runAt_pt, pieceAt_pt]
    unfold dqRows
    rw [asm_at _ j u b r hr]
    have hs := foldRun_is A h v _ (runInto_is A h v) j.val (by omega)
    exact dqOf_is (decAt_is A h _ (ptB_div h v)) (pieceK_is A h v j) hs (by omega) u b
  exact fin

/-- The kernel's array of `dk`. -/
theorem final_dk (h : Fin 4) (T : Fin 4096) (b : Fin 256) :
    ((dats m 0 c).arrAt 12 cfg0.N : Vec Ideal S4096x1024 .bf16) (ix2 T (hc h b)) = ((unrot (X.dk h T) T b * (1 / 16) : ℝ) : EReal) := by
  obtain ⟨v, j, u, r, rfl, hr, hT⟩ := row_split T
  have hm := pt_mod h v
  have hdv := pt_div h v
  have hf : (cfg0.win 12).flush (pt h.val (2 + v.val)) = true := (flush_12 _).2 (by omega)
  have g := congrFun ((dats m 0 c).read_blk_arrAt_eq_flushed 12 apart_12 cfg0.N _ (pt h.val (2 + v.val)).isLt hf) (ix2 r b)
  rw [View.read_apply] at g
  have hi : ((cfg0.win 12).blk (pt h.val (2 + v.val))).view.emb (ix2 r b) = (ix2 (row (8 * v.val + j.val) u) (hc h b) : S4096x1024.Idx) := by
    have F := (idx_o (pt h.val (2 + v.val)) (by omega)).2.1
    obtain ⟨e0, e1⟩ := F
    funext a; apply Fin.ext
    match a with
    | ⟨0, _⟩ => show win0_12.index (pt h.val (2 + v.val)) 0 * 2048 + 1 * r.val = (row (8 * v.val + j.val) u).val; omega
    | ⟨1, _⟩ => show win0_12.index (pt h.val (2 + v.val)) 1 * 256 + 1 * b.val = 256 * h.val + b.val; omega
  refine ((congrArg ((dats m 0 c).arrAt 12 cfg0.N : Vec Ideal S4096x1024 .bf16) hi).symm.trans g).trans ?_
  have step : (dats m 0 c).flushed 12 (pt h.val (2 + v.val)) = (cfg0.win 12).cut (grid0.coords (pt h.val (2 + v.val))) ((dats m 0 c).after 12 (pt h.val (2 + v.val))) := rfl
  rw [step, after_12]
  have fin : dkRows (decAt m c (pt h.val (2 + v.val))) (pieceAt m c (pt h.val (2 + v.val))) (runAt m c (pt h.val (2 + v.val))) (ix2 r b) = ((unrot (X.dk h (row (8 * v.val + j.val) u)) (row (8 * v.val + j.val) u) b * (1 / 16) : ℝ) : EReal) := by
    rw [runAt_pt, pieceAt_pt]
    unfold dkRows
    rw [asm_at _ j u b r hr]
    have hs := foldRun_is A h v _ (runInto_is A h v) j.val (by omega)
    exact dkOf_is (decAt_is A h _ (ptB_div h v)) (pieceK_is A h v j) hs (by omega) u b
  exact fin

/-- The kernel's array of `dv`. -/
theorem final_dv (h : Fin 4) (T : Fin 4096) (b : Fin 256) :
    ((dats m 0 c).arrAt 13 cfg0.N : Vec Ideal S4096x1024 .bf16) (ix2 T (hc h b)) = ((X.dv h T b : ℝ) : EReal) := by
  obtain ⟨v, j, u, r, rfl, hr, hT⟩ := row_split T
  have hm := pt_mod h v
  have hdv := pt_div h v
  have hf : (cfg0.win 13).flush (pt h.val (2 + v.val)) = true := (flush_13 _).2 (by omega)
  have g := congrFun ((dats m 0 c).read_blk_arrAt_eq_flushed 13 apart_13 cfg0.N _ (pt h.val (2 + v.val)).isLt hf) (ix2 r b)
  rw [View.read_apply] at g
  have hi : ((cfg0.win 13).blk (pt h.val (2 + v.val))).view.emb (ix2 r b) = (ix2 (row (8 * v.val + j.val) u) (hc h b) : S4096x1024.Idx) := by
    have F := (idx_o (pt h.val (2 + v.val)) (by omega)).2.2.1
    obtain ⟨e0, e1⟩ := F
    funext a; apply Fin.ext
    match a with
    | ⟨0, _⟩ => show win0_13.index (pt h.val (2 + v.val)) 0 * 2048 + 1 * r.val = (row (8 * v.val + j.val) u).val; omega
    | ⟨1, _⟩ => show win0_13.index (pt h.val (2 + v.val)) 1 * 256 + 1 * b.val = 256 * h.val + b.val; omega
  refine ((congrArg ((dats m 0 c).arrAt 13 cfg0.N : Vec Ideal S4096x1024 .bf16) hi).symm.trans g).trans ?_
  have step : (dats m 0 c).flushed 13 (pt h.val (2 + v.val)) = (cfg0.win 13).cut (grid0.coords (pt h.val (2 + v.val))) ((dats m 0 c).after 13 (pt h.val (2 + v.val))) := rfl
  rw [step, after_13]
  have fin : dvRows (decAt m c (pt h.val (2 + v.val))) (pieceAt m c (pt h.val (2 + v.val))) (runAt m c (pt h.val (2 + v.val))) (ix2 r b) = ((X.dv h (row (8 * v.val + j.val) u) b : ℝ) : EReal) := by
    rw [runAt_pt, pieceAt_pt]
    unfold dvRows
    rw [asm_at _ j u b r hr]
    have hs := foldRun_is A h v _ (runInto_is A h v) j.val (by omega)
    exact dvOf_is (decAt_is A h _ (ptB_div h v)) (pieceK_is A h v j) hs (by omega) u b
  exact fin

/-- The kernel's array of `dg`. -/
theorem final_dg (h : Fin 4) (T : Fin 4096) (b : Fin 256) :
    ((dats m 0 c).arrAt 14 cfg0.N : Vec Ideal S4096x1024 .bf16) (ix2 T (hc h b)) = ((X.dG h T b : ℝ) : EReal) := by
  obtain ⟨v, j, u, r, rfl, hr, hT⟩ := row_split T
  have hm := pt_mod h v
  have hdv := pt_div h v
  have hf : (cfg0.win 14).flush (pt h.val (2 + v.val)) = true := (flush_14 _).2 (by omega)
  have g := congrFun ((dats m 0 c).read_blk_arrAt_eq_flushed 14 apart_14 cfg0.N _ (pt h.val (2 + v.val)).isLt hf) (ix2 r b)
  rw [View.read_apply] at g
  have hi : ((cfg0.win 14).blk (pt h.val (2 + v.val))).view.emb (ix2 r b) = (ix2 (row (8 * v.val + j.val) u) (hc h b) : S4096x1024.Idx) := by
    have F := (idx_o (pt h.val (2 + v.val)) (by omega)).2.2.2
    obtain ⟨e0, e1⟩ := F
    funext a; apply Fin.ext
    match a with
    | ⟨0, _⟩ => show win0_14.index (pt h.val (2 + v.val)) 0 * 2048 + 1 * r.val = (row (8 * v.val + j.val) u).val; omega
    | ⟨1, _⟩ => show win0_14.index (pt h.val (2 + v.val)) 1 * 256 + 1 * b.val = 256 * h.val + b.val; omega
  refine ((congrArg ((dats m 0 c).arrAt 14 cfg0.N : Vec Ideal S4096x1024 .bf16) hi).symm.trans g).trans ?_
  have step : (dats m 0 c).flushed 14 (pt h.val (2 + v.val)) = (cfg0.win 14).cut (grid0.coords (pt h.val (2 + v.val))) ((dats m 0 c).after 14 (pt h.val (2 + v.val))) := rfl
  rw [step, after_14]
  have fin : dgRows (pieceAt m c (pt h.val (2 + v.val)))  (ix2 r b) = ((X.dG h (row (8 * v.val + j.val) u) b : ℝ) : EReal) := by
    rw [pieceAt_pt]
    unfold dgRows
    rw [asm_at _ j u b r hr]
    exact (pieceK_is A h v j).g u b
  exact fin

omit A in
/-- Row 0 holds the forward decay's sum, row 1 the backward decay's, the others zero. -/
theorem rows_pick (i : Fin 8) (a b : EReal) :
    Scalar.select (α := EReal) (IntOp.cmpi CmpIPredicate.eq (BitVec.ofNat 32 i.val) 0#32) a (Scalar.select (α := EReal) (IntOp.cmpi CmpIPredicate.eq (BitVec.ofNat 32 i.val) 1#32) b 0)
      = if i = 0 then a else if i = 1 then b else ((0 : ℝ) : EReal) := by
  fin_cases i <;> rfl

omit A in
/-- The head's decay sums. -/
theorem dlgTile_is (h : Fin 4) {D : Decays Ideal} {r : Run Ideal} (hD : IsDec X h D) (hr : IsRun X h 16 r) (i : Fin 8) (l : Fin 128) :
    dlgTile D r (ix3 0 i l) = if i = 0 then ((X.dLF h : ℝ) : EReal) else if i = 1 then ((X.dLB h : ℝ) : EReal) else ((0 : ℝ) : EReal) := by
  have e0 : ((X.dLF h : ℝ) : EReal) = (((∑ u, ∑ x, ∑ C ∈ Finset.range 16, X.tA h C u x) + ∑ u, ∑ b, ∑ C ∈ Finset.range 16, X.tC h C u b
      + 256 * ∑ a, ∑ b, (∑ C ∈ Finset.range 16, X.tE h C a b) * Real.exp (256 * X.LF h) : ℝ) : EReal) := congrArg _ (X.dLF_eq h)
  have e1 : ((X.dLB h : ℝ) : EReal) = (((∑ u, ∑ x, ∑ C ∈ Finset.range 16, X.tB h C u x) + ∑ u, ∑ b, ∑ C ∈ Finset.range 16, X.tD h C u b
      + 256 * ∑ a, ∑ b, (∑ C ∈ Finset.range 16, X.tG h C a b) * Real.exp (256 * X.LB h) : ℝ) : EReal) := congrArg _ (X.dLB_eq h)
  rw [e0, e1]
  unfold dlgTile
  pointwise [k0_pay10, k0_pay457, k0_pay458]
  simp only [hr.A, hr.B, hr.C, hr.D, hr.E, hr.G', hD.cf, hD.cb, lit256]
  simp only [← EReal.coe_mul, ← coe_sum, ← EReal.coe_add]
  exact rows_pick i _ _

/-- The kernel's array of decay sums. -/
theorem final_dlg (h : Fin 4) (i : Fin 8) (l : Fin 128) :
    ((dats m 0 c).arrAt 15 cfg0.N : Vec Ideal S4x8x128 .f32) (ix3 h i l) = if i = 0 then ((X.dLF h : ℝ) : EReal) else if i = 1 then ((X.dLB h : ℝ) : EReal) else ((0 : ℝ) : EReal) := by
  have hm := pt_mod h 1
  have hdv := pt_div h 1
  have hf : (cfg0.win 15).flush (pt h.val (2 + (1 : Fin 2).val)) = true := (flush0_15 _).2 hm
  have g := congrFun ((dats m 0 c).read_blk_arrAt_eq_flushed 15 apart_15 cfg0.N _ (pt h.val (2 + (1 : Fin 2).val)).isLt hf) (ix3 0 i l)
  rw [View.read_apply] at g
  have hi : ((cfg0.win 15).blk (pt h.val (2 + (1 : Fin 2).val))).view.emb (ix3 0 i l) = (ix3 h i l : S4x8x128.Idx) := by
    obtain ⟨e0, e1, e2⟩ := idx_o15 (pt h.val (2 + (1 : Fin 2).val))
    funext a; apply Fin.ext
    match a with
    | ⟨0, _⟩ => show win0_15.index (pt h.val (2 + (1 : Fin 2).val)) 0 * 1 + 1 * 0 = h.val; omega
    | ⟨1, _⟩ => show win0_15.index (pt h.val (2 + (1 : Fin 2).val)) 1 * 8 + 1 * i.val = i.val; omega
    | ⟨2, _⟩ => show win0_15.index (pt h.val (2 + (1 : Fin 2).val)) 2 * 128 + 1 * l.val = l.val; omega
  refine ((congrArg ((dats m 0 c).arrAt 15 cfg0.N : Vec Ideal S4x8x128 .f32) hi).symm.trans g).trans ?_
  have step : (dats m 0 c).flushed 15 (pt h.val (2 + (1 : Fin 2).val)) = (cfg0.win 15).cut (grid0.coords (pt h.val (2 + (1 : Fin 2).val))) ((dats m 0 c).after 15 (pt h.val (2 + (1 : Fin 2).val))) := rfl
  rw [step, after_15]
  have hs := foldRun_is A h 1 _ (runInto_is A h 1) 8 le_rfl
  rw [← runAt_pt, ← pieceAt_pt] at hs
  exact dlgTile_is h (decAt_is A h _ (ptB_div h 1)) hs i l

end Cert.Ret
end
-- ==== Proof.Ret.RefA.lean ====
module

public import proofs.«01_k».proof.Proof.Gen.ReferenceRetIdeal.Read
public import proofs.«01_k».proof.Proof.Ret.Real
public import proofs.«01_k».proof.Proof.Ret.Sums
public import Idealize.ShloMosaic.Lib.Pointwise

@[expose] public section

set_option maxRecDepth 65536
set_option maxHeartbeats 1000000

noncomputable section

namespace Cert.Ret

open Cert.ReferenceRetIdeal Cert.ReferenceRetIdeal.Gen Cert.ReferenceRetIdeal.Read
open Idealize.ShloMosaic Idealize.ShloMosaic.TcCoe Idealize.ShloMosaic.Tactic Cert.Lift

/-- The reference's arguments hold the data's reals. -/
structure Vals (x0 x1 x2 x3 : Vec Ideal S4096x1024 .f32) (x4 : Vec Ideal S2x4 .f32) (x5 : Vec Ideal S4096x1024 .f32) (X : Data) : Prop where
  q : ∀ T l, x0 (ix2 T l) = ((X.xq T l : ℝ) : EReal)
  k : ∀ T l, x1 (ix2 T l) = ((X.xk T l : ℝ) : EReal)
  v : ∀ T l, x2 (ix2 T l) = ((X.xv T l : ℝ) : EReal)
  g : ∀ T l, x3 (ix2 T l) = ((X.xg T l : ℝ) : EReal)
  d : ∀ i h, x4 (ix2 i h) = ((X.dl i h : ℝ) : EReal)
  c : ∀ T l, x5 (ix2 T l) = ((X.ct T l : ℝ) : EReal)

theorem litmh : Ideal.ofBits FTy.f32 3204448256#32 = ((-(1 / 2) : ℝ) : EReal) := by
  simp [Ideal.ofBits, Ideal.ieee, -EReal.coe_mul]; norm_num

theorem logis_coe (x : ℝ) : Ideal.div 1 (1 + Ideal.exp (-(x : EReal))) = ((logis x : ℝ) : EReal) := by
  have hp : (1 + Real.exp (-x)) ≠ 0 := by positivity
  rw [← EReal.coe_neg, Ideal.exp_coe, ← EReal.coe_one, ← EReal.coe_add, div_real _ hp]
  unfold logis
  rw [one_div]

/-- The gradient at the output: the scale's share of it comes as two equal halves. -/
theorem Data.dO_two (X : Data) (h : Fin 4) (T : Fin 4096) (e : Fin 256) :
    X.dn h T e * X.rs h T + X.R h T e * ((∑ i, X.R h T i * X.dn h T i) * (-(1 / 2) * (X.rs h T / X.ms h T)) / 256)
      + (∑ i, X.R h T i * X.dn h T i) * (-(1 / 2) * (X.rs h T / X.ms h T)) / 256 * X.R h T e = X.dO h T e := by
  have hm := X.ms_pos h T
  have hq : X.rs h T * X.rs h T = (X.ms h T)⁻¹ := by
    unfold Data.rs
    rw [← mul_inv, Real.mul_self_sqrt hm.le]
  have hs : (∑ k, X.dn h T k * (X.R h T k * X.rs h T)) = X.rs h T * ∑ i, X.R h T i * X.dn h T i := by
    rw [Finset.mul_sum]
    exact Finset.sum_congr rfl fun k _ => by ring
  unfold Data.dO
  rw [hs, div_eq_mul_inv (X.rs h T), ← hq]
  ring

variable {x0 x1 x2 x3 : Vec Ideal S4096x1024 .f32} {x4 : Vec Ideal S2x4 .f32} {x5 : Vec Ideal S4096x1024 .f32} {X : Data} (B : Vals x0 x1 x2 x3 x4 x5 X)
include B

theorem ref_q (T : Fin 4096) (h : Fin 4) (a : Fin 256) : val_main_v34 (F := Ideal) x0 (ix3 T h a) = ((X.q h T a : ℝ) : EReal) := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst, val_main_cst_0, val_main_cst_1, val_main_cst_2]
  exact rot_at (B.q T) T h a

theorem ref_k (T : Fin 4096) (h : Fin 4) (a : Fin 256) : val_main_v70 (F := Ideal) x1 (ix3 T h a) = ((X.k h T a : ℝ) : EReal) := by
  pointwise [val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_cst_3, val_main_cst_4, val_main_cst_5, val_main_cst_6, val_main_cst_7]
  simp only [lit16]
  have e := rot_at (B.k T) T h a
  split_ifs at e ⊢ with h1
  all_goals
    rw [e, ← EReal.coe_mul]
    rfl

theorem ref_v (T : Fin 4096) (h : Fin 4) (a : Fin 256) : val_main_v71 (F := Ideal) x2 (ix3 T h a) = ((X.v h T a : ℝ) : EReal) := by
  pointwise [val_main_v71]
  rw [hc_eq (h := h) (a := a) _ rfl]; exact B.v T _

theorem ref_W (h : Fin 4) (T S : Fin 4096) : val_main_v97_0 (F := Ideal) x4 (ix3 h T S) = ((X.W h T S : ℝ) : EReal) := by
  pointwise [val_main_v97_0, val_main_v97_1, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v0, val_main_call0_v0, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_cst_8, val_main_cst_9]
  rw [B.d 0 h, B.d 1 h, logSig_coe, logSig_coe]
  exact decay_coe _ _ T S

theorem ref_PW (h : Fin 4) (T S : Fin 4096) : val_main_v98 (F := Ideal) x0 x1 (ix3 h T S) = ((X.P h T S : ℝ) : EReal)
    ∧ val_main_v99 (F := Ideal) x0 x1 x4 (ix3 h T S) = ((X.P h T S * X.W h T S : ℝ) : EReal) := by
  have e : val_main_v98 (F := Ideal) x0 x1 (ix3 h T S) = ((X.P h T S : ℝ) : EReal) := by
    pointwise [val_main_v98]
    have e1 : ((X.P h T S : ℝ) : EReal) = ∑ a, ((X.q h T a * X.k h S a : ℝ) : EReal) := coe_sum _ _
    refine Eq.trans ?_ e1.symm
    refine Finset.sum_congr rfl fun a _ => ?_
    rw [ref_q B, ref_k B, EReal.coe_mul]
  refine ⟨e, ?_⟩
  pointwise [val_main_v99]
  rw [e, ref_W B h T S, ← EReal.coe_mul]

theorem ref_R (T : Fin 4096) (h : Fin 4) (e : Fin 256) : val_main_v101 (F := Ideal) x0 x1 x2 x4 (ix3 T h e) = ((X.R h T e : ℝ) : EReal) := by
  pointwise [val_main_v101, val_main_v100]
  simp only [ref_v B, (ref_PW B _ _ _).2]
  simp only [← EReal.coe_mul, ← coe_sum]
  rfl

theorem ref_ms (T : Fin 4096) (h : Fin 4) : val_main_v108 (F := Ideal) x0 x1 x2 x4 (ix3 T h 0) = ((X.ms h T : ℝ) : EReal) := by
  pointwise [val_main_v102, val_main_v103, val_main_v104, val_main_v105, val_main_v106, val_main_v107, val_main_v108, val_main_cst_10, val_main_cst_11, val_main_cst_12]
  simp only [ref_R B, lit256, eps_eq, ← EReal.coe_mul, ← coe_sum]
  rw [div_real _ (by norm_num), ← EReal.coe_add]
  rfl

theorem ref_rs (T : Fin 4096) (h : Fin 4) : val_main_v109 (F := Ideal) x0 x1 x2 x4 (ix3 T h 0) = ((X.rs h T : ℝ) : EReal)
    ∧ val_main_v112 (F := Ideal) x0 x1 x2 x4 (ix3 T h 0) = ((-(1 / 2) * (X.rs h T / X.ms h T) : ℝ) : EReal) := by
  have e : val_main_v109 (F := Ideal) x0 x1 x2 x4 (ix3 T h 0) = ((X.rs h T : ℝ) : EReal) := by
    pointwise [val_main_v109]
    rw [ref_ms B T h, rsqrt_real (X.ms_pos h T)]
    rfl
  refine ⟨e, ?_⟩
  pointwise [val_main_v110, val_main_v111, val_main_v112, val_main_cst_13]
  rw [e, ref_ms B T h, div_real _ (X.ms_pos h T).ne']
  rw [litmh, ← EReal.coe_mul]

theorem ref_sig (T : Fin 4096) (l : Fin 1024) : val_main_v116_2 (F := Ideal) x3 (ix2 T l) = ((logis (X.xg T l) : ℝ) : EReal) := by
  pointwise [val_main_v116_2, val_main_call2_v0, val_main_call2_v1, val_main_call2_v2, val_main_call2_v3, val_main_call2_v4, val_main_call2_cst, val_main_call2_cst_0]
  rw [B.g T l]
  exact logis_coe _

theorem ref_dG (T : Fin 4096) (h : Fin 4) (e : Fin 256) : val_main_v120 (F := Ideal) x0 x1 x2 x3 x4 x5 (ix2 T (hc h e)) = ((X.dG h T e : ℝ) : EReal) := by
  pointwise [val_main_v113, val_main_v114, val_main_v115, val_main_v118, val_main_v120, val_main_v116_1, val_main_call2_v6, val_main_call2_v7, val_main_call2_cst_1, val_main_call3_v0, val_main_call3_v1, val_main_call3_v2]
  simp only [ref_sig B]
  simp only [hc_div, hc_mod, Fin.eta]
  rw [ref_R B T h e, (ref_rs B T h).1, B.c, B.g, ← EReal.coe_one]
  simp only [← EReal.coe_mul, ← EReal.coe_add, ← EReal.coe_sub]
  refine congrArg _ ?_
  unfold Data.dG
  show X.R h T e * X.rs h T * X.c h T e * logis (X.g h T e) + X.g h T e * (X.R h T e * X.rs h T * X.c h T e) * (logis (X.g h T e) * (1 - logis (X.g h T e))) = _
  ring

theorem ref_dn (T : Fin 4096) (h : Fin 4) (e : Fin 256) : val_main_v121 (F := Ideal) x3 x5 (ix3 T h e) = ((X.dn h T e : ℝ) : EReal) := by
  pointwise [val_main_v121, val_main_v119, val_main_v116_0]
  simp only [ref_sig B]
  rw [hc_eq (h := h) (a := e) _ rfl, B.c, B.g, ← EReal.coe_mul, ← EReal.coe_mul]
  refine congrArg _ ?_
  unfold Data.dn
  show X.c h T e * (X.g h T e * logis (X.g h T e)) = _
  ring

theorem ref_dO (T : Fin 4096) (h : Fin 4) (e : Fin 256) : val_main_v135 (F := Ideal) x0 x1 x2 x3 x4 x5 (ix3 T h e) = ((X.dO h T e : ℝ) : EReal) := by
  pointwise [val_main_v122, val_main_v123, val_main_v124, val_main_v125, val_main_v126, val_main_v127, val_main_v128, val_main_v129, val_main_v130, val_main_v131, val_main_v132, val_main_v133, val_main_v134, val_main_v135, val_main_cst_14, val_main_cst_15, val_main_cst_16]
  simp only [ref_R B, ref_dn B, (ref_rs B _ _).1, (ref_rs B _ _).2, lit256, ← EReal.coe_mul, ← coe_sum]
  simp only [Fin.sum_univ_one, Finset.univ_unique, Finset.sum_singleton, Fin.default_eq_zero, (ref_rs B _ _).2, ← EReal.coe_mul]
  rw [div_real _ (by norm_num), ← EReal.coe_mul, ← EReal.coe_mul, ← EReal.coe_add, ← EReal.coe_add]
  refine congrArg _ ?_
  exact X.dO_two h T e

theorem ref_dS (h : Fin 4) (T S : Fin 4096) : val_main_v137 (F := Ideal) x0 x1 x2 x3 x4 x5 (ix3 h T S) = ((X.dS h T S : ℝ) : EReal) := by
  pointwise [val_main_v136, val_main_v137]
  simp only [ref_dO B, ref_v B, ← EReal.coe_mul, ← coe_sum]
  rfl

theorem ref_dv (S : Fin 4096) (h : Fin 4) (e : Fin 256) : val_main_v139 (F := Ideal) x0 x1 x2 x3 x4 x5 (ix3 S h e) = ((X.dv h S e : ℝ) : EReal) := by
  pointwise [val_main_v136, val_main_v138, val_main_v139]
  simp only [ref_dO B, (ref_PW B _ _ _).2, ← EReal.coe_mul, ← coe_sum]
  refine congrArg _ ?_
  exact Finset.sum_congr rfl fun i _ => mul_comm _ _

theorem ref_dk (S : Fin 4096) (h : Fin 4) (a : Fin 256) : val_main_v143 (F := Ideal) x0 x1 x2 x3 x4 x5 (ix3 S h a) = ((X.dk h S a : ℝ) : EReal) := by
  pointwise [val_main_v141, val_main_v142, val_main_v143]
  simp only [ref_dS B, ref_W B, ref_q B, ← EReal.coe_mul, ← coe_sum]
  rfl

theorem ref_dq (T : Fin 4096) (h : Fin 4) (a : Fin 256) : val_main_v145 (F := Ideal) x0 x1 x2 x3 x4 x5 (ix3 T h a) = ((X.dq h T a : ℝ) : EReal) := by
  pointwise [val_main_v141, val_main_v144, val_main_v145]
  simp only [ref_dS B, ref_W B, ref_k B, ← EReal.coe_mul, ← coe_sum]
  rfl

end Cert.Ret
end
-- ==== Proof.Ret.RefB.lean ====
module

public import proofs.«01_k».proof.Proof.Gen.ReferenceRetIdeal.Read
public import proofs.«01_k».proof.Proof.Ret.RefA
public import Idealize.ShloMosaic.Lib.Pointwise

@[expose] public section

set_option maxRecDepth 65536
set_option maxHeartbeats 1000000

noncomputable section

namespace Cert.Ret

open Cert.ReferenceRetIdeal Cert.ReferenceRetIdeal.Gen Cert.ReferenceRetIdeal.Read
open Idealize.ShloMosaic Idealize.ShloMosaic.TcCoe Idealize.ShloMosaic.Tactic Cert.Lift

/-- A double sum of reals. -/
theorem sums_coe (f : Fin 4096 → Fin 4096 → ℝ) : ((∑ T, ∑ S, f T S : ℝ) : EReal) = ∑ T, ∑ S, ((f T S : ℝ) : EReal) :=
  (coe_sum _ _).trans (Finset.sum_congr rfl fun T _ => coe_sum _ _)

/-- The comparison of two rows' numbers. -/
theorem at_or_after {M : Type} (T S : Fin 4096) (a b : M) :
    (if (FloatOps.sitofp (F := Ideal) .f32 (BitVec.ofNat 32 S.val) : EReal) ≤ FloatOps.sitofp (F := Ideal) .f32 (BitVec.ofNat 32 T.val) then a else b)
      = if S.val ≤ T.val then a else b := by
  have hT := T.isLt
  have hS := S.isLt
  rw [sitofp_real (by omega), sitofp_real (by omega)]
  refine if_congr ?_ rfl rfl
  rw [EReal.coe_le_coe_iff]
  exact Nat.cast_le

theorem lit0 : id (constant (F := Ideal) S_ FTy.f32 0#32) ix0 = ((0 : ℝ) : EReal) := by
  show Ideal.ofBits FTy.f32 0#32 = _
  simp [Ideal.ofBits, Ideal.ieee]

variable {x0 x1 x2 x3 : Vec Ideal S4096x1024 .f32} {x4 : Vec Ideal S2x4 .f32} {x5 : Vec Ideal S4096x1024 .f32} {X : Data} (B : Vals x0 x1 x2 x3 x4 x5 X)

/-- The two copies of the angles' cosines and sines. -/
theorem ref_angles (T : Fin 4096) (l : Fin 128) :
    val_main_v19 (F := Ideal) (ix3 T 0 l) = ((Real.cos (angle T.val l.val) : ℝ) : EReal) ∧ val_main_v21 (F := Ideal) (ix3 T 0 l) = ((Real.sin (angle T.val l.val) : ℝ) : EReal)
    ∧ val_main_v53 (F := Ideal) (ix3 T 0 l) = ((Real.cos (angle T.val l.val) : ℝ) : EReal) ∧ val_main_v55 (F := Ideal) (ix3 T 0 l) = ((Real.sin (angle T.val l.val) : ℝ) : EReal) := by
  refine ⟨?_, ?_, ?_, ?_⟩
  · pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2]
    rw [angle_coe (by omega) (by omega)]
    rfl
  · pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2]
    rw [angle_coe (by omega) (by omega)]
    rfl
  · pointwise [val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst_3, val_main_cst_4, val_main_cst_5, val_main_cst_6]
    rw [angle_coe (by omega) (by omega)]
    rfl
  · pointwise [val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst_3, val_main_cst_4, val_main_cst_5, val_main_cst_6]
    rw [angle_coe (by omega) (by omega)]
    rfl

include B

/-- The four large results. -/
theorem ref_res_dq (T : Fin 4096) (h : Fin 4) (a : Fin 256) : val_main_v210 (F := Ideal) x0 x1 x2 x3 x4 x5 (ix2 T (hc h a)) = ((unrot (X.dq h T) T a : ℝ) : EReal) := by
  pointwise [val_main_v182, val_main_v183, val_main_v184, val_main_v185, val_main_v186, val_main_v187, val_main_v188, val_main_v189, val_main_v190, val_main_v191, val_main_v192, val_main_v193, val_main_v194, val_main_v195, val_main_v196, val_main_v210]
  simp only [hc_div, hc_mod, ref_dq B, (ref_angles _ _).1, (ref_angles _ _).2.1]
  unfold unrot
  by_cases h1 : a.val < 128
  · rw [dif_pos h1, dif_pos h1, ← EReal.coe_mul, ← EReal.coe_mul, ← EReal.coe_add]
    refine congrArg _ ?_
    exact add_comm _ _
  · have e : (⟨128 + (a.val - 128), by omega⟩ : Fin 256) = a := Fin.ext (by show 128 + (a.val - 128) = a.val; omega)
    rw [dif_neg h1, dif_neg h1, ← EReal.coe_neg, ← EReal.coe_mul, ← EReal.coe_mul, ← EReal.coe_add]
    refine congrArg _ ?_
    refine (congrArg (fun y => X.dq h T y * Real.cos (angle T.val (a.val - 128)) + -X.dq h T ⟨a.val - 128, by omega⟩ * Real.sin (angle T.val (a.val - 128))) e).trans ?_
    ring

theorem ref_res_dk (T : Fin 4096) (h : Fin 4) (a : Fin 256) : val_main_v211 (F := Ideal) x0 x1 x2 x3 x4 x5 (ix2 T (hc h a)) = ((unrot (X.dk h T) T a * (1 / 16) : ℝ) : EReal) := by
  pointwise [val_main_v165, val_main_v166, val_main_v167, val_main_v168, val_main_v169, val_main_v170, val_main_v171, val_main_v172, val_main_v173, val_main_v174, val_main_v175, val_main_v176, val_main_v177, val_main_v178, val_main_v179, val_main_v180, val_main_v181, val_main_v211, val_main_cst_23]
  simp only [hc_div, hc_mod, ref_dk B, (ref_angles _ _).2.2.1, (ref_angles _ _).2.2.2, lit16]
  unfold unrot
  by_cases h1 : a.val < 128
  · rw [dif_pos h1, dif_pos h1, ← EReal.coe_mul, ← EReal.coe_mul, ← EReal.coe_mul, ← EReal.coe_mul, ← EReal.coe_add]
    refine congrArg _ ?_
    show X.dk h T ⟨128 + a.val, _⟩ * (1 / 16) * _ + X.dk h T a * (1 / 16) * _ = _
    ring
  · have e : (⟨128 + (a.val - 128), by omega⟩ : Fin 256) = a := Fin.ext (by show 128 + (a.val - 128) = a.val; omega)
    rw [dif_neg h1, dif_neg h1]
    simp only [← EReal.coe_mul, ← EReal.coe_neg, ← EReal.coe_add]
    refine congrArg _ ?_
    refine (congrArg (fun y => X.dk h T y * (1 / 16) * Real.cos (angle T.val (a.val - 128)) + -(X.dk h T ⟨a.val - 128, by omega⟩ * (1 / 16)) * Real.sin (angle T.val (a.val - 128))) e).trans ?_
    ring

theorem ref_res_dv (T : Fin 4096) (h : Fin 4) (a : Fin 256) : val_main_v212 (F := Ideal) x0 x1 x2 x3 x4 x5 (ix2 T (hc h a)) = ((X.dv h T a : ℝ) : EReal) := by
  pointwise [val_main_v164, val_main_v212]
  simp only [hc_div, hc_mod, ref_dv B]

theorem ref_res_dG (T : Fin 4096) (h : Fin 4) (a : Fin 256) : val_main_v213 (F := Ideal) x0 x1 x2 x3 x4 x5 (ix2 T (hc h a)) = ((X.dG h T a : ℝ) : EReal) := by
  pointwise [val_main_v213]
  exact ref_dG B T h a

/-- The two decays' factors. -/
theorem ref_factors (h : Fin 4) (T S : Fin 4096) : val_main_v84 (F := Ideal) (ix3 0 T S) = ((max ((T.val : ℝ) - S.val) 0 : ℝ) : EReal)
    ∧ val_main_v92 (F := Ideal) (ix3 0 T S) = ((max ((S.val : ℝ) - T.val) 0 : ℝ) : EReal)
    ∧ val_main_v88 (F := Ideal) x4 (ix3 h T S) = ((Real.exp (max ((T.val : ℝ) - S.val) 0 * X.LF h) : ℝ) : EReal)
    ∧ val_main_v96 (F := Ideal) x4 (ix3 h T S) = ((Real.exp (max ((S.val : ℝ) - T.val) 0 * X.LB h) : ℝ) : EReal) := by
  have hT := T.isLt
  have hS := S.isLt
  have sT : (FloatOps.sitofp (F := Ideal) .f32 (BitVec.ofNat 32 T.val) : EReal) = ((T.val : ℝ) : EReal) := sitofp_real (by omega)
  have sS : (FloatOps.sitofp (F := Ideal) .f32 (BitVec.ofNat 32 S.val) : EReal) = ((S.val : ℝ) : EReal) := sitofp_real (by omega)
  have e1 : val_main_v84 (F := Ideal) (ix3 0 T S) = ((max ((T.val : ℝ) - S.val) 0 : ℝ) : EReal) := by
    pointwise [val_main_v72, val_main_v73, val_main_v81, val_main_v82, val_main_v83, val_main_v84, val_main_cst_8]
    rw [sT, sS, ← EReal.coe_sub, ← EReal.coe_zero, max_coe]
  have e2 : val_main_v92 (F := Ideal) (ix3 0 T S) = ((max ((S.val : ℝ) - T.val) 0 : ℝ) : EReal) := by
    pointwise [val_main_v72, val_main_v73, val_main_v89, val_main_v90, val_main_v91, val_main_v92, val_main_cst_9]
    rw [sT, sS, ← EReal.coe_sub, ← EReal.coe_zero, max_coe]
  refine ⟨e1, e2, ?_, ?_⟩
  · pointwise [val_main_v74, val_main_v75, val_main_v76, val_main_v85, val_main_v86, val_main_v87, val_main_v88, val_main_v0, val_main_call0_v0, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
    rw [e1, B.d 0 h, logSig_coe, ← EReal.coe_mul, Ideal.exp_coe]
    rfl
  · pointwise [val_main_v77, val_main_v78, val_main_v79, val_main_v93, val_main_v94, val_main_v95, val_main_v96, val_main_v0, val_main_call0_v0, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
    rw [e2, B.d 1 h, logSig_coe, ← EReal.coe_mul, Ideal.exp_coe]
    rfl

/-- The gradients at the logarithms of the decays. -/
theorem ref_dL (h : Fin 4) : val_main_v163 (F := Ideal) x0 x1 x2 x3 x4 x5 (ix2 0 h) = ((X.dLF h : ℝ) : EReal)
    ∧ val_main_v163 (F := Ideal) x0 x1 x2 x3 x4 x5 (ix2 1 h) = ((X.dLB h : ℝ) : EReal) := by
  have f : val_main_v155 (F := Ideal) x0 x1 x2 x3 x4 x5 (ix1 h) = ((X.dLF h : ℝ) : EReal) := by
    pointwise [val_main_v97_1, val_main_v80, val_main_v72, val_main_v73, val_main_v140, val_main_v146_0, val_main_v152, val_main_v153, val_main_v154, val_main_v155, val_main_call4_v0, val_main_call4_cst, val_main_cst_18]
    simp only [ref_dS B, (ref_PW B _ _ _).1, (ref_factors B h _ _).1, (ref_factors B h _ _).2.2.1]
    refine Eq.trans ?_ (sums_coe _).symm
    refine Finset.sum_congr rfl fun T _ => Finset.sum_congr rfl fun S _ => ?_
    rw [at_or_after]
    split_ifs with hle
    · have hc : (S.val : ℝ) ≤ T.val := by exact_mod_cast hle
      rw [max_eq_left (by linarith), ← EReal.coe_mul, ← EReal.coe_mul, ← EReal.coe_mul]
      refine congrArg _ ?_
      ring
    · rw [zero_mul, mul_zero, EReal.coe_zero]
  have g : val_main_v150 (F := Ideal) x0 x1 x2 x3 x4 x5 (ix1 h) = ((X.dLB h : ℝ) : EReal) := by
    pointwise [val_main_v97_1, val_main_v80, val_main_v72, val_main_v73, val_main_v140, val_main_v146_1, val_main_v147, val_main_v148, val_main_v149, val_main_v150, val_main_call4_v0, val_main_call4_cst, val_main_cst_17]
    simp only [ref_dS B, (ref_PW B _ _ _).1, (ref_factors B h _ _).2.1, (ref_factors B h _ _).2.2.2]
    refine Eq.trans ?_ (sums_coe _).symm
    refine Finset.sum_congr rfl fun T _ => Finset.sum_congr rfl fun S _ => ?_
    rw [at_or_after]
    split_ifs with hle
    · rw [zero_mul, mul_zero, EReal.coe_zero]
    · have hc : (T.val : ℝ) ≤ S.val := by exact_mod_cast (not_le.1 hle).le
      rw [max_eq_left (by linarith), ← EReal.coe_mul, ← EReal.coe_mul, ← EReal.coe_mul]
      refine congrArg _ ?_
      ring
  constructor
  · pointwise [val_main_v151, val_main_v156, val_main_v157, val_main_v158, val_main_v159, val_main_v160, val_main_v161, val_main_v162, val_main_v163, val_main_cst_19, val_main_cst_20, val_main_cst_21, val_main_cst_22]
    simp only [Finset.univ_unique, Finset.sum_const, Finset.card_singleton, one_smul]
    exact f
  · pointwise [val_main_v151, val_main_v156, val_main_v157, val_main_v158, val_main_v159, val_main_v160, val_main_v161, val_main_v162, val_main_v163, val_main_cst_19, val_main_cst_20, val_main_cst_21, val_main_cst_22]
    simp only [Finset.univ_unique, Finset.sum_const, Finset.card_singleton, one_smul]
    exact g

theorem ref_res_dlg (h : Fin 4) (i : Fin 8) (l : Fin 128) : val_main_v209 (F := Ideal) x0 x1 x2 x3 x4 x5 (ix3 h i l)
    = if i = 0 then ((X.dLF h : ℝ) : EReal) else if i = 1 then ((X.dLB h : ℝ) : EReal) else ((0 : ℝ) : EReal) := by
  pointwise [val_main_v197, val_main_v198, val_main_v199, val_main_v200, val_main_v201, val_main_v202, val_main_v203, val_main_v204, val_main_v205, val_main_v206, val_main_v207, val_main_v208, val_main_v209, val_main_c, val_main_c_24, val_main_cst_25, val_main_call5_v0, val_main_call5_v1, val_main_call5_v2, val_main_call6_v0]
  rw [(ref_dL B h).1, (ref_dL B h).2]
  fin_cases i
  · rfl
  · rfl
  all_goals exact lit0

end Cert.Ret
end
-- ==== Proof.Ret.Claim.lean ====
module

public import proofs.«01_k».proof.Proof.Ret.Quiescent
public import proofs.«01_k».proof.Proof.Ret.Result
public import proofs.«01_k».proof.Proof.Ret.RefB
public import proofs.«01_k».proof.Proof.Finite
public import proofs.«01_k».proof.Proof.Gen.ReferenceRetIdeal
public import proofs.«01_k».proof.Proof.Gen.Pre_finite_ret

@[expose] public section

set_option maxRecDepth 65536

noncomputable section

open Idealize.ShloMosaic Idealize.ShloMosaic.TcCoe Idealize.SL.Sem

namespace Cert.RetClaim

section Kernel

open Cert.KernelRetIdeal Cert.KernelRetIdeal.Gen Cert.Ret

/-- The kernel's run: its five results are what the write-backs leave, its arguments are as before. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v246_0) = (dats m 0 c).arrAt 11 cfg0.N
      ∧ r.2.mem ((c : Thread nD τ).loc main_v246_1) = (dats m 0 c).arrAt 12 cfg0.N
      ∧ r.2.mem ((c : Thread nD τ).loc main_v246_2) = (dats m 0 c).arrAt 13 cfg0.N
      ∧ r.2.mem ((c : Thread nD τ).loc main_v246_3) = (dats m 0 c).arrAt 14 cfg0.N
      ∧ r.2.mem ((c : Thread nD τ).loc main_v246_4) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 11, (h.1 c).1 12, (h.1 c).1 13, (h.1 c).1 14, (h.1 c).1 15, h.2.1 c⟩)
    (θ_run_and (run_main m ρ) (Cert.Ret.quiescent (F := Ideal) m ρ))

/-- Finite arguments hold real numbers. -/
theorem reals (m : (ℓ : Loc nD τ sig) → Buf (Elt Ideal) ℓ) (h : Cert.Pre_KernelRetIdeal_finite_ret (hPre_finite_ret := Cert.Pre_finite_ret.Gen.facts) m) (c : Dev nD) : ∃ X : Data, Args m c X := by
  have e := congrFun (h c) (fun q => Fin.elim0 q)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton Cert.Pre_finite_ret.S_.Idx := ⟨fun a b => funext fun q => Fin.elim0 q⟩
  have r1 := Cert.Lift.real_of_all _ _ _ _ _ _ e1
  have r2 := Cert.Lift.real_of_all _ _ _ _ _ _ e2
  have r3 := Cert.Lift.real_of_all _ _ _ _ _ _ e3
  have r4 := Cert.Lift.real_of_all _ _ _ _ _ _ e4
  have r5 := Cert.Lift.real_of_all _ _ _ _ _ _ e5
  have r6 := Cert.Lift.real_of_all _ _ _ _ _ _ e6
  choose q hq using r1
  choose k hk using r2
  choose v hv using r3
  choose g hg using r4
  choose d hd using r5
  choose ct hc using r6
  exact ⟨⟨fun T l => q (ix2 T l), fun T l => k (ix2 T l), fun T l => v (ix2 T l), fun T l => g (ix2 T l), fun T l => ct (ix2 T l), fun i h => d (ix2 i h)⟩,
    ⟨fun T l => hq _, fun T l => hk _, fun T l => hv _, fun T l => hg _, fun i h => hd _, fun T l => hc _⟩⟩

end Kernel

/-- The reference terminates, with its arguments and every semaphore counter unchanged. -/
theorem reference_frame : Cert.quiescent_ReferenceRetIdeal (hReferenceRetIdeal := Cert.ReferenceRetIdeal.Gen.facts) := fun m ρ _ =>
  (θ_run Cert.ReferenceRetIdeal.defs _ _).mono
    (fun r h => ⟨fun c => (h c).2.2.2.2.2, sem_eq_zero_of_no_sems (by decide) r.2⟩) (Cert.ReferenceRetIdeal.Value.run (F := Ideal) m ρ)

theorem reference_frame_pre : Cert.quiescent_ReferenceRetIdeal_pre_finite_ret (hReferenceRetIdeal := Cert.ReferenceRetIdeal.Gen.facts) (hPre_finite_ret := Cert.Pre_finite_ret.Gen.facts) := fun m ρ _ =>
  (θ_run Cert.ReferenceRetIdeal.defs _ _).mono
    (fun r h => ⟨fun c => (h c).2.2.2.2.2, sem_eq_zero_of_no_sems (by decide) r.2⟩) (Cert.ReferenceRetIdeal.Value.run (F := Ideal) m ρ)

/-- A row and a column of an array of heads. -/
theorem head_index (i : (⟨2, ![4096, 1024]⟩ : Shape).Idx) : ∃ (T : Fin 4096) (h : Fin 4) (a : Fin 256), i = ix2 T (Cert.Ret.hc h a) := by
  have hl : (i 1).val < 1024 := (i 1).isLt
  refine ⟨i 0, ⟨(i 1).val / 256, by omega⟩, ⟨(i 1).val % 256, by omega⟩, funext fun a => ?_⟩
  fin_cases a
  · rfl
  · exact Fin.ext (by show (i 1).val = 256 * ((i 1).val / 256) + (i 1).val % 256; omega)

/-- The algebraic claim about the retention's backward call. -/
theorem algebraic : Cert.algebraic_KernelRetIdeal_ReferenceRetIdeal_pre_finite_ret (hKernelRetIdeal := Cert.KernelRetIdeal.Gen.facts)
    (hReferenceRetIdeal := Cert.ReferenceRetIdeal.Gen.facts) (hPre_finite_ret := Cert.Pre_finite_ret.Gen.facts) := by
  intro m ρ m' ρ' hpre hargs
  refine ⟨_, _, _, _, _, run_blocks m ρ, ?_⟩
  refine (θ_run Cert.ReferenceRetIdeal.defs _ _).mono (fun r h c => ?_) (Cert.ReferenceRetIdeal.Value.run (F := Ideal) m' ρ')
  obtain ⟨w0, w1, w2, w3, w4, kept⟩ := h c
  obtain ⟨a0, a1, a2, a3, a4, a5⟩ := hargs c
  obtain ⟨X, A⟩ := reals m hpre c
  have B : Cert.Ret.Vals (StableHlo.launchContents m' c (Proc.tc.devRef Cert.ReferenceRetIdeal.main_arg0)) (StableHlo.launchContents m' c (Proc.tc.devRef Cert.ReferenceRetIdeal.main_arg1))
      (StableHlo.launchContents m' c (Proc.tc.devRef Cert.ReferenceRetIdeal.main_arg2)) (StableHlo.launchContents m' c (Proc.tc.devRef Cert.ReferenceRetIdeal.main_arg3))
      (StableHlo.launchContents m' c (Proc.tc.devRef Cert.ReferenceRetIdeal.main_arg4)) (StableHlo.launchContents m' c (Proc.tc.devRef Cert.ReferenceRetIdeal.main_arg5)) X :=
    ⟨fun T l => (congrFun a0 _).trans (A.q T l), fun T l => (congrFun a1 _).trans (A.k T l), fun T l => (congrFun a2 _).trans (A.v T l), fun T l => (congrFun a3 _).trans (A.g T l),
      fun i h => (congrFun a4 _).trans (A.d i h), fun T l => (congrFun a5 _).trans (A.c T l)⟩
  refine ⟨w0.trans ?_, w1.trans ?_, w2.trans ?_, w3.trans ?_, w4.trans ?_, kept⟩
  · rw [Cert.ReferenceRetIdeal.Read.val_main_v210_eq]
    funext i
    obtain ⟨T, h, a, rfl⟩ := head_index i
    exact (Cert.Ret.ref_res_dq B T h a).trans (Cert.Ret.final_dq A h T a).symm
  · rw [Cert.ReferenceRetIdeal.Read.val_main_v211_eq]
    funext i
    obtain ⟨T, h, a, rfl⟩ := head_index i
    exact (Cert.Ret.ref_res_dk B T h a).trans (Cert.Ret.final_dk A h T a).symm
  · rw [Cert.ReferenceRetIdeal.Read.val_main_v212_eq]
    funext i
    obtain ⟨T, h, a, rfl⟩ := head_index i
    exact (Cert.Ret.ref_res_dv B T h a).trans (Cert.Ret.final_dv A h T a).symm
  · rw [Cert.ReferenceRetIdeal.Read.val_main_v213_eq]
    funext i
    obtain ⟨T, h, a, rfl⟩ := head_index i
    exact (Cert.Ret.ref_res_dG B T h a).trans (Cert.Ret.final_dg A h T a).symm
  · rw [Cert.ReferenceRetIdeal.Read.val_main_v209_eq]
    funext i
    obtain ⟨h, j, l, rfl⟩ : ∃ (h : Fin 4) (j : Fin 8) (l : Fin 128), i = ix3 h j l := ⟨i 0, i 1, i 2, funext fun a => by fin_cases a <;> rfl⟩
    exact (Cert.Ret.ref_res_dlg B h j l).trans (Cert.Ret.final_dlg A h j l).symm

end Cert.RetClaim

end
-- ==== Proof.Ffn.Cases.lean ====
module

public import proofs.«01_k».proof.Proof.Gen.KernelFfnIdeal.Value
public import Idealize.ShloMosaic.Lib.Tactic
public import Idealize.ShloMosaic.Lib.Pointwise

/-! What one grid point of the backward call of a half-step FFN leaves in its seven output buffers, as the printed payloads
over the point's input blocks. -/

@[expose] public section

set_option maxRecDepth 16384

noncomputable section

open Idealize.ShloMosaic Idealize.ShloMosaic.TcCoe Idealize.SL.Sem
open Idealize.ShloMosaic.Pipeline (Dat)

namespace Cert.KernelFfnIdeal.Cases

open Cert.KernelFfnIdeal Cert.KernelFfnIdeal.Gen

section
variable {F : FTy → Type} [FloatOps F]
variable (m : (ℓ : Loc nD τ sig) → Buf (Elt F) ℓ)

theorem hz2 : (![0, 0] : Fin 2 → Nat) = fun _ => 0 := funext fun a => by fin_cases a <;> rfl

/-- The two halves of a block of weights, and of a block of saved activations. -/
abbrev w0 (x : Vec F S2x1408x1024 .bf16) : Vec F S1x1408x1024 .bf16 :=
  View.ld x (Rect.unit ![0, 0, 0] S1x1408x1024.size inb_S2x1408x1024_S1x1408x1024_0_0_0)
abbrev w1 (x : Vec F S2x1408x1024 .bf16) : Vec F S1x1408x1024 .bf16 :=
  View.ld x (Rect.unit ![1, 0, 0] S1x1408x1024.size inb_S2x1408x1024_S1x1408x1024_1_0_0)
abbrev a0 (x : Vec F S2x256x1408 .bf16) : Vec F S1x256x1408 .bf16 :=
  View.ld x (Rect.unit ![0, 0, 0] S1x256x1408.size inb_S2x256x1408_S1x256x1408_0_0_0)
abbrev a1 (x : Vec F S2x256x1408 .bf16) : Vec F S1x256x1408 .bf16 :=
  View.ld x (Rect.unit ![1, 0, 0] S1x256x1408.size inb_S2x256x1408_S1x256x1408_1_0_0)

/-- The gradient of the normed input at a point: over both halves, the gate's and the up-projection's products. -/
def dh (c : Dev nD) (t : Fin cfg0.N) : FVec F S256x1024 .f32 :=
  k0_pay30
    (k0_pay17 (k0_pay12 (iblk m c 0 t) (w0 (iblk m c 7 t)) (a0 (iblk m c 3 t)) (a0 (iblk m c 4 t)))
      (k0_pay13 (iblk m c 0 t) (w0 (iblk m c 7 t)) (a0 (iblk m c 3 t))) (w0 (iblk m c 5 t)) (w0 (iblk m c 6 t)))
    (k0_pay18 (k0_pay6 (iblk m c 0 t)) (w1 (iblk m c 7 t))) (k0_pay22 (a1 (iblk m c 3 t)))
    (k0_pay23 (k0_pay6 (iblk m c 0 t)) (w1 (iblk m c 7 t)) (a1 (iblk m c 4 t))) (k0_pay24 (a1 (iblk m c 3 t)))
    (w1 (iblk m c 5 t)) (w1 (iblk m c 6 t))

/-- The rows a point leaves of the gradient of `x`. -/
theorem dx_eq (c : Dev nD) (t : Fin cfg0.N) :
    (outsAt0 m c t.val t.isLt).1
      = k0_pay3 (iblk m c 0 t) (dh m c t) (iblk m c 1 t) (k0_pay31 (iblk m c 1 t)) (iblk m c 2 t) := by
  by_cases h0 : t.val % 16 = 0
  · rw [outsAt0_A m c t h0]
    dsimp only
    unfold out0_A_8
    rw [View.read_writes_eq_canon _ _ _ (fun _ => cover0_A_8 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]
    rfl
  · rw [outsAt0_B m c t h0]
    dsimp only
    unfold out0_B_8
    rw [View.read_writes_eq_canon _ _ _ (fun _ => cover0_B_8 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]
    rfl

/-- The rows a point leaves of the normed input. -/
theorem hb_eq (c : Dev nD) (t : Fin cfg0.N) :
    (outsAt0 m c t.val t.isLt).2.2.2.2.1
      = k0_pay2 (iblk m c 1 t) (iblk m c 2 t) (k0_pay31 (iblk m c 1 t)) := by
  by_cases h0 : t.val % 16 = 0
  · rw [outsAt0_A m c t h0]
    dsimp only
    unfold out0_A_12
    rw [View.read_writes_eq_canon _ _ _ (fun _ => cover0_A_12 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]

  · rw [outsAt0_B m c t h0]
    dsimp only
    unfold out0_B_12
    rw [View.read_writes_eq_canon _ _ _ (fun _ => cover0_B_12 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]

/-- The rows a point leaves of the halved cotangent. -/
theorem dyb_eq (c : Dev nD) (t : Fin cfg0.N) :
    (outsAt0 m c t.val t.isLt).2.2.2.2.2.1 = k0_pay6 (iblk m c 0 t) := by
  by_cases h0 : t.val % 16 = 0
  · rw [outsAt0_A m c t h0]
    dsimp only
    unfold out0_A_13
    rw [View.read_writes_eq_canon _ _ _ (fun _ => cover0_A_13 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]

  · rw [outsAt0_B m c t h0]
    dsimp only
    unfold out0_B_13
    rw [View.read_writes_eq_canon _ _ _ (fun _ => cover0_B_13 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]

/-- The two halves a point leaves of the gate's gradient. -/
theorem dg_eq (c : Dev nD) (t : Fin cfg0.N) :
    (outsAt0 m c t.val t.isLt).2.1
      = View.canon [⟨Rect.unit (s := S2x256x1408) ![1, 0, 0] S1x256x1408.size inb_S2x256x1408_S1x256x1408_1_0_0, k0_pay27 (k0_pay23 (k0_pay6 (iblk m c 0 t)) (w1 (iblk m c 7 t)) (a1 (iblk m c 4 t))) (k0_pay24 (a1 (iblk m c 3 t)))⟩,
        ⟨Rect.unit (s := S2x256x1408) ![0, 0, 0] S1x256x1408.size inb_S2x256x1408_S1x256x1408_0_0_0, k0_pay14 (iblk m c 0 t) (w0 (iblk m c 7 t)) (a0 (iblk m c 3 t)) (a0 (iblk m c 4 t))⟩] := by
  by_cases h0 : t.val % 16 = 0
  · rw [outsAt0_A m c t h0]
    dsimp only
    unfold out0_A_9
    rw [View.read_writes_eq_canon _ _ _ (fun _ => cover0_A_9 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]
  · rw [outsAt0_B m c t h0]
    dsimp only
    unfold out0_B_9
    rw [View.read_writes_eq_canon _ _ _ (fun _ => cover0_B_9 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]

/-- The two halves a point leaves of the up-projection's gradient. -/
theorem du_eq (c : Dev nD) (t : Fin cfg0.N) :
    (outsAt0 m c t.val t.isLt).2.2.1
      = View.canon [⟨Rect.unit (s := S2x256x1408) ![1, 0, 0] S1x256x1408.size inb_S2x256x1408_S1x256x1408_1_0_0, k0_pay28 (k0_pay18 (k0_pay6 (iblk m c 0 t)) (w1 (iblk m c 7 t))) (k0_pay22 (a1 (iblk m c 3 t)))⟩,
        ⟨Rect.unit (s := S2x256x1408) ![0, 0, 0] S1x256x1408.size inb_S2x256x1408_S1x256x1408_0_0_0, k0_pay15 (k0_pay13 (iblk m c 0 t) (w0 (iblk m c 7 t)) (a0 (iblk m c 3 t)))⟩] := by
  by_cases h0 : t.val % 16 = 0
  · rw [outsAt0_A m c t h0]
    dsimp only
    unfold out0_A_10
    rw [View.read_writes_eq_canon _ _ _ (fun _ => cover0_A_10 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]
  · rw [outsAt0_B m c t h0]
    dsimp only
    unfold out0_B_10
    rw [View.read_writes_eq_canon _ _ _ (fun _ => cover0_B_10 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]

/-- The two halves a point leaves of the gated activation. -/
theorem act_eq (c : Dev nD) (t : Fin cfg0.N) :
    (outsAt0 m c t.val t.isLt).2.2.2.1
      = View.canon [⟨Rect.unit (s := S2x256x1408) ![1, 0, 0] S1x256x1408.size inb_S2x256x1408_S1x256x1408_1_0_0, k0_pay29 (k0_pay20 (a1 (iblk m c 4 t))) (k0_pay22 (a1 (iblk m c 3 t)))⟩,
        ⟨Rect.unit (s := S2x256x1408) ![0, 0, 0] S1x256x1408.size inb_S2x256x1408_S1x256x1408_0_0_0, k0_pay16 (k0_pay9 (a0 (iblk m c 4 t))) (k0_pay11 (a0 (iblk m c 3 t)))⟩] := by
  by_cases h0 : t.val % 16 = 0
  · rw [outsAt0_A m c t h0]
    dsimp only
    unfold out0_A_11
    rw [View.read_writes_eq_canon _ _ _ (fun _ => cover0_A_11 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]
  · rw [outsAt0_B m c t h0]
    dsimp only
    unfold out0_B_11
    rw [View.read_writes_eq_canon _ _ _ (fun _ => cover0_B_11 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]

/-- The first point sets the gain's gradient to its own sum over a zero. -/
theorem dng_A (c : Dev nD) (t : Fin cfg0.N) (h0 : t.val % 16 = 0) :
    (outsAt0 m c t.val t.isLt).2.2.2.2.2.2 = k0_pay4 (dh m c t) (iblk m c 1 t) (k0_pay31 (iblk m c 1 t)) (k0_pay5 (F := F)) := by
  rw [outsAt0_A m c t h0]
  dsimp only
  unfold out0_A_14
  rw [View.read_writes_eq_canon _ _ _ (fun _ => cover0_A_14 ..)]
  unfold kernelRun0_A
  dsimp only
  sl_unfold_words
  rw [View.canon_cons_unit_zero (S := S1x1024) hz2, View.readCov_unit_zero (S := S1x1024) _ hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x1024) hz2]
  rfl

/-- A later point adds its sum to what the point before left. -/
theorem dng_B (c : Dev nD) (t : Fin cfg0.N) (h0 : ¬t.val % 16 = 0) :
    (outsAt0 m c t.val t.isLt).2.2.2.2.2.2
      = k0_pay4 (dh m c t) (iblk m c 1 t) (k0_pay31 (iblk m c 1 t))
          (outsAt0 m c (t.val - 1) (Nat.lt_of_le_of_lt (Nat.sub_le _ _) t.isLt)).2.2.2.2.2.2 := by
  rw [outsAt0_B m c t h0]
  dsimp only
  unfold out0_B_14
  rw [View.read_writes_eq_canon _ _ _ (fun _ => cover0_B_14 ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_14 t).read_unread,
      View.ld_unit_zero (S := S256x1024) hz2, View.ld_unit_zero (S := S1x1024) hz2]
  rfl

end

end Cert.KernelFfnIdeal.Cases
-- ==== Proof.Ffn.Real.lean ====
module

public import proofs.«01_k».proof.Proof.Ret.RefA

/-! The backward pass of a half-step FFN, over the reals: the saved products, the gate's derivative, the gradients. -/

@[expose] public section

noncomputable section

namespace Cert.Ffn

open Idealize.ShloMosaic Cert.Lift
open Cert.Ret (logis)

/-- The arguments: `x`, the norm's gain, the three weights, the cotangent of the output. -/
structure Data where
  x : Fin 4096 → Fin 1024 → ℝ
  g : Fin 1024 → ℝ
  wg : Fin 1024 → Fin 2816 → ℝ
  wu : Fin 1024 → Fin 2816 → ℝ
  wd : Fin 2816 → Fin 1024 → ℝ
  ct : Fin 4096 → Fin 1024 → ℝ

namespace Data

variable (X : Data)

/-- The normed input. -/
def h (T : Fin 4096) (l : Fin 1024) : ℝ := X.x T l * rms (X.x T) * X.g l
/-- The gate's and the up-projection's products. -/
def G (T : Fin 4096) (j : Fin 2816) : ℝ := ∑ l, X.h T l * X.wg l j
def U (T : Fin 4096) (j : Fin 2816) : ℝ := ∑ l, X.h T l * X.wu l j
/-- The gated activation. -/
def act (T : Fin 4096) (j : Fin 2816) : ℝ := X.G T j * logis (X.G T j) * X.U T j
/-- The gradient of the gated activation. -/
def dA (T : Fin 4096) (j : Fin 2816) : ℝ := ∑ l, 1 / 2 * X.ct T l * X.wd j l
/-- The gradients of the gate's and the up-projection's products. -/
def dG (T : Fin 4096) (j : Fin 2816) : ℝ :=
  X.dA T j * X.U T j * (logis (X.G T j) * (1 + X.G T j * (1 - logis (X.G T j))))
def dU (T : Fin 4096) (j : Fin 2816) : ℝ := X.dA T j * (X.G T j * logis (X.G T j))
/-- The gradient of the normed input. -/
def dh (T : Fin 4096) (l : Fin 1024) : ℝ := (∑ j, X.dG T j * X.wg l j) + ∑ j, X.dU T j * X.wu l j
/-- The gradients of `x` and of the gain. -/
def dx (T : Fin 4096) (l : Fin 1024) : ℝ := X.ct T l + rmsBwd (X.x T) X.g (X.dh T) l
def dg (l : Fin 1024) : ℝ := ∑ T, X.dh T l * (X.x T l * rms (X.x T))

end Data

/-- Column `j` of half `s` of the hidden width. -/
def col (s : Fin 2) (j : Fin 1408) : Fin 2816 := ⟨1408 * s.val + j.val, by omega⟩

theorem col_eq {s : Fin 2} {j : Fin 1408} {n : ℕ} (hn : n < 2816) (e : n = s.val * 1408 + j.val) : (⟨n, hn⟩ : Fin 2816) = col s j :=
  Fin.ext (by show n = 1408 * s.val + j.val; omega)

/-- A sum over the hidden width is the sum over its two halves. -/
theorem sum_halves {M : Type} [AddCommMonoid M] (f : Fin 2816 → M) : ∑ j, f j = (∑ j, f (col 0 j)) + ∑ j, f (col 1 j) := by
  rw [← (finProdFinEquiv (m := 2) (n := 1408)).sum_comp, Fintype.sum_prod_type, Fin.sum_univ_two]
  refine congrArg₂ (· + ·) (Finset.sum_congr rfl fun j _ => congrArg f (Fin.ext ?_)) (Finset.sum_congr rfl fun j _ => congrArg f (Fin.ext ?_))
  all_goals simp [finProdFinEquiv, col]; try omega

/-- The literal one half. -/
theorem lit_half : Ideal.ofBits .f32 1056964608#32 = ((1 / 2 : ℝ) : EReal) := by
  simp [Ideal.ofBits, Ideal.ieee, -EReal.coe_mul]; norm_num

end Cert.Ffn
-- ==== Proof.Ffn.Host.lean ====
module

public import proofs.«01_k».proof.Proof.Ffn.Cases
public import proofs.«01_k».proof.Proof.Ffn.Real
public import Idealize.ShloMosaic.Lib.StableHlo.ReadAt

/-! The arrays that the host prepares for the half-step FFN's backward call: the saved products and the weights, in two
halves of the hidden width. -/

@[expose] public section

set_option maxRecDepth 65536
set_option maxHeartbeats 1000000

noncomputable section

namespace Cert.Ffn

open Cert.KernelFfnIdeal Cert.KernelFfnIdeal.Gen
open Idealize.ShloMosaic Idealize.ShloMosaic.TcCoe Idealize.ShloMosaic.Tactic Idealize.SL.Sem Cert.Lift

variable {m : (ℓ : Loc nD τ sig) → Buf (Elt Ideal) ℓ} {c : Dev nD} {X : Data}

/-- The kernel's arguments hold the data's reals. -/
structure Args (m : (ℓ : Loc nD τ sig) → Buf (Elt Ideal) ℓ) (c : Dev nD) (X : Data) : Prop where
  x : ∀ T l, (m ((c : Thread nD τ).loc main_arg0) : Vec Ideal S4096x1024 .f32) (ix2 T l) = ((X.x T l : ℝ) : EReal)
  g : ∀ l, (m ((c : Thread nD τ).loc main_arg1) : Vec Ideal S1x1024 .f32) (ix2 0 l) = ((X.g l : ℝ) : EReal)
  wg : ∀ l j, (m ((c : Thread nD τ).loc main_arg2) : Vec Ideal S1024x2816 .f32) (ix2 l j) = ((X.wg l j : ℝ) : EReal)
  wu : ∀ l j, (m ((c : Thread nD τ).loc main_arg3) : Vec Ideal S1024x2816 .f32) (ix2 l j) = ((X.wu l j : ℝ) : EReal)
  wd : ∀ j l, (m ((c : Thread nD τ).loc main_arg4) : Vec Ideal S2816x1024 .f32) (ix2 j l) = ((X.wd j l : ℝ) : EReal)
  c : ∀ T l, (m ((c : Thread nD τ).loc main_arg5) : Vec Ideal S4096x1024 .f32) (ix2 T l) = ((X.ct T l : ℝ) : EReal)

variable (A : Args m c X)
include A

/-- A weight matrix in two halves. -/
theorem wg_at (s : Fin 2) (j : Fin 1408) (l : Fin 1024) : (V m c main_v22 : Vec Ideal S2x1408x1024 .bf16) (ix3 s j l) = ((X.wg l (col s j) : ℝ) : EReal) := by
  unfold V
  repeat after_reads_at
  rw [col_eq (s := s) (j := j) _ rfl]
  exact A.wg _ _

theorem wu_at (s : Fin 2) (j : Fin 1408) (l : Fin 1024) : (V m c main_v25 : Vec Ideal S2x1408x1024 .bf16) (ix3 s j l) = ((X.wu l (col s j) : ℝ) : EReal) := by
  unfold V
  repeat after_reads_at
  rw [col_eq (s := s) (j := j) _ rfl]
  exact A.wu _ _

theorem wd_at (s : Fin 2) (j : Fin 1408) (l : Fin 1024) : (V m c main_v27 : Vec Ideal S2x1408x1024 .bf16) (ix3 s j l) = ((X.wd (col s j) l : ℝ) : EReal) := by
  unfold V
  repeat after_reads_at
  rw [col_eq (s := s) (j := j) _ rfl]
  exact A.wd _ _

/-! The saved products, in two halves. -/

theorem G_at (s : Fin 2) (T : Fin 4096) (j : Fin 1408) : (V m c main_v17 : Vec Ideal S2x4096x1408 .bf16) (ix3 s T j) = ((X.G T (col s j) : ℝ) : EReal) := by
  have hx : ∀ l, (m (c, Proc.tc.devRef main_arg0) : Vec Ideal S4096x1024 .f32) (ix2 T l) = ((X.x T l : ℝ) : EReal) := A.x T
  have hg : ∀ l, (m (c, Proc.tc.devRef main_arg1) : Vec Ideal S1x1024 .f32) (ix2 0 l) = ((X.g l : ℝ) : EReal) := A.g
  have hw : ∀ l, (m (c, Proc.tc.devRef main_arg2) : Vec Ideal S1024x2816 .f32) (ix2 l (col s j)) = ((X.wg l (col s j) : ℝ) : EReal) := fun l => A.wg l _
  unfold V
  repeat after_reads_at
  rw [col_eq (s := s) (j := j) _ rfl]
  simp only [hx, hg, hw]
  simp only [meanSq_coe, rms_coe]
  simp only [← EReal.coe_mul, ← coe_sum]
  rfl

theorem U_at (s : Fin 2) (T : Fin 4096) (j : Fin 1408) : (V m c main_v19 : Vec Ideal S2x4096x1408 .bf16) (ix3 s T j) = ((X.U T (col s j) : ℝ) : EReal) := by
  have hx : ∀ l, (m (c, Proc.tc.devRef main_arg0) : Vec Ideal S4096x1024 .f32) (ix2 T l) = ((X.x T l : ℝ) : EReal) := A.x T
  have hg : ∀ l, (m (c, Proc.tc.devRef main_arg1) : Vec Ideal S1x1024 .f32) (ix2 0 l) = ((X.g l : ℝ) : EReal) := A.g
  have hw : ∀ l, (m (c, Proc.tc.devRef main_arg3) : Vec Ideal S1024x2816 .f32) (ix2 l (col s j)) = ((X.wu l (col s j) : ℝ) : EReal) := fun l => A.wu l _
  unfold V
  repeat after_reads_at
  rw [col_eq (s := s) (j := j) _ rfl]
  simp only [hx, hg, hw]
  simp only [meanSq_coe, rms_coe]
  simp only [← EReal.coe_mul, ← coe_sum]
  rfl

end Cert.Ffn
-- ==== Proof.Ffn.Blocks.lean ====
module

public import proofs.«01_k».proof.Proof.Ffn.Host

/-! The input blocks of a grid point of the half-step FFN's backward call, and the values that its payloads compute from
them, over the reals. -/

@[expose] public section

set_option maxRecDepth 65536
set_option maxHeartbeats 1000000

noncomputable section

namespace Cert.Ffn

open Cert.KernelFfnIdeal Cert.KernelFfnIdeal.Gen Cert.KernelFfnIdeal.Cases
open Idealize.ShloMosaic Idealize.ShloMosaic.TcCoe Idealize.ShloMosaic.Tactic Idealize.SL.Sem Cert.Lift
open Cert.Ret (logis)

variable {m : (ℓ : Loc nD τ sig) → Buf (Elt Ideal) ℓ} {c : Dev nD} {X : Data}

/-- Row `r` of block `t`. -/
abbrev row (t : Fin cfg0.N) (r : Fin 256) : Fin 4096 := ⟨256 * t.val + r.val, by have := t.isLt; have : cfg0.N = 16 := N_0; omega⟩

/-- Where the windows' blocks lie. -/
theorem idx_rows : ∀ t : Fin cfg0.N, (win0_0.index t 0 = t.val ∧ win0_0.index t 1 = 0) ∧ (win0_1.index t 0 = t.val ∧ win0_1.index t 1 = 0)
    ∧ (win0_8.index t 0 = t.val ∧ win0_8.index t 1 = 0) ∧ (win0_12.index t 0 = t.val ∧ win0_12.index t 1 = 0)
    ∧ (win0_13.index t 0 = t.val ∧ win0_13.index t 1 = 0) := (by decide +kernel : ∀ t : Fin grid0.N, _)
theorem idx_vec : ∀ t : Fin cfg0.N, (win0_2.index t 0 = 0 ∧ win0_2.index t 1 = 0) ∧ (win0_14.index t 0 = 0 ∧ win0_14.index t 1 = 0) :=
  (by decide +kernel : ∀ t : Fin grid0.N, _)
theorem idx_half : ∀ t : Fin cfg0.N, (win0_3.index t 0 = 0 ∧ win0_3.index t 1 = t.val ∧ win0_3.index t 2 = 0)
    ∧ (win0_4.index t 0 = 0 ∧ win0_4.index t 1 = t.val ∧ win0_4.index t 2 = 0)
    ∧ (win0_9.index t 0 = 0 ∧ win0_9.index t 1 = t.val ∧ win0_9.index t 2 = 0)
    ∧ (win0_10.index t 0 = 0 ∧ win0_10.index t 1 = t.val ∧ win0_10.index t 2 = 0)
    ∧ (win0_11.index t 0 = 0 ∧ win0_11.index t 1 = t.val ∧ win0_11.index t 2 = 0) := (by decide +kernel : ∀ t : Fin grid0.N, _)
theorem idx_w : ∀ t : Fin cfg0.N, (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0) := (by decide +kernel : ∀ t : Fin grid0.N, _)

/-- An index of a row block is the array's index `256 t + r`; of a block of halves, and of the whole weights, likewise. -/
theorem idx_rowBlock (t : Fin cfg0.N) (r : Fin 256) (l : Fin 1024) (i : S4096x1024.Idx) (p q : Nat) (hp : p = t.val ∧ q = 0)
    (h0 : (i 0).val = p * 256 + 1 * r.val) (h1 : (i 1).val = q * 1024 + 1 * l.val) : i = ix2 (row t r) l := by
  obtain ⟨rfl, rfl⟩ := hp
  funext a; apply Fin.ext
  match a with
  | ⟨0, _⟩ => show (i 0).val = 256 * t.val + r.val; omega
  | ⟨1, _⟩ => show (i 1).val = l.val; omega

theorem idx_halfBlock (t : Fin cfg0.N) (s : Fin 2) (r : Fin 256) (j : Fin 1408) (i : S2x4096x1408.Idx) (o p q : Nat)
    (hp : o = 0 ∧ p = t.val ∧ q = 0) (h0 : (i 0).val = o * 2 + 1 * s.val) (h1 : (i 1).val = p * 256 + 1 * r.val)
    (h2 : (i 2).val = q * 1408 + 1 * j.val) : i = ix3 s (row t r) j := by
  obtain ⟨rfl, rfl, rfl⟩ := hp
  funext a; apply Fin.ext
  match a with
  | ⟨0, _⟩ => show (i 0).val = s.val; omega
  | ⟨1, _⟩ => show (i 1).val = 256 * t.val + r.val; omega
  | ⟨2, _⟩ => show (i 2).val = j.val; omega

theorem idx_wBlock (s : Fin 2) (j : Fin 1408) (l : Fin 1024) (i : S2x1408x1024.Idx) (o p q : Nat)
    (hp : o = 0 ∧ p = 0 ∧ q = 0) (h0 : (i 0).val = o * 2 + 1 * s.val) (h1 : (i 1).val = p * 1408 + 1 * j.val)
    (h2 : (i 2).val = q * 1024 + 1 * l.val) : i = ix3 s j l := by
  obtain ⟨rfl, rfl, rfl⟩ := hp
  funext a; apply Fin.ext
  match a with
  | ⟨0, _⟩ => show (i 0).val = s.val; omega
  | ⟨1, _⟩ => show (i 1).val = j.val; omega
  | ⟨2, _⟩ => show (i 2).val = l.val; omega

/-! The halves of a block, at an index. -/
theorem w0_at (x : Vec Ideal S2x1408x1024 .bf16) (j : Fin 1408) (l : Fin 1024) : w0 x (ix3 0 j l) = x (ix3 0 j l) :=
  congrArg x (funext fun a => Fin.ext (by fin_cases a <;> simp [Rect.toLoadRect, LoadRect.idx, Rect.unit, ix3]))
theorem w1_at (x : Vec Ideal S2x1408x1024 .bf16) (j : Fin 1408) (l : Fin 1024) : w1 x (ix3 0 j l) = x (ix3 1 j l) :=
  congrArg x (funext fun a => Fin.ext (by fin_cases a <;> simp [Rect.toLoadRect, LoadRect.idx, Rect.unit, ix3]))
theorem a0_at (x : Vec Ideal S2x256x1408 .bf16) (r : Fin 256) (j : Fin 1408) : a0 x (ix3 0 r j) = x (ix3 0 r j) :=
  congrArg x (funext fun a => Fin.ext (by fin_cases a <;> simp [Rect.toLoadRect, LoadRect.idx, Rect.unit, ix3]))
theorem a1_at (x : Vec Ideal S2x256x1408 .bf16) (r : Fin 256) (j : Fin 1408) : a1 x (ix3 0 r j) = x (ix3 1 r j) :=
  congrArg x (funext fun a => Fin.ext (by fin_cases a <;> simp [Rect.toLoadRect, LoadRect.idx, Rect.unit, ix3]))

variable (A : Args m c X) (t : Fin cfg0.N)
include A

theorem blk_c (r : Fin 256) (l : Fin 1024) : (iblk m c 0 t : Vec Ideal S256x1024 .f32) (ix2 r l) = ((X.ct (row t r) l : ℝ) : EReal) := by
  unfold iblk
  rw [View.read_apply]
  show (V m c main_arg5 : Vec Ideal S4096x1024 .f32) _ = _
  rw [V_main_arg5]
  exact (congrArg (m ((c : Thread nD τ).loc main_arg5) : Vec Ideal S4096x1024 .f32) (idx_rowBlock t r l _ _ _ (idx_rows t).1 (by rfl) (by rfl))).trans (A.c _ _)

theorem blk_x (r : Fin 256) (l : Fin 1024) : (iblk m c 1 t : Vec Ideal S256x1024 .f32) (ix2 r l) = ((X.x (row t r) l : ℝ) : EReal) := by
  unfold iblk
  rw [View.read_apply]
  show (V m c main_arg0 : Vec Ideal S4096x1024 .f32) _ = _
  rw [V_main_arg0]
  exact (congrArg (m ((c : Thread nD τ).loc main_arg0) : Vec Ideal S4096x1024 .f32) (idx_rowBlock t r l _ _ _ (idx_rows t).2.1 (by rfl) (by rfl))).trans (A.x _ _)

theorem blk_g (l : Fin 1024) : (iblk m c 2 t : Vec Ideal S1x1024 .f32) (ix2 0 l) = ((X.g l : ℝ) : EReal) := by
  unfold iblk
  rw [View.read_apply]
  show (V m c main_arg1 : Vec Ideal S1x1024 .f32) _ = _
  rw [V_main_arg1, ← A.g l]
  refine congrArg (m ((c : Thread nD τ).loc main_arg1) : Vec Ideal S1x1024 .f32) (funext fun a => Fin.ext ?_)
  obtain ⟨e0, e1⟩ := (idx_vec t).1
  match a with
  | ⟨0, _⟩ => show win0_2.index t 0 * 1 + 1 * 0 = 0; omega
  | ⟨1, _⟩ => show win0_2.index t 1 * 1024 + 1 * l.val = l.val; omega

theorem blk_G (s : Fin 2) (r : Fin 256) (j : Fin 1408) : (iblk m c 3 t : Vec Ideal S2x256x1408 .bf16) (ix3 s r j) = ((X.G (row t r) (col s j) : ℝ) : EReal) := by
  unfold iblk
  rw [View.read_apply]
  exact (congrArg (V m c main_v17 : Vec Ideal S2x4096x1408 .bf16) (idx_halfBlock t s r j _ _ _ _ (idx_half t).1 (by rfl) (by rfl) (by rfl))).trans (G_at A _ _ _)

theorem blk_U (s : Fin 2) (r : Fin 256) (j : Fin 1408) : (iblk m c 4 t : Vec Ideal S2x256x1408 .bf16) (ix3 s r j) = ((X.U (row t r) (col s j) : ℝ) : EReal) := by
  unfold iblk
  rw [View.read_apply]
  exact (congrArg (V m c main_v19 : Vec Ideal S2x4096x1408 .bf16) (idx_halfBlock t s r j _ _ _ _ (idx_half t).2.1 (by rfl) (by rfl) (by rfl))).trans (U_at A _ _ _)

theorem blk_wg (s : Fin 2) (j : Fin 1408) (l : Fin 1024) : (iblk m c 5 t : Vec Ideal S2x1408x1024 .bf16) (ix3 s j l) = ((X.wg l (col s j) : ℝ) : EReal) := by
  unfold iblk
  rw [View.read_apply]
  exact (congrArg (V m c main_v22 : Vec Ideal S2x1408x1024 .bf16) (idx_wBlock s j l _ _ _ _ (idx_w t).1 (by rfl) (by rfl) (by rfl))).trans (wg_at A _ _ _)

theorem blk_wu (s : Fin 2) (j : Fin 1408) (l : Fin 1024) : (iblk m c 6 t : Vec Ideal S2x1408x1024 .bf16) (ix3 s j l) = ((X.wu l (col s j) : ℝ) : EReal) := by
  unfold iblk
  rw [View.read_apply]
  exact (congrArg (V m c main_v25 : Vec Ideal S2x1408x1024 .bf16) (idx_wBlock s j l _ _ _ _ (idx_w t).2.1 (by rfl) (by rfl) (by rfl))).trans (wu_at A _ _ _)

theorem blk_wd (s : Fin 2) (j : Fin 1408) (l : Fin 1024) : (iblk m c 7 t : Vec Ideal S2x1408x1024 .bf16) (ix3 s j l) = ((X.wd (col s j) l : ℝ) : EReal) := by
  unfold iblk
  rw [View.read_apply]
  exact (congrArg (V m c main_v27 : Vec Ideal S2x1408x1024 .bf16) (idx_wBlock s j l _ _ _ _ (idx_w t).2.2 (by rfl) (by rfl) (by rfl))).trans (wd_at A _ _ _)

/-! ## The payloads -/

theorem dy_at (r : Fin 256) (l : Fin 1024) : k0_pay6 (F := Ideal) (iblk m c 0 t) (ix2 r l) = ((1 / 2 * X.ct (row t r) l : ℝ) : EReal) := by
  have e := blk_c A t r l
  pointwise [k0_pay6]
  rw [e, lit_half, ← EReal.coe_mul]

theorem dA0_at (r : Fin 256) (j : Fin 1408) : k0_pay7 (F := Ideal) (iblk m c 0 t) (w0 (iblk m c 7 t)) (ix2 r j) = ((X.dA (row t r) (col 0 j) : ℝ) : EReal) := by
  have e := dy_at A t r
  have w : ∀ l, w0 (iblk m c 7 t) (ix3 0 j l) = ((X.wd (col 0 j) l : ℝ) : EReal) := fun l => (w0_at _ j l).trans (blk_wd A t 0 j l)
  pointwise [k0_pay7]
  simp only [e, w, ← EReal.coe_mul, ← coe_sum]
  rfl

theorem dA1_at (r : Fin 256) (j : Fin 1408) : k0_pay18 (F := Ideal) (k0_pay6 (iblk m c 0 t)) (w1 (iblk m c 7 t)) (ix2 r j) = ((X.dA (row t r) (col 1 j) : ℝ) : EReal) := by
  have e := dy_at A t r
  have w : ∀ l, w1 (iblk m c 7 t) (ix3 0 j l) = ((X.wd (col 1 j) l : ℝ) : EReal) := fun l => (w1_at _ j l).trans (blk_wd A t 1 j l)
  pointwise [k0_pay18]
  simp only [e, w, ← EReal.coe_mul, ← coe_sum]
  rfl

theorem dG0_at (r : Fin 256) (j : Fin 1408) :
    k0_pay12 (F := Ideal) (iblk m c 0 t) (w0 (iblk m c 7 t)) (a0 (iblk m c 3 t)) (a0 (iblk m c 4 t)) (ix2 r j) = ((X.dG (row t r) (col 0 j) : ℝ) : EReal) := by
  have e := dA0_at A t r j
  have g := (a0_at _ r j).trans (blk_G A t 0 r j)
  have u := (a0_at _ r j).trans (blk_U A t 0 r j)
  pointwise [k0_pay12, k0_pay10, k0_pay9, k0_pay8]
  simp only [e, g, u, Ideal.logistic_coe]
  rw [← EReal.coe_one]
  simp only [← EReal.coe_mul, ← EReal.coe_sub, ← EReal.coe_add]
  rfl

theorem dU0_at (r : Fin 256) (j : Fin 1408) :
    k0_pay13 (F := Ideal) (iblk m c 0 t) (w0 (iblk m c 7 t)) (a0 (iblk m c 3 t)) (ix2 r j) = ((X.dU (row t r) (col 0 j) : ℝ) : EReal) := by
  have e := dA0_at A t r j
  have g := (a0_at _ r j).trans (blk_G A t 0 r j)
  pointwise [k0_pay13, k0_pay11, k0_pay10, k0_pay8]
  simp only [e, g, Ideal.logistic_coe, ← EReal.coe_mul]
  rfl

theorem dG1_at (r : Fin 256) (j : Fin 1408) :
    k0_pay25 (F := Ideal) (k0_pay23 (k0_pay6 (iblk m c 0 t)) (w1 (iblk m c 7 t)) (a1 (iblk m c 4 t))) (k0_pay24 (a1 (iblk m c 3 t))) (ix2 r j)
      = ((X.dG (row t r) (col 1 j) : ℝ) : EReal) := by
  have e := dA1_at A t r j
  have g := (a1_at _ r j).trans (blk_G A t 1 r j)
  have u := (a1_at _ r j).trans (blk_U A t 1 r j)
  pointwise [k0_pay25, k0_pay23, k0_pay24, k0_pay21, k0_pay20, k0_pay19]
  simp only [e, g, u, Ideal.logistic_coe]
  rw [← EReal.coe_one]
  simp only [← EReal.coe_mul, ← EReal.coe_sub, ← EReal.coe_add]
  rfl

theorem dU1_at (r : Fin 256) (j : Fin 1408) :
    k0_pay26 (F := Ideal) (k0_pay18 (k0_pay6 (iblk m c 0 t)) (w1 (iblk m c 7 t))) (k0_pay22 (a1 (iblk m c 3 t))) (ix2 r j)
      = ((X.dU (row t r) (col 1 j) : ℝ) : EReal) := by
  have e := dA1_at A t r j
  have g := (a1_at _ r j).trans (blk_G A t 1 r j)
  pointwise [k0_pay26, k0_pay22, k0_pay21, k0_pay19]
  simp only [e, g, Ideal.logistic_coe, ← EReal.coe_mul]
  rfl

/-- The gradient of the normed input, from both halves. -/
theorem dh_at (r : Fin 256) (l : Fin 1024) : dh m c t (ix2 r l) = ((X.dh (row t r) l : ℝ) : EReal) := by
  have p0 := dG0_at A t r
  have p1 := dG1_at A t r
  have q0 := dU0_at A t r
  have q1 := dU1_at A t r
  have wg0 : ∀ j, w0 (iblk m c 5 t) (ix3 0 j l) = ((X.wg l (col 0 j) : ℝ) : EReal) := fun j => (w0_at _ j l).trans (blk_wg A t 0 j l)
  have wg1 : ∀ j, w1 (iblk m c 5 t) (ix3 0 j l) = ((X.wg l (col 1 j) : ℝ) : EReal) := fun j => (w1_at _ j l).trans (blk_wg A t 1 j l)
  have wu0 : ∀ j, w0 (iblk m c 6 t) (ix3 0 j l) = ((X.wu l (col 0 j) : ℝ) : EReal) := fun j => (w0_at _ j l).trans (blk_wu A t 0 j l)
  have wu1 : ∀ j, w1 (iblk m c 6 t) (ix3 0 j l) = ((X.wu l (col 1 j) : ℝ) : EReal) := fun j => (w1_at _ j l).trans (blk_wu A t 1 j l)
  unfold dh
  pointwise [k0_pay30, k0_pay17]
  simp only [p0, p1, q0, q1, wg0, wg1, wu0, wu1, ← EReal.coe_mul, ← coe_sum, ← EReal.coe_add]
  refine congrArg _ ?_
  unfold Data.dh
  rw [sum_halves, sum_halves]
  ring

theorem rms_at (r : Fin 256) : k0_pay31 (F := Ideal) (iblk m c 1 t) (ix2 r 0) = ((rms (X.x (row t r)) : ℝ) : EReal) := by
  have e := blk_x A t r
  pointwise [k0_pay31]
  simp only [e]
  rw [meanSq_coe, rms_coe]

/-! ## What a point leaves in its output buffers -/

theorem dx_block (r : Fin 256) (l : Fin 1024) : (outsAt0 m c t.val t.isLt).1 (ix2 r l) = ((X.dx (row t r) l : ℝ) : EReal) := by
  rw [dx_eq]
  have ex := blk_x A t r
  have eg := blk_g A t
  have ec := blk_c A t r
  have eh := dh_at A t r
  have er := rms_at A t r
  pointwise [k0_pay3, k0_pay1]
  simp only [ex, eg, ec, eh, er]
  rw [rmsBwd_coe (X.x (row t r)) X.g (X.dh (row t r)), ← EReal.coe_add]
  rfl

theorem h_block (r : Fin 256) (l : Fin 1024) : (outsAt0 m c t.val t.isLt).2.2.2.2.1 (ix2 r l) = ((X.h (row t r) l : ℝ) : EReal) := by
  rw [hb_eq]
  have ex := blk_x A t r
  have eg := blk_g A t
  have er := rms_at A t r
  pointwise [k0_pay2, k0_pay1]
  simp only [ex, eg, er, ← EReal.coe_mul]
  rfl

theorem dy_block (r : Fin 256) (l : Fin 1024) : (outsAt0 m c t.val t.isLt).2.2.2.2.2.1 (ix2 r l) = ((1 / 2 * X.ct (row t r) l : ℝ) : EReal) := by
  rw [dyb_eq]
  exact dy_at A t r l

omit A in
/-- Two halves written one after the other, read at an index. -/
theorem canon_halves (p q : FVec Ideal S1x256x1408 .bf16) (s : Fin 2) (r : Fin 256) (j : Fin 1408) :
    View.canon (Val := Elt Ideal) (e := .bf16) [⟨Rect.unit (s := S2x256x1408) ![1, 0, 0] S1x256x1408.size inb_S2x256x1408_S1x256x1408_1_0_0, p⟩,
      ⟨Rect.unit (s := S2x256x1408) ![0, 0, 0] S1x256x1408.size inb_S2x256x1408_S1x256x1408_0_0_0, q⟩] (ix3 s r j)
      = if s.val = 1 then p (ix3 0 r j) else q (ix3 0 r j) := by
  have e0 : (ix3 0 r j : S2x256x1408.Idx) = (Rect.unit (s := S2x256x1408) ![0, 0, 0] S1x256x1408.size inb_S2x256x1408_S1x256x1408_0_0_0).emb (ix3 (0 : Fin 1) r j) :=
    funext fun a => Fin.ext (by fin_cases a <;> simp [Rect.emb, Rect.unit, ix3])
  have e1 : (ix3 1 r j : S2x256x1408.Idx) = (Rect.unit (s := S2x256x1408) ![1, 0, 0] S1x256x1408.size inb_S2x256x1408_S1x256x1408_1_0_0).emb (ix3 (0 : Fin 1) r j) :=
    funext fun a => Fin.ext (by fin_cases a <;> simp [Rect.emb, Rect.unit, ix3])
  match s with
  | 0 =>
    rw [View.canon_cons_of_not_mem]
    · rw [e0, View.canon_cons_emb]; rfl
    · rw [Rect.mem_set_unit]
      intro hh
      exact absurd (show (1 : ℕ) ≤ 0 from (hh 0).1) (by decide)
  | 1 => rw [e1, View.canon_cons_emb]; rfl

theorem dG_block (s : Fin 2) (r : Fin 256) (j : Fin 1408) : (outsAt0 m c t.val t.isLt).2.1 (ix3 s r j) = ((X.dG (row t r) (col s j) : ℝ) : EReal) := by
  rw [dg_eq, canon_halves]
  match s with
  | 0 =>
    rw [if_neg (by decide)]
    refine Eq.trans ?_ (dG0_at A t r j)
    pointwise [k0_pay14]
  | 1 =>
    refine Eq.trans ?_ (dG1_at A t r j)
    rw [if_pos (by decide)]
    pointwise [k0_pay27]

theorem dU_block (s : Fin 2) (r : Fin 256) (j : Fin 1408) : (outsAt0 m c t.val t.isLt).2.2.1 (ix3 s r j) = ((X.dU (row t r) (col s j) : ℝ) : EReal) := by
  rw [du_eq, canon_halves]
  match s with
  | 0 =>
    refine Eq.trans ?_ (dU0_at A t r j)
    rw [if_neg (by decide)]
    pointwise [k0_pay15]
  | 1 =>
    refine Eq.trans ?_ (dU1_at A t r j)
    rw [if_pos (by decide)]
    pointwise [k0_pay28]

theorem act_block (s : Fin 2) (r : Fin 256) (j : Fin 1408) : (outsAt0 m c t.val t.isLt).2.2.2.1 (ix3 s r j) = ((X.act (row t r) (col s j) : ℝ) : EReal) := by
  rw [act_eq, canon_halves]
  match s with
  | 0 =>
    have g := (a0_at _ r j).trans (blk_G A t 0 r j)
    have u := (a0_at _ r j).trans (blk_U A t 0 r j)
    rw [if_neg (by decide)]
    pointwise [k0_pay16, k0_pay9, k0_pay11, k0_pay10, k0_pay8]
    simp only [g, u, Ideal.logistic_coe, ← EReal.coe_mul]
    rfl
  | 1 =>
    have g := (a1_at _ r j).trans (blk_G A t 1 r j)
    have u := (a1_at _ r j).trans (blk_U A t 1 r j)
    rw [if_pos (by decide)]
    pointwise [k0_pay29, k0_pay20, k0_pay22, k0_pay21, k0_pay19]
    simp only [g, u, Ideal.logistic_coe, ← EReal.coe_mul]
    rfl

/-- What one point adds to the gain's gradient. -/
theorem dg_point (acc : Vec Ideal S1x1024 .f32) (l : Fin 1024) :
    k0_pay4 (dh m c t) (iblk m c 1 t) (k0_pay31 (iblk m c 1 t)) acc (ix2 0 l)
      = acc (ix2 0 l) + ((∑ r : Fin 256, X.dh (row t r) l * (X.x (row t r) l * rms (X.x (row t r))) : ℝ) : EReal) := by
  have ex := fun r => blk_x A t r l
  have eh := fun r => dh_at A t r l
  have er := rms_at A t
  pointwise [k0_pay4, k0_pay1]
  simp only [ex, eh, er, ← EReal.coe_mul, ← coe_sum]

end Cert.Ffn
-- ==== Proof.Ffn.Arrays.lean ====
module

public import proofs.«01_k».proof.Proof.Ffn.Blocks

/-! What the seven result arrays of the FFN's backward call hold after the run, at an index. -/

@[expose] public section

set_option maxRecDepth 16384

noncomputable section

namespace Cert.Ffn

open Cert.KernelFfnIdeal Cert.KernelFfnIdeal.Gen Cert.KernelFfnIdeal.Cases
open Idealize.ShloMosaic Idealize.ShloMosaic.TcCoe Idealize.ShloMosaic.Tactic Cert.Lift Idealize.SL.Sem
open Idealize.ShloMosaic.Pipeline (Dat)

/-- A sum over 4096 rows in sixteen blocks of 256. -/
theorem sum_blocks {M : Type} [AddCommMonoid M] (f : Fin 4096 → M) :
    ∑ R, f R = ∑ t : Fin 16, ∑ r : Fin 256, f ⟨256 * t.val + r.val, by omega⟩ := by
  rw [← (finProdFinEquiv (m := 16) (n := 256)).sum_comp, Fintype.sum_prod_type]
  refine Finset.sum_congr rfl fun t _ => Finset.sum_congr rfl fun r _ => congrArg f (Fin.ext ?_)
  simp [finProdFinEquiv]; omega

/-- Every row lies in a block. -/
theorem row_cases (R : Fin 4096) : ∃ (t : Fin cfg0.N) (r : Fin 256), R = row t r :=
  have hN : cfg0.N = 16 := N_0
  ⟨⟨R.val / 256, by omega⟩, ⟨R.val % 256, by omega⟩, Fin.ext (by show R.val = 256 * (R.val / 256) + R.val % 256; omega)⟩

variable {m : (ℓ : Loc nD τ sig) → Buf (Elt Ideal) ℓ} {c : Dev nD} {X : Data} (A : Args m c X)
include A

theorem final_dx (R : Fin 4096) (l : Fin 1024) : ((dats m 0 c).arrAt 8 cfg0.N : Vec Ideal S4096x1024 .f32) (ix2 R l) = ((X.dx R l : ℝ) : EReal) := by
  obtain ⟨t, r, rfl⟩ := row_cases R
  have h := congrFun (Value.blocks8 m c t (flush0_8 t)) (ix2 r l)
  rw [View.read_apply, Value.flushed8] at h
  exact ((congrArg ((dats m 0 c).arrAt 8 cfg0.N : Vec Ideal S4096x1024 .f32)
    (idx_rowBlock t r l _ _ _ (idx_rows t).2.2.1 (by rfl) (by rfl))).symm.trans h).trans (dx_block A t r l)

theorem final_dG (s : Fin 2) (R : Fin 4096) (j : Fin 1408) : ((dats m 0 c).arrAt 9 cfg0.N : Vec Ideal S2x4096x1408 .bf16) (ix3 s R j) = ((X.dG R (col s j) : ℝ) : EReal) := by
  obtain ⟨t, r, rfl⟩ := row_cases R
  have h := congrFun (Value.blocks9 m c t (flush0_9 t)) (ix3 s r j)
  rw [View.read_apply, Value.flushed9] at h
  exact ((congrArg ((dats m 0 c).arrAt 9 cfg0.N : Vec Ideal S2x4096x1408 .bf16)
    (idx_halfBlock t s r j _ _ _ _ (idx_half t).2.2.1 (by rfl) (by rfl) (by rfl))).symm.trans h).trans (dG_block A t s r j)

theorem final_dU (s : Fin 2) (R : Fin 4096) (j : Fin 1408) : ((dats m 0 c).arrAt 10 cfg0.N : Vec Ideal S2x4096x1408 .bf16) (ix3 s R j) = ((X.dU R (col s j) : ℝ) : EReal) := by
  obtain ⟨t, r, rfl⟩ := row_cases R
  have h := congrFun (Value.blocks10 m c t (flush0_10 t)) (ix3 s r j)
  rw [View.read_apply, Value.flushed10] at h
  exact ((congrArg ((dats m 0 c).arrAt 10 cfg0.N : Vec Ideal S2x4096x1408 .bf16)
    (idx_halfBlock t s r j _ _ _ _ (idx_half t).2.2.2.1 (by rfl) (by rfl) (by rfl))).symm.trans h).trans (dU_block A t s r j)

theorem final_act (s : Fin 2) (R : Fin 4096) (j : Fin 1408) : ((dats m 0 c).arrAt 11 cfg0.N : Vec Ideal S2x4096x1408 .bf16) (ix3 s R j) = ((X.act R (col s j) : ℝ) : EReal) := by
  obtain ⟨t, r, rfl⟩ := row_cases R
  have h := congrFun (Value.blocks11 m c t (flush0_11 t)) (ix3 s r j)
  rw [View.read_apply, Value.flushed11] at h
  exact ((congrArg ((dats m 0 c).arrAt 11 cfg0.N : Vec Ideal S2x4096x1408 .bf16)
    (idx_halfBlock t s r j _ _ _ _ (idx_half t).2.2.2.2 (by rfl) (by rfl) (by rfl))).symm.trans h).trans (act_block A t s r j)

theorem final_h (R : Fin 4096) (l : Fin 1024) : ((dats m 0 c).arrAt 12 cfg0.N : Vec Ideal S4096x1024 .bf16) (ix2 R l) = ((X.h R l : ℝ) : EReal) := by
  obtain ⟨t, r, rfl⟩ := row_cases R
  have h := congrFun (Value.blocks12 m c t (flush0_12 t)) (ix2 r l)
  rw [View.read_apply, Value.flushed12] at h
  exact ((congrArg ((dats m 0 c).arrAt 12 cfg0.N : Vec Ideal S4096x1024 .bf16)
    (idx_rowBlock t r l _ _ _ (idx_rows t).2.2.2.1 (by rfl) (by rfl))).symm.trans h).trans (h_block A t r l)

theorem final_dy (R : Fin 4096) (l : Fin 1024) : ((dats m 0 c).arrAt 13 cfg0.N : Vec Ideal S4096x1024 .bf16) (ix2 R l) = ((1 / 2 * X.ct R l : ℝ) : EReal) := by
  obtain ⟨t, r, rfl⟩ := row_cases R
  have h := congrFun (Value.blocks13 m c t (flush0_13 t)) (ix2 r l)
  rw [View.read_apply, Value.flushed13] at h
  exact ((congrArg ((dats m 0 c).arrAt 13 cfg0.N : Vec Ideal S4096x1024 .bf16)
    (idx_rowBlock t r l _ _ _ (idx_rows t).2.2.2.2 (by rfl) (by rfl))).symm.trans h).trans (dy_block A t r l)

/-- After point `n` the accumulator holds the sum over the points up to `n`. -/
theorem sums_upto (l : Fin 1024) : ∀ (n : ℕ) (h : n < cfg0.N), (outsAt0 m c n h).2.2.2.2.2.2 (ix2 0 l)
      = ((∑ s : Fin (n + 1), ∑ r : Fin 256, X.dh (row ⟨s.val, by omega⟩ r) l * (X.x (row ⟨s.val, by omega⟩ r) l * rms (X.x (row ⟨s.val, by omega⟩ r))) : ℝ) : EReal)
  | 0, h => by
    rw [dng_A m c ⟨0, h⟩ rfl, dg_point A, Fin.sum_univ_one]
    pointwise [k0_pay5]
  | n + 1, h => by
    have hN : cfg0.N = 16 := N_0
    have hB : ¬(⟨n + 1, h⟩ : Fin cfg0.N).val % 16 = 0 := by dsimp only; omega
    have i := sums_upto l n (Nat.lt_of_succ_lt h)
    rw [dng_B m c ⟨n + 1, h⟩ hB, dg_point A]
    refine Eq.trans ?_ (congrArg _ (Fin.sum_univ_castSucc _).symm)
    rw [EReal.coe_add]
    exact congrArg₂ (· + ·) i rfl

omit A in
/-- The last point. -/
abbrev tL : Fin cfg0.N := ⟨15, by rw [show cfg0.N = 16 from N_0]; decide⟩

omit A in
theorem flush_last (t : Fin cfg0.N) (hf : (cfg0.win 14).flush t = true) : t = tL := by
  have := (flush0_14 t).mp hf; have := t.isLt; have hN : cfg0.N = 16 := N_0
  exact Fin.ext (by show t.val = 15; omega)

theorem final_dg (l : Fin 1024) : ((dats m 0 c).arrAt 14 cfg0.N : Vec Ideal S1x1024 .f32) (ix2 0 l) = ((X.dg l : ℝ) : EReal) := by
  have hf : (cfg0.win 14).flush tL = true := (flush0_14 tL).mpr rfl
  have hd : ∀ t t' : Fin cfg0.N, (cfg0.win 14).flush t = true → (cfg0.win 14).flush t' = true → t ≠ t' →
      Disjoint ((cfg0.win 14).blk t).view.set ((cfg0.win 14).blk t').view.set :=
    fun t t' h h' hne => absurd ((flush_last t h).trans (flush_last t' h').symm) hne
  have h := congrFun ((dats m 0 c).read_blk_arrAt_eq_flushed 14 hd cfg0.N tL tL.isLt hf) (ix2 0 l)
  rw [View.read_apply, Value.flushed14] at h
  have hi : ((cfg0.win 14).blk tL).view.emb (ix2 0 l) = (ix2 0 l : S1x1024.Idx) := by
    obtain ⟨e0, e1⟩ := (idx_vec tL).2
    funext a; apply Fin.ext
    match a with
    | ⟨0, _⟩ => show win0_14.index tL 0 * 1 + 1 * 0 = 0; omega
    | ⟨1, _⟩ => show win0_14.index tL 1 * 1024 + 1 * l.val = l.val; omega
  refine ((congrArg ((dats m 0 c).arrAt 14 cfg0.N : Vec Ideal S1x1024 .f32) hi).symm.trans h).trans ?_
  refine (sums_upto A l 15 tL.isLt).trans (congrArg _ ?_)
  unfold Data.dg
  rw [sum_blocks]

end Cert.Ffn

end
-- ==== Proof.Ffn.Ref.lean ====
module

public import proofs.«01_k».proof.Proof.Gen.ReferenceFfnIdeal.Read
public import proofs.«01_k».proof.Proof.Ffn.Real
public import Idealize.ShloMosaic.Lib.Pointwise

/-! What the reference of the half-step FFN's backward call computes, over the reals. -/

@[expose] public section

set_option maxRecDepth 65536
set_option maxHeartbeats 1000000

noncomputable section

namespace Cert.Ffn

open Cert.ReferenceFfnIdeal Cert.ReferenceFfnIdeal.Gen Cert.ReferenceFfnIdeal.Read
open Idealize.ShloMosaic Idealize.ShloMosaic.TcCoe Idealize.ShloMosaic.Tactic Cert.Lift
open Cert.Ret (logis logis_coe)

/-- The arguments hold the data's reals. -/
structure Vals (x0 : Vec Ideal S4096x1024 .f32) (x1 : Vec Ideal S1x1024 .f32) (x2 x3 : Vec Ideal S1024x2816 .f32)
    (x4 : Vec Ideal S2816x1024 .f32) (x5 : Vec Ideal S4096x1024 .f32) (X : Data) : Prop where
  x : ∀ T l, x0 (ix2 T l) = ((X.x T l : ℝ) : EReal)
  g : ∀ l, x1 (ix2 0 l) = ((X.g l : ℝ) : EReal)
  wg : ∀ l j, x2 (ix2 l j) = ((X.wg l j : ℝ) : EReal)
  wu : ∀ l j, x3 (ix2 l j) = ((X.wu l j : ℝ) : EReal)
  wd : ∀ j l, x4 (ix2 j l) = ((X.wd j l : ℝ) : EReal)
  c : ∀ T l, x5 (ix2 T l) = ((X.ct T l : ℝ) : EReal)

variable {x0 : Vec Ideal S4096x1024 .f32} {x1 : Vec Ideal S1x1024 .f32} {x2 x3 : Vec Ideal S1024x2816 .f32}
  {x4 : Vec Ideal S2816x1024 .f32} {x5 : Vec Ideal S4096x1024 .f32} {X : Data} (B : Vals x0 x1 x2 x3 x4 x5 X)
include B

theorem ref_ms (T : Fin 4096) : val_main_v7 (F := Ideal) x0 (ix2 T 0) = ((meanSq (X.x T) : ℝ) : EReal) := by
  pointwise [val_main_v7, val_main_v6, val_main_v5, val_main_v4, val_main_v3, val_main_v2, val_main_v1, val_main_cst_0, val_main_cst_1, val_main_cst_2]
  simp only [B.x]
  exact meanSq_coe _

theorem ref_rms (T : Fin 4096) : val_main_v8 (F := Ideal) x0 (ix2 T 0) = ((rms (X.x T) : ℝ) : EReal) := by
  pointwise [val_main_v8]
  rw [ref_ms B, rms_coe]

theorem ref_xh (T : Fin 4096) (l : Fin 1024) : val_main_v13 (F := Ideal) x0 (ix2 T l) = ((X.x T l * rms (X.x T) : ℝ) : EReal) := by
  pointwise [val_main_v13, val_main_v12]
  rw [ref_rms B, B.x, ← EReal.coe_mul]

theorem ref_h (T : Fin 4096) (l : Fin 1024) : val_main_v15 (F := Ideal) x0 x1 (ix2 T l) = ((X.h T l : ℝ) : EReal) := by
  pointwise [val_main_v15, val_main_v14]
  rw [ref_xh B, B.g, ← EReal.coe_mul]
  rfl

theorem ref_G (T : Fin 4096) (j : Fin 2816) : val_main_v17 (F := Ideal) x0 x1 x2 (ix2 T j) = ((X.G T j : ℝ) : EReal) := by
  pointwise [val_main_v17, val_main_v16, val_main_v0, val_main_cst]
  simp only [ref_h B, B.wg, ← EReal.coe_mul, ← coe_sum]
  rfl

theorem ref_U (T : Fin 4096) (j : Fin 2816) : val_main_v20 (F := Ideal) x0 x1 x3 (ix2 T j) = ((X.U T j : ℝ) : EReal) := by
  pointwise [val_main_v20, val_main_v19, val_main_v0, val_main_cst]
  simp only [ref_h B, B.wu, ← EReal.coe_mul, ← coe_sum]
  rfl

theorem ref_sg (T : Fin 4096) (j : Fin 2816) : val_main_v18_2 (F := Ideal) x0 x1 x2 (ix2 T j) = ((logis (X.G T j) : ℝ) : EReal) := by
  pointwise [val_main_v18_2, val_main_call0_v4, val_main_call0_v3, val_main_call0_v2, val_main_call0_v1, val_main_call0_v0, val_main_call0_cst, val_main_call0_cst_0]
  rw [ref_G B]
  exact logis_coe _

theorem ref_sil (T : Fin 4096) (j : Fin 2816) : val_main_v18_0 (F := Ideal) x0 x1 x2 (ix2 T j) = ((X.G T j * logis (X.G T j) : ℝ) : EReal) := by
  pointwise [val_main_v18_0]
  rw [ref_G B, ref_sg B, ← EReal.coe_mul]

theorem ref_ds (T : Fin 4096) (j : Fin 2816) : val_main_v18_1 (F := Ideal) x0 x1 x2 (ix2 T j) = ((logis (X.G T j) * (1 - logis (X.G T j)) : ℝ) : EReal) := by
  pointwise [val_main_v18_1, val_main_call0_v7, val_main_call0_v6, val_main_call0_cst_1]
  rw [ref_sg B, ← EReal.coe_one, ← EReal.coe_sub, ← EReal.coe_mul]

theorem ref_act (T : Fin 4096) (j : Fin 2816) : val_main_v21 (F := Ideal) x0 x1 x2 x3 (ix2 T j) = ((X.act T j : ℝ) : EReal) := by
  pointwise [val_main_v21]
  rw [ref_sil B, ref_U B, ← EReal.coe_mul]
  rfl

theorem ref_dA (T : Fin 4096) (j : Fin 2816) : val_main_v29 (F := Ideal) x4 x5 (ix2 T j) = ((X.dA T j : ℝ) : EReal) := by
  pointwise [val_main_v29, val_main_v28, val_main_v27, val_main_v26, val_main_cst_5]
  simp only [B.c, B.wd, lit_half, ← EReal.coe_mul, ← coe_sum]
  rfl

theorem ref_dU (T : Fin 4096) (j : Fin 2816) : val_main_v30 (F := Ideal) x0 x1 x2 x4 x5 (ix2 T j) = ((X.dU T j : ℝ) : EReal) := by
  pointwise [val_main_v30]
  rw [ref_sil B, ref_dA B, ← EReal.coe_mul]
  exact congrArg _ (mul_comm _ _)

theorem ref_dG (T : Fin 4096) (j : Fin 2816) : val_main_v33 (F := Ideal) x0 x1 x2 x3 x4 x5 (ix2 T j) = ((X.dG T j : ℝ) : EReal) := by
  pointwise [val_main_v33, val_main_call1_v2, val_main_call1_v1, val_main_call1_v0, val_main_v31]
  rw [ref_sg B, ref_ds B, ref_G B, ref_U B, ref_dA B]
  simp only [← EReal.coe_mul, ← EReal.coe_add]
  refine congrArg _ ?_
  unfold Data.dG
  ring

theorem ref_dh (T : Fin 4096) (l : Fin 1024) : val_main_v35 (F := Ideal) x0 x1 x2 x3 x4 x5 (ix2 T l) = ((X.dh T l : ℝ) : EReal) := by
  pointwise [val_main_v35, val_main_v34, val_main_v32]
  simp only [ref_dG B, ref_dU B, B.wg, B.wu, ← EReal.coe_mul, ← coe_sum, ← EReal.coe_add]
  exact congrArg _ (add_comm _ _)

theorem ref_dx (T : Fin 4096) (l : Fin 1024) : val_main_v55 (F := Ideal) x0 x1 x2 x3 x4 x5 (ix2 T l) = ((X.dx T l : ℝ) : EReal) := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v11, val_main_v10, val_main_v9, val_main_cst_3, val_main_cst_7, val_main_cst_8, val_main_cst_9]
  simp only [Fin.sum_univ_one, ref_dh B, ref_rms B, ref_ms B, B.x, B.g, B.c]
  rw [rmsVjp_coe (X.x T) X.g (X.dh T), ← EReal.coe_add]
  rfl

theorem ref_dg (l : Fin 1024) : val_main_v38 (F := Ideal) x0 x1 x2 x3 x4 x5 (ix2 0 l) = ((X.dg l : ℝ) : EReal) := by
  pointwise [val_main_v38, val_main_v37, val_main_v36, val_main_cst_6]
  simp only [ref_xh B, ref_dh B, ← EReal.coe_mul, ← coe_sum]
  exact congrArg _ (Finset.sum_congr rfl fun _ _ => mul_comm _ _)

/-! The results of two halves, and the two that are cast. -/

theorem ref_res_dG (s : Fin 2) (T : Fin 4096) (j : Fin 1408) : val_main_v58 (F := Ideal) x0 x1 x2 x3 x4 x5 (ix3 s T j) = ((X.dG T (col s j) : ℝ) : EReal) := by
  pointwise [val_main_v58, val_main_v57, val_main_v56]
  rw [col_eq (s := s) (j := j) _ rfl]
  exact ref_dG B _ _

theorem ref_res_dU (s : Fin 2) (T : Fin 4096) (j : Fin 1408) : val_main_v61 (F := Ideal) x0 x1 x2 x4 x5 (ix3 s T j) = ((X.dU T (col s j) : ℝ) : EReal) := by
  pointwise [val_main_v61, val_main_v60, val_main_v59]
  rw [col_eq (s := s) (j := j) _ rfl]
  exact ref_dU B _ _

theorem ref_res_act (s : Fin 2) (T : Fin 4096) (j : Fin 1408) : val_main_v64 (F := Ideal) x0 x1 x2 x3 (ix3 s T j) = ((X.act T (col s j) : ℝ) : EReal) := by
  pointwise [val_main_v64, val_main_v63, val_main_v62]
  rw [col_eq (s := s) (j := j) _ rfl]
  exact ref_act B _ _

theorem ref_res_h (T : Fin 4096) (l : Fin 1024) : val_main_v65 (F := Ideal) x0 x1 (ix2 T l) = ((X.h T l : ℝ) : EReal) := by
  pointwise [val_main_v65]
  exact ref_h B _ _

theorem ref_res_dy (T : Fin 4096) (l : Fin 1024) : val_main_v68 (F := Ideal) x5 (ix2 T l) = ((1 / 2 * X.ct T l : ℝ) : EReal) := by
  pointwise [val_main_v68, val_main_v67, val_main_v66, val_main_cst_10]
  rw [B.c, lit_half, ← EReal.coe_mul]

end Cert.Ffn
-- ==== Proof.Ffn.Claim.lean ====
module

public import proofs.«01_k».proof.Defs
public import proofs.«01_k».proof.Proof.Ffn.Arrays
public import proofs.«01_k».proof.Proof.Ffn.Ref
public import proofs.«01_k».proof.Proof.Finite
public import proofs.«01_k».proof.Proof.Gen.Pre_finite_ffn

/-! The claims about the FFN's backward call. -/

@[expose] public section

set_option maxRecDepth 16384

noncomputable section

open Idealize.ShloMosaic Idealize.ShloMosaic.TcCoe Idealize.SL.Sem

namespace Cert.FfnClaim

section Kernel

open Cert.KernelFfnIdeal Cert.KernelFfnIdeal.Gen Cert.Ffn

/-- Finite arguments hold real numbers. -/
theorem reals (m : (ℓ : Loc nD τ sig) → Buf (Elt Ideal) ℓ) (h : Cert.Pre_KernelFfnIdeal_finite_ffn (hPre_finite_ffn := Cert.Pre_finite_ffn.Gen.facts) m) (c : Dev nD) : ∃ X : Data, Args m c X := by
  have e := congrFun (h c) (fun q => Fin.elim0 q)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton Cert.Pre_finite_ffn.S_.Idx := ⟨fun a b => funext fun q => Fin.elim0 q⟩
  have r1 := Cert.Lift.real_of_all _ _ _ _ _ _ e1
  have r2 := Cert.Lift.real_of_all _ _ _ _ _ _ e2
  have r3 := Cert.Lift.real_of_all _ _ _ _ _ _ e3
  have r4 := Cert.Lift.real_of_all _ _ _ _ _ _ e4
  have r5 := Cert.Lift.real_of_all _ _ _ _ _ _ e5
  have r6 := Cert.Lift.real_of_all _ _ _ _ _ _ e6
  choose x hx using r1
  choose g hg using r2
  choose wg hwg using r3
  choose wu hwu using r4
  choose wd hwd using r5
  choose ct hc using r6
  exact ⟨⟨fun T l => x (ix2 T l), fun l => g (ix2 0 l), fun l j => wg (ix2 l j), fun l j => wu (ix2 l j), fun j l => wd (ix2 j l), fun T l => ct (ix2 T l)⟩,
    ⟨fun T l => hx _, fun l => hg _, fun l j => hwg _, fun l j => hwu _, fun j l => hwd _, fun T l => hc _⟩⟩

end Kernel

/-- The reference terminates, with its arguments and every semaphore counter unchanged. -/
theorem reference_frame : Cert.quiescent_ReferenceFfnIdeal (hReferenceFfnIdeal := Cert.ReferenceFfnIdeal.Gen.facts) := fun m ρ _ =>
  (θ_run Cert.ReferenceFfnIdeal.defs _ _).mono
    (fun r h => ⟨fun c => (h c).2.2.2.2.2.2.2, sem_eq_zero_of_no_sems (by decide) r.2⟩) (Cert.ReferenceFfnIdeal.Value.run (F := Ideal) m ρ)

/-- The index of an array of rows, of an array of halves, and of a row vector. -/
theorem rows_index (i : (⟨2, ![4096, 1024]⟩ : Shape).Idx) : ∃ (R : Fin 4096) (l : Fin 1024), i = ix2 R l :=
  ⟨i 0, i 1, funext fun a => by fin_cases a <;> rfl⟩
theorem halves_index (i : (⟨3, ![2, 4096, 1408]⟩ : Shape).Idx) : ∃ (s : Fin 2) (R : Fin 4096) (j : Fin 1408), i = ix3 s R j :=
  ⟨i 0, i 1, i 2, funext fun a => by fin_cases a <;> rfl⟩
theorem vec_index (i : (⟨2, ![1, 1024]⟩ : Shape).Idx) : ∃ l : Fin 1024, i = ix2 0 l :=
  ⟨i 1, funext fun a => by fin_cases a; exacts [Subsingleton.elim (α := Fin 1) _ _, rfl]⟩

/-- The algebraic claim about the FFN's backward call. -/
theorem algebraic : Cert.algebraic_KernelFfnIdeal_ReferenceFfnIdeal_pre_finite_ffn (hKernelFfnIdeal := Cert.KernelFfnIdeal.Gen.facts)
    (hReferenceFfnIdeal := Cert.ReferenceFfnIdeal.Gen.facts) (hPre_finite_ffn := Cert.Pre_finite_ffn.Gen.facts) := by
  intro m ρ m' ρ' hpre hargs
  refine ⟨_, _, _, _, _, _, _, Cert.KernelFfnIdeal.Value.run_blocks m ρ, ?_⟩
  refine (θ_run Cert.ReferenceFfnIdeal.defs _ _).mono (fun r h c => ?_) (Cert.ReferenceFfnIdeal.Value.run (F := Ideal) m' ρ')
  obtain ⟨w0, w1, w2, w3, w4, w5, w6, kept⟩ := h c
  obtain ⟨a0, a1, a2, a3, a4, a5⟩ := hargs c
  obtain ⟨X, A⟩ := reals m hpre c
  have B : Cert.Ffn.Vals (StableHlo.launchContents m' c (Proc.tc.devRef Cert.ReferenceFfnIdeal.main_arg0)) (StableHlo.launchContents m' c (Proc.tc.devRef Cert.ReferenceFfnIdeal.main_arg1))
      (StableHlo.launchContents m' c (Proc.tc.devRef Cert.ReferenceFfnIdeal.main_arg2)) (StableHlo.launchContents m' c (Proc.tc.devRef Cert.ReferenceFfnIdeal.main_arg3))
      (StableHlo.launchContents m' c (Proc.tc.devRef Cert.ReferenceFfnIdeal.main_arg4)) (StableHlo.launchContents m' c (Proc.tc.devRef Cert.ReferenceFfnIdeal.main_arg5)) X :=
    ⟨fun T l => (congrFun a0 _).trans (A.x T l), fun l => (congrFun a1 _).trans (A.g l), fun l j => (congrFun a2 _).trans (A.wg l j), fun l j => (congrFun a3 _).trans (A.wu l j),
      fun j l => (congrFun a4 _).trans (A.wd j l), fun T l => (congrFun a5 _).trans (A.c T l)⟩
  refine ⟨w0.trans ?_, w1.trans ?_, w2.trans ?_, w3.trans ?_, w4.trans ?_, w5.trans ?_, w6.trans ?_, kept⟩
  · rw [Cert.ReferenceFfnIdeal.Read.val_main_v55_eq]
    funext i
    obtain ⟨R, l, rfl⟩ := rows_index i
    exact (Cert.Ffn.ref_dx B R l).trans (Cert.Ffn.final_dx A R l).symm
  · rw [Cert.ReferenceFfnIdeal.Read.val_main_v58_eq]
    funext i
    obtain ⟨s, R, j, rfl⟩ := halves_index i
    exact (Cert.Ffn.ref_res_dG B s R j).trans (Cert.Ffn.final_dG A s R j).symm
  · rw [Cert.ReferenceFfnIdeal.Read.val_main_v61_eq]
    funext i
    obtain ⟨s, R, j, rfl⟩ := halves_index i
    exact (Cert.Ffn.ref_res_dU B s R j).trans (Cert.Ffn.final_dU A s R j).symm
  · rw [Cert.ReferenceFfnIdeal.Read.val_main_v64_eq]
    funext i
    obtain ⟨s, R, j, rfl⟩ := halves_index i
    exact (Cert.Ffn.ref_res_act B s R j).trans (Cert.Ffn.final_act A s R j).symm
  · rw [Cert.ReferenceFfnIdeal.Read.val_main_v65_eq]
    funext i
    obtain ⟨R, l, rfl⟩ := rows_index i
    exact (Cert.Ffn.ref_res_h B R l).trans (Cert.Ffn.final_h A R l).symm
  · rw [Cert.ReferenceFfnIdeal.Read.val_main_v68_eq]
    funext i
    obtain ⟨R, l, rfl⟩ := rows_index i
    exact (Cert.Ffn.ref_res_dy B R l).trans (Cert.Ffn.final_dy A R l).symm
  · rw [Cert.ReferenceFfnIdeal.Read.val_main_v38_eq]
    funext i
    obtain ⟨l, rfl⟩ := vec_index i
    exact (Cert.Ffn.ref_dg B l).trans (Cert.Ffn.final_dg A l).symm

end Cert.FfnClaim

end
-- ==== Proof.Loss.Cases.lean ====
module

public import proofs.«01_k».proof.Proof.Gen.KernelLossIdeal.Value
public import Idealize.ShloMosaic.Lib.Tactic
public import Idealize.ShloMosaic.Lib.Pointwise

/-! What one grid point of the forward feed-forward call with the loss leaves in its five output buffers, as the printed payloads
over the point's input blocks. -/

@[expose] public section

set_option maxRecDepth 16384

noncomputable section

open Idealize.ShloMosaic Idealize.ShloMosaic.TcCoe Idealize.SL.Sem
open Idealize.ShloMosaic.Pipeline (Dat)

namespace Cert.KernelLossIdeal.Cases

open Cert.KernelLossIdeal Cert.KernelLossIdeal.Gen

section
variable {F : FTy → Type} [FloatOps F]
variable (m : (ℓ : Loc nD τ sig) → Buf (Elt F) ℓ)

theorem hz2 : (![0, 0] : Fin 2 → Nat) = fun _ => 0 := funext fun a => by fin_cases a <;> rfl

/-- The two halves of a block of weights. -/
abbrev w0 (x : Vec F S2x1408x1024 .bf16) : Vec F S1x1408x1024 .bf16 :=
  View.ld x (Rect.unit ![0, 0, 0] S1x1408x1024.size inb_S2x1408x1024_S1x1408x1024_0_0_0)
abbrev w1 (x : Vec F S2x1408x1024 .bf16) : Vec F S1x1408x1024 .bf16 :=
  View.ld x (Rect.unit ![1, 0, 0] S1x1408x1024.size inb_S2x1408x1024_S1x1408x1024_1_0_0)

/-- The rows that the feed-forward network gives at a point. -/
def x3 (c : Dev nD) (t : Fin cfg0.N) : FVec F S256x1024 .f32 :=
  k0_pay15 (iblk m c 0 t) (k0_pay5 (iblk m c 0 t) (iblk m c 1 t)) (k0_pay6 (iblk m c 0 t) (iblk m c 1 t) (w0 (iblk m c 2 t)))
    (k0_pay7 (iblk m c 0 t) (iblk m c 1 t) (w0 (iblk m c 3 t))) (k0_pay10 (iblk m c 0 t) (iblk m c 1 t) (w0 (iblk m c 2 t)))
    (w0 (iblk m c 4 t)) (w1 (iblk m c 2 t)) (w1 (iblk m c 3 t)) (w1 (iblk m c 4 t))

/-- The rows a point leaves of the gradient of the last norm's argument. -/
theorem dx_eq (c : Dev nD) (t : Fin cfg0.N) :
    (outsAt0 m c t.val t.isLt).2.1
      = k0_pay1 (k0_pay17 (x3 m c t)) (k0_pay18 (x3 m c t)) (k0_pay22 (x3 m c t) (k0_pay16 (iblk m c 5 t)) (iblk m c 6 t) (iblk m c 5 t)) (k0_pay23 (x3 m c t) (k0_pay16 (iblk m c 5 t)) (iblk m c 6 t) (iblk m c 5 t)) := by
  by_cases h0 : t.val % 16 = 0
  · rw [outsAt0_A m c t h0]
    dsimp only
    unfold out0_A_8
    rw [View.read_writes_eq_canon _ _ _ (fun _ => cover0_A_8 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) hz2, View.ld_unit_zero (S := S1x1024) hz2]
    rfl
  · rw [outsAt0_B m c t h0]
    dsimp only
    unfold out0_B_8
    rw [View.read_writes_eq_canon _ _ _ (fun _ => cover0_B_8 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) hz2, View.ld_unit_zero (S := S1x1024) hz2]
    rfl

/-- The two halves a point leaves of the gate's product. -/
theorem g_eq (c : Dev nD) (t : Fin cfg0.N) :
    (outsAt0 m c t.val t.isLt).2.2.2.1
      = View.canon [⟨Rect.unit (s := S2x256x1408) ![1, 0, 0] S1x256x1408.size inb_S2x256x1408_S1x256x1408_1_0_0, k0_pay13 (k0_pay5 (iblk m c 0 t) (iblk m c 1 t)) (w1 (iblk m c 2 t))⟩,
        ⟨Rect.unit (s := S2x256x1408) ![0, 0, 0] S1x256x1408.size inb_S2x256x1408_S1x256x1408_0_0_0, k0_pay8 (iblk m c 0 t) (iblk m c 1 t) (w0 (iblk m c 2 t))⟩] := by
  by_cases h0 : t.val % 16 = 0
  · rw [outsAt0_A m c t h0]
    dsimp only
    unfold out0_A_10
    rw [View.read_writes_eq_canon _ _ _ (fun _ => cover0_A_10 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) hz2, View.ld_unit_zero (S := S1x1024) hz2]
  · rw [outsAt0_B m c t h0]
    dsimp only
    unfold out0_B_10
    rw [View.read_writes_eq_canon _ _ _ (fun _ => cover0_B_10 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) hz2, View.ld_unit_zero (S := S1x1024) hz2]

/-- The two halves a point leaves of the up-projection's product. -/
theorem u_eq (c : Dev nD) (t : Fin cfg0.N) :
    (outsAt0 m c t.val t.isLt).2.2.2.2
      = View.canon [⟨Rect.unit (s := S2x256x1408) ![1, 0, 0] S1x256x1408.size inb_S2x256x1408_S1x256x1408_1_0_0, k0_pay14 (k0_pay5 (iblk m c 0 t) (iblk m c 1 t)) (w1 (iblk m c 3 t))⟩,
        ⟨Rect.unit (s := S2x256x1408) ![0, 0, 0] S1x256x1408.size inb_S2x256x1408_S1x256x1408_0_0_0, k0_pay9 (iblk m c 0 t) (iblk m c 1 t) (w0 (iblk m c 3 t))⟩] := by
  by_cases h0 : t.val % 16 = 0
  · rw [outsAt0_A m c t h0]
    dsimp only
    unfold out0_A_11
    rw [View.read_writes_eq_canon _ _ _ (fun _ => cover0_A_11 ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) hz2, View.ld_unit_zero (S := S1x1024) hz2]
  · rw [outsAt0_B m c t h0]
    dsimp only
    unfold out0_B_11
    rw [View.read_writes_eq_canon _ _ _ (fun _ => cover0_B_11 ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) hz2, View.ld_unit_zero (S := S1x1024) hz2]

/-- The first point sets the loss to its own sum over a zero. -/
theorem loss_A (c : Dev nD) (t : Fin cfg0.N) (h0 : t.val % 16 = 0) :
    (outsAt0 m c t.val t.isLt).1 = k0_pay20 (x3 m c t) (k0_pay16 (iblk m c 5 t)) (iblk m c 6 t) (k0_pay3 (F := F)) := by
  rw [outsAt0_A m c t h0]
  dsimp only
  unfold out0_A_7
  rw [View.read_writes_eq_canon _ _ _ (fun _ => cover0_A_7 ..)]
  unfold kernelRun0_A
  dsimp only
  sl_unfold_words
  rw [View.canon_cons_unit_zero (S := S1x128) hz2, View.readCov_unit_zero (S := S1x128) _ hz2]
  simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) hz2, View.ld_unit_zero (S := S1x128) hz2, View.ld_unit_zero (S := S1x1024) hz2]
  rfl

/-- A later point adds its sum to what the point before left. -/
theorem loss_B (c : Dev nD) (t : Fin cfg0.N) (h0 : ¬t.val % 16 = 0) :
    (outsAt0 m c t.val t.isLt).1
      = k0_pay20 (x3 m c t) (k0_pay16 (iblk m c 5 t)) (iblk m c 6 t) (outsAt0 m c (t.val - 1) (Nat.lt_of_le_of_lt (Nat.sub_le _ _) t.isLt)).1 := by
  rw [outsAt0_B m c t h0]
  dsimp only
  unfold out0_B_7
  rw [View.read_writes_eq_canon _ _ _ (fun _ => cover0_B_7 ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) hz2, View.ld_unit_zero (S := S1x128) hz2, View.ld_unit_zero (S := S1x1024) hz2]
  rfl

/-- The first point sets the gain's gradient to its own sum over a zero. -/
theorem dfn_A (c : Dev nD) (t : Fin cfg0.N) (h0 : t.val % 16 = 0) :
    (outsAt0 m c t.val t.isLt).2.2.1 = k0_pay2 (k0_pay18 (x3 m c t)) (k0_pay21 (x3 m c t) (k0_pay16 (iblk m c 5 t)) (iblk m c 6 t)) (k0_pay4 (F := F)) := by
  rw [outsAt0_A m c t h0]
  dsimp only
  unfold out0_A_9
  rw [View.read_writes_eq_canon _ _ _ (fun _ => cover0_A_9 ..)]
  unfold kernelRun0_A
  dsimp only
  sl_unfold_words
  rw [View.canon_cons_unit_zero (S := S1x1024) hz2, View.readCov_unit_zero (S := S1x1024) _ hz2]
  simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) hz2, View.ld_unit_zero (S := S1x1024) hz2]
  rfl

/-- A later point adds its sum to what the point before left. -/
theorem dfn_B (c : Dev nD) (t : Fin cfg0.N) (h0 : ¬t.val % 16 = 0) :
    (outsAt0 m c t.val t.isLt).2.2.1
      = k0_pay2 (k0_pay18 (x3 m c t)) (k0_pay21 (x3 m c t) (k0_pay16 (iblk m c 5 t)) (iblk m c 6 t)) (outsAt0 m c (t.val - 1) (Nat.lt_of_le_of_lt (Nat.sub_le _ _) t.isLt)).2.2.1 := by
  rw [outsAt0_B m c t h0]
  dsimp only
  unfold out0_B_9
  rw [View.read_writes_eq_canon _ _ _ (fun _ => cover0_B_9 ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread,
      View.ld_unit_zero (S := S256x1024) hz2, View.ld_unit_zero (S := S1x1024) hz2]
  rfl

end

end Cert.KernelLossIdeal.Cases
-- ==== Proof.Loss.Real.lean ====
module

public import proofs.«01_k».proof.Proof.Ffn.Real

/-! The feed-forward network with the loss over the reals: the rows, the loss and its gradients at the last norm's argument and gain. -/

@[expose] public section

noncomputable section

namespace Cert.Loss

open Idealize.ShloMosaic Cert.Lift

/-- The arguments: those of the feed-forward network (without a cotangent), the last norm's gain, the target. -/
structure Data where
  F : Cert.Ffn.Data
  fn : Fin 1024 → ℝ
  tgt : Fin 4096 → Fin 1024 → ℝ

namespace Data
variable (X : Data)

/-- The feed-forward network's rows. -/
def x3 (T : Fin 4096) (l : Fin 1024) : ℝ := X.F.x T l + 1 / 2 * ∑ j, X.F.act T j * X.F.wd j l
/-- The last norm's rows less the target. -/
def diff (T : Fin 4096) (l : Fin 1024) : ℝ := X.x3 T l * rms (X.x3 T) * X.fn l - X.tgt T l
/-- The gradient of the last norm's rows. -/
def dy (T : Fin 4096) (l : Fin 1024) : ℝ := X.diff T l * (1 / 1024)
/-- The loss: half the rows' mean squares. -/
def loss : ℝ := 1 / 2 * ∑ T, (∑ l, X.diff T l * X.diff T l) / 1024
def dx (T : Fin 4096) (l : Fin 1024) : ℝ := rmsBwd (X.x3 T) X.fn (X.dy T) l
def dfn (l : Fin 1024) : ℝ := ∑ T, X.dy T l * (X.x3 T l * rms (X.x3 T))

end Data

theorem lit_two : Ideal.ofBits .f32 1073741824#32 = ((2 : ℝ) : EReal) := by
  simp [Ideal.ofBits, Ideal.ieee, -EReal.coe_mul]; norm_num

theorem lit_1024th : Ideal.ofBits .f32 981467136#32 = ((1 / 1024 : ℝ) : EReal) := by
  simp [Ideal.ofBits, Ideal.ieee, -EReal.coe_mul]; norm_num

end Cert.Loss

end
-- ==== Proof.Loss.Host.lean ====
module

public import proofs.«01_k».proof.Proof.Loss.Cases
public import proofs.«01_k».proof.Proof.Loss.Real
public import Idealize.ShloMosaic.Lib.StableHlo.ReadAt

/-! The arrays that the host prepares for the forward feed-forward call with the loss: the weights, in two halves of the hidden
width, and the last norm's gain as a row. -/

@[expose] public section

set_option maxRecDepth 65536
set_option maxHeartbeats 1000000

noncomputable section

namespace Cert.Loss

open Cert.KernelLossIdeal Cert.KernelLossIdeal.Gen
open Idealize.ShloMosaic Idealize.ShloMosaic.TcCoe Idealize.ShloMosaic.Tactic Idealize.SL.Sem Cert.Lift
open Cert.Ffn (col col_eq)

variable {m : (ℓ : Loc nD τ sig) → Buf (Elt Ideal) ℓ} {c : Dev nD} {X : Data}

/-- The kernel's arguments hold the data's reals. -/
structure Args (m : (ℓ : Loc nD τ sig) → Buf (Elt Ideal) ℓ) (c : Dev nD) (X : Data) : Prop where
  x : ∀ T l, (m ((c : Thread nD τ).loc main_arg0) : Vec Ideal S4096x1024 .f32) (ix2 T l) = ((X.F.x T l : ℝ) : EReal)
  g : ∀ l, (m ((c : Thread nD τ).loc main_arg1) : Vec Ideal S1x1024 .f32) (ix2 0 l) = ((X.F.g l : ℝ) : EReal)
  wg : ∀ l j, (m ((c : Thread nD τ).loc main_arg2) : Vec Ideal S1024x2816 .f32) (ix2 l j) = ((X.F.wg l j : ℝ) : EReal)
  wu : ∀ l j, (m ((c : Thread nD τ).loc main_arg3) : Vec Ideal S1024x2816 .f32) (ix2 l j) = ((X.F.wu l j : ℝ) : EReal)
  wd : ∀ j l, (m ((c : Thread nD τ).loc main_arg4) : Vec Ideal S2816x1024 .f32) (ix2 j l) = ((X.F.wd j l : ℝ) : EReal)
  fn : ∀ l, (m ((c : Thread nD τ).loc main_arg5) : Vec Ideal S1024 .f32) (ix1 l) = ((X.fn l : ℝ) : EReal)
  t : ∀ T l, (m ((c : Thread nD τ).loc main_arg6) : Vec Ideal S4096x1024 .f32) (ix2 T l) = ((X.tgt T l : ℝ) : EReal)

variable (A : Args m c X)
include A

theorem wg_at (s : Fin 2) (j : Fin 1408) (l : Fin 1024) : (V m c main_v2 : Vec Ideal S2x1408x1024 .bf16) (ix3 s j l) = ((X.F.wg l (col s j) : ℝ) : EReal) := by
  unfold V
  repeat after_reads_at
  rw [col_eq (s := s) (j := j) _ rfl]
  exact A.wg _ _

theorem wu_at (s : Fin 2) (j : Fin 1408) (l : Fin 1024) : (V m c main_v5 : Vec Ideal S2x1408x1024 .bf16) (ix3 s j l) = ((X.F.wu l (col s j) : ℝ) : EReal) := by
  unfold V
  repeat after_reads_at
  rw [col_eq (s := s) (j := j) _ rfl]
  exact A.wu _ _

theorem wd_at (s : Fin 2) (j : Fin 1408) (l : Fin 1024) : (V m c main_v7 : Vec Ideal S2x1408x1024 .bf16) (ix3 s j l) = ((X.F.wd (col s j) l : ℝ) : EReal) := by
  unfold V
  repeat after_reads_at
  rw [col_eq (s := s) (j := j) _ rfl]
  exact A.wd _ _

theorem fng_at (l : Fin 1024) : (V m c main_v8 : Vec Ideal S1x1024 .f32) (ix2 0 l) = ((X.fn l : ℝ) : EReal) := by
  unfold V
  repeat after_reads_at
  exact A.fn _

end Cert.Loss
-- ==== Proof.Loss.Blocks.lean ====
module

public import proofs.«01_k».proof.Proof.Loss.Host

/-! The input blocks of a grid point of the forward feed-forward call with the loss, and the values that its payloads compute from
them, over the reals. -/

@[expose] public section

set_option maxRecDepth 65536
set_option maxHeartbeats 1000000

noncomputable section

namespace Cert.Loss

open Cert.KernelLossIdeal Cert.KernelLossIdeal.Gen Cert.KernelLossIdeal.Cases
open Idealize.ShloMosaic Idealize.ShloMosaic.TcCoe Idealize.ShloMosaic.Tactic Idealize.SL.Sem Cert.Lift
open Cert.Ret (logis)
open Cert.Ffn (col col_eq sum_halves lit_half)

variable {m : (ℓ : Loc nD τ sig) → Buf (Elt Ideal) ℓ} {c : Dev nD} {X : Data}

/-- Row `r` of block `t`. -/
abbrev row (t : Fin cfg0.N) (r : Fin 256) : Fin 4096 := ⟨256 * t.val + r.val, by have := t.isLt; have : cfg0.N = 16 := N_0; omega⟩

/-- Where the windows' blocks lie. -/
theorem idx_rows : ∀ t : Fin cfg0.N, (win0_0.index t 0 = t.val ∧ win0_0.index t 1 = 0) ∧ (win0_6.index t 0 = t.val ∧ win0_6.index t 1 = 0)
    ∧ (win0_8.index t 0 = t.val ∧ win0_8.index t 1 = 0) := (by decide +kernel : ∀ t : Fin grid0.N, _)
theorem idx_vec : ∀ t : Fin cfg0.N, (win0_1.index t 0 = 0 ∧ win0_1.index t 1 = 0) ∧ (win0_5.index t 0 = 0 ∧ win0_5.index t 1 = 0)
    ∧ (win0_9.index t 0 = 0 ∧ win0_9.index t 1 = 0) ∧ (win0_7.index t 0 = 0 ∧ win0_7.index t 1 = 0) :=
  (by decide +kernel : ∀ t : Fin grid0.N, _)
theorem idx_half : ∀ t : Fin cfg0.N, (win0_10.index t 0 = 0 ∧ win0_10.index t 1 = t.val ∧ win0_10.index t 2 = 0)
    ∧ (win0_11.index t 0 = 0 ∧ win0_11.index t 1 = t.val ∧ win0_11.index t 2 = 0) := (by decide +kernel : ∀ t : Fin grid0.N, _)
theorem idx_w : ∀ t : Fin cfg0.N, (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0) := (by decide +kernel : ∀ t : Fin grid0.N, _)

/-- An index of a row block is the array's index `256 t + r`; of a block of halves, and of the whole weights, likewise. -/
theorem idx_rowBlock (t : Fin cfg0.N) (r : Fin 256) (l : Fin 1024) (i : S4096x1024.Idx) (p q : Nat) (hp : p = t.val ∧ q = 0)
    (h0 : (i 0).val = p * 256 + 1 * r.val) (h1 : (i 1).val = q * 1024 + 1 * l.val) : i = ix2 (row t r) l := by
  obtain ⟨rfl, rfl⟩ := hp
  funext a; apply Fin.ext
  match a with
  | ⟨0, _⟩ => show (i 0).val = 256 * t.val + r.val; omega
  | ⟨1, _⟩ => show (i 1).val = l.val; omega

theorem idx_halfBlock (t : Fin cfg0.N) (s : Fin 2) (r : Fin 256) (j : Fin 1408) (i : S2x4096x1408.Idx) (o p q : Nat)
    (hp : o = 0 ∧ p = t.val ∧ q = 0) (h0 : (i 0).val = o * 2 + 1 * s.val) (h1 : (i 1).val = p * 256 + 1 * r.val)
    (h2 : (i 2).val = q * 1408 + 1 * j.val) : i = ix3 s (row t r) j := by
  obtain ⟨rfl, rfl, rfl⟩ := hp
  funext a; apply Fin.ext
  match a with
  | ⟨0, _⟩ => show (i 0).val = s.val; omega
  | ⟨1, _⟩ => show (i 1).val = 256 * t.val + r.val; omega
  | ⟨2, _⟩ => show (i 2).val = j.val; omega

theorem idx_wBlock (s : Fin 2) (j : Fin 1408) (l : Fin 1024) (i : S2x1408x1024.Idx) (o p q : Nat)
    (hp : o = 0 ∧ p = 0 ∧ q = 0) (h0 : (i 0).val = o * 2 + 1 * s.val) (h1 : (i 1).val = p * 1408 + 1 * j.val)
    (h2 : (i 2).val = q * 1024 + 1 * l.val) : i = ix3 s j l := by
  obtain ⟨rfl, rfl, rfl⟩ := hp
  funext a; apply Fin.ext
  match a with
  | ⟨0, _⟩ => show (i 0).val = s.val; omega
  | ⟨1, _⟩ => show (i 1).val = j.val; omega
  | ⟨2, _⟩ => show (i 2).val = l.val; omega

/-! The halves of a block of weights, at an index. -/
theorem w0_at (x : Vec Ideal S2x1408x1024 .bf16) (j : Fin 1408) (l : Fin 1024) : w0 x (ix3 0 j l) = x (ix3 0 j l) :=
  congrArg x (funext fun a => Fin.ext (by fin_cases a <;> simp [Rect.toLoadRect, LoadRect.idx, Rect.unit, ix3]))
theorem w1_at (x : Vec Ideal S2x1408x1024 .bf16) (j : Fin 1408) (l : Fin 1024) : w1 x (ix3 0 j l) = x (ix3 1 j l) :=
  congrArg x (funext fun a => Fin.ext (by fin_cases a <;> simp [Rect.toLoadRect, LoadRect.idx, Rect.unit, ix3]))

variable (A : Args m c X) (t : Fin cfg0.N)
include A

theorem blk_x (r : Fin 256) (l : Fin 1024) : (iblk m c 0 t : Vec Ideal S256x1024 .f32) (ix2 r l) = ((X.F.x (row t r) l : ℝ) : EReal) := by
  unfold iblk
  rw [View.read_apply]
  show (V m c main_arg0 : Vec Ideal S4096x1024 .f32) _ = _
  rw [V_main_arg0]
  exact (congrArg (m ((c : Thread nD τ).loc main_arg0) : Vec Ideal S4096x1024 .f32) (idx_rowBlock t r l _ _ _ (idx_rows t).1 (by rfl) (by rfl))).trans (A.x _ _)

theorem blk_t (r : Fin 256) (l : Fin 1024) : (iblk m c 6 t : Vec Ideal S256x1024 .f32) (ix2 r l) = ((X.tgt (row t r) l : ℝ) : EReal) := by
  unfold iblk
  rw [View.read_apply]
  show (V m c main_arg6 : Vec Ideal S4096x1024 .f32) _ = _
  rw [V_main_arg6]
  exact (congrArg (m ((c : Thread nD τ).loc main_arg6) : Vec Ideal S4096x1024 .f32) (idx_rowBlock t r l _ _ _ (idx_rows t).2.1 (by rfl) (by rfl))).trans (A.t _ _)

theorem blk_g (l : Fin 1024) : (iblk m c 1 t : Vec Ideal S1x1024 .f32) (ix2 0 l) = ((X.F.g l : ℝ) : EReal) := by
  unfold iblk
  rw [View.read_apply]
  show (V m c main_arg1 : Vec Ideal S1x1024 .f32) _ = _
  rw [V_main_arg1, ← A.g l]
  refine congrArg (m ((c : Thread nD τ).loc main_arg1) : Vec Ideal S1x1024 .f32) (funext fun a => Fin.ext ?_)
  obtain ⟨e0, e1⟩ := (idx_vec t).1
  match a with
  | ⟨0, _⟩ => show win0_1.index t 0 * 1 + 1 * 0 = 0; omega
  | ⟨1, _⟩ => show win0_1.index t 1 * 1024 + 1 * l.val = l.val; omega

theorem blk_fn (l : Fin 1024) : (iblk m c 5 t : Vec Ideal S1x1024 .f32) (ix2 0 l) = ((X.fn l : ℝ) : EReal) := by
  unfold iblk
  rw [View.read_apply, ← fng_at A l]
  refine congrArg (V m c main_v8 : Vec Ideal S1x1024 .f32) (funext fun a => Fin.ext ?_)
  obtain ⟨e0, e1⟩ := (idx_vec t).2.1
  match a with
  | ⟨0, _⟩ => show win0_5.index t 0 * 1 + 1 * 0 = 0; omega
  | ⟨1, _⟩ => show win0_5.index t 1 * 1024 + 1 * l.val = l.val; omega

theorem blk_wg (s : Fin 2) (j : Fin 1408) (l : Fin 1024) : (iblk m c 2 t : Vec Ideal S2x1408x1024 .bf16) (ix3 s j l) = ((X.F.wg l (col s j) : ℝ) : EReal) := by
  unfold iblk
  rw [View.read_apply]
  exact (congrArg (V m c main_v2 : Vec Ideal S2x1408x1024 .bf16) (idx_wBlock s j l _ _ _ _ (idx_w t).1 (by rfl) (by rfl) (by rfl))).trans (wg_at A _ _ _)

theorem blk_wu (s : Fin 2) (j : Fin 1408) (l : Fin 1024) : (iblk m c 3 t : Vec Ideal S2x1408x1024 .bf16) (ix3 s j l) = ((X.F.wu l (col s j) : ℝ) : EReal) := by
  unfold iblk
  rw [View.read_apply]
  exact (congrArg (V m c main_v5 : Vec Ideal S2x1408x1024 .bf16) (idx_wBlock s j l _ _ _ _ (idx_w t).2.1 (by rfl) (by rfl) (by rfl))).trans (wu_at A _ _ _)

theorem blk_wd (s : Fin 2) (j : Fin 1408) (l : Fin 1024) : (iblk m c 4 t : Vec Ideal S2x1408x1024 .bf16) (ix3 s j l) = ((X.F.wd (col s j) l : ℝ) : EReal) := by
  unfold iblk
  rw [View.read_apply]
  exact (congrArg (V m c main_v7 : Vec Ideal S2x1408x1024 .bf16) (idx_wBlock s j l _ _ _ _ (idx_w t).2.2 (by rfl) (by rfl) (by rfl))).trans (wd_at A _ _ _)

/-! ## The feed-forward network's rows -/

theorem h_at (r : Fin 256) (l : Fin 1024) : k0_pay5 (F := Ideal) (iblk m c 0 t) (iblk m c 1 t) (ix2 r l) = ((X.F.h (row t r) l : ℝ) : EReal) := by
  have ex := blk_x A t r
  have eg := blk_g A t l
  pointwise [k0_pay5]
  simp only [ex, eg]
  rw [meanSq_coe, rms_coe]
  simp only [← EReal.coe_mul]
  rfl

theorem G0_at (r : Fin 256) (j : Fin 1408) :
    k0_pay6 (F := Ideal) (iblk m c 0 t) (iblk m c 1 t) (w0 (iblk m c 2 t)) (ix2 r j) = ((X.F.G (row t r) (col 0 j) : ℝ) : EReal) := by
  have e := h_at A t r
  have w : ∀ l, w0 (iblk m c 2 t) (ix3 0 j l) = ((X.F.wg l (col 0 j) : ℝ) : EReal) := fun l => (w0_at _ j l).trans (blk_wg A t 0 j l)
  pointwise [k0_pay6]
  simp only [e, w, ← EReal.coe_mul, ← coe_sum]
  rfl

theorem U0_at (r : Fin 256) (j : Fin 1408) :
    k0_pay7 (F := Ideal) (iblk m c 0 t) (iblk m c 1 t) (w0 (iblk m c 3 t)) (ix2 r j) = ((X.F.U (row t r) (col 0 j) : ℝ) : EReal) := by
  have e := h_at A t r
  have w : ∀ l, w0 (iblk m c 3 t) (ix3 0 j l) = ((X.F.wu l (col 0 j) : ℝ) : EReal) := fun l => (w0_at _ j l).trans (blk_wu A t 0 j l)
  pointwise [k0_pay7]
  simp only [e, w, ← EReal.coe_mul, ← coe_sum]
  rfl

theorem G1_at (r : Fin 256) (j : Fin 1408) :
    k0_pay11 (F := Ideal) (k0_pay5 (iblk m c 0 t) (iblk m c 1 t)) (w1 (iblk m c 2 t)) (ix2 r j) = ((X.F.G (row t r) (col 1 j) : ℝ) : EReal) := by
  have e := h_at A t r
  have w : ∀ l, w1 (iblk m c 2 t) (ix3 0 j l) = ((X.F.wg l (col 1 j) : ℝ) : EReal) := fun l => (w1_at _ j l).trans (blk_wg A t 1 j l)
  pointwise [k0_pay11]
  simp only [e, w, ← EReal.coe_mul, ← coe_sum]
  rfl

theorem U1_at (r : Fin 256) (j : Fin 1408) :
    k0_pay12 (F := Ideal) (k0_pay5 (iblk m c 0 t) (iblk m c 1 t)) (w1 (iblk m c 3 t)) (ix2 r j) = ((X.F.U (row t r) (col 1 j) : ℝ) : EReal) := by
  have e := h_at A t r
  have w : ∀ l, w1 (iblk m c 3 t) (ix3 0 j l) = ((X.F.wu l (col 1 j) : ℝ) : EReal) := fun l => (w1_at _ j l).trans (blk_wu A t 1 j l)
  pointwise [k0_pay12]
  simp only [e, w, ← EReal.coe_mul, ← coe_sum]
  rfl

theorem sg0_at (r : Fin 256) (j : Fin 1408) :
    k0_pay10 (F := Ideal) (iblk m c 0 t) (iblk m c 1 t) (w0 (iblk m c 2 t)) (ix2 r j) = ((logis (X.F.G (row t r) (col 0 j)) : ℝ) : EReal) := by
  have g := G0_at A t r j
  pointwise [k0_pay10]
  rw [g, Ideal.logistic_coe]
  rfl

theorem x3_at (r : Fin 256) (l : Fin 1024) : x3 m c t (ix2 r l) = ((X.x3 (row t r) l : ℝ) : EReal) := by
  have ex := blk_x A t r l
  have g0 := G0_at A t r
  have g1 := G1_at A t r
  have u0 := U0_at A t r
  have u1 := U1_at A t r
  have s0 := sg0_at A t r
  have d0 : ∀ j, w0 (iblk m c 4 t) (ix3 0 j l) = ((X.F.wd (col 0 j) l : ℝ) : EReal) := fun j => (w0_at _ j l).trans (blk_wd A t 0 j l)
  have d1 : ∀ j, w1 (iblk m c 4 t) (ix3 0 j l) = ((X.F.wd (col 1 j) l : ℝ) : EReal) := fun j => (w1_at _ j l).trans (blk_wd A t 1 j l)
  unfold x3
  pointwise [k0_pay15]
  simp only [ex, g0, g1, u0, u1, s0, d0, d1, Ideal.logistic_coe, lit_half, ← EReal.coe_mul, ← coe_sum, ← EReal.coe_add]
  refine congrArg _ ?_
  unfold Data.x3
  rw [sum_halves]
  simp only [mul_add, ← add_assoc]
  rfl

/-! ## The last norm and the loss -/

theorem rms_at (r : Fin 256) : k0_pay17 (F := Ideal) (x3 m c t) (ix2 r 0) = ((rms (X.x3 (row t r)) : ℝ) : EReal) := by
  have e := x3_at A t r
  pointwise [k0_pay17]
  simp only [e]
  rw [meanSq_coe, rms_coe]

theorem diff_at (r : Fin 256) (l : Fin 1024) :
    k0_pay19 (F := Ideal) (x3 m c t) (k0_pay16 (iblk m c 5 t)) (iblk m c 6 t) (ix2 r l) = ((X.diff (row t r) l : ℝ) : EReal) := by
  have e := x3_at A t r l
  have er := rms_at A t r
  have ef := blk_fn A t l
  have et := blk_t A t r l
  pointwise [k0_pay19, k0_pay18, k0_pay16]
  simp only [e, er, ef, et, ← EReal.coe_mul, ← EReal.coe_sub]
  rfl

theorem dy_at (r : Fin 256) (l : Fin 1024) :
    k0_pay21 (F := Ideal) (x3 m c t) (k0_pay16 (iblk m c 5 t)) (iblk m c 6 t) (ix2 r l) = ((X.dy (row t r) l : ℝ) : EReal) := by
  have e := diff_at A t r l
  pointwise [k0_pay21]
  rw [e, lit_1024th, ← EReal.coe_mul]
  rfl

/-! ## What a point leaves in its output buffers -/

theorem dx_block (r : Fin 256) (l : Fin 1024) : (outsAt0 m c t.val t.isLt).2.1 (ix2 r l) = ((X.dx (row t r) l : ℝ) : EReal) := by
  rw [dx_eq]
  have e := x3_at A t r
  have er := rms_at A t r
  have ef := blk_fn A t
  have ey := dy_at A t r
  pointwise [k0_pay1, k0_pay18, k0_pay22, k0_pay23]
  simp only [e, er, ef, ey]
  exact rmsBwd_coe (X.x3 (row t r)) X.fn (X.dy (row t r)) l

omit A in
/-- Two halves written one after the other, read at an index. -/
theorem canon_halves (p q : FVec Ideal S1x256x1408 .bf16) (s : Fin 2) (r : Fin 256) (j : Fin 1408) :
    View.canon (Val := Elt Ideal) (e := .bf16) [⟨Rect.unit (s := S2x256x1408) ![1, 0, 0] S1x256x1408.size inb_S2x256x1408_S1x256x1408_1_0_0, p⟩,
      ⟨Rect.unit (s := S2x256x1408) ![0, 0, 0] S1x256x1408.size inb_S2x256x1408_S1x256x1408_0_0_0, q⟩] (ix3 s r j)
      = if s.val = 1 then p (ix3 0 r j) else q (ix3 0 r j) := by
  have e0 : (ix3 0 r j : S2x256x1408.Idx) = (Rect.unit (s := S2x256x1408) ![0, 0, 0] S1x256x1408.size inb_S2x256x1408_S1x256x1408_0_0_0).emb (ix3 (0 : Fin 1) r j) :=
    funext fun a => Fin.ext (by fin_cases a <;> simp [Rect.emb, Rect.unit, ix3])
  have e1 : (ix3 1 r j : S2x256x1408.Idx) = (Rect.unit (s := S2x256x1408) ![1, 0, 0] S1x256x1408.size inb_S2x256x1408_S1x256x1408_1_0_0).emb (ix3 (0 : Fin 1) r j) :=
    funext fun a => Fin.ext (by fin_cases a <;> simp [Rect.emb, Rect.unit, ix3])
  match s with
  | 0 =>
    rw [View.canon_cons_of_not_mem]
    · rw [e0, View.canon_cons_emb]; rfl
    · rw [Rect.mem_set_unit]
      intro hh
      exact absurd (show (1 : ℕ) ≤ 0 from (hh 0).1) (by decide)
  | 1 => rw [e1, View.canon_cons_emb]; rfl

theorem g_block (s : Fin 2) (r : Fin 256) (j : Fin 1408) : (outsAt0 m c t.val t.isLt).2.2.2.1 (ix3 s r j) = ((X.F.G (row t r) (col s j) : ℝ) : EReal) := by
  rw [g_eq, canon_halves]
  match s with
  | 0 =>
    rw [if_neg (by decide)]
    refine Eq.trans ?_ (G0_at A t r j)
    pointwise [k0_pay8]
  | 1 =>
    rw [if_pos (by decide)]
    refine Eq.trans ?_ (G1_at A t r j)
    pointwise [k0_pay13]

theorem u_block (s : Fin 2) (r : Fin 256) (j : Fin 1408) : (outsAt0 m c t.val t.isLt).2.2.2.2 (ix3 s r j) = ((X.F.U (row t r) (col s j) : ℝ) : EReal) := by
  rw [u_eq, canon_halves]
  match s with
  | 0 =>
    rw [if_neg (by decide)]
    refine Eq.trans ?_ (U0_at A t r j)
    pointwise [k0_pay9]
  | 1 =>
    rw [if_pos (by decide)]
    refine Eq.trans ?_ (U1_at A t r j)
    pointwise [k0_pay14]

/-- What one point adds to the loss, in every lane. -/
theorem loss_point (acc : Vec Ideal S1x128 .f32) (l : Fin 128) :
    k0_pay20 (x3 m c t) (k0_pay16 (iblk m c 5 t)) (iblk m c 6 t) acc (ix2 0 l)
      = acc (ix2 0 l) + ((∑ r : Fin 256, 1 / 2 * ((∑ k, X.diff (row t r) k * X.diff (row t r) k) / 1024) : ℝ) : EReal) := by
  have e := diff_at A t
  pointwise [k0_pay20]
  simp only [e, width, lit_half, ← EReal.coe_mul, ← coe_sum]
  rw [div_real _ (by norm_num)]
  refine congrArg _ (congrArg _ ?_)
  rw [Finset.sum_comm, ← Finset.mul_sum, ← Finset.sum_div, mul_div_assoc]

/-- What one point adds to the last gain's gradient. -/
theorem dfn_point (acc : Vec Ideal S1x1024 .f32) (l : Fin 1024) :
    k0_pay2 (k0_pay18 (x3 m c t)) (k0_pay21 (x3 m c t) (k0_pay16 (iblk m c 5 t)) (iblk m c 6 t)) acc (ix2 0 l)
      = acc (ix2 0 l) + ((∑ r : Fin 256, X.dy (row t r) l * (X.x3 (row t r) l * rms (X.x3 (row t r))) : ℝ) : EReal) := by
  have e := fun r => x3_at A t r l
  have er := rms_at A t
  have ey := fun r => dy_at A t r l
  pointwise [k0_pay2, k0_pay18]
  simp only [e, er, ey, ← EReal.coe_mul, ← coe_sum]

end Cert.Loss
-- ==== Proof.Loss.Arrays.lean ====
module

public import proofs.«01_k».proof.Proof.Loss.Blocks
public import proofs.«01_k».proof.Proof.Ffn.Arrays

/-! What the five result arrays of the forward feed-forward call with the loss hold after the run, at an index. -/

@[expose] public section

set_option maxRecDepth 16384

noncomputable section

namespace Cert.Loss

open Cert.KernelLossIdeal Cert.KernelLossIdeal.Gen Cert.KernelLossIdeal.Cases
open Idealize.ShloMosaic Idealize.ShloMosaic.TcCoe Idealize.ShloMosaic.Tactic Cert.Lift Idealize.SL.Sem
open Idealize.ShloMosaic.Pipeline (Dat)
open Cert.Ffn (col sum_blocks)

/-- Every row lies in a block. -/
theorem row_cases (R : Fin 4096) : ∃ (t : Fin cfg0.N) (r : Fin 256), R = row t r :=
  have hN : cfg0.N = 16 := N_0
  ⟨⟨R.val / 256, by omega⟩, ⟨R.val % 256, by omega⟩, Fin.ext (by show R.val = 256 * (R.val / 256) + R.val % 256; omega)⟩

variable {m : (ℓ : Loc nD τ sig) → Buf (Elt Ideal) ℓ} {c : Dev nD} {X : Data} (A : Args m c X)
include A

theorem final_dx (R : Fin 4096) (l : Fin 1024) : ((dats m 0 c).arrAt 8 cfg0.N : Vec Ideal S4096x1024 .f32) (ix2 R l) = ((X.dx R l : ℝ) : EReal) := by
  obtain ⟨t, r, rfl⟩ := row_cases R
  have h := congrFun (Value.blocks8 m c t (flush0_8 t)) (ix2 r l)
  rw [View.read_apply, Value.flushed8] at h
  exact ((congrArg ((dats m 0 c).arrAt 8 cfg0.N : Vec Ideal S4096x1024 .f32)
    (idx_rowBlock t r l _ _ _ (idx_rows t).2.2 (by rfl) (by rfl))).symm.trans h).trans (dx_block A t r l)

theorem final_g (s : Fin 2) (R : Fin 4096) (j : Fin 1408) : ((dats m 0 c).arrAt 10 cfg0.N : Vec Ideal S2x4096x1408 .bf16) (ix3 s R j) = ((X.F.G R (col s j) : ℝ) : EReal) := by
  obtain ⟨t, r, rfl⟩ := row_cases R
  have h := congrFun (Value.blocks10 m c t (flush0_10 t)) (ix3 s r j)
  rw [View.read_apply, Value.flushed10] at h
  exact ((congrArg ((dats m 0 c).arrAt 10 cfg0.N : Vec Ideal S2x4096x1408 .bf16)
    (idx_halfBlock t s r j _ _ _ _ (idx_half t).1 (by rfl) (by rfl) (by rfl))).symm.trans h).trans (g_block A t s r j)

theorem final_u (s : Fin 2) (R : Fin 4096) (j : Fin 1408) : ((dats m 0 c).arrAt 11 cfg0.N : Vec Ideal S2x4096x1408 .bf16) (ix3 s R j) = ((X.F.U R (col s j) : ℝ) : EReal) := by
  obtain ⟨t, r, rfl⟩ := row_cases R
  have h := congrFun (Value.blocks11 m c t (flush0_11 t)) (ix3 s r j)
  rw [View.read_apply, Value.flushed11] at h
  exact ((congrArg ((dats m 0 c).arrAt 11 cfg0.N : Vec Ideal S2x4096x1408 .bf16)
    (idx_halfBlock t s r j _ _ _ _ (idx_half t).2 (by rfl) (by rfl) (by rfl))).symm.trans h).trans (u_block A t s r j)

omit A in
/-- The last point. -/
abbrev tL : Fin cfg0.N := ⟨15, by rw [show cfg0.N = 16 from N_0]; decide⟩

/-- After point `n` the accumulator holds the sum over the points up to `n`. -/
theorem loss_upto (l : Fin 128) : ∀ (n : ℕ) (h : n < cfg0.N), (outsAt0 m c n h).1 (ix2 0 l)
      = ((∑ s : Fin (n + 1), ∑ r : Fin 256, 1 / 2 * ((∑ k, X.diff (row ⟨s.val, by omega⟩ r) k * X.diff (row ⟨s.val, by omega⟩ r) k) / 1024) : ℝ) : EReal)
  | 0, h => by
    rw [loss_A m c ⟨0, h⟩ rfl, loss_point A, Fin.sum_univ_one]
    pointwise [k0_pay3]
  | n + 1, h => by
    have hN : cfg0.N = 16 := N_0
    have hB : ¬(⟨n + 1, h⟩ : Fin cfg0.N).val % 16 = 0 := by dsimp only; omega
    have i := loss_upto l n (Nat.lt_of_succ_lt h)
    rw [loss_B m c ⟨n + 1, h⟩ hB, loss_point A]
    refine Eq.trans ?_ (congrArg _ (Fin.sum_univ_castSucc _).symm)
    rw [EReal.coe_add]
    exact congrArg₂ (· + ·) i rfl

omit A in
theorem flush_last7 (t : Fin cfg0.N) (hf : (cfg0.win 7).flush t = true) : t = tL := by
  have := (flush0_7 t).mp hf; have := t.isLt; have hN : cfg0.N = 16 := N_0
  exact Fin.ext (by show t.val = 15; omega)

theorem final_loss (l : Fin 128) : ((dats m 0 c).arrAt 7 cfg0.N : Vec Ideal S1x128 .f32) (ix2 0 l) = ((X.loss : ℝ) : EReal) := by
  have hf : (cfg0.win 7).flush tL = true := (flush0_7 tL).mpr rfl
  have hd : ∀ t t' : Fin cfg0.N, (cfg0.win 7).flush t = true → (cfg0.win 7).flush t' = true → t ≠ t' →
      Disjoint ((cfg0.win 7).blk t).view.set ((cfg0.win 7).blk t').view.set :=
    fun t t' h h' hne => absurd ((flush_last7 t h).trans (flush_last7 t' h').symm) hne
  have h := congrFun ((dats m 0 c).read_blk_arrAt_eq_flushed 7 hd cfg0.N tL tL.isLt hf) (ix2 0 l)
  rw [View.read_apply, Value.flushed7] at h
  have hi : ((cfg0.win 7).blk tL).view.emb (ix2 0 l) = (ix2 0 l : S1x128.Idx) := by
    obtain ⟨e0, e1⟩ := (idx_vec tL).2.2.2
    funext a; apply Fin.ext
    match a with
    | ⟨0, _⟩ => show win0_7.index tL 0 * 1 + 1 * 0 = 0; omega
    | ⟨1, _⟩ => show win0_7.index tL 1 * 128 + 1 * l.val = l.val; omega
  refine ((congrArg ((dats m 0 c).arrAt 7 cfg0.N : Vec Ideal S1x128 .f32) hi).symm.trans h).trans ?_
  refine (loss_upto A l 15 tL.isLt).trans (congrArg _ ?_)
  unfold Data.loss
  rw [Finset.mul_sum, sum_blocks]

/-- After point `n` the accumulator holds the sum over the points up to `n`. -/
theorem dfn_upto (l : Fin 1024) : ∀ (n : ℕ) (h : n < cfg0.N), (outsAt0 m c n h).2.2.1 (ix2 0 l)
      = ((∑ s : Fin (n + 1), ∑ r : Fin 256, X.dy (row ⟨s.val, by omega⟩ r) l * (X.x3 (row ⟨s.val, by omega⟩ r) l * rms (X.x3 (row ⟨s.val, by omega⟩ r))) : ℝ) : EReal)
  | 0, h => by
    rw [dfn_A m c ⟨0, h⟩ rfl, dfn_point A, Fin.sum_univ_one]
    pointwise [k0_pay4]
  | n + 1, h => by
    have hN : cfg0.N = 16 := N_0
    have hB : ¬(⟨n + 1, h⟩ : Fin cfg0.N).val % 16 = 0 := by dsimp only; omega
    have i := dfn_upto l n (Nat.lt_of_succ_lt h)
    rw [dfn_B m c ⟨n + 1, h⟩ hB, dfn_point A]
    refine Eq.trans ?_ (congrArg _ (Fin.sum_univ_castSucc _).symm)
    rw [EReal.coe_add]
    exact congrArg₂ (· + ·) i rfl

omit A in
theorem flush_last9 (t : Fin cfg0.N) (hf : (cfg0.win 9).flush t = true) : t = tL := by
  have := (flush0_9 t).mp hf; have := t.isLt; have hN : cfg0.N = 16 := N_0
  exact Fin.ext (by show t.val = 15; omega)

theorem final_dfn (l : Fin 1024) : ((dats m 0 c).arrAt 9 cfg0.N : Vec Ideal S1x1024 .f32) (ix2 0 l) = ((X.dfn l : ℝ) : EReal) := by
  have hf : (cfg0.win 9).flush tL = true := (flush0_9 tL).mpr rfl
  have hd : ∀ t t' : Fin cfg0.N, (cfg0.win 9).flush t = true → (cfg0.win 9).flush t' = true → t ≠ t' →
      Disjoint ((cfg0.win 9).blk t).view.set ((cfg0.win 9).blk t').view.set :=
    fun t t' h h' hne => absurd ((flush_last9 t h).trans (flush_last9 t' h').symm) hne
  have h := congrFun ((dats m 0 c).read_blk_arrAt_eq_flushed 9 hd cfg0.N tL tL.isLt hf) (ix2 0 l)
  rw [View.read_apply, Value.flushed9] at h
  have hi : ((cfg0.win 9).blk tL).view.emb (ix2 0 l) = (ix2 0 l : S1x1024.Idx) := by
    obtain ⟨e0, e1⟩ := (idx_vec tL).2.2.1
    funext a; apply Fin.ext
    match a with
    | ⟨0, _⟩ => show win0_9.index tL 0 * 1 + 1 * 0 = 0; omega
    | ⟨1, _⟩ => show win0_9.index tL 1 * 1024 + 1 * l.val = l.val; omega
  refine ((congrArg ((dats m 0 c).arrAt 9 cfg0.N : Vec Ideal S1x1024 .f32) hi).symm.trans h).trans ?_
  refine (dfn_upto A l 15 tL.isLt).trans (congrArg _ ?_)
  unfold Data.dfn
  rw [sum_blocks]

end Cert.Loss

end
-- ==== Proof.Loss.Ref.lean ====
module

public import proofs.«01_k».proof.Proof.Loss.Real
public import proofs.«01_k».proof.Proof.Ret.RefA
public import proofs.«01_k».proof.Proof.Ret.HostB
public import proofs.«01_k».proof.Proof.Gen.ReferenceLossIdeal
public import proofs.«01_k».proof.Proof.Gen.ReferenceLossIdeal.Read

/-! What the reference of the feed-forward network with the loss computes, of real arguments. -/

@[expose] public section

set_option maxRecDepth 16384

noncomputable section

namespace Cert.Loss

open Cert.ReferenceLossIdeal Cert.ReferenceLossIdeal.Gen Cert.ReferenceLossIdeal.Read
open Idealize.ShloMosaic Idealize.ShloMosaic.TcCoe Idealize.ShloMosaic.Tactic Cert.Lift
open Cert.Ret (logis logis_coe)
open Cert.Ffn (col col_eq lit_half)

/-- The arguments hold the data's reals. -/
structure Vals (x0 : Vec Ideal S4096x1024 .f32) (x1 : Vec Ideal S1x1024 .f32) (x2 x3 : Vec Ideal S1024x2816 .f32)
    (x4 : Vec Ideal S2816x1024 .f32) (x5 : Vec Ideal S1024 .f32) (x6 : Vec Ideal S4096x1024 .f32) (X : Data) : Prop where
  x : ∀ T l, x0 (ix2 T l) = ((X.F.x T l : ℝ) : EReal)
  g : ∀ l, x1 (ix2 0 l) = ((X.F.g l : ℝ) : EReal)
  wg : ∀ l j, x2 (ix2 l j) = ((X.F.wg l j : ℝ) : EReal)
  wu : ∀ l j, x3 (ix2 l j) = ((X.F.wu l j : ℝ) : EReal)
  wd : ∀ j l, x4 (ix2 j l) = ((X.F.wd j l : ℝ) : EReal)
  fn : ∀ l, x5 (ix1 l) = ((X.fn l : ℝ) : EReal)
  t : ∀ T l, x6 (ix2 T l) = ((X.tgt T l : ℝ) : EReal)

variable {x0 : Vec Ideal S4096x1024 .f32} {x1 : Vec Ideal S1x1024 .f32} {x2 x3 : Vec Ideal S1024x2816 .f32}
  {x4 : Vec Ideal S2816x1024 .f32} {x5 : Vec Ideal S1024 .f32} {x6 : Vec Ideal S4096x1024 .f32} {X : Data} (B : Vals x0 x1 x2 x3 x4 x5 x6 X)
include B

theorem ref_ms0 (T : Fin 4096) : val_main_v6 (F := Ideal) x0 (ix2 T 0) = ((meanSq (X.F.x T) : ℝ) : EReal) := by
  pointwise [val_main_v6, val_main_v5, val_main_v4, val_main_v3, val_main_v2, val_main_v1, val_main_v0, val_main_cst, val_main_cst_0, val_main_cst_1]
  simp only [B.x]
  exact meanSq_coe _

theorem ref_h (T : Fin 4096) (l : Fin 1024) : val_main_v11 (F := Ideal) x0 x1 (ix2 T l) = ((X.F.h T l : ℝ) : EReal) := by
  pointwise [val_main_v11, val_main_v10, val_main_v9, val_main_v8, val_main_v7]
  rw [ref_ms0 B, rms_coe, B.g, B.x, ← EReal.coe_mul, ← EReal.coe_mul]
  rfl

theorem ref_G (T : Fin 4096) (j : Fin 2816) : val_main_v12 (F := Ideal) x0 x1 x2 (ix2 T j) = ((X.F.G T j : ℝ) : EReal) := by
  pointwise [val_main_v12]
  simp only [ref_h B, B.wg, ← EReal.coe_mul, ← coe_sum]
  rfl

theorem ref_U (T : Fin 4096) (j : Fin 2816) : val_main_v13 (F := Ideal) x0 x1 x3 (ix2 T j) = ((X.F.U T j : ℝ) : EReal) := by
  pointwise [val_main_v13]
  simp only [ref_h B, B.wu, ← EReal.coe_mul, ← coe_sum]
  rfl

theorem ref_sg (T : Fin 4096) (j : Fin 2816) : val_main_call0_v5 (F := Ideal) x0 x1 x2 (ix2 T j) = ((logis (X.F.G T j) : ℝ) : EReal) := by
  pointwise [val_main_call0_v5, val_main_call0_v4, val_main_call0_v3, val_main_call0_v2, val_main_call0_v1, val_main_call0_v0, val_main_call0_cst, val_main_call0_cst_0]
  rw [ref_G B]
  exact logis_coe _

theorem ref_act (T : Fin 4096) (j : Fin 2816) : val_main_v15 (F := Ideal) x0 x1 x2 x3 (ix2 T j) = ((X.F.act T j : ℝ) : EReal) := by
  pointwise [val_main_v15, val_main_v14]
  rw [ref_G B, ref_sg B, ref_U B, ← EReal.coe_mul, ← EReal.coe_mul]
  rfl

theorem ref_x3 (T : Fin 4096) (l : Fin 1024) : val_main_v19 (F := Ideal) x0 x1 x2 x3 x4 (ix2 T l) = ((X.x3 T l : ℝ) : EReal) := by
  pointwise [val_main_v19, val_main_v18, val_main_v17, val_main_v16, val_main_cst_2]
  simp only [ref_act B, B.x, B.wd, lit_half, ← EReal.coe_mul, ← coe_sum, ← EReal.coe_add]
  rfl

theorem ref_ms (T : Fin 4096) : val_main_v26 (F := Ideal) x0 x1 x2 x3 x4 (ix2 T 0) = ((meanSq (X.x3 T) : ℝ) : EReal) := by
  pointwise [val_main_v26, val_main_v25, val_main_v24, val_main_v23, val_main_v22, val_main_v21, val_main_v20, val_main_cst_3, val_main_cst_4, val_main_cst_5]
  simp only [ref_x3 B]
  exact meanSq_coe _

theorem ref_rms (T : Fin 4096) : val_main_v27 (F := Ideal) x0 x1 x2 x3 x4 (ix2 T 0) = ((rms (X.x3 T) : ℝ) : EReal) := by
  pointwise [val_main_v27]
  rw [ref_ms B, rms_coe]

theorem ref_diff (T : Fin 4096) (l : Fin 1024) : val_main_v36 (F := Ideal) x0 x1 x2 x3 x4 x5 x6 (ix2 T l) = ((X.diff T l : ℝ) : EReal) := by
  pointwise [val_main_v36, val_main_v35, val_main_v34, val_main_v33, val_main_v32, val_main_v31]
  rw [ref_x3 B, ref_rms B, B.fn, B.t]
  simp only [← EReal.coe_mul, ← EReal.coe_sub]
  rfl

theorem ref_dy (T : Fin 4096) (l : Fin 1024) : val_main_v50 (F := Ideal) x0 x1 x2 x3 x4 x5 x6 (ix2 T l) = ((X.dy T l : ℝ) : EReal) := by
  pointwise [val_main_v50, val_main_v49, val_main_v48, val_main_v47, val_main_v46, val_main_v45, val_main_v39, val_main_v38, val_main_cst_7, val_main_cst_12, val_main_cst_13, val_main_cst_14]
  rw [ref_diff B]
  simp only [lit_half, lit_two, width, mul_one, Cert.Ret.lit1]
  rw [div_real _ (by norm_num), ← EReal.coe_mul, ← EReal.coe_mul]
  refine congrArg _ ?_
  unfold Data.dy
  ring

theorem ref_dfn (l : Fin 1024) : val_main_v72 (F := Ideal) x0 x1 x2 x3 x4 x5 x6 (ix2 0 l) = ((X.dfn l : ℝ) : EReal) := by
  pointwise [val_main_v72, val_main_v56, val_main_v53, val_main_v52, val_main_v51, val_main_v32, val_main_v31, val_main_cst_15, val_main_cst_16]
  simp only [Fin.sum_univ_one, ref_x3 B, ref_rms B, ref_dy B, ← EReal.coe_mul, ← coe_sum]
  exact congrArg _ (Finset.sum_congr rfl fun _ _ => mul_comm _ _)

theorem ref_dx (T : Fin 4096) (l : Fin 1024) : val_main_v70 (F := Ideal) x0 x1 x2 x3 x4 x5 x6 (ix2 T l) = ((X.dx T l : ℝ) : EReal) := by
  pointwise [val_main_v70, val_main_v69, val_main_v68, val_main_v67, val_main_v66, val_main_v65, val_main_v64, val_main_v63, val_main_v62, val_main_v61, val_main_v60, val_main_v59, val_main_v58, val_main_v57, val_main_v55, val_main_v54, val_main_v33, val_main_v30, val_main_v29, val_main_v28, val_main_cst_6, val_main_cst_17, val_main_cst_18, val_main_cst_19]
  simp only [Fin.sum_univ_one, ref_dy B, ref_rms B, ref_ms B, ref_x3 B, B.fn]
  have h := rmsVjp_coe (X.x3 T) X.fn (X.dy T) 0 l
  simp only [zero_add] at h
  exact h

theorem ref_loss (l : Fin 128) : val_main_v71 (F := Ideal) x0 x1 x2 x3 x4 x5 x6 (ix2 0 l) = ((X.loss : ℝ) : EReal) := by
  pointwise [val_main_v71, val_main_v44, val_main_v43, val_main_v42, val_main_v41, val_main_v40, val_main_v37, val_main_cst_8, val_main_cst_9, val_main_cst_10, val_main_cst_11]
  simp only [ref_diff B, ← EReal.coe_mul, ← coe_sum, width, lit_half]
  simp only [div_real _ (show (1024 : ℝ) ≠ 0 by norm_num), ← coe_sum, ← EReal.coe_mul]
  rfl

theorem ref_res_g (s : Fin 2) (T : Fin 4096) (j : Fin 1408) : val_main_v75 (F := Ideal) x0 x1 x2 (ix3 s T j) = ((X.F.G T (col s j) : ℝ) : EReal) := by
  pointwise [val_main_v75, val_main_v74, val_main_v73]
  rw [col_eq (s := s) (j := j) _ rfl]
  exact ref_G B _ _

theorem ref_res_u (s : Fin 2) (T : Fin 4096) (j : Fin 1408) : val_main_v78 (F := Ideal) x0 x1 x3 (ix3 s T j) = ((X.F.U T (col s j) : ℝ) : EReal) := by
  pointwise [val_main_v78, val_main_v77, val_main_v76]
  rw [col_eq (s := s) (j := j) _ rfl]
  exact ref_U B _ _

end Cert.Loss

end
-- ==== Proof.Loss.Claim.lean ====
module

public import proofs.«01_k».proof.Defs
public import proofs.«01_k».proof.Proof.Loss.Arrays
public import proofs.«01_k».proof.Proof.Loss.Ref
public import proofs.«01_k».proof.Proof.Ffn.Claim
public import proofs.«01_k».proof.Proof.Gen.Pre_finite_loss

/-! The claims about the forward feed-forward call with the loss and the last norm's backward pass. -/

@[expose] public section

set_option maxRecDepth 16384

noncomputable section

open Idealize.ShloMosaic Idealize.ShloMosaic.TcCoe Idealize.SL.Sem

namespace Cert.LossClaim

section Kernel

open Cert.KernelLossIdeal Cert.KernelLossIdeal.Gen Cert.Loss

/-- Finite arguments hold real numbers. -/
theorem reals (m : (ℓ : Loc nD τ sig) → Buf (Elt Ideal) ℓ) (h : Cert.Pre_KernelLossIdeal_finite_loss (hPre_finite_loss := Cert.Pre_finite_loss.Gen.facts) m) (c : Dev nD) : ∃ X : Data, Args m c X := by
  have e := congrFun (h c) (fun q => Fin.elim0 q)
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton Cert.Pre_finite_loss.S_.Idx := ⟨fun a b => funext fun q => Fin.elim0 q⟩
  choose x hx using Cert.Lift.real_of_all _ _ _ _ _ _ e1
  choose g hg using Cert.Lift.real_of_all _ _ _ _ _ _ e2
  choose wg hwg using Cert.Lift.real_of_all _ _ _ _ _ _ e3
  choose wu hwu using Cert.Lift.real_of_all _ _ _ _ _ _ e4
  choose wd hwd using Cert.Lift.real_of_all _ _ _ _ _ _ e5
  choose fn hfn using Cert.Lift.real_of_all _ _ _ _ _ _ e6
  choose tg ht using Cert.Lift.real_of_all _ _ _ _ _ _ e7
  exact ⟨⟨⟨fun T l => x (ix2 T l), fun l => g (ix2 0 l), fun l j => wg (ix2 l j), fun l j => wu (ix2 l j), fun j l => wd (ix2 j l), fun _ _ => 0⟩,
      fun l => fn (ix1 l), fun T l => tg (ix2 T l)⟩,
    ⟨fun T l => hx _, fun l => hg _, fun l j => hwg _, fun l j => hwu _, fun j l => hwd _, fun l => hfn _, fun T l => ht _⟩⟩

end Kernel

/-- The reference terminates, with its arguments and every semaphore counter unchanged. -/
theorem reference_frame : Cert.quiescent_ReferenceLossIdeal (hReferenceLossIdeal := Cert.ReferenceLossIdeal.Gen.facts) := fun m ρ _ =>
  (θ_run Cert.ReferenceLossIdeal.defs _ _).mono
    (fun r h => ⟨fun c => (h c).2.2.2.2.2, sem_eq_zero_of_no_sems (by decide) r.2⟩) (Cert.ReferenceLossIdeal.Value.run (F := Ideal) m ρ)

/-- The index of a row of lanes. -/
theorem lanes_index (i : (⟨2, ![1, 128]⟩ : Shape).Idx) : ∃ l : Fin 128, i = ix2 0 l :=
  ⟨i 1, funext fun a => by fin_cases a; exacts [Subsingleton.elim (α := Fin 1) _ _, rfl]⟩

/-- The algebraic claim about the forward feed-forward call with the loss. -/
theorem algebraic : Cert.algebraic_KernelLossIdeal_ReferenceLossIdeal_pre_finite_loss (hKernelLossIdeal := Cert.KernelLossIdeal.Gen.facts)
    (hReferenceLossIdeal := Cert.ReferenceLossIdeal.Gen.facts) (hPre_finite_loss := Cert.Pre_finite_loss.Gen.facts) := by
  intro m ρ m' ρ' hpre hargs
  refine ⟨_, _, _, _, _, Cert.KernelLossIdeal.Value.run_blocks m ρ, ?_⟩
  refine (θ_run Cert.ReferenceLossIdeal.defs _ _).mono (fun r h c => ?_) (Cert.ReferenceLossIdeal.Value.run (F := Ideal) m' ρ')
  obtain ⟨w0, w1, w2, w3, w4, kept⟩ := h c
  obtain ⟨a0, a1, a2, a3, a4, a5, a6⟩ := hargs c
  obtain ⟨X, A⟩ := reals m hpre c
  have B : Cert.Loss.Vals (StableHlo.launchContents m' c (Proc.tc.devRef Cert.ReferenceLossIdeal.main_arg0)) (StableHlo.launchContents m' c (Proc.tc.devRef Cert.ReferenceLossIdeal.main_arg1))
      (StableHlo.launchContents m' c (Proc.tc.devRef Cert.ReferenceLossIdeal.main_arg2)) (StableHlo.launchContents m' c (Proc.tc.devRef Cert.ReferenceLossIdeal.main_arg3))
      (StableHlo.launchContents m' c (Proc.tc.devRef Cert.ReferenceLossIdeal.main_arg4)) (StableHlo.launchContents m' c (Proc.tc.devRef Cert.ReferenceLossIdeal.main_arg5))
      (StableHlo.launchContents m' c (Proc.tc.devRef Cert.ReferenceLossIdeal.main_arg6)) X :=
    ⟨fun T l => (congrFun a0 _).trans (A.x T l), fun l => (congrFun a1 _).trans (A.g l), fun l j => (congrFun a2 _).trans (A.wg l j), fun l j => (congrFun a3 _).trans (A.wu l j),
      fun j l => (congrFun a4 _).trans (A.wd j l), fun l => (congrFun a5 _).trans (A.fn l), fun T l => (congrFun a6 _).trans (A.t T l)⟩
  refine ⟨w0.trans ?_, w1.trans ?_, w2.trans ?_, w3.trans ?_, w4.trans ?_, kept⟩
  · rw [Cert.ReferenceLossIdeal.Read.val_main_v71_eq]
    funext i
    obtain ⟨l, rfl⟩ := lanes_index i
    exact (Cert.Loss.ref_loss B l).trans (Cert.Loss.final_loss A l).symm
  · rw [Cert.ReferenceLossIdeal.Read.val_main_v70_eq]
    funext i
    obtain ⟨R, l, rfl⟩ := Cert.FfnClaim.rows_index i
    exact (Cert.Loss.ref_dx B R l).trans (Cert.Loss.final_dx A R l).symm
  · rw [Cert.ReferenceLossIdeal.Read.val_main_v72_eq]
    funext i
    obtain ⟨l, rfl⟩ := Cert.FfnClaim.vec_index i
    exact (Cert.Loss.ref_dfn B l).trans (Cert.Loss.final_dfn A l).symm
  · rw [Cert.ReferenceLossIdeal.Read.val_main_v75_eq]
    funext i
    obtain ⟨s, R, j, rfl⟩ := Cert.FfnClaim.halves_index i
    exact (Cert.Loss.ref_res_g B s R j).trans (Cert.Loss.final_g A s R j).symm
  · rw [Cert.ReferenceLossIdeal.Read.val_main_v78_eq]
    funext i
    obtain ⟨s, R, j, rfl⟩ := Cert.FfnClaim.halves_index i
    exact (Cert.Loss.ref_res_u B s R j).trans (Cert.Loss.final_u A s R j).symm

end Cert.LossClaim

end
-- ==== Proof.Gates.Ref.lean ====
module

public import proofs.«01_k».proof.Proof.Gen.ReferenceGatesIdeal.Read
public import Idealize.ShloMosaic.Lib.Tactic
public import Idealize.ShloMosaic.Lib.Pointwise

/-! The two branches' gates over the extended reals, and the reference of their forward call at an index. -/

@[expose] public section

set_option maxRecDepth 65536
set_option maxHeartbeats 1000000

noncomputable section

namespace Cert.Gates

open Cert.ReferenceGatesIdeal Cert.ReferenceGatesIdeal.Gen Cert.ReferenceGatesIdeal.Read
open Idealize.ShloMosaic Idealize.ShloMosaic.TcCoe Idealize.ShloMosaic.Tactic

/-- The gating unit's rows, the retention's rows, the gates' arguments, the three weight matrices, and the residual rows. -/
structure Data where
  a : Fin 4096 → Fin 1024 → EReal
  r : Fin 4096 → Fin 1024 → EReal
  ga : Fin 4096 → Fin 1024 → EReal
  gb : Fin 4096 → Fin 1024 → EReal
  wa : Fin 1024 → Fin 1024 → EReal
  wb : Fin 1024 → Fin 1024 → EReal
  wo : Fin 1024 → Fin 1024 → EReal
  x : Fin 4096 → Fin 1024 → EReal

namespace Data
variable (X : Data)

/-- The branches' products. -/
def ba (T : Fin 4096) (j : Fin 1024) : EReal := ∑ l, X.a T l * X.wa l j
def br (T : Fin 4096) (j : Fin 1024) : EReal := ∑ l, X.r T l * X.wb l j
/-- The gated sum of the products, and the rows that its projection is added to. -/
def mix (T : Fin 4096) (j : Fin 1024) : EReal := Ideal.logistic (X.ga T j) * X.ba T j + Ideal.logistic (X.gb T j) * X.br T j
def out (T : Fin 4096) (l : Fin 1024) : EReal := X.x T l + ∑ j, X.mix T j * X.wo j l

end Data

/-- The data of the reference's arguments. -/
abbrev dataOf (x0 x1 x2 x3 : Vec Ideal S4096x1024 .f32) (x4 x5 x6 : Vec Ideal S1024x1024 .f32) (x7 : Vec Ideal S4096x1024 .f32) : Data where
  a T l := x0 (ix2 T l)
  r T l := x1 (ix2 T l)
  ga T l := x2 (ix2 T l)
  gb T l := x3 (ix2 T l)
  wa l j := x4 (ix2 l j)
  wb l j := x5 (ix2 l j)
  wo l j := x6 (ix2 l j)
  x T l := x7 (ix2 T l)

variable (x0 x1 x2 x3 : Vec Ideal S4096x1024 .f32) (x4 x5 x6 : Vec Ideal S1024x1024 .f32) (x7 : Vec Ideal S4096x1024 .f32)

/-- The reference's first result: the rows with the gated sum's projection. -/
theorem ref_out (T : Fin 4096) (j : Fin 1024) :
    val_main_v18 (F := Ideal) x0 x1 x2 x3 x4 x5 x6 x7 (ix2 T j) = (dataOf x0 x1 x2 x3 x4 x5 x6 x7).out T j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

/-- The reference's second result: the first branch's product. -/
theorem ref_ba (T : Fin 4096) (j : Fin 1024) :
    val_main_v19 (F := Ideal) x0 x4 (ix2 T j) = (dataOf x0 x1 x2 x3 x4 x5 x6 x7).ba T j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

/-- The reference's third result: the second branch's product. -/
theorem ref_br (T : Fin 4096) (j : Fin 1024) :
    val_main_v20 (F := Ideal) x1 x5 (ix2 T j) = (dataOf x0 x1 x2 x3 x4 x5 x6 x7).br T j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

end Cert.Gates

end
-- ==== Proof.Gates.Host.lean ====
module

public import proofs.«01_k».proof.Proof.Gates.Ref
public import proofs.«01_k».proof.Proof.Gen.KernelGatesIdeal.Value
public import Idealize.ShloMosaic.Lib.StableHlo.ReadAt
public import Idealize.ShloMosaic.Lib.StableHlo.RunRead

/-! The arrays that the host prepares for the gates' forward call: the branches' rows, the packed arguments of the gates, and the weights. -/

@[expose] public section

set_option maxRecDepth 65536
set_option maxHeartbeats 1000000

noncomputable section

namespace Cert.Gates

open Cert.KernelGatesIdeal Cert.KernelGatesIdeal.Gen
open Idealize.ShloMosaic Idealize.ShloMosaic.TcCoe Idealize.ShloMosaic.Tactic Idealize.SL.Sem

/-- The data of the kernel's arguments. -/
abbrev kdata (m : (ℓ : Loc nD τ sig) → Buf (Elt Ideal) ℓ) (c : Dev nD) : Data :=
  dataOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

variable (m : (ℓ : Loc nD τ sig) → Buf (Elt Ideal) ℓ) (c : Dev nD)

theorem a_at (T : Fin 4096) (l : Fin 1024) : (V m c main_v11 : Vec Ideal S4096x1024 .bf16) (ix2 T l) = (kdata m c).a T l := by
  unfold V
  repeat after_reads_at

theorem r_at (T : Fin 4096) (l : Fin 1024) : (V m c main_v12 : Vec Ideal S4096x1024 .bf16) (ix2 T l) = (kdata m c).r T l := by
  unfold V
  repeat after_reads_at

theorem wa_at (l : Fin 1024) (j : Fin 1024) : (V m c main_v8 : Vec Ideal S1024x1024 .bf16) (ix2 l j) = (kdata m c).wa l j := by
  unfold V
  repeat after_reads_at

theorem wb_at (l : Fin 1024) (j : Fin 1024) : (V m c main_v9 : Vec Ideal S1024x1024 .bf16) (ix2 l j) = (kdata m c).wb l j := by
  unfold V
  repeat after_reads_at

theorem wo_at (l : Fin 1024) (j : Fin 1024) : (V m c main_v10 : Vec Ideal S1024x1024 .bf16) (ix2 l j) = (kdata m c).wo l j := by
  unfold V
  repeat after_reads_at

/-- The two halves of the last slab are the gates' arguments. -/
theorem ga_at (T : Fin 4096) (j : Fin 1024) (k : Fin 2048) (e : k.val = j.val) : (V m c main_v7 : Vec Ideal S4x4096x2048 .bf16) (ix3 3 T k) = (kdata m c).ga T j := by
  unfold V
  repeat after_reads_at
  rw [dif_pos (by omega)]
  exact congrArg (fun q => (m ((c : Thread nD τ).loc main_arg2) : Vec Ideal S4096x1024 .f32) (ix2 T q)) (Fin.ext e)

theorem gb_at (T : Fin 4096) (j : Fin 1024) (k : Fin 2048) (e : k.val = 1024 + j.val) : (V m c main_v7 : Vec Ideal S4x4096x2048 .bf16) (ix3 3 T k) = (kdata m c).gb T j := by
  unfold V
  repeat after_reads_at
  rw [dif_neg (by omega)]
  exact congrArg (fun q => (m ((c : Thread nD τ).loc main_arg3) : Vec Ideal S4096x1024 .f32) (ix2 T q)) (Fin.ext (by show k.val - 1024 = j.val; omega))

end Cert.Gates

end
-- ==== Proof.Gates.Blocks.lean ====
module

public import proofs.«01_k».proof.Proof.Gates.Host

/-! The input blocks of a grid point of the gates' forward call, and what its three output buffers hold. -/

@[expose] public section

set_option maxRecDepth 65536
set_option maxHeartbeats 1000000

noncomputable section

namespace Cert.Gates

open Cert.KernelGatesIdeal Cert.KernelGatesIdeal.Gen
open Idealize.ShloMosaic Idealize.ShloMosaic.TcCoe Idealize.ShloMosaic.Tactic Idealize.SL.Sem

theorem hz2 : (![0, 0] : Fin 2 → Nat) = fun _ => 0 := funext fun a => by fin_cases a <;> rfl

/-- The two halves of a block of the packed projections' last slab. -/
abbrev p0 (x : Vec Ideal S1x512x2048 .bf16) : Vec Ideal S1x512x1024 .bf16 :=
  View.ld x (Rect.unit ![0, 0, 0] S1x512x1024.size inb_S1x512x2048_S1x512x1024_0_0_0)
abbrev p1 (x : Vec Ideal S1x512x2048 .bf16) : Vec Ideal S1x512x1024 .bf16 :=
  View.ld x (Rect.unit ![0, 0, 1024] S1x512x1024.size inb_S1x512x2048_S1x512x1024_0_0_1024)

/-- Row `r` of block `t`. -/
abbrev row (t : Fin cfg0.N) (r : Fin 512) : Fin 4096 := ⟨512 * t.val + r.val, by have := t.isLt; have : cfg0.N = 8 := N_0; omega⟩

/-! Where the windows' blocks lie. -/
theorem idx_0 : ∀ t : Fin cfg0.N, win0_0.index t 0 = t.val ∧ win0_0.index t 1 = 0 := (by decide +kernel : ∀ t : Fin grid0.N, _)
theorem idx_1 : ∀ t : Fin cfg0.N, win0_1.index t 0 = t.val ∧ win0_1.index t 1 = 0 := (by decide +kernel : ∀ t : Fin grid0.N, _)
theorem idx_2 : ∀ t : Fin cfg0.N, win0_2.index t 0 = 3 ∧ win0_2.index t 1 = t.val ∧ win0_2.index t 2 = 0 := (by decide +kernel : ∀ t : Fin grid0.N, _)
theorem idx_3 : ∀ t : Fin cfg0.N, win0_3.index t 0 = 0 ∧ win0_3.index t 1 = 0 := (by decide +kernel : ∀ t : Fin grid0.N, _)
theorem idx_4 : ∀ t : Fin cfg0.N, win0_4.index t 0 = 0 ∧ win0_4.index t 1 = 0 := (by decide +kernel : ∀ t : Fin grid0.N, _)
theorem idx_5 : ∀ t : Fin cfg0.N, win0_5.index t 0 = 0 ∧ win0_5.index t 1 = 0 := (by decide +kernel : ∀ t : Fin grid0.N, _)
theorem idx_6 : ∀ t : Fin cfg0.N, win0_6.index t 0 = t.val ∧ win0_6.index t 1 = 0 := (by decide +kernel : ∀ t : Fin grid0.N, _)
theorem idx_7 : ∀ t : Fin cfg0.N, win0_7.index t 0 = t.val ∧ win0_7.index t 1 = 0 := (by decide +kernel : ∀ t : Fin grid0.N, _)
theorem idx_8 : ∀ t : Fin cfg0.N, win0_8.index t 0 = t.val ∧ win0_8.index t 1 = 0 := (by decide +kernel : ∀ t : Fin grid0.N, _)
theorem idx_9 : ∀ t : Fin cfg0.N, win0_9.index t 0 = t.val ∧ win0_9.index t 1 = 0 := (by decide +kernel : ∀ t : Fin grid0.N, _)

/-- An index of a row block is the array's index `512 t + r`; of a whole weight matrix, the same index. -/
theorem idx_rowBlock (t : Fin cfg0.N) (r : Fin 512) (l : Fin 1024) (i : S4096x1024.Idx) (p q : Nat) (hp : p = t.val ∧ q = 0)
    (h0 : (i 0).val = p * 512 + 1 * r.val) (h1 : (i 1).val = q * 1024 + 1 * l.val) : i = ix2 (row t r) l := by
  obtain ⟨rfl, rfl⟩ := hp
  funext a; apply Fin.ext
  match a with
  | ⟨0, _⟩ => show (i 0).val = 512 * t.val + r.val; omega
  | ⟨1, _⟩ => show (i 1).val = l.val; omega

theorem idx_wBlock (l j : Fin 1024) (i : S1024x1024.Idx) (p q : Nat) (hp : p = 0 ∧ q = 0)
    (h0 : (i 0).val = p * 1024 + 1 * l.val) (h1 : (i 1).val = q * 1024 + 1 * j.val) : i = ix2 l j := by
  obtain ⟨rfl, rfl⟩ := hp
  funext a; apply Fin.ext
  match a with
  | ⟨0, _⟩ => show (i 0).val = l.val; omega
  | ⟨1, _⟩ => show (i 1).val = j.val; omega

theorem idx_slab (t : Fin cfg0.N) (r : Fin 512) (k : Fin 2048) (i : S4x4096x2048.Idx) (o p q : Nat) (hp : o = 3 ∧ p = t.val ∧ q = 0)
    (h0 : (i 0).val = o * 1 + 1 * 0) (h1 : (i 1).val = p * 512 + 1 * r.val) (h2 : (i 2).val = q * 2048 + 1 * k.val) : i = ix3 3 (row t r) k := by
  obtain ⟨rfl, rfl, rfl⟩ := hp
  funext a; apply Fin.ext
  match a with
  | ⟨0, _⟩ => show (i 0).val = 3; omega
  | ⟨1, _⟩ => show (i 1).val = 512 * t.val + r.val; omega
  | ⟨2, _⟩ => show (i 2).val = k.val; omega

/-! The halves of a block of packed projections, at an index. -/
theorem p0_at (x : Vec Ideal S1x512x2048 .bf16) (r : Fin 512) (j : Fin 1024) : p0 x (ix3 0 r j) = x (ix3 0 r ⟨j.val, by omega⟩) :=
  congrArg x (funext fun a => Fin.ext (by fin_cases a <;> simp [Rect.toLoadRect, LoadRect.idx, Rect.unit, ix3]))
theorem p1_at (x : Vec Ideal S1x512x2048 .bf16) (r : Fin 512) (j : Fin 1024) : p1 x (ix3 0 r j) = x (ix3 0 r ⟨1024 + j.val, by omega⟩) :=
  congrArg x (funext fun a => Fin.ext (by fin_cases a <;> simp [Rect.toLoadRect, LoadRect.idx, Rect.unit, ix3]))

variable (m : (ℓ : Loc nD τ sig) → Buf (Elt Ideal) ℓ) (c : Dev nD) (t : Fin cfg0.N)

theorem blk_x (r : Fin 512) (l : Fin 1024) : (iblk m c 6 t : Vec Ideal S512x1024 .f32) (ix2 r l) = (kdata m c).x (row t r) l := by
  unfold iblk
  rw [View.read_apply]
  show (V m c main_arg7 : Vec Ideal S4096x1024 .f32) _ = _
  rw [V_main_arg7]
  exact congrArg (m ((c : Thread nD τ).loc main_arg7) : Vec Ideal S4096x1024 .f32) (idx_rowBlock t r l _ _ _ (idx_6 t) (by rfl) (by rfl))

theorem blk_a (r : Fin 512) (l : Fin 1024) : (iblk m c 0 t : Vec Ideal S512x1024 .bf16) (ix2 r l) = (kdata m c).a (row t r) l := by
  unfold iblk
  rw [View.read_apply]
  exact (congrArg (V m c main_v11 : Vec Ideal S4096x1024 .bf16) (idx_rowBlock t r l _ _ _ (idx_0 t) (by rfl) (by rfl))).trans (a_at m c _ _)

theorem blk_r (r : Fin 512) (l : Fin 1024) : (iblk m c 1 t : Vec Ideal S512x1024 .bf16) (ix2 r l) = (kdata m c).r (row t r) l := by
  unfold iblk
  rw [View.read_apply]
  exact (congrArg (V m c main_v12 : Vec Ideal S4096x1024 .bf16) (idx_rowBlock t r l _ _ _ (idx_1 t) (by rfl) (by rfl))).trans (r_at m c _ _)

theorem blk_wa (l j : Fin 1024) : (iblk m c 3 t : Vec Ideal S1024x1024 .bf16) (ix2 l j) = (kdata m c).wa l j := by
  unfold iblk
  rw [View.read_apply]
  exact (congrArg (V m c main_v8 : Vec Ideal S1024x1024 .bf16) (idx_wBlock l j _ _ _ (idx_3 t) (by rfl) (by rfl))).trans (wa_at m c _ _)

theorem blk_wb (l j : Fin 1024) : (iblk m c 4 t : Vec Ideal S1024x1024 .bf16) (ix2 l j) = (kdata m c).wb l j := by
  unfold iblk
  rw [View.read_apply]
  exact (congrArg (V m c main_v9 : Vec Ideal S1024x1024 .bf16) (idx_wBlock l j _ _ _ (idx_4 t) (by rfl) (by rfl))).trans (wb_at m c _ _)

theorem blk_wo (l j : Fin 1024) : (iblk m c 5 t : Vec Ideal S1024x1024 .bf16) (ix2 l j) = (kdata m c).wo l j := by
  unfold iblk
  rw [View.read_apply]
  exact (congrArg (V m c main_v10 : Vec Ideal S1024x1024 .bf16) (idx_wBlock l j _ _ _ (idx_5 t) (by rfl) (by rfl))).trans (wo_at m c _ _)

theorem blk_ga (r : Fin 512) (j : Fin 1024) : p0 (iblk m c 2 t) (ix3 0 r j) = (kdata m c).ga (row t r) j := by
  rw [p0_at]
  unfold iblk
  rw [View.read_apply]
  exact (congrArg (V m c main_v7 : Vec Ideal S4x4096x2048 .bf16) (idx_slab t r _ _ _ _ _ (idx_2 t) (by rfl) (by rfl) (by rfl))).trans (ga_at m c _ _ _ rfl)

theorem blk_gb (r : Fin 512) (j : Fin 1024) : p1 (iblk m c 2 t) (ix3 0 r j) = (kdata m c).gb (row t r) j := by
  rw [p1_at]
  unfold iblk
  rw [View.read_apply]
  exact (congrArg (V m c main_v7 : Vec Ideal S4x4096x2048 .bf16) (idx_slab t r _ _ _ _ _ (idx_2 t) (by rfl) (by rfl) (by rfl))).trans (gb_at m c _ _ _ rfl)

/-- The rows that a point leaves of the gates' output. -/
theorem out_block (r : Fin 512) (l : Fin 1024) :
    out0_7 (iblk m c 0 t) (iblk m c 1 t) (iblk m c 2 t) (iblk m c 3 t) (iblk m c 4 t) (iblk m c 5 t) (iblk m c 6 t) (ix2 r l) = (kdata m c).out (row t r) l := by
  rw [show out0_7 (iblk m c 0 t) (iblk m c 1 t) (iblk m c 2 t) (iblk m c 3 t) (iblk m c 4 t) (iblk m c 5 t) (iblk m c 6 t) = k0_pay3 (iblk m c 0 t) (iblk m c 3 t) (iblk m c 1 t) (iblk m c 4 t) (p0 (iblk m c 2 t)) (p1 (iblk m c 2 t)) (iblk m c 6 t) (iblk m c 5 t) by
    unfold out0_7
    rw [View.canon_unit_zero hz2]
    simp only [r0_0, r0_1, r0_2, r0_3, View.ld_unit_zero (S := S512x1024) hz2, View.ld_unit_zero (S := S1024x1024) hz2]]
  have e0 := blk_a m c t
  have e1 := blk_r m c t
  have e3 := blk_wa m c t
  have e4 := blk_wb m c t
  have e5 := blk_wo m c t
  have e6 := blk_x m c t
  have ea := blk_ga m c t
  have eb := blk_gb m c t
  pointwise [k0_pay1, k0_pay2, k0_pay3, k0_pay4, k0_pay5]
  simp only [e0, e1, e3, e4, e5, e6, ea, eb]
  rfl

/-- The rows that a point leaves of the first branch's product. -/
theorem ba_block (r : Fin 512) (l : Fin 1024) :
    out0_8 (iblk m c 0 t) (iblk m c 1 t) (iblk m c 2 t) (iblk m c 3 t) (iblk m c 4 t) (iblk m c 5 t) (iblk m c 6 t) (ix2 r l) = (kdata m c).ba (row t r) l := by
  rw [show out0_8 (iblk m c 0 t) (iblk m c 1 t) (iblk m c 2 t) (iblk m c 3 t) (iblk m c 4 t) (iblk m c 5 t) (iblk m c 6 t) = k0_pay4 (iblk m c 0 t) (iblk m c 3 t) by
    unfold out0_8
    rw [View.canon_unit_zero hz2]
    simp only [r0_0, r0_1, r0_2, r0_3, View.ld_unit_zero (S := S512x1024) hz2, View.ld_unit_zero (S := S1024x1024) hz2]]
  have e0 := blk_a m c t
  have e1 := blk_r m c t
  have e3 := blk_wa m c t
  have e4 := blk_wb m c t
  have e5 := blk_wo m c t
  have e6 := blk_x m c t
  have ea := blk_ga m c t
  have eb := blk_gb m c t
  pointwise [k0_pay1, k0_pay2, k0_pay3, k0_pay4, k0_pay5]
  simp only [e0, e1, e3, e4, e5, e6, ea, eb]
  rfl

/-- The rows that a point leaves of the second branch's product. -/
theorem br_block (r : Fin 512) (l : Fin 1024) :
    out0_9 (iblk m c 0 t) (iblk m c 1 t) (iblk m c 2 t) (iblk m c 3 t) (iblk m c 4 t) (iblk m c 5 t) (iblk m c 6 t) (ix2 r l) = (kdata m c).br (row t r) l := by
  rw [show out0_9 (iblk m c 0 t) (iblk m c 1 t) (iblk m c 2 t) (iblk m c 3 t) (iblk m c 4 t) (iblk m c 5 t) (iblk m c 6 t) = k0_pay5 (iblk m c 1 t) (iblk m c 4 t) by
    unfold out0_9
    rw [View.canon_unit_zero hz2]
    simp only [r0_0, r0_1, r0_2, r0_3, View.ld_unit_zero (S := S512x1024) hz2, View.ld_unit_zero (S := S1024x1024) hz2]]
  have e0 := blk_a m c t
  have e1 := blk_r m c t
  have e3 := blk_wa m c t
  have e4 := blk_wb m c t
  have e5 := blk_wo m c t
  have e6 := blk_x m c t
  have ea := blk_ga m c t
  have eb := blk_gb m c t
  pointwise [k0_pay1, k0_pay2, k0_pay3, k0_pay4, k0_pay5]
  simp only [e0, e1, e3, e4, e5, e6, ea, eb]
  rfl

end Cert.Gates

end
-- ==== Proof.Gates.Arrays.lean ====
module

public import proofs.«01_k».proof.Proof.Gates.Blocks

/-! What the three result arrays of the gates' forward call hold after the run, at an index. -/

@[expose] public section

set_option maxRecDepth 65536
set_option maxHeartbeats 1000000

noncomputable section

namespace Cert.Gates

open Cert.KernelGatesIdeal Cert.KernelGatesIdeal.Gen
open Idealize.ShloMosaic Idealize.ShloMosaic.TcCoe Idealize.ShloMosaic.Tactic Idealize.SL.Sem

/-- Every row lies in a block. -/
theorem row_cases (R : Fin 4096) : ∃ (t : Fin cfg0.N) (r : Fin 512), R = row t r :=
  have hN : cfg0.N = 8 := N_0
  ⟨⟨R.val / 512, by omega⟩, ⟨R.val % 512, by omega⟩, Fin.ext (by show R.val = 512 * (R.val / 512) + R.val % 512; omega)⟩

variable (m : (ℓ : Loc nD τ sig) → Buf (Elt Ideal) ℓ) (c : Dev nD)

theorem final_out (R : Fin 4096) (l : Fin 1024) : ((dats m 0 c).arrAt 7 cfg0.N : Vec Ideal S4096x1024 .f32) (ix2 R l) = (kdata m c).out R l := by
  obtain ⟨t, r, rfl⟩ := row_cases R
  have h := congrFun (Value.blocks7 m c t (flush0_7 t)) (ix2 r l)
  rw [View.read_apply, Value.flushed7] at h
  exact ((congrArg ((dats m 0 c).arrAt 7 cfg0.N : Vec Ideal S4096x1024 .f32)
    (idx_rowBlock t r l _ _ _ (idx_7 t) (by rfl) (by rfl))).symm.trans h).trans (out_block m c t r l)

theorem final_ba (R : Fin 4096) (l : Fin 1024) : ((dats m 0 c).arrAt 8 cfg0.N : Vec Ideal S4096x1024 .bf16) (ix2 R l) = (kdata m c).ba R l := by
  obtain ⟨t, r, rfl⟩ := row_cases R
  have h := congrFun (Value.blocks8 m c t (flush0_8 t)) (ix2 r l)
  rw [View.read_apply, Value.flushed8] at h
  exact ((congrArg ((dats m 0 c).arrAt 8 cfg0.N : Vec Ideal S4096x1024 .bf16)
    (idx_rowBlock t r l _ _ _ (idx_8 t) (by rfl) (by rfl))).symm.trans h).trans (ba_block m c t r l)

theorem final_br (R : Fin 4096) (l : Fin 1024) : ((dats m 0 c).arrAt 9 cfg0.N : Vec Ideal S4096x1024 .bf16) (ix2 R l) = (kdata m c).br R l := by
  obtain ⟨t, r, rfl⟩ := row_cases R
  have h := congrFun (Value.blocks9 m c t (flush0_9 t)) (ix2 r l)
  rw [View.read_apply, Value.flushed9] at h
  exact ((congrArg ((dats m 0 c).arrAt 9 cfg0.N : Vec Ideal S4096x1024 .bf16)
    (idx_rowBlock t r l _ _ _ (idx_9 t) (by rfl) (by rfl))).symm.trans h).trans (br_block m c t r l)

end Cert.Gates

end
-- ==== Proof.Gates.Claim.lean ====
module

public import proofs.«01_k».proof.Proof.Gates.Arrays
public import proofs.«01_k».proof.Proof.Ffn.Claim
public import proofs.«01_k».proof.Defs

/-! The gates' forward call computes the gated sum of the two branches' products, its projection added to the residual rows, and the two
products: over the extended reals, at every argument. -/

@[expose] public section

set_option maxRecDepth 65536
set_option maxHeartbeats 1000000

noncomputable section

open Idealize.ShloMosaic Idealize.ShloMosaic.TcCoe Idealize.SL.Sem

namespace Cert.GatesClaim

/-- The reference terminates, with its arguments and every semaphore counter unchanged. -/
theorem reference_frame : Cert.quiescent_ReferenceGatesIdeal (hReferenceGatesIdeal := Cert.ReferenceGatesIdeal.Gen.facts) := fun m ρ _ =>
  (θ_run Cert.ReferenceGatesIdeal.defs _ _).mono
    (fun r h => ⟨fun c => (h c).2.2.2, sem_eq_zero_of_no_sems (by decide) r.2⟩) (Cert.ReferenceGatesIdeal.Value.run (F := Ideal) m ρ)

/-- The data of the two programs' arguments agree. -/
theorem data_eq {x0 x1 x2 x3 x7 y0 y1 y2 y3 y7 : Vec Ideal Cert.ReferenceGatesIdeal.S4096x1024 .f32}
    {x4 x5 x6 y4 y5 y6 : Vec Ideal Cert.ReferenceGatesIdeal.S1024x1024 .f32}
    (h0 : x0 = y0) (h1 : x1 = y1) (h2 : x2 = y2) (h3 : x3 = y3) (h4 : x4 = y4) (h5 : x5 = y5) (h6 : x6 = y6) (h7 : x7 = y7) :
    Cert.Gates.dataOf x0 x1 x2 x3 x4 x5 x6 x7 = Cert.Gates.dataOf y0 y1 y2 y3 y4 y5 y6 y7 := by
  subst h0 h1 h2 h3 h4 h5 h6 h7
  rfl

/-- The algebraic claim about the gates' forward call. -/
theorem algebraic : Cert.algebraic_KernelGatesIdeal_ReferenceGatesIdeal (hKernelGatesIdeal := Cert.KernelGatesIdeal.Gen.facts)
    (hReferenceGatesIdeal := Cert.ReferenceGatesIdeal.Gen.facts) := by
  intro m ρ m' ρ' _ hargs
  refine ⟨_, _, _, Cert.KernelGatesIdeal.Value.run_blocks m ρ, ?_⟩
  refine (θ_run Cert.ReferenceGatesIdeal.defs _ _).mono (fun r h c => ?_) (Cert.ReferenceGatesIdeal.Value.run (F := Ideal) m' ρ')
  obtain ⟨w0, w1, w2, kept⟩ := h c
  obtain ⟨a0, a1, a2, a3, a4, a5, a6, a7⟩ := hargs c
  have D := data_eq a0 a1 a2 a3 a4 a5 a6 a7
  refine ⟨w0.trans ?_, w1.trans ?_, w2.trans ?_, kept⟩
  · rw [Cert.ReferenceGatesIdeal.Read.val_main_v18_eq]
    funext i
    obtain ⟨R, l, rfl⟩ := Cert.FfnClaim.rows_index i
    exact (Cert.Gates.ref_out _ _ _ _ _ _ _ _ R l).trans ((congrArg (fun X => Cert.Gates.Data.out X R l) D).trans (Cert.Gates.final_out m c R l).symm)
  · rw [Cert.ReferenceGatesIdeal.Read.val_main_v19_eq]
    funext i
    obtain ⟨R, l, rfl⟩ := Cert.FfnClaim.rows_index i
    exact (Cert.Gates.ref_ba _ _ _ _ _ _ _ _ R l).trans ((congrArg (fun X => Cert.Gates.Data.ba X R l) D).trans (Cert.Gates.final_ba m c R l).symm)
  · rw [Cert.ReferenceGatesIdeal.Read.val_main_v20_eq]
    funext i
    obtain ⟨R, l, rfl⟩ := Cert.FfnClaim.rows_index i
    exact (Cert.Gates.ref_br _ _ _ _ _ _ _ _ R l).trans ((congrArg (fun X => Cert.Gates.Data.br X R l) D).trans (Cert.Gates.final_br m c R l).symm)

end Cert.GatesClaim

end
-- ==== Proof.Fwd.Ref.lean ====
module

public import proofs.«01_k».proof.Proof.Gen.ReferenceFwdIdeal.Read
public import proofs.«01_k».proof.Proof.Ffn.Real
public import Idealize.ShloMosaic.Lib.Tactic
public import Idealize.ShloMosaic.Lib.Pointwise

/-! The feed-forward network over the extended reals, and the reference of its forward call at an index. -/

@[expose] public section

set_option maxRecDepth 65536
set_option maxHeartbeats 1000000

noncomputable section

namespace Cert.Fwd

open Cert.ReferenceFwdIdeal Cert.ReferenceFwdIdeal.Gen Cert.ReferenceFwdIdeal.Read
open Idealize.ShloMosaic Idealize.ShloMosaic.TcCoe Idealize.ShloMosaic.Tactic
open Cert.Ffn (col col_eq)

/-- The rows, the norm's gain, and the three weight matrices. -/
structure Data where
  x : Fin 4096 → Fin 1024 → EReal
  g : Fin 1024 → EReal
  wg : Fin 1024 → Fin 2816 → EReal
  wu : Fin 1024 → Fin 2816 → EReal
  wd : Fin 2816 → Fin 1024 → EReal

namespace Data
variable (X : Data)

/-- A row's mean square with the small constant, and the normed row. -/
def ms (T : Fin 4096) : EReal := Ideal.div (∑ k, X.x T k * X.x T k) (Ideal.ofBits .f32 1149239296#32) + Ideal.ofBits .f32 897988541#32
def h (T : Fin 4096) (l : Fin 1024) : EReal := X.x T l * Ideal.rsqrt (X.ms T) * X.g l
/-- The gate's and the up-projection's products, and the activation. -/
def G (T : Fin 4096) (j : Fin 2816) : EReal := ∑ l, X.h T l * X.wg l j
def U (T : Fin 4096) (j : Fin 2816) : EReal := ∑ l, X.h T l * X.wu l j
def act (T : Fin 4096) (j : Fin 2816) : EReal := X.G T j * Ideal.logistic (X.G T j) * X.U T j
/-- The rows that half the network's output is added to. -/
def out (T : Fin 4096) (l : Fin 1024) : EReal := X.x T l + Ideal.ofBits .f32 1056964608#32 * ∑ j, X.act T j * X.wd j l

end Data

/-- The data of the reference's arguments. -/
abbrev dataOf (x0 : Vec Ideal S4096x1024 .f32) (x1 : Vec Ideal S1x1024 .f32) (x2 x3 : Vec Ideal S1024x2816 .f32) (x4 : Vec Ideal S2816x1024 .f32) : Data where
  x T l := x0 (ix2 T l)
  g l := x1 (ix2 0 l)
  wg l j := x2 (ix2 l j)
  wu l j := x3 (ix2 l j)
  wd j l := x4 (ix2 j l)

variable (x0 : Vec Ideal S4096x1024 .f32) (x1 : Vec Ideal S1x1024 .f32) (x2 x3 : Vec Ideal S1024x2816 .f32) (x4 : Vec Ideal S2816x1024 .f32)

theorem ref_h (T : Fin 4096) (l : Fin 1024) : val_main_v11 (F := Ideal) x0 x1 (ix2 T l) = (dataOf x0 x1 x2 x3 x4).h T l := by
  pointwise [val_main_v11, val_main_v10, val_main_v9, val_main_v8, val_main_v7, val_main_v6, val_main_v5, val_main_v4, val_main_v3, val_main_v2, val_main_v1, val_main_v0, val_main_cst, val_main_cst_0, val_main_cst_1]
  rfl

theorem ref_G (T : Fin 4096) (j : Fin 2816) : val_main_v12 (F := Ideal) x0 x1 x2 (ix2 T j) = (dataOf x0 x1 x2 x3 x4).G T j := by
  have e := ref_h x0 x1 x2 x3 x4 T
  pointwise [val_main_v12]
  simp only [e]
  rfl

theorem ref_U (T : Fin 4096) (j : Fin 2816) : val_main_v13 (F := Ideal) x0 x1 x3 (ix2 T j) = (dataOf x0 x1 x2 x3 x4).U T j := by
  have e := ref_h x0 x1 x2 x3 x4 T
  pointwise [val_main_v13]
  simp only [e]
  rfl

theorem ref_act (T : Fin 4096) (j : Fin 2816) : val_main_v15 (F := Ideal) x0 x1 x2 x3 (ix2 T j) = (dataOf x0 x1 x2 x3 x4).act T j := by
  have g := ref_G x0 x1 x2 x3 x4 T j
  have u := ref_U x0 x1 x2 x3 x4 T j
  pointwise [val_main_v15, val_main_v14, val_main_call0_v5, val_main_call0_v4, val_main_call0_v3, val_main_call0_v2, val_main_call0_v1, val_main_call0_v0, val_main_call0_cst, val_main_call0_cst_0]
  rw [g, u]
  rfl

/-- The reference's first result. -/
theorem ref_out (T : Fin 4096) (l : Fin 1024) : val_main_v19 (F := Ideal) x0 x1 x2 x3 x4 (ix2 T l) = (dataOf x0 x1 x2 x3 x4).out T l := by
  have e := ref_act x0 x1 x2 x3 x4 T
  pointwise [val_main_v19, val_main_v18, val_main_v17, val_main_v16, val_main_cst_2]
  simp only [e]
  rfl

/-- The reference's second and third results: the two products, in halves of the hidden width. -/
theorem ref_g (s : Fin 2) (T : Fin 4096) (j : Fin 1408) : val_main_v22 (F := Ideal) x0 x1 x2 (ix3 s T j) = (dataOf x0 x1 x2 x3 x4).G T (col s j) := by
  have e := ref_G x0 x1 x2 x3 x4 T
  pointwise [val_main_v22, val_main_v21, val_main_v20]
  rw [col_eq (s := s) (j := j) _ rfl]
  exact e _

theorem ref_u (s : Fin 2) (T : Fin 4096) (j : Fin 1408) : val_main_v25 (F := Ideal) x0 x1 x3 (ix3 s T j) = (dataOf x0 x1 x2 x3 x4).U T (col s j) := by
  have e := ref_U x0 x1 x2 x3 x4 T
  pointwise [val_main_v25, val_main_v24, val_main_v23]
  rw [col_eq (s := s) (j := j) _ rfl]
  exact e _

end Cert.Fwd

end
-- ==== Proof.Fwd.Host.lean ====
module

public import proofs.«01_k».proof.Proof.Fwd.Ref
public import proofs.«01_k».proof.Proof.Gen.KernelFwdIdeal.Value
public import Idealize.ShloMosaic.Lib.StableHlo.ReadAt
public import Idealize.ShloMosaic.Lib.StableHlo.RunRead

/-! The halves of the weights that the host prepares for the feed-forward network's forward call. -/

@[expose] public section

set_option maxRecDepth 65536
set_option maxHeartbeats 1000000

noncomputable section

namespace Cert.Fwd

open Cert.KernelFwdIdeal Cert.KernelFwdIdeal.Gen
open Idealize.ShloMosaic Idealize.ShloMosaic.TcCoe Idealize.ShloMosaic.Tactic Idealize.SL.Sem
open Cert.Ffn (col col_eq sum_halves)

/-- The data of the kernel's arguments. -/
abbrev kdata (m : (ℓ : Loc nD τ sig) → Buf (Elt Ideal) ℓ) (c : Dev nD) : Data :=
  dataOf (m ((c : Thread nD τ).loc main_arg0)) (m ((c : Thread nD τ).loc main_arg1)) (m ((c : Thread nD τ).loc main_arg2)) (m ((c : Thread nD τ).loc main_arg3)) (m ((c : Thread nD τ).loc main_arg4))

variable (m : (ℓ : Loc nD τ sig) → Buf (Elt Ideal) ℓ) (c : Dev nD)

theorem wg_at (s : Fin 2) (j : Fin 1408) (l : Fin 1024) : (V m c main_v2 : Vec Ideal S2x1408x1024 .bf16) (ix3 s j l) = (kdata m c).wg l (col s j) := by
  unfold V
  repeat after_reads_at
  rw [col_eq (s := s) (j := j) _ rfl]

theorem wu_at (s : Fin 2) (j : Fin 1408) (l : Fin 1024) : (V m c main_v5 : Vec Ideal S2x1408x1024 .bf16) (ix3 s j l) = (kdata m c).wu l (col s j) := by
  unfold V
  repeat after_reads_at
  rw [col_eq (s := s) (j := j) _ rfl]

theorem wd_at (s : Fin 2) (j : Fin 1408) (l : Fin 1024) : (V m c main_v7 : Vec Ideal S2x1408x1024 .bf16) (ix3 s j l) = (kdata m c).wd (col s j) l := by
  unfold V
  repeat after_reads_at
  rw [col_eq (s := s) (j := j) _ rfl]

end Cert.Fwd

end
-- ==== Proof.Fwd.Blocks.lean ====
module

public import proofs.«01_k».proof.Proof.Fwd.Host

/-! The input blocks of a grid point of the feed-forward network's forward call, and what its three output buffers hold. -/

@[expose] public section

set_option maxRecDepth 65536
set_option maxHeartbeats 1000000

noncomputable section

namespace Cert.Fwd

open Cert.KernelFwdIdeal Cert.KernelFwdIdeal.Gen
open Idealize.ShloMosaic Idealize.ShloMosaic.TcCoe Idealize.ShloMosaic.Tactic Idealize.SL.Sem
open Cert.Ffn (col col_eq sum_halves)

theorem hz2 : (![0, 0] : Fin 2 → Nat) = fun _ => 0 := funext fun a => by fin_cases a <;> rfl

/-- The two halves of a block of weights. -/
abbrev w0 (x : Vec Ideal S2x1408x1024 .bf16) : Vec Ideal S1x1408x1024 .bf16 :=
  View.ld x (Rect.unit ![0, 0, 0] S1x1408x1024.size inb_S2x1408x1024_S1x1408x1024_0_0_0)
abbrev w1 (x : Vec Ideal S2x1408x1024 .bf16) : Vec Ideal S1x1408x1024 .bf16 :=
  View.ld x (Rect.unit ![1, 0, 0] S1x1408x1024.size inb_S2x1408x1024_S1x1408x1024_1_0_0)

/-- Row `r` of block `t`. -/
abbrev row (t : Fin cfg0.N) (r : Fin 256) : Fin 4096 := ⟨256 * t.val + r.val, by have := t.isLt; have : cfg0.N = 16 := N_0; omega⟩

/-! Where the windows' blocks lie. -/
theorem idx_0 : ∀ t : Fin cfg0.N, win0_0.index t 0 = t.val ∧ win0_0.index t 1 = 0 := (by decide +kernel : ∀ t : Fin grid0.N, _)
theorem idx_1 : ∀ t : Fin cfg0.N, win0_1.index t 0 = 0 ∧ win0_1.index t 1 = 0 := (by decide +kernel : ∀ t : Fin grid0.N, _)
theorem idx_2 : ∀ t : Fin cfg0.N, win0_2.index t 0 = 0 ∧ win0_2.index t 1 = 0 ∧ win0_2.index t 2 = 0 := (by decide +kernel : ∀ t : Fin grid0.N, _)
theorem idx_3 : ∀ t : Fin cfg0.N, win0_3.index t 0 = 0 ∧ win0_3.index t 1 = 0 ∧ win0_3.index t 2 = 0 := (by decide +kernel : ∀ t : Fin grid0.N, _)
theorem idx_4 : ∀ t : Fin cfg0.N, win0_4.index t 0 = 0 ∧ win0_4.index t 1 = 0 ∧ win0_4.index t 2 = 0 := (by decide +kernel : ∀ t : Fin grid0.N, _)
theorem idx_5 : ∀ t : Fin cfg0.N, win0_5.index t 0 = t.val ∧ win0_5.index t 1 = 0 := (by decide +kernel : ∀ t : Fin grid0.N, _)
theorem idx_6 : ∀ t : Fin cfg0.N, win0_6.index t 0 = 0 ∧ win0_6.index t 1 = t.val ∧ win0_6.index t 2 = 0 := (by decide +kernel : ∀ t : Fin grid0.N, _)
theorem idx_7 : ∀ t : Fin cfg0.N, win0_7.index t 0 = 0 ∧ win0_7.index t 1 = t.val ∧ win0_7.index t 2 = 0 := (by decide +kernel : ∀ t : Fin grid0.N, _)

theorem idx_rowBlock (t : Fin cfg0.N) (r : Fin 256) (l : Fin 1024) (i : S4096x1024.Idx) (p q : Nat) (hp : p = t.val ∧ q = 0)
    (h0 : (i 0).val = p * 256 + 1 * r.val) (h1 : (i 1).val = q * 1024 + 1 * l.val) : i = ix2 (row t r) l := by
  obtain ⟨rfl, rfl⟩ := hp
  funext a; apply Fin.ext
  match a with
  | ⟨0, _⟩ => show (i 0).val = 256 * t.val + r.val; omega
  | ⟨1, _⟩ => show (i 1).val = l.val; omega

theorem idx_halfBlock (t : Fin cfg0.N) (s : Fin 2) (r : Fin 256) (j : Fin 1408) (i : S2x4096x1408.Idx) (o p q : Nat)
    (hp : o = 0 ∧ p = t.val ∧ q = 0) (h0 : (i 0).val = o * 2 + 1 * s.val) (h1 : (i 1).val = p * 256 + 1 * r.val)
    (h2 : (i 2).val = q * 1408 + 1 * j.val) : i = ix3 s (row t r) j := by
  obtain ⟨rfl, rfl, rfl⟩ := hp
  funext a; apply Fin.ext
  match a with
  | ⟨0, _⟩ => show (i 0).val = s.val; omega
  | ⟨1, _⟩ => show (i 1).val = 256 * t.val + r.val; omega
  | ⟨2, _⟩ => show (i 2).val = j.val; omega

theorem idx_wBlock (s : Fin 2) (j : Fin 1408) (l : Fin 1024) (i : S2x1408x1024.Idx) (o p q : Nat)
    (hp : o = 0 ∧ p = 0 ∧ q = 0) (h0 : (i 0).val = o * 2 + 1 * s.val) (h1 : (i 1).val = p * 1408 + 1 * j.val)
    (h2 : (i 2).val = q * 1024 + 1 * l.val) : i = ix3 s j l := by
  obtain ⟨rfl, rfl, rfl⟩ := hp
  funext a; apply Fin.ext
  match a with
  | ⟨0, _⟩ => show (i 0).val = s.val; omega
  | ⟨1, _⟩ => show (i 1).val = j.val; omega
  | ⟨2, _⟩ => show (i 2).val = l.val; omega

/-! The halves of a block of weights, at an index. -/
theorem w0_at (x : Vec Ideal S2x1408x1024 .bf16) (j : Fin 1408) (l : Fin 1024) : w0 x (ix3 0 j l) = x (ix3 0 j l) :=
  congrArg x (funext fun a => Fin.ext (by fin_cases a <;> simp [Rect.toLoadRect, LoadRect.idx, Rect.unit, ix3]))
theorem w1_at (x : Vec Ideal S2x1408x1024 .bf16) (j : Fin 1408) (l : Fin 1024) : w1 x (ix3 0 j l) = x (ix3 1 j l) :=
  congrArg x (funext fun a => Fin.ext (by fin_cases a <;> simp [Rect.toLoadRect, LoadRect.idx, Rect.unit, ix3]))

variable (m : (ℓ : Loc nD τ sig) → Buf (Elt Ideal) ℓ) (c : Dev nD) (t : Fin cfg0.N)

theorem blk_x (r : Fin 256) (l : Fin 1024) : (iblk m c 0 t : Vec Ideal S256x1024 .f32) (ix2 r l) = (kdata m c).x (row t r) l := by
  unfold iblk
  rw [View.read_apply]
  show (V m c main_arg0 : Vec Ideal S4096x1024 .f32) _ = _
  rw [V_main_arg0]
  exact congrArg (m ((c : Thread nD τ).loc main_arg0) : Vec Ideal S4096x1024 .f32) (idx_rowBlock t r l _ _ _ (idx_0 t) (by rfl) (by rfl))

theorem blk_g (l : Fin 1024) : (iblk m c 1 t : Vec Ideal S1x1024 .f32) (ix2 0 l) = (kdata m c).g l := by
  unfold iblk
  rw [View.read_apply]
  show (V m c main_arg1 : Vec Ideal S1x1024 .f32) _ = _
  rw [V_main_arg1]
  refine congrArg (m ((c : Thread nD τ).loc main_arg1) : Vec Ideal S1x1024 .f32) (funext fun a => Fin.ext ?_)
  obtain ⟨e0, e1⟩ := idx_1 t
  match a with
  | ⟨0, _⟩ => show win0_1.index t 0 * 1 + 1 * 0 = 0; omega
  | ⟨1, _⟩ => show win0_1.index t 1 * 1024 + 1 * l.val = l.val; omega

theorem blk_wg (s : Fin 2) (j : Fin 1408) (l : Fin 1024) : (iblk m c 2 t : Vec Ideal S2x1408x1024 .bf16) (ix3 s j l) = (kdata m c).wg l (col s j) := by
  unfold iblk
  rw [View.read_apply]
  exact (congrArg (V m c main_v2 : Vec Ideal S2x1408x1024 .bf16) (idx_wBlock s j l _ _ _ _ (idx_2 t) (by rfl) (by rfl) (by rfl))).trans (wg_at m c _ _ _)

theorem wg0_at (j : Fin 1408) (l : Fin 1024) : w0 (iblk m c 2 t) (ix3 0 j l) = (kdata m c).wg l (col 0 j) := (w0_at _ j l).trans (blk_wg m c t 0 j l)
theorem wg1_at (j : Fin 1408) (l : Fin 1024) : w1 (iblk m c 2 t) (ix3 0 j l) = (kdata m c).wg l (col 1 j) := (w1_at _ j l).trans (blk_wg m c t 1 j l)

theorem blk_wu (s : Fin 2) (j : Fin 1408) (l : Fin 1024) : (iblk m c 3 t : Vec Ideal S2x1408x1024 .bf16) (ix3 s j l) = (kdata m c).wu l (col s j) := by
  unfold iblk
  rw [View.read_apply]
  exact (congrArg (V m c main_v5 : Vec Ideal S2x1408x1024 .bf16) (idx_wBlock s j l _ _ _ _ (idx_3 t) (by rfl) (by rfl) (by rfl))).trans (wu_at m c _ _ _)

theorem wu0_at (j : Fin 1408) (l : Fin 1024) : w0 (iblk m c 3 t) (ix3 0 j l) = (kdata m c).wu l (col 0 j) := (w0_at _ j l).trans (blk_wu m c t 0 j l)
theorem wu1_at (j : Fin 1408) (l : Fin 1024) : w1 (iblk m c 3 t) (ix3 0 j l) = (kdata m c).wu l (col 1 j) := (w1_at _ j l).trans (blk_wu m c t 1 j l)

theorem blk_wd (s : Fin 2) (j : Fin 1408) (l : Fin 1024) : (iblk m c 4 t : Vec Ideal S2x1408x1024 .bf16) (ix3 s j l) = (kdata m c).wd (col s j) l := by
  unfold iblk
  rw [View.read_apply]
  exact (congrArg (V m c main_v7 : Vec Ideal S2x1408x1024 .bf16) (idx_wBlock s j l _ _ _ _ (idx_4 t) (by rfl) (by rfl) (by rfl))).trans (wd_at m c _ _ _)

theorem wd0_at (j : Fin 1408) (l : Fin 1024) : w0 (iblk m c 4 t) (ix3 0 j l) = (kdata m c).wd (col 0 j) l := (w0_at _ j l).trans (blk_wd m c t 0 j l)
theorem wd1_at (j : Fin 1408) (l : Fin 1024) : w1 (iblk m c 4 t) (ix3 0 j l) = (kdata m c).wd (col 1 j) l := (w1_at _ j l).trans (blk_wd m c t 1 j l)

theorem h_at (r : Fin 256) (l : Fin 1024) : k0_pay6 (F := Ideal) (iblk m c 0 t) (iblk m c 1 t) (ix2 r l) = (kdata m c).h (row t r) l := by
  have e := blk_x m c t r
  have g := blk_g m c t l
  pointwise [k0_pay6]
  simp only [e, g]
  rfl

theorem G0_at (r : Fin 256) (j : Fin 1408) :
    k0_pay7 (F := Ideal) (iblk m c 0 t) (iblk m c 1 t) (w0 (iblk m c 2 t)) (ix2 r j) = (kdata m c).G (row t r) (col 0 j) := by
  have e := h_at m c t r
  have w := fun l => wg0_at m c t j l
  pointwise [k0_pay7]
  simp only [e, w]
  rfl

theorem U0_at (r : Fin 256) (j : Fin 1408) :
    k0_pay8 (F := Ideal) (iblk m c 0 t) (iblk m c 1 t) (w0 (iblk m c 3 t)) (ix2 r j) = (kdata m c).U (row t r) (col 0 j) := by
  have e := h_at m c t r
  have w := fun l => wu0_at m c t j l
  pointwise [k0_pay8]
  simp only [e, w]
  rfl

theorem G1_at (r : Fin 256) (j : Fin 1408) :
    k0_pay1 (F := Ideal) (k0_pay6 (iblk m c 0 t) (iblk m c 1 t)) (w1 (iblk m c 2 t)) (ix2 r j) = (kdata m c).G (row t r) (col 1 j) := by
  have e := h_at m c t r
  have w := fun l => wg1_at m c t j l
  pointwise [k0_pay1]
  simp only [e, w]
  rfl

theorem U1_at (r : Fin 256) (j : Fin 1408) :
    k0_pay2 (F := Ideal) (k0_pay6 (iblk m c 0 t) (iblk m c 1 t)) (w1 (iblk m c 3 t)) (ix2 r j) = (kdata m c).U (row t r) (col 1 j) := by
  have e := h_at m c t r
  have w := fun l => wu1_at m c t j l
  pointwise [k0_pay2]
  simp only [e, w]
  rfl

/-! ## What a point leaves in its output buffers -/

/-- The rows of the network's output. -/
theorem out_block (r : Fin 256) (l : Fin 1024) : out0_5 (iblk m c 0 t) (iblk m c 1 t) (iblk m c 2 t) (iblk m c 3 t) (iblk m c 4 t) (ix2 r l) = (kdata m c).out (row t r) l := by
  rw [show out0_5 (iblk m c 0 t) (iblk m c 1 t) (iblk m c 2 t) (iblk m c 3 t) (iblk m c 4 t) = k0_pay5 (iblk m c 0 t) (k0_pay6 (iblk m c 0 t) (iblk m c 1 t)) (k0_pay11 (iblk m c 0 t) (iblk m c 1 t) (w0 (iblk m c 2 t)) (w0 (iblk m c 3 t))) (w0 (iblk m c 4 t))
      (w1 (iblk m c 2 t)) (w1 (iblk m c 3 t)) (w1 (iblk m c 4 t)) by
    unfold_out out0_5
    rw [View.canon_unit_zero hz2]
    simp only [r0_0, r0_1, r0_2, r0_4, View.ld_unit_zero (S := S256x1024) hz2, View.ld_unit_zero (S := S1x1024) hz2]]
  have ex := blk_x m c t r l
  have g0 := G0_at m c t r
  have g1 := G1_at m c t r
  have u0 := U0_at m c t r
  have u1 := U1_at m c t r
  have d0 := fun j => wd0_at m c t j l
  have d1 := fun j => wd1_at m c t j l
  pointwise [k0_pay5, k0_pay11]
  simp only [ex, g0, g1, u0, u1, d0, d1]
  unfold Data.out
  rw [sum_halves]
  rfl

/-- Two halves written one after the other, read at an index. -/
theorem canon_halves (p q : FVec Ideal S1x256x1408 .bf16) (s : Fin 2) (r : Fin 256) (j : Fin 1408) :
    View.canon (Val := Elt Ideal) (e := .bf16) [⟨Rect.unit (s := S2x256x1408) ![1, 0, 0] S1x256x1408.size inb_S2x256x1408_S1x256x1408_1_0_0, p⟩,
      ⟨Rect.unit (s := S2x256x1408) ![0, 0, 0] S1x256x1408.size inb_S2x256x1408_S1x256x1408_0_0_0, q⟩] (ix3 s r j)
      = if s.val = 1 then p (ix3 0 r j) else q (ix3 0 r j) := by
  have e0 : (ix3 0 r j : S2x256x1408.Idx) = (Rect.unit (s := S2x256x1408) ![0, 0, 0] S1x256x1408.size inb_S2x256x1408_S1x256x1408_0_0_0).emb (ix3 (0 : Fin 1) r j) :=
    funext fun a => Fin.ext (by fin_cases a <;> simp [Rect.emb, Rect.unit, ix3])
  have e1 : (ix3 1 r j : S2x256x1408.Idx) = (Rect.unit (s := S2x256x1408) ![1, 0, 0] S1x256x1408.size inb_S2x256x1408_S1x256x1408_1_0_0).emb (ix3 (0 : Fin 1) r j) :=
    funext fun a => Fin.ext (by fin_cases a <;> simp [Rect.emb, Rect.unit, ix3])
  match s with
  | 0 =>
    rw [View.canon_cons_of_not_mem]
    · rw [e0, View.canon_cons_emb]; rfl
    · rw [Rect.mem_set_unit]
      intro hh
      exact absurd (show (1 : ℕ) ≤ 0 from (hh 0).1) (by decide)
  | 1 => rw [e1, View.canon_cons_emb]; rfl

/-- The gate's product, in halves. -/
theorem g_block (s : Fin 2) (r : Fin 256) (j : Fin 1408) : out0_6 (iblk m c 0 t) (iblk m c 1 t) (iblk m c 2 t) (iblk m c 3 t) (iblk m c 4 t) (ix3 s r j) = (kdata m c).G (row t r) (col s j) := by
  rw [show out0_6 (iblk m c 0 t) (iblk m c 1 t) (iblk m c 2 t) (iblk m c 3 t) (iblk m c 4 t) = View.canon [⟨Rect.unit (s := S2x256x1408) ![1, 0, 0] S1x256x1408.size inb_S2x256x1408_S1x256x1408_1_0_0, k0_pay3 (k0_pay6 (iblk m c 0 t) (iblk m c 1 t)) (w1 (iblk m c 2 t))⟩,
      ⟨Rect.unit (s := S2x256x1408) ![0, 0, 0] S1x256x1408.size inb_S2x256x1408_S1x256x1408_0_0_0, k0_pay9 (iblk m c 0 t) (iblk m c 1 t) (w0 (iblk m c 2 t))⟩] by
    unfold_out out0_6
    simp only [r0_0, r0_1, r0_2, r0_3, r0_4, r0_5, View.ld_unit_zero (S := S256x1024) hz2, View.ld_unit_zero (S := S1x1024) hz2]]
  rw [canon_halves]
  match s with
  | 0 =>
    rw [if_neg (by decide)]
    refine Eq.trans ?_ (G0_at m c t r j)
    pointwise [k0_pay9]
  | 1 =>
    rw [if_pos (by decide)]
    refine Eq.trans ?_ (G1_at m c t r j)
    pointwise [k0_pay3]

/-- The up-projection's product, in halves. -/
theorem u_block (s : Fin 2) (r : Fin 256) (j : Fin 1408) : out0_7 (iblk m c 0 t) (iblk m c 1 t) (iblk m c 2 t) (iblk m c 3 t) (iblk m c 4 t) (ix3 s r j) = (kdata m c).U (row t r) (col s j) := by
  rw [show out0_7 (iblk m c 0 t) (iblk m c 1 t) (iblk m c 2 t) (iblk m c 3 t) (iblk m c 4 t) = View.canon [⟨Rect.unit (s := S2x256x1408) ![1, 0, 0] S1x256x1408.size inb_S2x256x1408_S1x256x1408_1_0_0, k0_pay4 (k0_pay6 (iblk m c 0 t) (iblk m c 1 t)) (w1 (iblk m c 3 t))⟩,
      ⟨Rect.unit (s := S2x256x1408) ![0, 0, 0] S1x256x1408.size inb_S2x256x1408_S1x256x1408_0_0_0, k0_pay10 (iblk m c 0 t) (iblk m c 1 t) (w0 (iblk m c 3 t))⟩] by
    unfold_out out0_7
    simp only [r0_0, r0_1, r0_2, r0_3, r0_4, r0_5, View.ld_unit_zero (S := S256x1024) hz2, View.ld_unit_zero (S := S1x1024) hz2]]
  rw [canon_halves]
  match s with
  | 0 =>
    rw [if_neg (by decide)]
    refine Eq.trans ?_ (U0_at m c t r j)
    pointwise [k0_pay10]
  | 1 =>
    rw [if_pos (by decide)]
    refine Eq.trans ?_ (U1_at m c t r j)
    pointwise [k0_pay4]

end Cert.Fwd

end
-- ==== Proof.Fwd.Arrays.lean ====
module

public import proofs.«01_k».proof.Proof.Fwd.Blocks

/-! What the three result arrays of the feed-forward network's forward call hold after the run, at an index. -/

@[expose] public section

set_option maxRecDepth 65536
set_option maxHeartbeats 1000000

noncomputable section

namespace Cert.Fwd

open Cert.KernelFwdIdeal Cert.KernelFwdIdeal.Gen
open Idealize.ShloMosaic Idealize.ShloMosaic.TcCoe Idealize.ShloMosaic.Tactic Idealize.SL.Sem
open Cert.Ffn (col col_eq sum_halves)

/-- Every row lies in a block. -/
theorem row_cases (R : Fin 4096) : ∃ (t : Fin cfg0.N) (r : Fin 256), R = row t r :=
  have hN : cfg0.N = 16 := N_0
  ⟨⟨R.val / 256, by omega⟩, ⟨R.val % 256, by omega⟩, Fin.ext (by show R.val = 256 * (R.val / 256) + R.val % 256; omega)⟩

variable (m : (ℓ : Loc nD τ sig) → Buf (Elt Ideal) ℓ) (c : Dev nD)

theorem final_out (R : Fin 4096) (l : Fin 1024) : ((dats m 0 c).arrAt 5 cfg0.N : Vec Ideal S4096x1024 .f32) (ix2 R l) = (kdata m c).out R l := by
  obtain ⟨t, r, rfl⟩ := row_cases R
  have h := congrFun (Value.blocks5 m c t (flush0_5 t)) (ix2 r l)
  rw [View.read_apply, Value.flushed5] at h
  exact ((congrArg ((dats m 0 c).arrAt 5 cfg0.N : Vec Ideal S4096x1024 .f32)
    (idx_rowBlock t r l _ _ _ (idx_5 t) (by rfl) (by rfl))).symm.trans h).trans (out_block m c t r l)

theorem final_g (s : Fin 2) (R : Fin 4096) (j : Fin 1408) : ((dats m 0 c).arrAt 6 cfg0.N : Vec Ideal S2x4096x1408 .bf16) (ix3 s R j) = (kdata m c).G R (col s j) := by
  obtain ⟨t, r, rfl⟩ := row_cases R
  have h := congrFun (Value.blocks6 m c t (flush0_6 t)) (ix3 s r j)
  rw [View.read_apply, Value.flushed6] at h
  exact ((congrArg ((dats m 0 c).arrAt 6 cfg0.N : Vec Ideal S2x4096x1408 .bf16)
    (idx_halfBlock t s r j _ _ _ _ (idx_6 t) (by rfl) (by rfl) (by rfl))).symm.trans h).trans (g_block m c t s r j)

theorem final_u (s : Fin 2) (R : Fin 4096) (j : Fin 1408) : ((dats m 0 c).arrAt 7 cfg0.N : Vec Ideal S2x4096x1408 .bf16) (ix3 s R j) = (kdata m c).U R (col s j) := by
  obtain ⟨t, r, rfl⟩ := row_cases R
  have h := congrFun (Value.blocks7 m c t (flush0_7 t)) (ix3 s r j)
  rw [View.read_apply, Value.flushed7] at h
  exact ((congrArg ((dats m 0 c).arrAt 7 cfg0.N : Vec Ideal S2x4096x1408 .bf16)
    (idx_halfBlock t s r j _ _ _ _ (idx_7 t) (by rfl) (by rfl) (by rfl))).symm.trans h).trans (u_block m c t s r j)

end Cert.Fwd

end
-- ==== Proof.Fwd.Claim.lean ====
module

public import proofs.«01_k».proof.Proof.Fwd.Arrays
public import proofs.«01_k».proof.Proof.Ffn.Claim
public import proofs.«01_k».proof.Defs

/-! The feed-forward network's forward call computes the norm, the two products, the gated activation and the rows that half its
projection is added to: over the extended reals, at every argument. -/

@[expose] public section

set_option maxRecDepth 65536
set_option maxHeartbeats 1000000

noncomputable section

open Idealize.ShloMosaic Idealize.ShloMosaic.TcCoe Idealize.SL.Sem

namespace Cert.FwdClaim

/-- The reference terminates, with its arguments and every semaphore counter unchanged. -/
theorem reference_frame : Cert.quiescent_ReferenceFwdIdeal (hReferenceFwdIdeal := Cert.ReferenceFwdIdeal.Gen.facts) := fun m ρ _ =>
  (θ_run Cert.ReferenceFwdIdeal.defs _ _).mono
    (fun r h => ⟨fun c => (h c).2.2.2, sem_eq_zero_of_no_sems (by decide) r.2⟩) (Cert.ReferenceFwdIdeal.Value.run (F := Ideal) m ρ)

/-- The data of the two programs' arguments agree. -/
theorem data_eq {x0 y0 : Vec Ideal Cert.ReferenceFwdIdeal.S4096x1024 .f32} {x1 y1 : Vec Ideal Cert.ReferenceFwdIdeal.S1x1024 .f32}
    {x2 x3 y2 y3 : Vec Ideal Cert.ReferenceFwdIdeal.S1024x2816 .f32} {x4 y4 : Vec Ideal Cert.ReferenceFwdIdeal.S2816x1024 .f32}
    (h0 : x0 = y0) (h1 : x1 = y1) (h2 : x2 = y2) (h3 : x3 = y3) (h4 : x4 = y4) : Cert.Fwd.dataOf x0 x1 x2 x3 x4 = Cert.Fwd.dataOf y0 y1 y2 y3 y4 := by
  subst h0 h1 h2 h3 h4
  rfl

/-- The algebraic claim about the feed-forward network's forward call. -/
theorem algebraic : Cert.algebraic_KernelFwdIdeal_ReferenceFwdIdeal (hKernelFwdIdeal := Cert.KernelFwdIdeal.Gen.facts)
    (hReferenceFwdIdeal := Cert.ReferenceFwdIdeal.Gen.facts) := by
  intro m ρ m' ρ' _ hargs
  refine ⟨_, _, _, Cert.KernelFwdIdeal.Value.run_blocks m ρ, ?_⟩
  refine (θ_run Cert.ReferenceFwdIdeal.defs _ _).mono (fun r h c => ?_) (Cert.ReferenceFwdIdeal.Value.run (F := Ideal) m' ρ')
  obtain ⟨w0, w1, w2, kept⟩ := h c
  obtain ⟨a0, a1, a2, a3, a4⟩ := hargs c
  have D := data_eq a0 a1 a2 a3 a4
  refine ⟨w0.trans ?_, w1.trans ?_, w2.trans ?_, kept⟩
  · rw [Cert.ReferenceFwdIdeal.Read.val_main_v19_eq]
    funext i
    obtain ⟨R, l, rfl⟩ := Cert.FfnClaim.rows_index i
    exact (Cert.Fwd.ref_out _ _ _ _ _ R l).trans ((congrArg (fun X => Cert.Fwd.Data.out X R l) D).trans (Cert.Fwd.final_out m c R l).symm)
  · rw [Cert.ReferenceFwdIdeal.Read.val_main_v22_eq]
    funext i
    obtain ⟨s, R, j, rfl⟩ := Cert.FfnClaim.halves_index i
    exact (Cert.Fwd.ref_g _ _ _ _ _ s R j).trans ((congrArg (fun X => Cert.Fwd.Data.G X R (Cert.Ffn.col s j)) D).trans (Cert.Fwd.final_g m c s R j).symm)
  · rw [Cert.ReferenceFwdIdeal.Read.val_main_v25_eq]
    funext i
    obtain ⟨s, R, j, rfl⟩ := Cert.FfnClaim.halves_index i
    exact (Cert.Fwd.ref_u _ _ _ _ _ s R j).trans ((congrArg (fun X => Cert.Fwd.Data.U X R (Cert.Ffn.col s j)) D).trans (Cert.Fwd.final_u m c s R j).symm)

end Cert.FwdClaim

end
-- ==== Proof.lean ====
module

public import proofs.«01_k».proof.Defs
public import proofs.«01_k».proof.Proof.Gen.KernelInproj
public import proofs.«01_k».proof.Proof.Gen.KernelInproj.Skeleton
public import proofs.«01_k».proof.Proof.Gen.KernelInproj.Launch
public import proofs.«01_k».proof.Proof.Gen.KernelInproj.Points
public import proofs.«01_k».proof.Proof.Gen.KernelInproj.Frame
public import proofs.«01_k».proof.Proof.Gen.KernelInprojIdeal
public import proofs.«01_k».proof.Proof.Gen.KernelInprojIdeal.Skeleton
public import proofs.«01_k».proof.Proof.Gen.KernelInprojIdeal.Launch
public import proofs.«01_k».proof.Proof.Gen.KernelInprojIdeal.Points
public import proofs.«01_k».proof.Proof.Gen.KernelInprojIdeal.Frame
public import proofs.«01_k».proof.Proof.Gen.ReferenceInprojIdeal
public import proofs.«01_k».proof.Proof.Gen.KernelRet
public import proofs.«01_k».proof.Proof.Gen.KernelRet.Skeleton
public import proofs.«01_k».proof.Proof.Gen.KernelRet.Launch
public import proofs.«01_k».proof.Proof.Gen.KernelRet.Points
public import proofs.«01_k».proof.Proof.Gen.KernelRet.Frame
public import proofs.«01_k».proof.Proof.Gen.KernelRetIdeal
public import proofs.«01_k».proof.Proof.Gen.KernelRetIdeal.Skeleton
public import proofs.«01_k».proof.Proof.Gen.KernelRetIdeal.Launch
public import proofs.«01_k».proof.Proof.Gen.KernelRetIdeal.Points
public import proofs.«01_k».proof.Proof.Gen.KernelRetIdeal.Frame
public import proofs.«01_k».proof.Proof.Gen.ReferenceRetIdeal
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.ReferenceLossIdeal
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.ReferenceGatesIdeal
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.ReferenceFwdIdeal
public import proofs.«01_k».proof.Proof.Gen.Pre_finite_inproj
public import proofs.«01_k».proof.Proof.Gen.Pre_finite_ret
public import proofs.«01_k».proof.Proof.Gen.Pre_finite_ffn
public import proofs.«01_k».proof.Proof.Gen.Pre_finite_loss
public import proofs.«01_k».proof.Proof.Gen.KernelGatesIdeal.Value
public import proofs.«01_k».proof.Proof.Gen.ReferenceGatesIdeal.Read
public import proofs.«01_k».proof.Proof.Gen.KernelFwdIdeal.Value
public import proofs.«01_k».proof.Proof.Gen.ReferenceFwdIdeal.Read
public import proofs.«01_k».proof.Proof.Gen.KernelLossIdeal.Value
public import proofs.«01_k».proof.Proof.Gen.ReferenceLossIdeal.Read
public import proofs.«01_k».proof.Proof.Gen.KernelFfnIdeal.Value
public import proofs.«01_k».proof.Proof.Gen.ReferenceFfnIdeal.Read
public import proofs.«01_k».proof.Proof.Gen.KernelInprojIdeal.Value
public import proofs.«01_k».proof.Proof.Gen.ReferenceInprojIdeal.Read
public import proofs.«01_k».proof.Proof.Gen.ReferenceRetIdeal.Read
public import proofs.«01_k».proof.Proof.Inproj.Claim
public import proofs.«01_k».proof.Proof.Ret.Claim
public import proofs.«01_k».proof.Proof.Ffn.Claim
public import proofs.«01_k».proof.Proof.Loss.Claim
public import proofs.«01_k».proof.Proof.Gates.Claim
public import proofs.«01_k».proof.Proof.Fwd.Claim
public import Idealize.ShloMosaic.Adequacy
public import Idealize.ShloMosaic.Init

@[expose] public section

noncomputable section

namespace Cert.Proof

open Idealize.ShloMosaic Idealize.SL.Sem Cert.KernelInproj

theorem claim : Cert.Claim := ⟨Cert.KernelInproj.Gen.facts, Cert.KernelInprojIdeal.Gen.facts, Cert.ReferenceInprojIdeal.Gen.facts, Cert.KernelRet.Gen.facts, Cert.KernelRetIdeal.Gen.facts, Cert.ReferenceRetIdeal.Gen.facts, Cert.KernelFfn.Gen.facts, Cert.KernelFfnIdeal.Gen.facts, Cert.ReferenceFfnIdeal.Gen.facts, Cert.KernelLoss.Gen.facts, Cert.KernelLossIdeal.Gen.facts, Cert.ReferenceLossIdeal.Gen.facts, Cert.KernelGates.Gen.facts, Cert.KernelGatesIdeal.Gen.facts, Cert.ReferenceGatesIdeal.Gen.facts, Cert.KernelFwd.Gen.facts, Cert.KernelFwdIdeal.Gen.facts, Cert.ReferenceFwdIdeal.Gen.facts, Cert.Pre_finite_inproj.Gen.facts, Cert.Pre_finite_ret.Gen.facts, Cert.Pre_finite_ffn.Gen.facts, Cert.Pre_finite_loss.Gen.facts,
    fun m ρ _ => Cert.KernelInproj.Gen.frame m ρ,
    fun m ρ _ => Cert.KernelInprojIdeal.Gen.frame m ρ,
    fun m ρ _ => Cert.KernelInprojIdeal.Gen.frame m ρ,
    Cert.InprojClaim.reference_frame,
    fun m ρ _ => Cert.InprojClaim.reference_frame m ρ trivial,
    Cert.RetClaim.kernel_frame,
    Cert.RetClaim.ideal_frame,
    Cert.RetClaim.ideal_frame_pre,
    Cert.RetClaim.reference_frame,
    Cert.RetClaim.reference_frame_pre,
    fun m ρ _ => Cert.KernelFfn.Gen.frame m ρ,
    fun m ρ _ => Cert.KernelFfnIdeal.Gen.frame m ρ,
    fun m ρ _ => Cert.KernelFfnIdeal.Gen.frame m ρ,
    Cert.FfnClaim.reference_frame,
    fun m ρ _ => Cert.FfnClaim.reference_frame m ρ trivial,
    fun m ρ _ => Cert.KernelLoss.Gen.frame m ρ,
    fun m ρ _ => Cert.KernelLossIdeal.Gen.frame m ρ,
    fun m ρ _ => Cert.KernelLossIdeal.Gen.frame m ρ,
    Cert.LossClaim.reference_frame,
    fun m ρ _ => Cert.LossClaim.reference_frame m ρ trivial,
    fun m ρ _ => Cert.KernelGates.Gen.frame m ρ,
    fun m ρ _ => Cert.KernelGatesIdeal.Gen.frame m ρ,
    Cert.GatesClaim.reference_frame,
    fun m ρ _ => Cert.KernelFwd.Gen.frame m ρ,
    fun m ρ _ => Cert.KernelFwdIdeal.Gen.frame m ρ,
    Cert.FwdClaim.reference_frame,
    trivial,
    Cert.InprojClaim.algebraic,
    trivial,
    Cert.RetClaim.algebraic,
    trivial,
    Cert.FfnClaim.algebraic,
    trivial,
    Cert.LossClaim.algebraic,
    trivial,
    Cert.GatesClaim.algebraic,
    trivial,
    Cert.FwdClaim.algebraic⟩

end Cert.Proof

end
